-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v186)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v186) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v22)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v22) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v93) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v19_0)) (v1 : (c : Dev Cert.ProjIdeal.nD) → Buf (Elt Ideal) ((c.tc : Thread Cert.ProjIdeal.nD Cert.ProjIdeal.τ).loc Cert.ProjIdeal.main_v19_1)) (v2 : (c : Dev Cert.ProjIdeal.nD) → Buf (Elt Ideal) ((c.tc : Thread Cert.ProjIdeal.nD Cert.ProjIdeal.τ).loc Cert.ProjIdeal.main_v19_2)) (v3 : (c : Dev Cert.ProjIdeal.nD) → Buf (Elt Ideal) ((c.tc : Thread Cert.ProjIdeal.nD Cert.ProjIdeal.τ).loc Cert.ProjIdeal.main_v19_3)) (v4 : (c : Dev Cert.ProjIdeal.nD) → Buf (Elt Ideal) ((c.tc : Thread Cert.ProjIdeal.nD Cert.ProjIdeal.τ).loc Cert.ProjIdeal.main_v19_4)) (v5 : (c : Dev Cert.ProjIdeal.nD) → Buf (Elt Ideal) ((c.tc : Thread Cert.ProjIdeal.nD Cert.ProjIdeal.τ).loc Cert.ProjIdeal.main_v19_5)) (v6 : (c : Dev Cert.ProjIdeal.nD) → Buf (Elt Ideal) ((c.tc : Thread Cert.ProjIdeal.nD Cert.ProjIdeal.τ).loc Cert.ProjIdeal.main_v19_6)) (v7 : (c : Dev Cert.ProjIdeal.nD) → Buf (Elt Ideal) ((c.tc : Thread Cert.ProjIdeal.nD Cert.ProjIdeal.τ).loc Cert.ProjIdeal.main_v19_7)) (v8 : (c : Dev Cert.ProjIdeal.nD) → Buf (Elt Ideal) ((c.tc : Thread Cert.ProjIdeal.nD Cert.ProjIdeal.τ).loc Cert.ProjIdeal.main_v19_8)) (v9 : (c : Dev Cert.ProjIdeal.nD) → Buf (Elt Ideal) ((c.tc : Thread Cert.ProjIdeal.nD Cert.ProjIdeal.τ).loc Cert.ProjIdeal.main_v19_9)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v19_0) = v0 c
          ∧ r.2.mem ((c.tc : Thread Cert.ProjIdeal.nD Cert.ProjIdeal.τ).loc Cert.ProjIdeal.main_v19_1) = v1 c
          ∧ r.2.mem ((c.tc : Thread Cert.ProjIdeal.nD Cert.ProjIdeal.τ).loc Cert.ProjIdeal.main_v19_2) = v2 c
          ∧ r.2.mem ((c.tc : Thread Cert.ProjIdeal.nD Cert.ProjIdeal.τ).loc Cert.ProjIdeal.main_v19_3) = v3 c
          ∧ r.2.mem ((c.tc : Thread Cert.ProjIdeal.nD Cert.ProjIdeal.τ).loc Cert.ProjIdeal.main_v19_4) = v4 c
          ∧ r.2.mem ((c.tc : Thread Cert.ProjIdeal.nD Cert.ProjIdeal.τ).loc Cert.ProjIdeal.main_v19_5) = v5 c
          ∧ r.2.mem ((c.tc : Thread Cert.ProjIdeal.nD Cert.ProjIdeal.τ).loc Cert.ProjIdeal.main_v19_6) = v6 c
          ∧ r.2.mem ((c.tc : Thread Cert.ProjIdeal.nD Cert.ProjIdeal.τ).loc Cert.ProjIdeal.main_v19_7) = v7 c
          ∧ r.2.mem ((c.tc : Thread Cert.ProjIdeal.nD Cert.ProjIdeal.τ).loc Cert.ProjIdeal.main_v19_8) = v8 c
          ∧ r.2.mem ((c.tc : Thread Cert.ProjIdeal.nD Cert.ProjIdeal.τ).loc Cert.ProjIdeal.main_v19_9) = v9 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v32) = v0 c
          ∧ r.2.mem ((c.tc : Thread Cert.ProjRefIdeal.nD Cert.ProjRefIdeal.τ).loc Cert.ProjRefIdeal.main_v33) = v1 c
          ∧ r.2.mem ((c.tc : Thread Cert.ProjRefIdeal.nD Cert.ProjRefIdeal.τ).loc Cert.ProjRefIdeal.main_v34) = v2 c
          ∧ r.2.mem ((c.tc : Thread Cert.ProjRefIdeal.nD Cert.ProjRefIdeal.τ).loc Cert.ProjRefIdeal.main_v41) = v3 c
          ∧ r.2.mem ((c.tc : Thread Cert.ProjRefIdeal.nD Cert.ProjRefIdeal.τ).loc Cert.ProjRefIdeal.main_v48) = v4 c
          ∧ r.2.mem ((c.tc : Thread Cert.ProjRefIdeal.nD Cert.ProjRefIdeal.τ).loc Cert.ProjRefIdeal.main_v26) = v5 c
          ∧ r.2.mem ((c.tc : Thread Cert.ProjRefIdeal.nD Cert.ProjRefIdeal.τ).loc Cert.ProjRefIdeal.main_v49) = v6 c
          ∧ r.2.mem ((c.tc : Thread Cert.ProjRefIdeal.nD Cert.ProjRefIdeal.τ).loc Cert.ProjRefIdeal.main_v52) = v7 c
          ∧ r.2.mem ((c.tc : Thread Cert.ProjRefIdeal.nD Cert.ProjRefIdeal.τ).loc Cert.ProjRefIdeal.main_v54) = v8 c
          ∧ r.2.mem ((c.tc : Thread Cert.ProjRefIdeal.nD Cert.ProjRefIdeal.τ).loc Cert.ProjRefIdeal.main_v55) = v9 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
-- ==== Pre_finite.lean ====
abbrev S4x8192x512 : Shape := ⟨3, ![4, 8192, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S512 : Shape := ⟨1, ![512]⟩
abbrev S_ : Shape := ⟨0, ![]⟩

class Facts : Prop where
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S32x64x16 : S_.BroadcastsInDim S32x64x16 (![] : Fin 0 → Fin S32x64x16.rank)
  reducesTo_S32x64x16_S_d0_1_2 : S32x64x16.ReducesTo [0, 1, 2] S_
  bcast_S_S32x16x64 : S_.BroadcastsInDim S32x16x64 (![] : Fin 0 → Fin S32x16x64.rank)
  reducesTo_S32x16x64_S_d0_1_2 : S32x16x64.ReducesTo [0, 1, 2] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S32x16x64 .f32) (main_arg8 : FVec F S512 .f32) (main_v29 : IVec S_ 1) (main_v32 : IVec S32x16x64 1) (main_c_12 : IVec S_ 1) : IVec S_ 1 :=
  let main_v33 : IVec S_ 1 := (fun x v => Host.reduce IntOp.andi x v reducesTo_S32x16x64_S_d0_1_2 h_S_) main_v32 main_c_12
  let main_v34 : IVec S_ 1 := andi main_v29 main_v33
  let main_v35 : FVec F S32x16x64 .f32 := Host.absf main_arg7
  let main_cst_13 : FVec F S_ .f32 := constant S_ .f32 0x7F800000#32
  let main_v36 : FVec F S32x16x64 .f32 := broadcastInDim S32x16x64 ![] bcast_S_S32x16x64 main_cst_13
  let main_v37 : IVec S32x16x64 1 := cmpf .olt main_v35 main_v36
  let main_c_14 : IVec S_ 1 := constantI S_ 1 1#1
  let main_v38 : IVec S_ 1 := (fun x v => Host.reduce IntOp.andi x v reducesTo_S32x16x64_S_d0_1_2 h_S_) main_v37 main_c_14
  let main_v39 : IVec S_ 1 := andi main_v34 main_v38
  let main_v40 : FVec F S512 .f32 := Host.absf main_arg8
  let main_cst_15 : FVec F S_ .f32 := constant S_ .f32 0x7F800000#32
  let main_v41 : FVec F S512 .f32 := broadcastInDim S512 ![] bcast_S_S512 main_cst_15
  let main_v42 : IVec S512 1 := cmpf .olt main_v40 main_v41
  let main_c_16 : IVec S_ 1 := constantI S_ 1 1#1
  let main_v43 : IVec S_ 1 := (fun x v => Host.reduce IntOp.andi x v reducesTo_S512_S_d0 h_S_) main_v42 main_c_16
  let main_v44 : IVec S_ 1 := andi main_v39 main_v43
  main_v44

def fn_part1 {F : FTy → Type} [FloatOps F] (main_arg4 : FVec F S32x64x16 .f32) (main_arg5 : FVec F S32x64x16 .f32) (main_arg6 : FVec F S32x16x64 .f32) (main_arg7 : FVec F S32x16x64 .f32) (main_arg8 : FVec F S512 .f32) (main_v14 : IVec S_ 1) (main_v15 : FVec F S32 .f32) (main_cst_5 : FVec F S_ .f32) : IVec S_ 1 :=
  let main_v16 : FVec F S32 .f32 := broadcastInDim S32 ![] bcast_S_S32 main_cst_5
  let main_v17 : IVec S32 1 := cmpf .olt main_v15 main_v16
  let main_c_6 : IVec S_ 1 := constantI S_ 1 1#1
  let main_v18 : IVec S_ 1 := (fun x v => Host.reduce IntOp.andi x v reducesTo_S32_S_d0 h_S_) main_v17 main_c_6
  let main_v19 : IVec S_ 1 := andi main_v14 main_v18
  let main_v20 : FVec F S32x64x16 .f32 := Host.absf main_arg4
  let main_cst_7 : FVec F S_ .f32 := constant S_ .f32 0x7F800000#32
  let main_v21 : FVec F S32x64x16 .f32 := broadcastInDim S32x64x16 ![] bcast_S_S32x64x16 main_cst_7
  let main_v22 : IVec S32x64x16 1 := cmpf .olt main_v20 main_v21
  let main_c_8 : IVec S_ 1 := constantI S_ 1 1#1
  let main_v23 : IVec S_ 1 := (fun x v => Host.reduce IntOp.andi x v reducesTo_S32x64x16_S_d0_1_2 h_S_) main_v22 main_c_8
  let main_v24 : IVec S_ 1 := andi main_v19 main_v23
  let main_v25 : FVec F S32x64x16 .f32 := Host.absf main_arg5
  let main_cst_9 : FVec F S_ .f32 := constant S_ .f32 0x7F800000#32
  let main_v26 : FVec F S32x64x16 .f32 := broadcastInDim S32x64x16 ![] bcast_S_S32x64x16 main_cst_9
  let main_v27 : IVec S32x64x16 1 := cmpf .olt main_v25 main_v26
  let main_c_10 : IVec S_ 1 := constantI S_ 1 1#1
  let main_v28 : IVec S_ 1 := (fun x v => Host.reduce IntOp.andi x v reducesTo_S32x64x16_S_d0_1_2 h_S_) main_v27 main_c_10
  let main_v29 : IVec S_ 1 := andi main_v24 main_v28
  let main_v30 : FVec F S32x16x64 .f32 := Host.absf main_arg6
  let main_cst_11 : FVec F S_ .f32 := constant S_ .f32 0x7F800000#32
  let main_v31 : FVec F S32x16x64 .f32 := broadcastInDim S32x16x64 ![] bcast_S_S32x16x64 main_cst_11
  let main_v32 : IVec S32x16x64 1 := cmpf .olt main_v30 main_v31
  let main_c_12 : IVec S_ 1 := constantI S_ 1 1#1
  fn_part2 (F := F) main_arg7 main_arg8 main_v29 main_v32 main_c_12

def fn {F : FTy → Type} [FloatOps F] (main_arg0 : FVec F S4x8192x512 .f32) (main_arg1 : FVec F S32x64 .f32) (main_arg2 : FVec F S32x64 .f32) (main_arg3 : FVec F S32 .f32) (main_arg4 : FVec F S32x64x16 .f32) (main_arg5 : FVec F S32x64x16 .f32) (main_arg6 : FVec F S32x16x64 .f32) (main_arg7 : FVec F S32x16x64 .f32) (main_arg8 : FVec F S512 .f32) : IVec S_ 1 :=
  let main_v0 : FVec F S4x8192x512 .f32 := Host.absf main_arg0
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_c : IVec S_ 1 := constantI S_ 1 1#1
  let main_v3 : IVec S_ 1 := (fun x v => Host.reduce IntOp.andi x v reducesTo_S4x8192x512_S_d0_1_2 h_S_) main_v2 main_c
  let main_c_0 : IVec S_ 1 := constantI S_ 1 1#1
  let main_v4 : IVec S_ 1 := andi main_c_0 main_v3
  let main_v5 : FVec F S32x64 .f32 := Host.absf main_arg1
  let main_cst_1 : FVec F S_ .f32 := constant S_ .f32 0x7F800000#32
  let main_v6 : FVec F S32x64 .f32 := broadcastInDim S32x64 ![] bcast_S_S32x64 main_cst_1
  let main_v7 : IVec S32x64 1 := cmpf .olt main_v5 main_v6
  let main_c_2 : IVec S_ 1 := constantI S_ 1 1#1
  let main_v8 : IVec S_ 1 := (fun x v => Host.reduce IntOp.andi x v reducesTo_S32x64_S_d0_1 h_S_) main_v7 main_c_2
  let main_v9 : IVec S_ 1 := andi main_v4 main_v8
  let main_v10 : FVec F S32x64 .f32 := Host.absf main_arg2
  let main_cst_3 : FVec F S_ .f32 := constant S_ .f32 0x7F800000#32
  let main_v11 : FVec F S32x64 .f32 := broadcastInDim S32x64 ![] bcast_S_S32x64 main_cst_3
  let main_v12 : IVec S32x64 1 := cmpf .olt main_v10 main_v11
  let main_c_4 : IVec S_ 1 := constantI S_ 1 1#1
  let main_v13 : IVec S_ 1 := (fun x v => Host.reduce IntOp.andi x v reducesTo_S32x64_S_d0_1 h_S_) main_v12 main_c_4
  let main_v14 : IVec S_ 1 := andi main_v9 main_v13
  let main_v15 : FVec F S32 .f32 := Host.absf main_arg3
  let main_cst_5 : FVec F S_ .f32 := constant S_ .f32 0x7F800000#32
  fn_part1 (F := F) main_arg4 main_arg5 main_arg6 main_arg7 main_arg8 main_v14 main_v15 main_cst_5
-- ==== Kernel.lean ====
abbrev S4x8192x512 : Shape := ⟨3, ![4, 8192, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S512 : Shape := ⟨1, ![512]⟩
abbrev S_ : Shape := ⟨0, ![]⟩
abbrev S32x1 : Shape := ⟨2, ![32, 1]⟩
abbrev S32x64x1 : Shape := ⟨3, ![32, 64, 1]⟩
abbrev S65 : Shape := ⟨1, ![65]⟩
abbrev S32x1x64 : Shape := ⟨3, ![32, 1, 64]⟩
abbrev S1x65x1 : Shape := ⟨3, ![1, 65, 1]⟩
abbrev S32x65x64 : Shape := ⟨3, ![32, 65, 64]⟩
abbrev S32x16x1x64 : Shape := ⟨4, ![32, 16, 1, 64]⟩
abbrev S32x64x64 : Shape := ⟨3, ![32, 64, 64]⟩
abbrev S32x1x64x64 : Shape := ⟨4, ![32, 1, 64, 64]⟩
abbrev S32x16x64x64 : Shape := ⟨4, ![32, 16, 64, 64]⟩
abbrev S32x16x16x64 : Shape := ⟨4, ![32, 16, 16, 64]⟩
abbrev S128x64x128 : Shape := ⟨3, ![128, 64, 128]⟩
abbrev S32x16x8x128 : Shape := ⟨4, ![32, 16, 8, 128]⟩
abbrev S32x16x8x128x1x1 : Shape := ⟨6, ![32, 16, 8, 128, 1, 1]⟩
abbrev S32x16x8x128x64x128 : Shape := ⟨6, ![32, 16, 8, 128, 64, 128]⟩
abbrev S32x16x8x64x128 : Shape := ⟨5, ![32, 16, 8, 64, 128]⟩
abbrev S32x1024x64 : Shape := ⟨3, ![32, 1024, 64]⟩
abbrev S32x1024x128 : Shape := ⟨3, ![32, 1024, 128]⟩
abbrev S32x64x16x1 : Shape := ⟨4, ![32, 64, 16, 1]⟩
abbrev S32x64x1x64 : Shape := ⟨4, ![32, 64, 1, 64]⟩
abbrev S32x64x16x64 : Shape := ⟨4, ![32, 64, 16, 64]⟩
abbrev S32x64x1024 : Shape := ⟨3, ![32, 64, 1024]⟩
abbrev S32x128x1024 : Shape := ⟨3, ![32, 128, 1024]⟩
abbrev S7 : Shape := ⟨1, ![7]⟩
abbrev S1x7x1 : Shape := ⟨3, ![1, 7, 1]⟩
abbrev S32x7x64 : Shape := ⟨3, ![32, 7, 64]⟩
abbrev S32x7x128 : Shape := ⟨3, ![32, 7, 128]⟩
abbrev S32x7x1x128 : Shape := ⟨4, ![32, 7, 1, 128]⟩
abbrev S32x7x2x128 : Shape := ⟨4, ![32, 7, 2, 128]⟩
abbrev S32x14x128 : Shape := ⟨3, ![32, 14, 128]⟩
abbrev S32x1x16 : Shape := ⟨3, ![32, 1, 16]⟩
abbrev S32x1x16x64 : Shape := ⟨4, ![32, 1, 16, 64]⟩
abbrev S32x1x1024 : Shape := ⟨3, ![32, 1, 1024]⟩
abbrev S32768x512 : Shape := ⟨2, ![32768, 512]⟩
abbrev S512x32768 : Shape := ⟨2, ![512, 32768]⟩
abbrev S512x256x128 : Shape := ⟨3, ![512, 256, 128]⟩
abbrev S16x256x128 : Shape := ⟨3, ![16, 256, 128]⟩
abbrev S1x16x8x64x128 : Shape := ⟨5, ![1, 16, 8, 64, 128]⟩
abbrev S1x1024x128 : Shape := ⟨3, ![1, 1024, 128]⟩
abbrev S1x128x1024 : Shape := ⟨3, ![1, 128, 1024]⟩
abbrev S1x14x128 : Shape := ⟨3, ![1, 14, 128]⟩
abbrev S1x1x1024 : Shape := ⟨3, ![1, 1, 1024]⟩
abbrev S512x1024 : Shape := ⟨2, ![512, 1024]⟩
abbrev S1024x1024 : Shape := ⟨2, ![1024, 1024]⟩
abbrev S1x256x64 : Shape := ⟨3, ![1, 256, 64]⟩
abbrev S256x64 : Shape := ⟨2, ![256, 64]⟩
abbrev S1024x128 : Shape := ⟨2, ![1024, 128]⟩
abbrev S512x128 : Shape := ⟨2, ![512, 128]⟩
abbrev S256x128 : Shape := ⟨2, ![256, 128]⟩
abbrev S1x1x128 : Shape := ⟨3, ![1, 1, 128]⟩
abbrev S1x128 : Shape := ⟨2, ![1, 128]⟩
abbrev S1x1x1x64x128 : Shape := ⟨5, ![1, 1, 1, 64, 128]⟩
abbrev S64x128 : Shape := ⟨2, ![64, 128]⟩
abbrev S128x1024 : Shape := ⟨2, ![128, 1024]⟩
abbrev S1x1024 : Shape := ⟨2, ![1, 1024]⟩

abbrev nBuf : Space → Nat
  | .hbm => 282
  | .vmem => 17
  | .smem => 0
  | _ => 0

abbrev hbmTy0_0 (i : Nat) : BufTy := match i % 128 with
  | 0 => ⟨S4x8192x512, .f32⟩
  | 1 => ⟨S32x64, .f32⟩
  | 2 => ⟨S32x64, .f32⟩
  | 3 => ⟨S32, .f32⟩
  | 4 => ⟨S32x64x16, .f32⟩
  | 5 => ⟨S32x64x16, .f32⟩
  | 6 => ⟨S32x16x64, .f32⟩
  | 7 => ⟨S32x16x64, .f32⟩
  | 8 => ⟨S512, .f32⟩
  | 9 => ⟨S_, .f32⟩
  | 10 => ⟨S32x64, .f32⟩
  | 11 => ⟨S32x64, .f32⟩
  | 12 => ⟨S32, .f32⟩
  | 13 => ⟨S32x1, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S_, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S32x64x1, .f32⟩
  | 38 => ⟨S32x64x1, .f32⟩
  | 39 => ⟨S32x64x16, .f32⟩
  | 40 => ⟨S32x64x16, .f32⟩
  | 41 => ⟨S32x64x16, .f32⟩
  | 42 => ⟨S32x64x16, .f32⟩
  | 43 => ⟨S32x64x16, .f32⟩
  | 44 => ⟨S32x64x16, .f32⟩
  | 45 => ⟨S32x64x16, .f32⟩
  | 46 => ⟨S32x64x16, .f32⟩
  | 47 => ⟨S32x64x16, .f32⟩
  | 48 => ⟨S32x64x16, .f32⟩
  | 49 => ⟨S65, .f32⟩
  | 50 => ⟨S32x1x64, .f32⟩
  | 51 => ⟨S1x65x1, .f32⟩
  | 52 => ⟨S32x65x64, .f32⟩
  | 53 => ⟨S32x65x64, .f32⟩
  | 54 => ⟨S32x65x64, .f32⟩
  | 55 => ⟨S32x1x64, .f32⟩
  | 56 => ⟨S1x65x1, .f32⟩
  | 57 => ⟨S32x65x64, .f32⟩
  | 58 => ⟨S32x65x64, .f32⟩
  | 59 => ⟨S32x65x64, .f32⟩
  | 60 => ⟨S32x65x64, .f32⟩
  | 61 => ⟨S32x65x64, .f32⟩
  | 62 => ⟨S32x65x64, .f32⟩
  | 63 => ⟨S32x65x64, .f32⟩
  | 64 => ⟨S32x65x64, .f32⟩
  | 65 => ⟨S32x16x1x64, .f32⟩
  | 66 => ⟨S32x16x1x64, .f32⟩
  | 67 => ⟨S32x64x64, .f32⟩
  | 68 => ⟨S32x1x64x64, .f32⟩
  | 69 => ⟨S32x64x64, .f32⟩
  | 70 => ⟨S32x1x64x64, .f32⟩
  | 71 => ⟨S32x16x64x64, .f32⟩
  | 72 => ⟨S32x16x64x64, .f32⟩
  | 73 => ⟨S32x16x64x64, .f32⟩
  | 74 => ⟨S32x16x64x64, .f32⟩
  | 75 => ⟨S32x16x64x64, .f32⟩
  | 76 => ⟨S32x16x64x64, .f32⟩
  | 77 => ⟨S32x16x64x64, .f32⟩
  | 78 => ⟨S32x16x64x64, .f32⟩
  | 79 => ⟨S32x16x64x64, .f32⟩
  | 80 => ⟨S32x16x64x64, .f32⟩
  | 81 => ⟨S32x16x64x64, .f32⟩
  | 82 => ⟨S32x16x64x64, .f32⟩
  | 83 => ⟨S32x16x64x64, .f32⟩
  | 84 => ⟨S32x16x64x64, .f32⟩
  | 85 => ⟨S32x16x16x64, .f32⟩
  | 86 => ⟨S32x16x16x64, .f32⟩
  | 87 => ⟨S32x16x16x64, .f32⟩
  | 88 => ⟨S128x64x128, .i32⟩
  | 89 => ⟨S128x64x128, .i32⟩
  | 90 => ⟨S128x64x128, .i32⟩
  | 91 => ⟨S_, .i32⟩
  | 92 => ⟨S_, .i32⟩
  | 93 => ⟨S128x64x128, .i32⟩
  | 94 => ⟨S128x64x128, .i32⟩
  | 95 => ⟨S128x64x128, .i32⟩
  | 96 => ⟨S_, .i32⟩
  | 97 => ⟨S128x64x128, .i32⟩
  | 98 => ⟨S128x64x128, .i1⟩
  | 99 => ⟨S128x64x128, .i32⟩
  | 100 => ⟨S128x64x128, .i32⟩
  | 101 => ⟨S_, .i32⟩
  | 102 => ⟨S128x64x128, .i32⟩
  | 103 => ⟨S128x64x128, .i1⟩
  | 104 => ⟨S128x64x128, .i1⟩
  | 105 => ⟨S_, .i32⟩
  | 106 => ⟨S128x64x128, .i32⟩
  | 107 => ⟨S128x64x128, .i32⟩
  | 108 => ⟨S128x64x128, .i32⟩
  | 109 => ⟨S_, .i32⟩
  | 110 => ⟨S_, .i32⟩
  | 111 => ⟨S128x64x128, .i32⟩
  | 112 => ⟨S128x64x128, .i32⟩
  | 113 => ⟨S128x64x128, .i32⟩
  | 114 => ⟨S_, .i32⟩
  | 115 => ⟨S128x64x128, .i32⟩
  | 116 => ⟨S128x64x128, .i1⟩
  | 117 => ⟨S128x64x128, .i32⟩
  | 118 => ⟨S128x64x128, .i32⟩
  | 119 => ⟨S_, .i32⟩
  | 120 => ⟨S128x64x128, .i32⟩
  | 121 => ⟨S128x64x128, .i1⟩
  | 122 => ⟨S128x64x128, .i1⟩
  | 123 => ⟨S_, .i32⟩
  | 124 => ⟨S128x64x128, .i32⟩
  | 125 => ⟨S128x64x128, .i32⟩
  | 126 => ⟨S128x64x128, .i32⟩
  | 127 => ⟨S128x64x128, .i1⟩
  | _ => ⟨S4x8192x512, .f32⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S128x64x128, .i32⟩
  | 7 => ⟨S128x64x128, .i32⟩
  | 8 => ⟨S_, .i32⟩
  | 9 => ⟨S128x64x128, .i32⟩
  | 10 => ⟨S128x64x128, .i1⟩
  | 11 => ⟨S_, .i32⟩
  | 12 => ⟨S128x64x128, .i32⟩
  | 13 => ⟨S128x64x128, .i1⟩
  | 14 => ⟨S_, .i32⟩
  | 15 => ⟨S_, .i1⟩
  | 16 => ⟨S128x64x128, .i1⟩
  | 17 => ⟨S128x64x128, .i1⟩
  | 18 => ⟨S128x64x128, .i1⟩
  | 19 => ⟨S128x64x128, .i32⟩
  | 20 => ⟨S128x64x128, .i32⟩
  | 21 => ⟨S128x64x128, .i32⟩
  | 22 => ⟨S128x64x128, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S128x64x128, .i32⟩
  | 30 => ⟨S128x64x128, .i32⟩
  | 31 => ⟨S_, .i32⟩
  | 32 => ⟨S128x64x128, .i32⟩
  | 33 => ⟨S128x64x128, .i1⟩
  | 34 => ⟨S_, .i32⟩
  | 35 => ⟨S128x64x128, .i32⟩
  | 36 => ⟨S128x64x128, .i1⟩
  | 37 => ⟨S_, .i32⟩
  | 38 => ⟨S_, .i1⟩
  | 39 => ⟨S128x64x128, .i1⟩
  | 40 => ⟨S128x64x128, .i1⟩
  | 41 => ⟨S128x64x128, .i1⟩
  | 42 => ⟨S128x64x128, .i32⟩
  | 43 => ⟨S128x64x128, .i32⟩
  | 44 => ⟨S128x64x128, .i32⟩
  | 45 => ⟨S128x64x128, .i1⟩
  | 46 => ⟨S128x64x128, .i1⟩
  | 47 => ⟨S32x16x16x64, .bf16⟩
  | 48 => ⟨S32x16x8x128, .bf16⟩
  | 49 => ⟨S32x16x8x128, .f32⟩
  | 50 => ⟨S32x16x8x128x1x1, .f32⟩
  | 51 => ⟨S_, .f32⟩
  | 52 => ⟨S_, .f32⟩
  | 53 => ⟨S32x16x8x128x64x128, .i1⟩
  | 54 => ⟨S32x16x8x128x64x128, .f32⟩
  | 55 => ⟨S32x16x8x128x64x128, .f32⟩
  | 56 => ⟨S32x16x8x128x64x128, .f32⟩
  | 57 => ⟨S_, .f32⟩
  | 58 => ⟨S32x16x8x64x128, .f32⟩
  | 59 => ⟨S32x16x8x64x128, .bf16⟩
  | 60 => ⟨S32x16x64, .f32⟩
  | 61 => ⟨S32x16x1x64, .f32⟩
  | 62 => ⟨S32x16x64, .f32⟩
  | 63 => ⟨S32x16x1x64, .f32⟩
  | 64 => ⟨S32x64x64, .f32⟩
  | 65 => ⟨S32x64x64, .f32⟩
  | 66 => ⟨S32x1x64x64, .f32⟩
  | 67 => ⟨S32x64x64, .f32⟩
  | 68 => ⟨S32x64x64, .f32⟩
  | 69 => ⟨S32x1x64x64, .f32⟩
  | 70 => ⟨S32x16x64x64, .f32⟩
  | 71 => ⟨S32x16x64x64, .f32⟩
  | 72 => ⟨S32x16x64x64, .f32⟩
  | 73 => ⟨S32x16x64x64, .f32⟩
  | 74 => ⟨S32x16x64x64, .f32⟩
  | 75 => ⟨S32x16x64x64, .f32⟩
  | 76 => ⟨S32x16x64x64, .f32⟩
  | 77 => ⟨S32x16x64x64, .f32⟩
  | 78 => ⟨S32x16x64x64, .f32⟩
  | 79 => ⟨S32x16x64x64, .f32⟩
  | 80 => ⟨S32x16x64x64, .f32⟩
  | 81 => ⟨S32x16x64x64, .f32⟩
  | 82 => ⟨S32x16x64x64, .f32⟩
  | 83 => ⟨S32x16x64x64, .f32⟩
  | 84 => ⟨S32x1024x64, .f32⟩
  | 85 => ⟨S32x1024x64, .f32⟩
  | 86 => ⟨S32x1024x128, .f32⟩
  | 87 => ⟨S32x64x16, .f32⟩
  | 88 => ⟨S32x64x16x1, .f32⟩
  | 89 => ⟨S32x64x16, .f32⟩
  | 90 => ⟨S32x64x16x1, .f32⟩
  | 91 => ⟨S32x64x64, .f32⟩
  | 92 => ⟨S32x64x64, .f32⟩
  | 93 => ⟨S32x64x1x64, .f32⟩
  | 94 => ⟨S32x64x64, .f32⟩
  | 95 => ⟨S32x64x64, .f32⟩
  | 96 => ⟨S32x64x1x64, .f32⟩
  | 97 => ⟨S32x64x16x64, .f32⟩
  | 98 => ⟨S32x64x16x64, .f32⟩
  | 99 => ⟨S32x64x16x64, .f32⟩
  | 100 => ⟨S32x64x16x64, .f32⟩
  | 101 => ⟨S32x64x16x64, .f32⟩
  | 102 => ⟨S32x64x16x64, .f32⟩
  | 103 => ⟨S32x64x16x64, .f32⟩
  | 104 => ⟨S32x64x16x64, .f32⟩
  | 105 => ⟨S32x64x16x64, .f32⟩
  | 106 => ⟨S32x64x16x64, .f32⟩
  | 107 => ⟨S32x64x16x64, .f32⟩
  | 108 => ⟨S32x64x16x64, .f32⟩
  | 109 => ⟨S32x64x16x64, .f32⟩
  | 110 => ⟨S32x64x16x64, .f32⟩
  | 111 => ⟨S32x64x1024, .f32⟩
  | 112 => ⟨S32x64x1024, .f32⟩
  | 113 => ⟨S32x64x1024, .f32⟩
  | 114 => ⟨S32x128x1024, .f32⟩
  | 115 => ⟨S7, .i32⟩
  | 116 => ⟨S_, .i32⟩
  | 117 => ⟨S7, .i32⟩
  | 118 => ⟨S7, .i32⟩
  | 119 => ⟨S_, .i32⟩
  | 120 => ⟨S7, .i32⟩
  | 121 => ⟨S7, .i32⟩
  | 122 => ⟨S7, .f32⟩
  | 123 => ⟨S32x1x64, .f32⟩
  | 124 => ⟨S1x7x1, .f32⟩
  | 125 => ⟨S32x7x64, .f32⟩
  | 126 => ⟨S32x7x64, .f32⟩
  | 127 => ⟨S32x7x64, .f32⟩
  | _ => ⟨S4x8192x512, .f32⟩

abbrev hbmTy0_2 (i : Nat) : BufTy := match i % 128 with
  | 0 => ⟨S32x1x64, .f32⟩
  | 1 => ⟨S1x7x1, .f32⟩
  | 2 => ⟨S32x7x64, .f32⟩
  | 3 => ⟨S32x7x64, .f32⟩
  | 4 => ⟨S32x7x64, .f32⟩
  | 5 => ⟨S32x7x64, .f32⟩
  | 6 => ⟨S32x7x64, .f32⟩
  | 7 => ⟨S32x7x64, .f32⟩
  | 8 => ⟨S32x7x64, .f32⟩
  | 9 => ⟨S32x7x64, .f32⟩
  | 10 => ⟨S32x7x128, .f32⟩
  | 11 => ⟨S32x7x64, .f32⟩
  | 12 => ⟨S32x7x128, .f32⟩
  | 13 => ⟨S32x7x1x128, .f32⟩
  | 14 => ⟨S32x7x1x128, .f32⟩
  | 15 => ⟨S32x7x2x128, .f32⟩
  | 16 => ⟨S32x14x128, .f32⟩
  | 17 => ⟨S32x1x16, .f32⟩
  | 18 => ⟨S32x1x16x64, .f32⟩
  | 19 => ⟨S32x1x1024, .f32⟩
  | 20 => ⟨S32x1024x128, .bf16⟩
  | 21 => ⟨S32x128x1024, .bf16⟩
  | 22 => ⟨S32768x512, .f32⟩
  | 23 => ⟨S512x32768, .f32⟩
  | 24 => ⟨S512x256x128, .f32⟩
  | 25 => ⟨S512x256x128, .f32⟩
  | _ => ⟨S4x8192x512, .f32⟩

abbrev hbmTy (i : Nat) : BufTy := match i / 128 with
  | 0 => hbmTy0_0 i
  | 1 => hbmTy0_1 i
  | 2 => hbmTy0_2 i
  | _ => ⟨S4x8192x512, .f32⟩

abbrev bufTy : (tb : Table) → Fin (tcTables nBuf tb) → BufTy
  | .hbm, ⟨i, _⟩ => hbmTy i
  | .local _ .vmem, ⟨0, _⟩ => ⟨S16x256x128, .f32⟩
  | .local _ .vmem, ⟨1, _⟩ => ⟨S16x256x128, .f32⟩
  | .local _ .vmem, ⟨2, _⟩ => ⟨S1x16x8x64x128, .bf16⟩
  | .local _ .vmem, ⟨3, _⟩ => ⟨S1x16x8x64x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x14x128, .f32⟩
  | .local _ .vmem, ⟨9, _⟩ => ⟨S1x14x128, .f32⟩
  | .local _ .vmem, ⟨10, _⟩ => ⟨S1x1x1024, .f32⟩
  | .local _ .vmem, ⟨11, _⟩ => ⟨S1x1x1024, .f32⟩
  | .local _ .vmem, ⟨12, _⟩ => ⟨S16x256x128, .f32⟩
  | .local _ .vmem, ⟨13, _⟩ => ⟨S16x256x128, .f32⟩
  | .local _ .vmem, ⟨14, _⟩ => ⟨S512x1024, .f32⟩
  | .local _ .vmem, ⟨15, _⟩ => ⟨S512x1024, .f32⟩
  | .local _ .vmem, ⟨16, _⟩ => ⟨S1024x1024, .bf16⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_c : Ref sig .tc := ⟨.hbm, 91, rfl⟩
abbrev main_call0_v0 : Ref sig .tc := ⟨.hbm, 92, rfl⟩
abbrev main_call0_v1 : Ref sig .tc := ⟨.hbm, 93, rfl⟩
abbrev main_call0_v2 : Ref sig .tc := ⟨.hbm, 94, rfl⟩
abbrev main_call0_v3 : Ref sig .tc := ⟨.hbm, 95, rfl⟩
abbrev main_call0_v4 : Ref sig .tc := ⟨.hbm, 96, rfl⟩
abbrev main_call0_v5 : Ref sig .tc := ⟨.hbm, 97, rfl⟩
abbrev main_call0_v6 : Ref sig .tc := ⟨.hbm, 98, rfl⟩
abbrev main_call0_v7 : Ref sig .tc := ⟨.hbm, 99, rfl⟩
abbrev main_call0_v8 : Ref sig .tc := ⟨.hbm, 100, rfl⟩
abbrev main_call0_c : Ref sig .tc := ⟨.hbm, 101, rfl⟩
abbrev main_call0_v9 : Ref sig .tc := ⟨.hbm, 102, rfl⟩
abbrev main_call0_v10 : Ref sig .tc := ⟨.hbm, 103, rfl⟩
abbrev main_call0_v11 : Ref sig .tc := ⟨.hbm, 104, rfl⟩
abbrev main_call0_c_0 : Ref sig .tc := ⟨.hbm, 105, rfl⟩
abbrev main_call0_v12 : Ref sig .tc := ⟨.hbm, 106, rfl⟩
abbrev main_call0_v13 : Ref sig .tc := ⟨.hbm, 107, rfl⟩
abbrev main_v80 : Ref sig .tc := ⟨.hbm, 108, rfl⟩
abbrev main_c_1 : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_call1_v5 : Ref sig .tc := ⟨.hbm, 115, rfl⟩
abbrev main_call1_v6 : Ref sig .tc := ⟨.hbm, 116, rfl⟩
abbrev main_call1_v7 : Ref sig .tc := ⟨.hbm, 117, rfl⟩
abbrev main_call1_v8 : Ref sig .tc := ⟨.hbm, 118, rfl⟩
abbrev main_call1_c : Ref sig .tc := ⟨.hbm, 119, rfl⟩
abbrev main_call1_v9 : Ref sig .tc := ⟨.hbm, 120, rfl⟩
abbrev main_call1_v10 : Ref sig .tc := ⟨.hbm, 121, rfl⟩
abbrev main_call1_v11 : Ref sig .tc := ⟨.hbm, 122, rfl⟩
abbrev main_call1_c_0 : Ref sig .tc := ⟨.hbm, 123, rfl⟩
abbrev main_call1_v12 : Ref sig .tc := ⟨.hbm, 124, rfl⟩
abbrev main_call1_v13 : Ref sig .tc := ⟨.hbm, 125, rfl⟩
abbrev main_v81 : Ref sig .tc := ⟨.hbm, 126, rfl⟩
abbrev main_v82 : Ref sig .tc := ⟨.hbm, 127, rfl⟩
abbrev main_c_2 : Ref sig .tc := ⟨.hbm, 128, rfl⟩
abbrev main_call2_v0 : Ref sig .tc := ⟨.hbm, 129, rfl⟩
abbrev main_call2_c : Ref sig .tc := ⟨.hbm, 130, rfl⟩
abbrev main_call2_v1 : Ref sig .tc := ⟨.hbm, 131, rfl⟩
abbrev main_call2_c_0 : Ref sig .tc := ⟨.hbm, 132, rfl⟩
abbrev main_call2_v2 : Ref sig .tc := ⟨.hbm, 133, rfl⟩
abbrev main_call2_v3 : Ref sig .tc := ⟨.hbm, 134, rfl⟩
abbrev main_call2_v4 : Ref sig .tc := ⟨.hbm, 135, rfl⟩
abbrev main_call2_c_1 : Ref sig .tc := ⟨.hbm, 136, rfl⟩
abbrev main_call2_v5 : Ref sig .tc := ⟨.hbm, 137, rfl⟩
abbrev main_call2_v6 : Ref sig .tc := ⟨.hbm, 138, rfl⟩
abbrev main_call2_c_2 : Ref sig .tc := ⟨.hbm, 139, rfl⟩
abbrev main_call2_v7 : Ref sig .tc := ⟨.hbm, 140, rfl⟩
abbrev main_call2_v8 : Ref sig .tc := ⟨.hbm, 141, rfl⟩
abbrev main_call2_c_3 : Ref sig .tc := ⟨.hbm, 142, rfl⟩
abbrev main_call2_v9 : Ref sig .tc := ⟨.hbm, 143, rfl⟩
abbrev main_call2_v10 : Ref sig .tc := ⟨.hbm, 144, rfl⟩
abbrev main_call2_v11 : Ref sig .tc := ⟨.hbm, 145, rfl⟩
abbrev main_call2_v12 : Ref sig .tc := ⟨.hbm, 146, rfl⟩
abbrev main_call2_v13 : Ref sig .tc := ⟨.hbm, 147, rfl⟩
abbrev main_call2_v14 : Ref sig .tc := ⟨.hbm, 148, rfl⟩
abbrev main_v83 : Ref sig .tc := ⟨.hbm, 149, rfl⟩
abbrev main_v84 : Ref sig .tc := ⟨.hbm, 150, rfl⟩
abbrev main_c_3 : Ref sig .tc := ⟨.hbm, 151, rfl⟩
abbrev main_call3_v0 : Ref sig .tc := ⟨.hbm, 152, rfl⟩
abbrev main_call3_c : Ref sig .tc := ⟨.hbm, 153, rfl⟩
abbrev main_call3_v1 : Ref sig .tc := ⟨.hbm, 154, rfl⟩
abbrev main_call3_c_0 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_call3_c_1 : Ref sig .tc := ⟨.hbm, 159, rfl⟩
abbrev main_call3_v5 : Ref sig .tc := ⟨.hbm, 160, rfl⟩
abbrev main_call3_v6 : Ref sig .tc := ⟨.hbm, 161, rfl⟩
abbrev main_call3_c_2 : Ref sig .tc := ⟨.hbm, 162, rfl⟩
abbrev main_call3_v7 : Ref sig .tc := ⟨.hbm, 163, rfl⟩
abbrev main_call3_v8 : Ref sig .tc := ⟨.hbm, 164, rfl⟩
abbrev main_call3_c_3 : Ref sig .tc := ⟨.hbm, 165, rfl⟩
abbrev main_call3_v9 : Ref sig .tc := ⟨.hbm, 166, rfl⟩
abbrev main_call3_v10 : Ref sig .tc := ⟨.hbm, 167, rfl⟩
abbrev main_call3_v11 : Ref sig .tc := ⟨.hbm, 168, rfl⟩
abbrev main_call3_v12 : Ref sig .tc := ⟨.hbm, 169, rfl⟩
abbrev main_call3_v13 : Ref sig .tc := ⟨.hbm, 170, rfl⟩
abbrev main_call3_v14 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_cst_4 : Ref sig .tc := ⟨.hbm, 179, rfl⟩
abbrev main_call4_v0 : Ref sig .tc := ⟨.hbm, 180, rfl⟩
abbrev main_call4_v1 : Ref sig .tc := ⟨.hbm, 181, rfl⟩
abbrev main_call4_v2 : Ref sig .tc := ⟨.hbm, 182, rfl⟩
abbrev main_call4_v3 : Ref sig .tc := ⟨.hbm, 183, rfl⟩
abbrev main_v92 : Ref sig .tc := ⟨.hbm, 184, rfl⟩
abbrev main_cst_5 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩
abbrev main_v108 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_v116 : Ref sig .tc := ⟨.hbm, 209, rfl⟩
abbrev main_v117 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_c_6 : Ref sig .tc := ⟨.hbm, 244, rfl⟩
abbrev main_v151 : Ref sig .tc := ⟨.hbm, 245, rfl⟩
abbrev main_v152 : Ref sig .tc := ⟨.hbm, 246, rfl⟩
abbrev main_c_7 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_v176 : Ref sig .tc := ⟨.hbm, 271, rfl⟩
abbrev main_v177 : Ref sig .tc := ⟨.hbm, 272, rfl⟩
abbrev main_v178 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_v185 : Ref sig .tc := ⟨.hbm, 280, rfl⟩
abbrev main_v186 : Ref sig .tc := ⟨.hbm, 281, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x8x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x14x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x8192x512 : Shape := ⟨3, ![4, 8192, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S512 : Shape := ⟨1, ![512]⟩
abbrev S4x8192x32x16 : Shape := ⟨4, ![4, 8192, 32, 16]⟩
abbrev S_ : Shape := ⟨0, ![]⟩
abbrev S32x1 : Shape := ⟨2, ![32, 1]⟩
abbrev S32x64x1 : Shape := ⟨3, ![32, 64, 1]⟩
abbrev S32x64x4x8192 : Shape := ⟨4, ![32, 64, 4, 8192]⟩
abbrev S8192x4x32x64 : Shape := ⟨4, ![8192, 4, 32, 64]⟩
abbrev S4x32x64 : Shape := ⟨3, ![4, 32, 64]⟩
abbrev S1x4x32x64 : Shape := ⟨4, ![1, 4, 32, 64]⟩
abbrev S1x32x64 : Shape := ⟨3, ![1, 32, 64]⟩
abbrev S32x16x8192x4 : Shape := ⟨4, ![32, 16, 8192, 4]⟩
abbrev S32x16 : Shape := ⟨2, ![32, 16]⟩
abbrev S1x1x32x16 : Shape := ⟨4, ![1, 1, 32, 16]⟩
abbrev S32768x512 : Shape := ⟨2, ![32768, 512]⟩
abbrev S512x32768 : Shape := ⟨2, ![512, 32768]⟩
abbrev S512x256x128 : Shape := ⟨3, ![512, 256, 128]⟩

abbrev nBuf : Space → Nat
  | .hbm => 131
  | .vmem => 0
  | .smem => 0
  | _ => 0

abbrev hbmTy0_0 (i : Nat) : BufTy := match i % 128 with
  | 0 => ⟨S4x8192x512, .f32⟩
  | 1 => ⟨S32x64, .f32⟩
  | 2 => ⟨S32x64, .f32⟩
  | 3 => ⟨S32, .f32⟩
  | 4 => ⟨S32x64x16, .f32⟩
  | 5 => ⟨S32x64x16, .f32⟩
  | 6 => ⟨S32x16x64, .f32⟩
  | 7 => ⟨S32x16x64, .f32⟩
  | 8 => ⟨S512, .f32⟩
  | 9 => ⟨S4x8192x32x16, .f32⟩
  | 10 => ⟨S_, .f32⟩
  | 11 => ⟨S32x64, .f32⟩
  | 12 => ⟨S32x64, .f32⟩
  | 13 => ⟨S32, .f32⟩
  | 14 => ⟨S32x1, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S_, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S_, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64x1, .f32⟩
  | 44 => ⟨S32x64x16, .f32⟩
  | 45 => ⟨S32x64x16, .f32⟩
  | 46 => ⟨S32x64x1, .f32⟩
  | 47 => ⟨S32x64x16, .f32⟩
  | 48 => ⟨S32x64x16, .f32⟩
  | 49 => ⟨S32x64x16, .f32⟩
  | 50 => ⟨S32x64x1, .f32⟩
  | 51 => ⟨S32x64x16, .f32⟩
  | 52 => ⟨S32x64x16, .f32⟩
  | 53 => ⟨S32x64x1, .f32⟩
  | 54 => ⟨S32x64x16, .f32⟩
  | 55 => ⟨S32x64x16, .f32⟩
  | 56 => ⟨S32x64x16, .f32⟩
  | 57 => ⟨S32x64x4x8192, .f32⟩
  | 58 => ⟨S8192x4x32x64, .f32⟩
  | 59 => ⟨S32x64x4x8192, .f32⟩
  | 60 => ⟨S8192x4x32x64, .f32⟩
  | 61 => ⟨S_, .f32⟩
  | 62 => ⟨S4x32x64, .f32⟩
  | 63 => ⟨S_, .f32⟩
  | 64 => ⟨S8192x4x32x64, .f32⟩
  | 65 => ⟨S_, .f32⟩
  | 66 => ⟨S8192x4x32x64, .f32⟩
  | 67 => ⟨S_, .i32⟩
  | 68 => ⟨S8192x4x32x64, .f32⟩
  | 69 => ⟨S8192x4x32x64, .f32⟩
  | 70 => ⟨S32x64, .f32⟩
  | 71 => ⟨S32x64, .f32⟩
  | 72 => ⟨S_, .i32⟩
  | 73 => ⟨S4x32x64, .f32⟩
  | 74 => ⟨S4x32x64, .f32⟩
  | 75 => ⟨S8192x4x32x64, .f32⟩
  | 76 => ⟨S8192x4x32x64, .f32⟩
  | 77 => ⟨S_, .i32⟩
  | 78 => ⟨S_, .i1⟩
  | 79 => ⟨S_, .i32⟩
  | 80 => ⟨S_, .i32⟩
  | 81 => ⟨S_, .i32⟩
  | 82 => ⟨S1x4x32x64, .f32⟩
  | 83 => ⟨S4x32x64, .f32⟩
  | 84 => ⟨S_, .i32⟩
  | 85 => ⟨S_, .i32⟩
  | 86 => ⟨S_, .i32⟩
  | 87 => ⟨S1x4x32x64, .f32⟩
  | 88 => ⟨S4x32x64, .f32⟩
  | 89 => ⟨S1x32x64, .f32⟩
  | 90 => ⟨S4x32x64, .f32⟩
  | 91 => ⟨S4x32x64, .f32⟩
  | 92 => ⟨S1x32x64, .f32⟩
  | 93 => ⟨S4x32x64, .f32⟩
  | 94 => ⟨S4x32x64, .f32⟩
  | 95 => ⟨S4x32x64, .f32⟩
  | 96 => ⟨S4x32x64, .f32⟩
  | 97 => ⟨S1x32x64, .f32⟩
  | 98 => ⟨S4x32x64, .f32⟩
  | 99 => ⟨S4x32x64, .f32⟩
  | 100 => ⟨S1x32x64, .f32⟩
  | 101 => ⟨S4x32x64, .f32⟩
  | 102 => ⟨S4x32x64, .f32⟩
  | 103 => ⟨S4x32x64, .f32⟩
  | 104 => ⟨S4x32x64, .f32⟩
  | 105 => ⟨S1x4x32x64, .f32⟩
  | 106 => ⟨S_, .i32⟩
  | 107 => ⟨S_, .i32⟩
  | 108 => ⟨S_, .i32⟩
  | 109 => ⟨S8192x4x32x64, .f32⟩
  | 110 => ⟨S1x4x32x64, .f32⟩
  | 111 => ⟨S_, .i32⟩
  | 112 => ⟨S_, .i32⟩
  | 113 => ⟨S_, .i32⟩
  | 114 => ⟨S8192x4x32x64, .f32⟩
  | 115 => ⟨S_, .i32⟩
  | 116 => ⟨S_, .i32⟩
  | 117 => ⟨S32x16x8192x4, .f32⟩
  | 118 => ⟨S4x8192x32x16, .f32⟩
  | 119 => ⟨S32x16x8192x4, .f32⟩
  | 120 => ⟨S4x8192x32x16, .f32⟩
  | 121 => ⟨S4x8192x32x16, .f32⟩
  | 122 => ⟨S32x16, .f32⟩
  | 123 => ⟨S4x8192x32x16, .f32⟩
  | 124 => ⟨S1x1x32x16, .f32⟩
  | 125 => ⟨S4x8192x32x16, .f32⟩
  | 126 => ⟨S4x8192x32x16, .f32⟩
  | 127 => ⟨S4x8192x32x16, .f32⟩
  | _ => ⟨S4x8192x512, .f32⟩

abbrev hbmTy0_1 (i : Nat) : BufTy := match i % 128 with
  | 0 => ⟨S32768x512, .f32⟩
  | 1 => ⟨S512x32768, .f32⟩
  | 2 => ⟨S512x256x128, .f32⟩
  | _ => ⟨S4x8192x512, .f32⟩

abbrev hbmTy (i : Nat) : BufTy := match i / 128 with
  | 0 => hbmTy0_0 i
  | 1 => hbmTy0_1 i
  | _ => ⟨S4x8192x512, .f32⟩

abbrev bufTy : (tb : Table) → Fin (tcTables nBuf tb) → BufTy
  | .hbm, ⟨i, _⟩ => hbmTy i
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_2 : Ref sig .tc := ⟨.hbm, 61, rfl⟩
abbrev main_v49 : Ref sig .tc := ⟨.hbm, 62, rfl⟩
abbrev main_cst_3 : Ref sig .tc := ⟨.hbm, 63, rfl⟩
abbrev main_v50 : Ref sig .tc := ⟨.hbm, 64, rfl⟩
abbrev main_cst_4 : Ref sig .tc := ⟨.hbm, 65, rfl⟩
abbrev main_v51 : Ref sig .tc := ⟨.hbm, 66, rfl⟩
abbrev main_c : Ref sig .tc := ⟨.hbm, 67, rfl⟩
abbrev main_v52_0 : Ref sig .tc := ⟨.hbm, 68, rfl⟩
abbrev main_v52_1 : Ref sig .tc := ⟨.hbm, 69, rfl⟩
abbrev main_v52_2 : Ref sig .tc := ⟨.hbm, 70, rfl⟩
abbrev main_v52_3 : Ref sig .tc := ⟨.hbm, 71, rfl⟩
abbrev main_v52_4 : Ref sig .tc := ⟨.hbm, 72, rfl⟩
abbrev main_v52_5 : Ref sig .tc := ⟨.hbm, 73, rfl⟩
abbrev main_v52_6 : Ref sig .tc := ⟨.hbm, 74, rfl⟩
abbrev main_v52_7 : Ref sig .tc := ⟨.hbm, 75, rfl⟩
abbrev main_v52_8 : Ref sig .tc := ⟨.hbm, 76, rfl⟩
abbrev main_while0c_c_13 : Ref sig .tc := ⟨.hbm, 77, rfl⟩
abbrev main_while0c_v67 : Ref sig .tc := ⟨.hbm, 78, rfl⟩
abbrev main_while0b_call0_c : Ref sig .tc := ⟨.hbm, 79, rfl⟩
abbrev main_while0b_call0_c_0 : Ref sig .tc := ⟨.hbm, 80, rfl⟩
abbrev main_while0b_call0_c_1 : Ref sig .tc := ⟨.hbm, 81, rfl⟩
abbrev main_while0b_call0_v0 : Ref sig .tc := ⟨.hbm, 82, rfl⟩
abbrev main_while0b_v67 : Ref sig .tc := ⟨.hbm, 83, rfl⟩
abbrev main_while0b_call1_c : Ref sig .tc := ⟨.hbm, 84, rfl⟩
abbrev main_while0b_call1_c_0 : Ref sig .tc := ⟨.hbm, 85, rfl⟩
abbrev main_while0b_call1_c_1 : Ref sig .tc := ⟨.hbm, 86, rfl⟩
abbrev main_while0b_call1_v0 : Ref sig .tc := ⟨.hbm, 87, rfl⟩
abbrev main_while0b_v68 : Ref sig .tc := ⟨.hbm, 88, rfl⟩
abbrev main_while0b_v69 : Ref sig .tc := ⟨.hbm, 89, rfl⟩
abbrev main_while0b_v70 : Ref sig .tc := ⟨.hbm, 90, rfl⟩
abbrev main_while0b_v71 : Ref sig .tc := ⟨.hbm, 91, rfl⟩
abbrev main_while0b_v72 : Ref sig .tc := ⟨.hbm, 92, rfl⟩
abbrev main_while0b_v73 : Ref sig .tc := ⟨.hbm, 93, rfl⟩
abbrev main_while0b_v74 : Ref sig .tc := ⟨.hbm, 94, rfl⟩
abbrev main_while0b_v75 : Ref sig .tc := ⟨.hbm, 95, rfl⟩
abbrev main_while0b_v76 : Ref sig .tc := ⟨.hbm, 96, rfl⟩
abbrev main_while0b_v77 : Ref sig .tc := ⟨.hbm, 97, rfl⟩
abbrev main_while0b_v78 : Ref sig .tc := ⟨.hbm, 98, rfl⟩
abbrev main_while0b_v79 : Ref sig .tc := ⟨.hbm, 99, rfl⟩
abbrev main_while0b_v80 : Ref sig .tc := ⟨.hbm, 100, rfl⟩
abbrev main_while0b_v81 : Ref sig .tc := ⟨.hbm, 101, rfl⟩
abbrev main_while0b_v82 : Ref sig .tc := ⟨.hbm, 102, rfl⟩
abbrev main_while0b_v83 : Ref sig .tc := ⟨.hbm, 103, rfl⟩
abbrev main_while0b_v84 : Ref sig .tc := ⟨.hbm, 104, rfl⟩
abbrev main_while0b_call2_v0 : Ref sig .tc := ⟨.hbm, 105, rfl⟩
abbrev main_while0b_call2_c : Ref sig .tc := ⟨.hbm, 106, rfl⟩
abbrev main_while0b_call2_c_0 : Ref sig .tc := ⟨.hbm, 107, rfl⟩
abbrev main_while0b_call2_c_1 : Ref sig .tc := ⟨.hbm, 108, rfl⟩
abbrev main_while0b_v85 : Ref sig .tc := ⟨.hbm, 109, rfl⟩
abbrev main_while0b_call3_v0 : Ref sig .tc := ⟨.hbm, 110, rfl⟩
abbrev main_while0b_call3_c : Ref sig .tc := ⟨.hbm, 111, rfl⟩
abbrev main_while0b_call3_c_0 : Ref sig .tc := ⟨.hbm, 112, rfl⟩
abbrev main_while0b_call3_c_1 : Ref sig .tc := ⟨.hbm, 113, rfl⟩
abbrev main_while0b_v86 : Ref sig .tc := ⟨.hbm, 114, rfl⟩
abbrev main_while0b_c_13 : Ref sig .tc := ⟨.hbm, 115, rfl⟩
abbrev main_while0b_v87 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩

abbrev nD : Nat := 1
abbrev τ : Topo := Topo.v7x

variable {F : FTy → Type} [FloatOps F]

abbrev main_while0_count : Scf.Loop 32 := ⟨0#32, 8192#32, 1#32⟩
-- ==== Ffn.lean ====
abbrev S4x8192x1024 : Shape := ⟨3, ![4, 8192, 1024]⟩
abbrev S1024x5632 : Shape := ⟨2, ![1024, 5632]⟩
abbrev S2816x1024 : Shape := ⟨2, ![2816, 1024]⟩
abbrev S1024 : Shape := ⟨1, ![1024]⟩
abbrev S32768x1024 : Shape := ⟨2, ![32768, 1024]⟩
abbrev S1x1024 : Shape := ⟨2, ![1, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S32768x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S4x8192x1024 : Shape := ⟨3, ![4, 8192, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S4x8192x5632 : Shape := ⟨3, ![4, 8192, 5632]⟩
abbrev S4x8192x2816 : Shape := ⟨3, ![4, 8192, 2816]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4x8192x1024, .f32⟩
  | .hbm, ⟨7, _⟩ => ⟨S4x8192x1024, .f32⟩
  | .hbm, ⟨8, _⟩ => ⟨S4x8192x5632, .f32⟩
  | .hbm, ⟨9, _⟩ => ⟨S4x8192x2816, .f32⟩
  | .hbm, ⟨10, _⟩ => ⟨S4x8192x2816, .f32⟩
  | .hbm, ⟨11, _⟩ => ⟨S4x8192x2816, .f32⟩
  | .hbm, ⟨12, _⟩ => ⟨S4x8192x2816, .f32⟩
  | .hbm, ⟨13, _⟩ => ⟨S_, .f32⟩
  | .hbm, ⟨14, _⟩ => ⟨S4x8192x2816, .f32⟩
  | .hbm, ⟨15, _⟩ => ⟨S4x8192x2816, .f32⟩
  | .hbm, ⟨16, _⟩ => ⟨S_, .f32⟩
  | .hbm, ⟨17, _⟩ => ⟨S4x8192x2816, .f32⟩
  | .hbm, ⟨18, _⟩ => ⟨S4x8192x2816, .f32⟩
  | .hbm, ⟨19, _⟩ => ⟨S4x8192x2816, .f32⟩
  | .hbm, ⟨20, _⟩ => ⟨S4x8192x2816, .f32⟩
  | .hbm, ⟨21, _⟩ => ⟨S4x8192x1024, .f32⟩
  | .hbm, ⟨22, _⟩ => ⟨S_, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x8192, .f32⟩
  | .hbm, ⟨28, _⟩ => ⟨S4x8192x1, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x8192, .f32⟩
  | .hbm, ⟨37, _⟩ => ⟨S4x8192x1, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S4x8192x1024, .f32⟩
  | .hbm, ⟨42, _⟩ => ⟨S4x8192x1024, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x8192x1, .f32⟩
  | .hbm, ⟨47, _⟩ => ⟨S4x8192x1024, .f32⟩
  | .hbm, ⟨48, _⟩ => ⟨S4x8192x1024, .f32⟩
  | .hbm, ⟨49, _⟩ => ⟨S1x1x1024, .f32⟩
  | .hbm, ⟨50, _⟩ => ⟨S4x8192x1024, .f32⟩
  | .hbm, ⟨51, _⟩ => ⟨S4x8192x1024, .f32⟩
  | .hbm, ⟨52, _⟩ => ⟨S1x1x1024, .f32⟩
  | .hbm, ⟨53, _⟩ => ⟨S4x8192x1024, .f32⟩
  | .hbm, ⟨54, _⟩ => ⟨S4x8192x1024, .f32⟩
  | .hbm, ⟨55, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Merge.lean ====
abbrev S4x8192x1024 : Shape := ⟨3, ![4, 8192, 1024]⟩
abbrev S4x8192x512 : Shape := ⟨3, ![4, 8192, 512]⟩
abbrev S512x512 : Shape := ⟨2, ![512, 512]⟩
abbrev S2x512x1024 : Shape := ⟨3, ![2, 512, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S32768x512 : Shape := ⟨2, ![32768, 512]⟩
abbrev S512x32768 : Shape := ⟨2, ![512, 32768]⟩
abbrev S1x512x1024 : Shape := ⟨3, ![1, 512, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 37
  | .vmem => 22
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x8192x1024, .f32⟩
  | .hbm, ⟨4, _⟩ => ⟨S4x8192x1024, .f32⟩
  | .hbm, ⟨5, _⟩ => ⟨S512x512, .f32⟩
  | .hbm, ⟨6, _⟩ => ⟨S2x512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x5632, .f32⟩
  | .hbm, ⟨11, _⟩ => ⟨S2816x1024, .f32⟩
  | .hbm, ⟨12, _⟩ => ⟨S1024, .f32⟩
  | .hbm, ⟨13, _⟩ => ⟨S1024, .f32⟩
  | .hbm, ⟨14, _⟩ => ⟨S32768x1024, .f32⟩
  | .hbm, ⟨15, _⟩ => ⟨S32768x512, .f32⟩
  | .hbm, ⟨16, _⟩ => ⟨S512x32768, .f32⟩
  | .hbm, ⟨17, _⟩ => ⟨S32768x512, .f32⟩
  | .hbm, ⟨18, _⟩ => ⟨S32768x1024, .f32⟩
  | .hbm, ⟨19, _⟩ => ⟨S32768x1024, .bf16⟩
  | .hbm, ⟨20, _⟩ => ⟨S32768x1024, .f32⟩
  | .hbm, ⟨21, _⟩ => ⟨S32768x1024, .bf16⟩
  | .hbm, ⟨22, _⟩ => ⟨S512x512, .bf16⟩
  | .hbm, ⟨23, _⟩ => ⟨S1x512x1024, .f32⟩
  | .hbm, ⟨24, _⟩ => ⟨S512x1024, .f32⟩
  | .hbm, ⟨25, _⟩ => ⟨S512x1024, .bf16⟩
  | .hbm, ⟨26, _⟩ => ⟨S1x512x1024, .f32⟩
  | .hbm, ⟨27, _⟩ => ⟨S512x1024, .f32⟩
  | .hbm, ⟨28, _⟩ => ⟨S512x1024, .bf16⟩
  | .hbm, ⟨29, _⟩ => ⟨S1024x1024, .bf16⟩
  | .hbm, ⟨30, _⟩ => ⟨S1024x5632, .bf16⟩
  | .hbm, ⟨31, _⟩ => ⟨S2816x1024, .bf16⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x512, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1024x5632, .bf16⟩
  | .local _ .vmem, ⟨17, _⟩ => ⟨S2816x1024, .bf16⟩
  | .local _ .vmem, ⟨18, _⟩ => ⟨S1x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MergeRefIdeal.lean ====
abbrev S4x8192x1024 : Shape := ⟨3, ![4, 8192, 1024]⟩
abbrev S4x8192x512 : Shape := ⟨3, ![4, 8192, 512]⟩
abbrev S512x512 : Shape := ⟨2, ![512, 512]⟩
abbrev S2x512x1024 : Shape := ⟨3, ![2, 512, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S1x512x1024 : Shape := ⟨3, ![1, 512, 1024]⟩
abbrev S512x1024 : Shape := ⟨2, ![512, 1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩
abbrev S32768x1024 : Shape := ⟨2, ![32768, 1024]⟩

abbrev nBuf : Space → Nat
  | .hbm => 135
  | .vmem => 0
  | .smem => 0
  | _ => 0

abbrev hbmTy0_0 (i : Nat) : BufTy := match i % 128 with
  | 0 => ⟨S4x8192x1024, .f32⟩
  | 1 => ⟨S4x8192x512, .f32⟩
  | 2 => ⟨S4x8192x512, .f32⟩
  | 3 => ⟨S4x8192x1024, .f32⟩
  | 4 => ⟨S4x8192x1024, .f32⟩
  | 5 => ⟨S512x512, .f32⟩
  | 6 => ⟨S2x512x1024, .f32⟩
  | 7 => ⟨S1024x1024, .f32⟩
  | 8 => ⟨S1024, .f32⟩
  | 9 => ⟨S1024, .f32⟩
  | 10 => ⟨S1024x5632, .f32⟩
  | 11 => ⟨S2816x1024, .f32⟩
  | 12 => ⟨S1024, .f32⟩
  | 13 => ⟨S1024, .f32⟩
  | 14 => ⟨S4x8192x512, .f32⟩
  | 15 => ⟨S4x8192x512, .f32⟩
  | 16 => ⟨S_, .f32⟩
  | 17 => ⟨S4x8192x512, .f32⟩
  | 18 => ⟨S4x8192x512, .f32⟩
  | 19 => ⟨S4x8192x512, .f32⟩
  | 20 => ⟨S_, .f32⟩
  | 21 => ⟨S4x8192x512, .f32⟩
  | 22 => ⟨S4x8192x512, .f32⟩
  | 23 => ⟨S4x8192x512, .f32⟩
  | 24 => ⟨S_, .f32⟩
  | 25 => ⟨S4x8192x512, .f32⟩
  | 26 => ⟨S4x8192x512, .f32⟩
  | 27 => ⟨S_, .f32⟩
  | 28 => ⟨S4x8192x512, .f32⟩
  | 29 => ⟨S4x8192x512, .f32⟩
  | 30 => ⟨S4x8192x512, .f32⟩
  | 31 => ⟨S4x8192x512, .f32⟩
  | 32 => ⟨S4x8192x512, .f32⟩
  | 33 => ⟨S4x8192x512, .f32⟩
  | 34 => ⟨S_, .f32⟩
  | 35 => ⟨S4x8192x512, .f32⟩
  | 36 => ⟨S4x8192x512, .f32⟩
  | 37 => ⟨S_, .f32⟩
  | 38 => ⟨S4x8192x512, .f32⟩
  | 39 => ⟨S4x8192x512, .f32⟩
  | 40 => ⟨S4x8192x512, .f32⟩
  | 41 => ⟨S1x512x1024, .f32⟩
  | 42 => ⟨S512x1024, .f32⟩
  | 43 => ⟨S4x8192x1024, .f32⟩
  | 44 => ⟨S4x8192x1024, .f32⟩
  | 45 => ⟨S1x512x1024, .f32⟩
  | 46 => ⟨S512x1024, .f32⟩
  | 47 => ⟨S4x8192x1024, .f32⟩
  | 48 => ⟨S4x8192x1024, .f32⟩
  | 49 => ⟨S4x8192x1024, .f32⟩
  | 50 => ⟨S_, .f32⟩
  | 51 => ⟨S4x8192x1024, .f32⟩
  | 52 => ⟨S4x8192x1024, .f32⟩
  | 53 => ⟨S4x8192x1024, .f32⟩
  | 54 => ⟨S4x8192x1024, .f32⟩
  | 55 => ⟨S_, .f32⟩
  | 56 => ⟨S4x8192, .f32⟩
  | 57 => ⟨S4x8192x1, .f32⟩
  | 58 => ⟨S_, .f32⟩
  | 59 => ⟨S4x8192x1, .f32⟩
  | 60 => ⟨S4x8192x1, .f32⟩
  | 61 => ⟨S4x8192x1024, .f32⟩
  | 62 => ⟨S4x8192x1024, .f32⟩
  | 63 => ⟨S4x8192x1024, .f32⟩
  | 64 => ⟨S_, .f32⟩
  | 65 => ⟨S4x8192, .f32⟩
  | 66 => ⟨S4x8192x1, .f32⟩
  | 67 => ⟨S_, .f32⟩
  | 68 => ⟨S4x8192x1, .f32⟩
  | 69 => ⟨S4x8192x1, .f32⟩
  | 70 => ⟨S4x8192x1024, .f32⟩
  | 71 => ⟨S4x8192x1024, .f32⟩
  | 72 => ⟨S_, .f32⟩
  | 73 => ⟨S4x8192x1, .f32⟩
  | 74 => ⟨S4x8192x1, .f32⟩
  | 75 => ⟨S4x8192x1, .f32⟩
  | 76 => ⟨S4x8192x1024, .f32⟩
  | 77 => ⟨S4x8192x1024, .f32⟩
  | 78 => ⟨S1x1x1024, .f32⟩
  | 79 => ⟨S4x8192x1024, .f32⟩
  | 80 => ⟨S4x8192x1024, .f32⟩
  | 81 => ⟨S1x1x1024, .f32⟩
  | 82 => ⟨S4x8192x1024, .f32⟩
  | 83 => ⟨S4x8192x1024, .f32⟩
  | 84 => ⟨S_, .f32⟩
  | 85 => ⟨S4x8192x1024, .f32⟩
  | 86 => ⟨S4x8192x1024, .f32⟩
  | 87 => ⟨S4x8192x5632, .f32⟩
  | 88 => ⟨S4x8192x2816, .f32⟩
  | 89 => ⟨S4x8192x2816, .f32⟩
  | 90 => ⟨S4x8192x2816, .f32⟩
  | 91 => ⟨S4x8192x2816, .f32⟩
  | 92 => ⟨S_, .f32⟩
  | 93 => ⟨S4x8192x2816, .f32⟩
  | 94 => ⟨S4x8192x2816, .f32⟩
  | 95 => ⟨S_, .f32⟩
  | 96 => ⟨S4x8192x2816, .f32⟩
  | 97 => ⟨S4x8192x2816, .f32⟩
  | 98 => ⟨S4x8192x2816, .f32⟩
  | 99 => ⟨S4x8192x2816, .f32⟩
  | 100 => ⟨S4x8192x1024, .f32⟩
  | 101 => ⟨S_, .f32⟩
  | 102 => ⟨S4x8192x1024, .f32⟩
  | 103 => ⟨S4x8192x1024, .f32⟩
  | 104 => ⟨S4x8192x1024, .f32⟩
  | 105 => ⟨S_, .f32⟩
  | 106 => ⟨S4x8192, .f32⟩
  | 107 => ⟨S4x8192x1, .f32⟩
  | 108 => ⟨S_, .f32⟩
  | 109 => ⟨S4x8192x1, .f32⟩
  | 110 => ⟨S4x8192x1, .f32⟩
  | 111 => ⟨S4x8192x1024, .f32⟩
  | 112 => ⟨S4x8192x1024, .f32⟩
  | 113 => ⟨S4x8192x1024, .f32⟩
  | 114 => ⟨S_, .f32⟩
  | 115 => ⟨S4x8192, .f32⟩
  | 116 => ⟨S4x8192x1, .f32⟩
  | 117 => ⟨S_, .f32⟩
  | 118 => ⟨S4x8192x1, .f32⟩
  | 119 => ⟨S4x8192x1, .f32⟩
  | 120 => ⟨S4x8192x1024, .f32⟩
  | 121 => ⟨S4x8192x1024, .f32⟩
  | 122 => ⟨S_, .f32⟩
  | 123 => ⟨S4x8192x1, .f32⟩
  | 124 => ⟨S4x8192x1, .f32⟩
  | 125 => ⟨S4x8192x1, .f32⟩
  | 126 => ⟨S4x8192x1024, .f32⟩
  | 127 => ⟨S4x8192x1024, .f32⟩
  | _ => ⟨S4x8192x1024, .f32⟩

abbrev hbmTy0_1 (i : Nat) : BufTy := match i % 128 with
  | 0 => ⟨S1x1x1024, .f32⟩
  | 1 => ⟨S4x8192x1024, .f32⟩
  | 2 => ⟨S4x8192x1024, .f32⟩
  | 3 => ⟨S1x1x1024, .f32⟩
  | 4 => ⟨S4x8192x1024, .f32⟩
  | 5 => ⟨S4x8192x1024, .f32⟩
  | 6 => ⟨S32768x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call0_v0 : Ref sig .tc := ⟨.hbm, 90, rfl⟩
abbrev main_call0_v1 : Ref sig .tc := ⟨.hbm, 91, rfl⟩
abbrev main_call0_cst : Ref sig .tc := ⟨.hbm, 92, rfl⟩
abbrev main_call0_v2 : Ref sig .tc := ⟨.hbm, 93, rfl⟩
abbrev main_call0_v3 : Ref sig .tc := ⟨.hbm, 94, rfl⟩
abbrev main_call0_cst_0 : Ref sig .tc := ⟨.hbm, 95, rfl⟩
abbrev main_call0_v4 : Ref sig .tc := ⟨.hbm, 96, rfl⟩
abbrev main_call0_v5 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_12 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_13 : Ref sig .tc := ⟨.hbm, 105, rfl⟩
abbrev main_v69 : Ref sig .tc := ⟨.hbm, 106, rfl⟩
abbrev main_v70 : Ref sig .tc := ⟨.hbm, 107, rfl⟩
abbrev main_cst_14 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_15 : Ref sig .tc := ⟨.hbm, 114, rfl⟩
abbrev main_v76 : Ref sig .tc := ⟨.hbm, 115, rfl⟩
abbrev main_v77 : Ref sig .tc := ⟨.hbm, 116, rfl⟩
abbrev main_cst_16 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_17 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩

abbrev nD : Nat := 1
abbrev τ : Topo := Topo.v7x

variable {F : FTy → Type} [FloatOps F]
-- ==== Proj.lean ====
abbrev S4x8192x1024 : Shape := ⟨3, ![4, 8192, 1024]⟩
abbrev S1024x4392 : Shape := ⟨2, ![1024, 4392]⟩
abbrev S512x128 : Shape := ⟨2, ![512, 128]⟩
abbrev S32768x1024 : Shape := ⟨2, ![32768, 1024]⟩
abbrev S1024x512 : Shape := ⟨2, ![1024, 512]⟩
abbrev S1024x256 : Shape := ⟨2, ![1024, 256]⟩
abbrev S1024x32 : Shape := ⟨2, ![1024, 32]⟩
abbrev S1024x8 : Shape := ⟨2, ![1024, 8]⟩
abbrev S1024x1024 : Shape := ⟨2, ![1024, 1024]⟩
abbrev S_ : Shape := ⟨0, ![]⟩
abbrev S1024x96 : Shape := ⟨2, ![1024, 96]⟩
abbrev S1024x128 : Shape := ⟨2, ![1024, 128]⟩
abbrev S1024x3200 : Shape := ⟨2, ![1024, 3200]⟩
abbrev S1024x16 : Shape := ⟨2, ![1024, 16]⟩
abbrev S1024x1296 : Shape := ⟨2, ![1024, 1296]⟩
abbrev S1296x1024 : Shape := ⟨2, ![1296, 1024]⟩
abbrev S32768x512 : Shape := ⟨2, ![32768, 512]⟩
abbrev S32768x32 : Shape := ⟨2, ![32768, 32]⟩
abbrev S32x8x128 : Shape := ⟨3, ![32, 8, 128]⟩
abbrev S512x32768 : Shape := ⟨2, ![512, 32768]⟩
abbrev S640x32768 : Shape := ⟨2, ![640, 32768]⟩
abbrev S256x32768 : Shape := ⟨2, ![256, 32768]⟩
abbrev S16x32768 : Shape := ⟨2, ![16, 32768]⟩
abbrev S1x8x128 : Shape := ⟨3, ![1, 8, 128]⟩
abbrev S512x1024 : Shape := ⟨2, ![512, 1024]⟩
abbrev S640x1024 : Shape := ⟨2, ![640, 1024]⟩
abbrev S256x1024 : Shape := ⟨2, ![256, 1024]⟩
abbrev S16x1024 : Shape := ⟨2, ![16, 1024]⟩
abbrev S128 : Shape := ⟨1, ![128]⟩
abbrev S1x128 : Shape := ⟨2, ![1, 128]⟩
abbrev S6x128 : Shape := ⟨2, ![6, 128]⟩
abbrev S8x128 : Shape := ⟨2, ![8, 128]⟩
abbrev S64x1024 : Shape := ⟨2, ![64, 1024]⟩

abbrev nBuf : Space → Nat
  | .hbm => 34
  | .vmem => 25
  | .smem => 0
  | _ => 0

abbrev bufTy : (tb : Table) → Fin (tcTables nBuf tb) → BufTy
  | .hbm, ⟨0, _⟩ => ⟨S4x8192x1024, .f32⟩
  | .hbm, ⟨1, _⟩ => ⟨S1024x4392, .f32⟩
  | .hbm, ⟨2, _⟩ => ⟨S512x128, .bf16⟩
  | .hbm, ⟨3, _⟩ => ⟨S32768x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x256, .f32⟩
  | .hbm, ⟨9, _⟩ => ⟨S1024x32, .f32⟩
  | .hbm, ⟨10, _⟩ => ⟨S1024x8, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x96, .f32⟩
  | .hbm, ⟨15, _⟩ => ⟨S1024x128, .f32⟩
  | .hbm, ⟨16, _⟩ => ⟨S1024x3200, .f32⟩
  | .hbm, ⟨17, _⟩ => ⟨S_, .f32⟩
  | .hbm, ⟨18, _⟩ => ⟨S1024x8, .f32⟩
  | .hbm, ⟨19, _⟩ => ⟨S1024x16, .f32⟩
  | .hbm, ⟨20, _⟩ => ⟨S1024x1296, .f32⟩
  | .hbm, ⟨21, _⟩ => ⟨S1024x3200, .bf16⟩
  | .hbm, ⟨22, _⟩ => ⟨S1296x1024, .f32⟩
  | .hbm, ⟨23, _⟩ => ⟨S1296x1024, .bf16⟩
  | .hbm, ⟨24, _⟩ => ⟨S32768x512, .bf16⟩
  | .hbm, ⟨25, _⟩ => ⟨S32768x512, .bf16⟩
  | .hbm, ⟨26, _⟩ => ⟨S32768x32, .bf16⟩
  | .hbm, ⟨27, _⟩ => ⟨S32768x1024, .bf16⟩
  | .hbm, ⟨28, _⟩ => ⟨S32768x1024, .bf16⟩
  | .hbm, ⟨29, _⟩ => ⟨S32x8x128, .f32⟩
  | .hbm, ⟨30, _⟩ => ⟨S512x32768, .f32⟩
  | .hbm, ⟨31, _⟩ => ⟨S640x32768, .bf16⟩
  | .hbm, ⟨32, _⟩ => ⟨S256x32768, .bf16⟩
  | .hbm, ⟨33, _⟩ => ⟨S16x32768, .f32⟩
  | .local _ .vmem, ⟨0, _⟩ => ⟨S1024x1024, .f32⟩
  | .local _ .vmem, ⟨1, _⟩ => ⟨S1024x1024, .f32⟩
  | .local _ .vmem, ⟨2, _⟩ => ⟨S1024x3200, .bf16⟩
  | .local _ .vmem, ⟨3, _⟩ => ⟨S1296x1024, .bf16⟩
  | .local _ .vmem, ⟨4, _⟩ => ⟨S512x128, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x32, .bf16⟩
  | .local _ .vmem, ⟨10, _⟩ => ⟨S1024x32, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x8x128, .f32⟩
  | .local _ .vmem, ⟨16, _⟩ => ⟨S1x8x128, .f32⟩
  | .local _ .vmem, ⟨17, _⟩ => ⟨S512x1024, .f32⟩
  | .local _ .vmem, ⟨18, _⟩ => ⟨S512x1024, .f32⟩
  | .local _ .vmem, ⟨19, _⟩ => ⟨S640x1024, .bf16⟩
  | .local _ .vmem, ⟨20, _⟩ => ⟨S640x1024, .bf16⟩
  | .local _ .vmem, ⟨21, _⟩ => ⟨S256x1024, .bf16⟩
  | .local _ .vmem, ⟨22, _⟩ => ⟨S256x1024, .bf16⟩
  | .local _ .vmem, ⟨23, _⟩ => ⟨S16x1024, .f32⟩
  | .local _ .vmem, ⟨24, _⟩ => ⟨S16x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev main_v19_2 : Ref sig .tc := ⟨.hbm, 26, rfl⟩
abbrev main_v19_3 : Ref sig .tc := ⟨.hbm, 27, rfl⟩
abbrev main_v19_4 : Ref sig .tc := ⟨.hbm, 28, rfl⟩
abbrev main_v19_5 : Ref sig .tc := ⟨.hbm, 29, rfl⟩
abbrev main_v19_6 : Ref sig .tc := ⟨.hbm, 30, rfl⟩
abbrev main_v19_7 : Ref sig .tc := ⟨.hbm, 31, rfl⟩
abbrev main_v19_8 : Ref sig .tc := ⟨.hbm, 32, rfl⟩
abbrev main_v19_9 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1296x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x32 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S640x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProjRefIdeal.lean ====
abbrev S4x8192x1024 : Shape := ⟨3, ![4, 8192, 1024]⟩
abbrev S1024x4392 : Shape := ⟨2, ![1024, 4392]⟩
abbrev S32768x1024 : Shape := ⟨2, ![32768, 1024]⟩
abbrev S32768x4392 : Shape := ⟨2, ![32768, 4392]⟩
abbrev S32768x512 : Shape := ⟨2, ![32768, 512]⟩
abbrev S32768x256 : Shape := ⟨2, ![32768, 256]⟩
abbrev S32768x32 : Shape := ⟨2, ![32768, 32]⟩
abbrev S32768x8 : Shape := ⟨2, ![32768, 8]⟩
abbrev S_ : Shape := ⟨0, ![]⟩
abbrev S32x1024x8x64 : Shape := ⟨4, ![32, 1024, 8, 64]⟩
abbrev S32x1024x8 : Shape := ⟨3, ![32, 1024, 8]⟩
abbrev S32x8 : Shape := ⟨2, ![32, 8]⟩
abbrev S32x128 : Shape := ⟨2, ![32, 128]⟩
abbrev S32x1x128 : Shape := ⟨3, ![32, 1, 128]⟩
abbrev S32x2x128 : Shape := ⟨3, ![32, 2, 128]⟩
abbrev S32x8x128 : Shape := ⟨3, ![32, 8, 128]⟩
abbrev S32768x8x64 : Shape := ⟨3, ![32768, 8, 64]⟩
abbrev S32768x8x1 : Shape := ⟨3, ![32768, 8, 1]⟩
abbrev S32768x8x15 : Shape := ⟨3, ![32768, 8, 15]⟩
abbrev S32768x8x80 : Shape := ⟨3, ![32768, 8, 80]⟩
abbrev S32768x16 : Shape := ⟨2, ![32768, 16]⟩
abbrev S512x32768 : Shape := ⟨2, ![512, 32768]⟩
abbrev S32768x640 : Shape := ⟨2, ![32768, 640]⟩
abbrev S640x32768 : Shape := ⟨2, ![640, 32768]⟩
abbrev S256x32768 : Shape := ⟨2, ![256, 32768]⟩
abbrev S16x32768 : Shape := ⟨2, ![16, 32768]⟩

abbrev nBuf : Space → Nat
  | .hbm => 77
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x4392, .f32⟩
  | .hbm, ⟨2, _⟩ => ⟨S32768x1024, .f32⟩
  | .hbm, ⟨3, _⟩ => ⟨S32768x4392, .f32⟩
  | .hbm, ⟨4, _⟩ => ⟨S32768x512, .f32⟩
  | .hbm, ⟨5, _⟩ => ⟨S32768x512, .f32⟩
  | .hbm, ⟨6, _⟩ => ⟨S32768x512, .f32⟩
  | .hbm, ⟨7, _⟩ => ⟨S32768x512, .f32⟩
  | .hbm, ⟨8, _⟩ => ⟨S32768x256, .f32⟩
  | .hbm, ⟨9, _⟩ => ⟨S32768x32, .f32⟩
  | .hbm, ⟨10, _⟩ => ⟨S32768x8, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768x512, .f32⟩
  | .hbm, ⟨15, _⟩ => ⟨S32768x512, .f32⟩
  | .hbm, ⟨16, _⟩ => ⟨S32x1024x8x64, .f32⟩
  | .hbm, ⟨17, _⟩ => ⟨S32x1024x8x64, .f32⟩
  | .hbm, ⟨18, _⟩ => ⟨S_, .f32⟩
  | .hbm, ⟨19, _⟩ => ⟨S32x1024x8, .f32⟩
  | .hbm, ⟨20, _⟩ => ⟨S_, .f32⟩
  | .hbm, ⟨21, _⟩ => ⟨S32x8, .f32⟩
  | .hbm, ⟨22, _⟩ => ⟨S_, .i32⟩
  | .hbm, ⟨23, _⟩ => ⟨S_, .f32⟩
  | .hbm, ⟨24, _⟩ => ⟨S32x128, .f32⟩
  | .hbm, ⟨25, _⟩ => ⟨S32x1024x8x64, .f32⟩
  | .hbm, ⟨26, _⟩ => ⟨S32x1024x8x64, .f32⟩
  | .hbm, ⟨27, _⟩ => ⟨S_, .f32⟩
  | .hbm, ⟨28, _⟩ => ⟨S32x1024x8, .f32⟩
  | .hbm, ⟨29, _⟩ => ⟨S_, .f32⟩
  | .hbm, ⟨30, _⟩ => ⟨S32x8, .f32⟩
  | .hbm, ⟨31, _⟩ => ⟨S_, .i32⟩
  | .hbm, ⟨32, _⟩ => ⟨S_, .f32⟩
  | .hbm, ⟨33, _⟩ => ⟨S32x128, .f32⟩
  | .hbm, ⟨34, _⟩ => ⟨S32x1x128, .f32⟩
  | .hbm, ⟨35, _⟩ => ⟨S32x1x128, .f32⟩
  | .hbm, ⟨36, _⟩ => ⟨S32x2x128, .f32⟩
  | .hbm, ⟨37, _⟩ => ⟨S_, .i32⟩
  | .hbm, ⟨38, _⟩ => ⟨S_, .f32⟩
  | .hbm, ⟨39, _⟩ => ⟨S32x8x128, .f32⟩
  | .hbm, ⟨40, _⟩ => ⟨S32768x8x64, .f32⟩
  | .hbm, ⟨41, _⟩ => ⟨S_, .f32⟩
  | .hbm, ⟨42, _⟩ => ⟨S32768x8x1, .f32⟩
  | .hbm, ⟨43, _⟩ => ⟨S_, .f32⟩
  | .hbm, ⟨44, _⟩ => ⟨S32768x8x15, .f32⟩
  | .hbm, ⟨45, _⟩ => ⟨S32768x8x80, .f32⟩
  | .hbm, ⟨46, _⟩ => ⟨S_, .i32⟩
  | .hbm, ⟨47, _⟩ => ⟨S_, .f32⟩
  | .hbm, ⟨48, _⟩ => ⟨S32768x16, .f32⟩
  | .hbm, ⟨49, _⟩ => ⟨S32768x512, .bf16⟩
  | .hbm, ⟨50, _⟩ => ⟨S32768x512, .bf16⟩
  | .hbm, ⟨51, _⟩ => ⟨S32768x32, .bf16⟩
  | .hbm, ⟨52, _⟩ => ⟨S32768x1024, .f32⟩
  | .hbm, ⟨53, _⟩ => ⟨S32768x1024, .f32⟩
  | .hbm, ⟨54, _⟩ => ⟨S_, .f32⟩
  | .hbm, ⟨55, _⟩ => ⟨S32768x1024, .f32⟩
  | .hbm, ⟨56, _⟩ => ⟨S32768x1024, .f32⟩
  | .hbm, ⟨57, _⟩ => ⟨S_, .f32⟩
  | .hbm, ⟨58, _⟩ => ⟨S32768x1024, .f32⟩
  | .hbm, ⟨59, _⟩ => ⟨S32768x1024, .f32⟩
  | .hbm, ⟨60, _⟩ => ⟨S32768x1024, .bf16⟩
  | .hbm, ⟨61, _⟩ => ⟨S32768x1024, .f32⟩
  | .hbm, ⟨62, _⟩ => ⟨S32768x1024, .f32⟩
  | .hbm, ⟨63, _⟩ => ⟨S_, .f32⟩
  | .hbm, ⟨64, _⟩ => ⟨S32768x1024, .f32⟩
  | .hbm, ⟨65, _⟩ => ⟨S32768x1024, .f32⟩
  | .hbm, ⟨66, _⟩ => ⟨S_, .f32⟩
  | .hbm, ⟨67, _⟩ => ⟨S32768x1024, .f32⟩
  | .hbm, ⟨68, _⟩ => ⟨S32768x1024, .f32⟩
  | .hbm, ⟨69, _⟩ => ⟨S32768x1024, .bf16⟩
  | .hbm, ⟨70, _⟩ => ⟨S512x32768, .f32⟩
  | .hbm, ⟨71, _⟩ => ⟨S32768x640, .f32⟩
  | .hbm, ⟨72, _⟩ => ⟨S640x32768, .f32⟩
  | .hbm, ⟨73, _⟩ => ⟨S640x32768, .bf16⟩
  | .hbm, ⟨74, _⟩ => ⟨S256x32768, .f32⟩
  | .hbm, ⟨75, _⟩ => ⟨S256x32768, .bf16⟩
  | .hbm, ⟨76, _⟩ => ⟨S16x32768, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_c : Ref sig .tc := ⟨.hbm, 22, rfl⟩
abbrev main_call0_v0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_c_4 : Ref sig .tc := ⟨.hbm, 31, rfl⟩
abbrev main_call1_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_call2_v0 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_call3_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_cst_12 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Proof.SsmFrames.lean ====
/-
  The frames of the state-space recurrence: the kernel as written, the kernel at the ideal values, and the reference.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.SsmClaims

open Idealize.ShloMosaic Idealize.ShloMosaic.TcCoe Idealize.SL.Sem

/-- The kernel as written runs and leaves its arguments. -/
theorem frame_p : Cert.quiescent_Kernel := fun m ρ _ => Cert.Kernel.Gen.frame m ρ

/-- The same at the ideal values. -/
theorem frame_pi : Cert.quiescent_KernelIdeal := fun m ρ _ => Cert.KernelIdeal.Gen.frame m ρ

/-- The reference runs, leaves its arguments, and has no semaphore to leave. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.SsmClaims

end
-- ==== Proof.SsmPre.lean ====
/-
  The precondition of the recurrence's value claim, read back: every element of every argument is a real number.
-/
module

public import proofs.«01_k».proof.Pre_finite
public import Idealize.ShloMosaic.Lib.Pointwise
public import Idealize.ShloMosaic.Lib.ReduceAll
public import Idealize.ShloMosaic.Lib.Decide

@[expose] public section

set_option maxRecDepth 16384

noncomputable section

namespace Cert.SsmPre

open Cert.Pre_finite Idealize.ShloMosaic

/-- The shape relations of the predicate's operations. -/
theorem facts : Cert.Pre_finite.Facts where
  bcast_S_S4x8192x512 := by decide
  reducesTo_S4x8192x512_S_d0_1_2 := by decide
  h_S_ := by decide
  bcast_S_S32x64 := by decide
  reducesTo_S32x64_S_d0_1 := by decide
  bcast_S_S32 := by decide
  reducesTo_S32_S_d0 := by decide
  bcast_S_S32x64x16 := by decide
  reducesTo_S32x64x16_S_d0_1_2 := by decide
  bcast_S_S32x16x64 := by decide
  reducesTo_S32x16x64_S_d0_1_2 := by decide
  bcast_S_S512 := by decide
  reducesTo_S512_S_d0 := by decide

/-- The word the predicate compares with is infinity. -/
theorem inf_word : Ideal.ofBits .f32 0x7F800000#32 = ⊤ := by simp [Ideal.ofBits, Ideal.ieee]

/-- An extended real whose absolute value is below infinity is a real. -/
theorem real_of_lt (x : EReal) (h : max x (-x) < ⊤) : x = ((x.toReal : ℝ) : EReal) := by
  refine (EReal.coe_toReal ?_ ?_).symm
  · rintro rfl
    exact absurd h (by simp)
  · rintro rfl
    exact absurd h (by simp)

/-- One comparison of the predicate, where it holds. -/
theorem real_at {S : Shape} (x : FVec Ideal S .f32) (hb : S_.BroadcastsInDim S (![] : Fin 0 → Fin S.rank)) (i : S.Idx)
    (h : cmpf .olt (Host.absf x) (broadcastInDim S ![] hb (constant S_ .f32 0x7F800000#32)) i = 1#1) : x i = (((x i).toReal : ℝ) : EReal) := by
  have h1 : Ideal.cmp .olt (max (x i : EReal) (-(x i : EReal))) (Ideal.ofBits .f32 0x7F800000#32) = 1 := h
  rw [Ideal.cmp_olt_eq_one, inf_word] at h1
  exact real_of_lt _ h1

instance : Subsingleton S_.Idx := ⟨fun _ _ => funext fun a => a.elim0⟩

/-- A conjunction of two bits that is one has both one. -/
theorem both {a b : IVec S_ 1} {j : S_.Idx} (h : andi a b j = 1#1) : a j = 1#1 ∧ b j = 1#1 :=
  (by decide : ∀ p q : BitVec 1, p &&& q = 1#1 → p = 1#1 ∧ q = 1#1) (a j) (b j) h

/-- Where the predicate holds, every element of every argument is a real. -/
theorem reals [Cert.Pre_finite.Facts] (x0 : FVec Ideal S4x8192x512 .f32) (x1 x2 : FVec Ideal S32x64 .f32) (x3 : FVec Ideal S32 .f32)
    (x4 x5 : FVec Ideal S32x64x16 .f32) (x6 x7 : FVec Ideal S32x16x64 .f32) (x8 : FVec Ideal S512 .f32) (j : S_.Idx)
    (h : Cert.Pre_finite.fn (F := Ideal) x0 x1 x2 x3 x4 x5 x6 x7 x8 j = 1#1) :
    (∀ i, x0 i = (((x0 i).toReal : ℝ) : EReal)) ∧ (∀ i, x1 i = (((x1 i).toReal : ℝ) : EReal)) ∧ (∀ i, x2 i = (((x2 i).toReal : ℝ) : EReal))
      ∧ (∀ i, x3 i = (((x3 i).toReal : ℝ) : EReal)) ∧ (∀ i, x4 i = (((x4 i).toReal : ℝ) : EReal)) ∧ (∀ i, x5 i = (((x5 i).toReal : ℝ) : EReal))
      ∧ (∀ i, x6 i = (((x6 i).toReal : ℝ) : EReal)) ∧ (∀ i, x7 i = (((x7 i).toReal : ℝ) : EReal)) ∧ ∀ i, x8 i = (((x8 i).toReal : ℝ) : EReal) := by
  dsimp only [fn, fn_part1, fn_part2] at h
  obtain ⟨h, r8⟩ := both h
  obtain ⟨h, r7⟩ := both h
  obtain ⟨h, r6⟩ := both h
  obtain ⟨h, r5⟩ := both h
  obtain ⟨h, r4⟩ := both h
  obtain ⟨h, r3⟩ := both h
  obtain ⟨h, r2⟩ := both h
  obtain ⟨h, r1⟩ := both h
  obtain ⟨-, r0⟩ := both h
  exact ⟨fun i => real_at _ _ i (Host.reduce_andi_all _ _ _ _ j r0 i), fun i => real_at _ _ i (Host.reduce_andi_all _ _ _ _ j r1 i),
    fun i => real_at _ _ i (Host.reduce_andi_all _ _ _ _ j r2 i), fun i => real_at _ _ i (Host.reduce_andi_all _ _ _ _ j r3 i),
    fun i => real_at _ _ i (Host.reduce_andi_all _ _ _ _ j r4 i), fun i => real_at _ _ i (Host.reduce_andi_all _ _ _ _ j r5 i),
    fun i => real_at _ _ i (Host.reduce_andi_all _ _ _ _ j r6 i), fun i => real_at _ _ i (Host.reduce_andi_all _ _ _ _ j r7 i),
    fun i => real_at _ _ i (Host.reduce_andi_all _ _ _ _ j r8 i)⟩

end Cert.SsmPre

end

end
-- ==== Proof.SsmHost.lean ====
/-
  The recurrence kernel's host code, operation by operation: the tables it hands to the launch, as functions of the arguments.
  `t<n>` is the array the host code's operation `%<n>` leaves.
-/
module

public import proofs.«01_k».proof.Proof.Gen.KernelIdeal.Value
public import Idealize.ShloMosaic.Lib.Pointwise
public import Idealize.ShloMosaic.Lib.StableHlo.Run

@[expose] public section

set_option maxRecDepth 16384

noncomputable section

namespace Cert.KernelIdeal.Host0

open Cert.KernelIdeal Cert.KernelIdeal.Gen Idealize.ShloMosaic Idealize.ShloMosaic.TcCoe Idealize.SL.Sem

def t77 : IVec S128x64x128 32 := (iotaInDim S128x64x128 32 0)
def t_call0_v3 : IVec S128x64x128 32 := signi t77
def t_c : IVec S_ 32 := (constantI S_ 32 64#32)
def t_call0_v0 : IVec S_ 32 := id t_c
def t_call0_v4 : IVec S_ 32 := signi t_call0_v0
def t_call0_v5 : IVec S128x64x128 32 := (broadcastInDim S128x64x128 ![] bcast_S_S128x64x128) t_call0_v4
def t_call0_v6 : IVec S128x64x128 1 := (cmpi .ne) t_call0_v3 t_call0_v5
def t_call0_v7 : IVec S128x64x128 32 := (broadcastInDim S128x64x128 ![] bcast_S_S128x64x128) t_call0_v0
def t_call0_v8 : IVec S128x64x128 32 := Host.remsi t77 t_call0_v7
def t_call0_c : IVec S_ 32 := (constantI S_ 32 0#32)
def t_call0_v9 : IVec S128x64x128 32 := (broadcastInDim S128x64x128 ![] bcast_S_S128x64x128) t_call0_c
def t_call0_v10 : IVec S128x64x128 1 := (cmpi .ne) t_call0_v8 t_call0_v9
def t_call0_v11 : IVec S128x64x128 1 := andi t_call0_v6 t_call0_v10
def t_call0_v1 : IVec S128x64x128 32 := (broadcastInDim S128x64x128 ![] bcast_S_S128x64x128) t_call0_v0
def t_call0_v2 : IVec S128x64x128 32 := Host.divsi t77 t_call0_v1
def t_call0_c_0 : IVec S_ 32 := (constantI S_ 32 1#32)
def t_call0_v12 : IVec S128x64x128 32 := (broadcastInDim S128x64x128 ![] bcast_S_S128x64x128) t_call0_c_0
def t_call0_v13 : IVec S128x64x128 32 := subi t_call0_v2 t_call0_v12
def t80 : IVec S128x64x128 32 := select t_call0_v11 t_call0_v13 t_call0_v2
def t79 : IVec S128x64x128 32 := (iotaInDim S128x64x128 32 2)
def t_call1_v3 : IVec S128x64x128 32 := signi t79
def t_c_1 : IVec S_ 32 := (constantI S_ 32 64#32)
def t_call1_v0 : IVec S_ 32 := id t_c_1
def t_call1_v4 : IVec S_ 32 := signi t_call1_v0
def t_call1_v5 : IVec S128x64x128 32 := (broadcastInDim S128x64x128 ![] bcast_S_S128x64x128) t_call1_v4
def t_call1_v6 : IVec S128x64x128 1 := (cmpi .ne) t_call1_v3 t_call1_v5
def t_call1_v7 : IVec S128x64x128 32 := (broadcastInDim S128x64x128 ![] bcast_S_S128x64x128) t_call1_v0
def t_call1_v8 : IVec S128x64x128 32 := Host.remsi t79 t_call1_v7
def t_call1_c : IVec S_ 32 := (constantI S_ 32 0#32)
def t_call1_v9 : IVec S128x64x128 32 := (broadcastInDim S128x64x128 ![] bcast_S_S128x64x128) t_call1_c
def t_call1_v10 : IVec S128x64x128 1 := (cmpi .ne) t_call1_v8 t_call1_v9
def t_call1_v11 : IVec S128x64x128 1 := andi t_call1_v6 t_call1_v10
def t_call1_v1 : IVec S128x64x128 32 := (broadcastInDim S128x64x128 ![] bcast_S_S128x64x128) t_call1_v0
def t_call1_v2 : IVec S128x64x128 32 := Host.divsi t79 t_call1_v1
def t_call1_c_0 : IVec S_ 32 := (constantI S_ 32 1#32)
def t_call1_v12 : IVec S128x64x128 32 := (broadcastInDim S128x64x128 ![] bcast_S_S128x64x128) t_call1_c_0
def t_call1_v13 : IVec S128x64x128 32 := subi t_call1_v2 t_call1_v12
def t81 : IVec S128x64x128 32 := select t_call1_v11 t_call1_v13 t_call1_v2
def t82 : IVec S128x64x128 1 := (cmpi .eq) t80 t81
def t_c_2 : IVec S_ 32 := (constantI S_ 32 64#32)
def t_call2_v0 : IVec S_ 32 := id t_c_2
def t_call2_c : IVec S_ 32 := (constantI S_ 32 0#32)
def t_call2_v1 : IVec S_ 1 := (cmpi .eq) t_call2_v0 t_call2_c
def t_call2_c_0 : IVec S_ 32 := (constantI S_ 32 1#32)
def t_call2_v2 : IVec S_ 32 := select t_call2_v1 t_call2_c_0 t_call2_v0
def t_call2_v3 : IVec S128x64x128 32 := (broadcastInDim S128x64x128 ![] bcast_S_S128x64x128) t_call2_v2
def t_call2_v4 : IVec S128x64x128 32 := Host.remsi t79 t_call2_v3
def t_call2_c_2 : IVec S_ 32 := (constantI S_ 32 0#32)
def t_call2_v7 : IVec S128x64x128 32 := (broadcastInDim S128x64x128 ![] bcast_S_S128x64x128) t_call2_c_2
def t_call2_v8 : IVec S128x64x128 1 := (cmpi .slt) t_call2_v4 t_call2_v7
def t_call2_c_3 : IVec S_ 32 := (constantI S_ 32 0#32)
def t_call2_v9 : IVec S_ 1 := (cmpi .slt) t_call2_v2 t_call2_c_3
def t_call2_v10 : IVec S128x64x128 1 := (broadcastInDim S128x64x128 ![] bcast_S_S128x64x128) t_call2_v9
def t_call2_v11 : IVec S128x64x128 1 := (cmpi .ne) t_call2_v8 t_call2_v10
def t_call2_c_1 : IVec S_ 32 := (constantI S_ 32 0#32)
def t_call2_v5 : IVec S128x64x128 32 := (broadcastInDim S128x64x128 ![] bcast_S_S128x64x128) t_call2_c_1
def t_call2_v6 : IVec S128x64x128 1 := (cmpi .ne) t_call2_v4 t_call2_v5
def t_call2_v12 : IVec S128x64x128 1 := andi t_call2_v11 t_call2_v6
def t_call2_v13 : IVec S128x64x128 32 := (broadcastInDim S128x64x128 ![] bcast_S_S128x64x128) t_call2_v2
def t_call2_v14 : IVec S128x64x128 32 := addi t_call2_v4 t_call2_v13
def t83 : IVec S128x64x128 32 := select t_call2_v12 t_call2_v14 t_call2_v4
def t78 : IVec S128x64x128 32 := (iotaInDim S128x64x128 32 1)
def t84 : IVec S128x64x128 32 := (subi) t83 t78
def t_c_3 : IVec S_ 32 := (constantI S_ 32 64#32)
def t_call3_v0 : IVec S_ 32 := id t_c_3
def t_call3_c : IVec S_ 32 := (constantI S_ 32 0#32)
def t_call3_v1 : IVec S_ 1 := (cmpi .eq) t_call3_v0 t_call3_c
def t_call3_c_0 : IVec S_ 32 := (constantI S_ 32 1#32)
def t_call3_v2 : IVec S_ 32 := select t_call3_v1 t_call3_c_0 t_call3_v0
def t_call3_v3 : IVec S128x64x128 32 := (broadcastInDim S128x64x128 ![] bcast_S_S128x64x128) t_call3_v2
def t_call3_v4 : IVec S128x64x128 32 := Host.remsi t77 t_call3_v3
def t_call3_c_2 : IVec S_ 32 := (constantI S_ 32 0#32)
def t_call3_v7 : IVec S128x64x128 32 := (broadcastInDim S128x64x128 ![] bcast_S_S128x64x128) t_call3_c_2
def t_call3_v8 : IVec S128x64x128 1 := (cmpi .slt) t_call3_v4 t_call3_v7
def t_call3_c_3 : IVec S_ 32 := (constantI S_ 32 0#32)
def t_call3_v9 : IVec S_ 1 := (cmpi .slt) t_call3_v2 t_call3_c_3
def t_call3_v10 : IVec S128x64x128 1 := (broadcastInDim S128x64x128 ![] bcast_S_S128x64x128) t_call3_v9
def t_call3_v11 : IVec S128x64x128 1 := (cmpi .ne) t_call3_v8 t_call3_v10
def t_call3_c_1 : IVec S_ 32 := (constantI S_ 32 0#32)
def t_call3_v5 : IVec S128x64x128 32 := (broadcastInDim S128x64x128 ![] bcast_S_S128x64x128) t_call3_c_1
def t_call3_v6 : IVec S128x64x128 1 := (cmpi .ne) t_call3_v4 t_call3_v5
def t_call3_v12 : IVec S128x64x128 1 := andi t_call3_v11 t_call3_v6
def t_call3_v13 : IVec S128x64x128 32 := (broadcastInDim S128x64x128 ![] bcast_S_S128x64x128) t_call3_v2
def t_call3_v14 : IVec S128x64x128 32 := addi t_call3_v4 t_call3_v13
def t85 : IVec S128x64x128 32 := select t_call3_v12 t_call3_v14 t_call3_v4
def t86 : IVec S128x64x128 1 := (cmpi .eq) t84 t85
def t87 : IVec S128x64x128 1 := (andi) t82 t86
def t_call4_v1 : IVec S32x16x8x128x64x128 1 := (broadcastInDim S32x16x8x128x64x128 ![3, 4, 5] bcast_S128x64x128_S32x16x8x128x64x128_3_4_5) t87
def t_cst : FVec Ideal S_ .f32 := (constant S_ .f32 0xB8D1B717#32)
def t0 : FVec Ideal S32x64 .f32 := (broadcastInDim S32x64 ![] bcast_S_S32x64) t_cst
def t1 (X1 : FVec Ideal S32x64 .f32) : FVec Ideal S32x64 .f32 := (minimumf) X1 t0
def t2 (X3 : FVec Ideal S32 .f32) : FVec Ideal S32 .f32 := (Host.exp) X3
def t3 (X3 : FVec Ideal S32 .f32) : FVec Ideal S32x1 .f32 := (broadcastInDim S32x1 ![0] bcast_S32_S32x1_0) (t2 X3)
def t4 (X3 : FVec Ideal S32 .f32) : FVec Ideal S32x64 .f32 := (broadcastInDim S32x64 ![0, 1] bcast_S32x1_S32x64_0_1) (t3 X3)
def t5 (X1 : FVec Ideal S32x64 .f32) (X3 : FVec Ideal S32 .f32) : FVec Ideal S32x64 .f32 := (mulf) (t1 X1) (t4 X3)
def t8 (X1 : FVec Ideal S32x64 .f32) (X3 : FVec Ideal S32 .f32) : FVec Ideal S32x64 .f32 := (Host.exp) (t5 X1 X3)
def t6 (X3 : FVec Ideal S32 .f32) : FVec Ideal S32x64 .f32 := (broadcastInDim S32x64 ![0, 1] bcast_S32x1_S32x64_0_1) (t3 X3)
def t7 (X2 : FVec Ideal S32x64 .f32) (X3 : FVec Ideal S32 .f32) : FVec Ideal S32x64 .f32 := (mulf) X2 (t6 X3)
def t9 (X2 : FVec Ideal S32x64 .f32) (X3 : FVec Ideal S32 .f32) : FVec Ideal S32x64 .f32 := (Host.cos) (t7 X2 X3)
def t10 (X1 : FVec Ideal S32x64 .f32) (X2 : FVec Ideal S32x64 .f32) (X3 : FVec Ideal S32 .f32) : FVec Ideal S32x64 .f32 := (mulf) (t8 X1 X3) (t9 X2 X3)
def t_cst_0 : FVec Ideal S_ .f32 := (constant S_ .f32 0x3F800000#32)
def t13 : FVec Ideal S32x64 .f32 := (broadcastInDim S32x64 ![] bcast_S_S32x64) t_cst_0
def t14 (X1 : FVec Ideal S32x64 .f32) (X2 : FVec Ideal S32x64 .f32) (X3 : FVec Ideal S32 .f32) : FVec Ideal S32x64 .f32 := (subf) (t10 X1 X2 X3) t13
def t18 (X1 : FVec Ideal S32x64 .f32) (X2 : FVec Ideal S32x64 .f32) (X3 : FVec Ideal S32 .f32) : FVec Ideal S32x64 .f32 := (mulf) (t14 X1 X2 X3) (t1 X1)
def t11 (X2 : FVec Ideal S32x64 .f32) (X3 : FVec Ideal S32 .f32) : FVec Ideal S32x64 .f32 := (Host.sin) (t7 X2 X3)
def t12 (X1 : FVec Ideal S32x64 .f32) (X2 : FVec Ideal S32x64 .f32) (X3 : FVec Ideal S32 .f32) : FVec Ideal S32x64 .f32 := (mulf) (t8 X1 X3) (t11 X2 X3)
def t19 (X1 : FVec Ideal S32x64 .f32) (X2 : FVec Ideal S32x64 .f32) (X3 : FVec Ideal S32 .f32) : FVec Ideal S32x64 .f32 := (mulf) (t12 X1 X2 X3) X2
def t20 (X1 : FVec Ideal S32x64 .f32) (X2 : FVec Ideal S32x64 .f32) (X3 : FVec Ideal S32 .f32) : FVec Ideal S32x64 .f32 := (addf) (t18 X1 X2 X3) (t19 X1 X2 X3)
def t15 (X1 : FVec Ideal S32x64 .f32) : FVec Ideal S32x64 .f32 := (mulf) (t1 X1) (t1 X1)
def t16 (X2 : FVec Ideal S32x64 .f32) : FVec Ideal S32x64 .f32 := (mulf) X2 X2
def t17 (X1 : FVec Ideal S32x64 .f32) (X2 : FVec Ideal S32x64 .f32) : FVec Ideal S32x64 .f32 := (addf) (t15 X1) (t16 X2)
def t21 (X1 : FVec Ideal S32x64 .f32) (X2 : FVec Ideal S32x64 .f32) (X3 : FVec Ideal S32 .f32) : FVec Ideal S32x64 .f32 := (Host.divf) (t20 X1 X2 X3) (t17 X1 X2)
def t26 (X1 : FVec Ideal S32x64 .f32) (X2 : FVec Ideal S32x64 .f32) (X3 : FVec Ideal S32 .f32) : FVec Ideal S32x64x1 .f32 := (broadcastInDim S32x64x1 ![0, 1] bcast_S32x64_S32x64x1_0_1) (t21 X1 X2 X3)
def t28 (X1 : FVec Ideal S32x64 .f32) (X2 : FVec Ideal S32x64 .f32) (X3 : FVec Ideal S32 .f32) : FVec Ideal S32x64x16 .f32 := (broadcastInDim S32x64x16 ![0, 1, 2] bcast_S32x64x1_S32x64x16_0_1_2) (t26 X1 X2 X3)
def t29 (X1 : FVec Ideal S32x64 .f32) (X2 : FVec Ideal S32x64 .f32) (X3 : FVec Ideal S32 .f32) (X4 : FVec Ideal S32x64x16 .f32) : FVec Ideal S32x64x16 .f32 := (mulf) (t28 X1 X2 X3) X4
def t22 (X1 : FVec Ideal S32x64 .f32) (X2 : FVec Ideal S32x64 .f32) (X3 : FVec Ideal S32 .f32) : FVec Ideal S32x64 .f32 := (mulf) (t12 X1 X2 X3) (t1 X1)
def t23 (X1 : FVec Ideal S32x64 .f32) (X2 : FVec Ideal S32x64 .f32) (X3 : FVec Ideal S32 .f32) : FVec Ideal S32x64 .f32 := (mulf) (t14 X1 X2 X3) X2
def t24 (X1 : FVec Ideal S32x64 .f32) (X2 : FVec Ideal S32x64 .f32) (X3 : FVec Ideal S32 .f32) : FVec Ideal S32x64 .f32 := (subf) (t22 X1 X2 X3) (t23 X1 X2 X3)
def t25 (X1 : FVec Ideal S32x64 .f32) (X2 : FVec Ideal S32x64 .f32) (X3 : FVec Ideal S32 .f32) : FVec Ideal S32x64 .f32 := (Host.divf) (t24 X1 X2 X3) (t17 X1 X2)
def t27 (X1 : FVec Ideal S32x64 .f32) (X2 : FVec Ideal S32x64 .f32) (X3 : FVec Ideal S32 .f32) : FVec Ideal S32x64x1 .f32 := (broadcastInDim S32x64x1 ![0, 1] bcast_S32x64_S32x64x1_0_1) (t25 X1 X2 X3)
def t30 (X1 : FVec Ideal S32x64 .f32) (X2 : FVec Ideal S32x64 .f32) (X3 : FVec Ideal S32 .f32) : FVec Ideal S32x64x16 .f32 := (broadcastInDim S32x64x16 ![0, 1, 2] bcast_S32x64x1_S32x64x16_0_1_2) (t27 X1 X2 X3)
def t31 (X1 : FVec Ideal S32x64 .f32) (X2 : FVec Ideal S32x64 .f32) (X3 : FVec Ideal S32 .f32) (X5 : FVec Ideal S32x64x16 .f32) : FVec Ideal S32x64x16 .f32 := (mulf) (t30 X1 X2 X3) X5
def t32 (X1 : FVec Ideal S32x64 .f32) (X2 : FVec Ideal S32x64 .f32) (X3 : FVec Ideal S32 .f32) (X4 : FVec Ideal S32x64x16 .f32) (X5 : FVec Ideal S32x64x16 .f32) : FVec Ideal S32x64x16 .f32 := (subf) (t29 X1 X2 X3 X4) (t31 X1 X2 X3 X5)
def t54 (X6 : FVec Ideal S32x16x64 .f32) : FVec Ideal S32x16x1x64 .f32 := (broadcastInDim S32x16x1x64 ![0, 1, 3] bcast_S32x16x64_S32x16x1x64_0_1_3) X6
def t60 (X6 : FVec Ideal S32x16x64 .f32) : FVec Ideal S32x16x64x64 .f32 := (broadcastInDim S32x16x64x64 ![0, 1, 2, 3] bcast_S32x16x1x64_S32x16x64x64_0_1_2_3) (t54 X6)
def t39 (X1 : FVec Ideal S32x64 .f32) (X3 : FVec Ideal S32 .f32) : FVec Ideal S32x1x64 .f32 := (broadcastInDim S32x1x64 ![0, 2] bcast_S32x64_S32x1x64_0_2) (t5 X1 X3)
def t41 (X1 : FVec Ideal S32x64 .f32) (X3 : FVec Ideal S32 .f32) : FVec Ideal S32x65x64 .f32 := (broadcastInDim S32x65x64 ![0, 1, 2] bcast_S32x1x64_S32x65x64_0_1_2) (t39 X1 X3)
def t38 : FVec Ideal S65 .f32 := (sitofp .f32 (iotaInDim S65 32 0))
def t40 : FVec Ideal S1x65x1 .f32 := (broadcastInDim S1x65x1 ![1] bcast_S65_S1x65x1_1) t38
def t42 : FVec Ideal S32x65x64 .f32 := (broadcastInDim S32x65x64 ![0, 1, 2] bcast_S1x65x1_S32x65x64_0_1_2) t40
def t43 (X1 : FVec Ideal S32x64 .f32) (X3 : FVec Ideal S32 .f32) : FVec Ideal S32x65x64 .f32 := (mulf) (t41 X1 X3) t42
def t49 (X1 : FVec Ideal S32x64 .f32) (X3 : FVec Ideal S32 .f32) : FVec Ideal S32x65x64 .f32 := (Host.exp) (t43 X1 X3)
def t44 (X2 : FVec Ideal S32x64 .f32) (X3 : FVec Ideal S32 .f32) : FVec Ideal S32x1x64 .f32 := (broadcastInDim S32x1x64 ![0, 2] bcast_S32x64_S32x1x64_0_2) (t7 X2 X3)
def t46 (X2 : FVec Ideal S32x64 .f32) (X3 : FVec Ideal S32 .f32) : FVec Ideal S32x65x64 .f32 := (broadcastInDim S32x65x64 ![0, 1, 2] bcast_S32x1x64_S32x65x64_0_1_2) (t44 X2 X3)
def t45 : FVec Ideal S1x65x1 .f32 := (broadcastInDim S1x65x1 ![1] bcast_S65_S1x65x1_1) t38
def t47 : FVec Ideal S32x65x64 .f32 := (broadcastInDim S32x65x64 ![0, 1, 2] bcast_S1x65x1_S32x65x64_0_1_2) t45
def t48 (X2 : FVec Ideal S32x64 .f32) (X3 : FVec Ideal S32 .f32) : FVec Ideal S32x65x64 .f32 := (mulf) (t46 X2 X3) t47
def t50 (X2 : FVec Ideal S32x64 .f32) (X3 : FVec Ideal S32 .f32) : FVec Ideal S32x65x64 .f32 := (Host.cos) (t48 X2 X3)
def t51 (X1 : FVec Ideal S32x64 .f32) (X2 : FVec Ideal S32x64 .f32) (X3 : FVec Ideal S32 .f32) : FVec Ideal S32x65x64 .f32 := (mulf) (t49 X1 X3) (t50 X2 X3)
def t56 (X1 : FVec Ideal S32x64 .f32) (X2 : FVec Ideal S32x64 .f32) (X3 : FVec Ideal S32 .f32) : FVec Ideal S32x64x64 .f32 := ((extractStridedSlice S32x64x64 ![0, 0, 0] · slices_S32x65x64_S32x64x64_0_0_0)) (t51 X1 X2 X3)
def t57 (X1 : FVec Ideal S32x64 .f32) (X2 : FVec Ideal S32x64 .f32) (X3 : FVec Ideal S32 .f32) : FVec Ideal S32x1x64x64 .f32 := (broadcastInDim S32x1x64x64 ![0, 2, 3] bcast_S32x64x64_S32x1x64x64_0_2_3) (t56 X1 X2 X3)
def t61 (X1 : FVec Ideal S32x64 .f32) (X2 : FVec Ideal S32x64 .f32) (X3 : FVec Ideal S32 .f32) : FVec Ideal S32x16x64x64 .f32 := (broadcastInDim S32x16x64x64 ![0, 1, 2, 3] bcast_S32x1x64x64_S32x16x64x64_0_1_2_3) (t57 X1 X2 X3)
def t62 (X1 : FVec Ideal S32x64 .f32) (X2 : FVec Ideal S32x64 .f32) (X3 : FVec Ideal S32 .f32) (X6 : FVec Ideal S32x16x64 .f32) : FVec Ideal S32x16x64x64 .f32 := (mulf) (t60 X6) (t61 X1 X2 X3)
def t55 (X7 : FVec Ideal S32x16x64 .f32) : FVec Ideal S32x16x1x64 .f32 := (broadcastInDim S32x16x1x64 ![0, 1, 3] bcast_S32x16x64_S32x16x1x64_0_1_3) X7
def t63 (X7 : FVec Ideal S32x16x64 .f32) : FVec Ideal S32x16x64x64 .f32 := (broadcastInDim S32x16x64x64 ![0, 1, 2, 3] bcast_S32x16x1x64_S32x16x64x64_0_1_2_3) (t55 X7)
def t52 (X2 : FVec Ideal S32x64 .f32) (X3 : FVec Ideal S32 .f32) : FVec Ideal S32x65x64 .f32 := (Host.sin) (t48 X2 X3)
def t53 (X1 : FVec Ideal S32x64 .f32) (X2 : FVec Ideal S32x64 .f32) (X3 : FVec Ideal S32 .f32) : FVec Ideal S32x65x64 .f32 := (mulf) (t49 X1 X3) (t52 X2 X3)
def t58 (X1 : FVec Ideal S32x64 .f32) (X2 : FVec Ideal S32x64 .f32) (X3 : FVec Ideal S32 .f32) : FVec Ideal S32x64x64 .f32 := ((extractStridedSlice S32x64x64 ![0, 0, 0] · slices_S32x65x64_S32x64x64_0_0_0)) (t53 X1 X2 X3)
def t59 (X1 : FVec Ideal S32x64 .f32) (X2 : FVec Ideal S32x64 .f32) (X3 : FVec Ideal S32 .f32) : FVec Ideal S32x1x64x64 .f32 := (broadcastInDim S32x1x64x64 ![0, 2, 3] bcast_S32x64x64_S32x1x64x64_0_2_3) (t58 X1 X2 X3)
def t64 (X1 : FVec Ideal S32x64 .f32) (X2 : FVec Ideal S32x64 .f32) (X3 : FVec Ideal S32 .f32) : FVec Ideal S32x16x64x64 .f32 := (broadcastInDim S32x16x64x64 ![0, 1, 2, 3] bcast_S32x1x64x64_S32x16x64x64_0_1_2_3) (t59 X1 X2 X3)
def t65 (X1 : FVec Ideal S32x64 .f32) (X2 : FVec Ideal S32x64 .f32) (X3 : FVec Ideal S32 .f32) (X7 : FVec Ideal S32x16x64 .f32) : FVec Ideal S32x16x64x64 .f32 := (mulf) (t63 X7) (t64 X1 X2 X3)
def t66 (X1 : FVec Ideal S32x64 .f32) (X2 : FVec Ideal S32x64 .f32) (X3 : FVec Ideal S32 .f32) (X6 : FVec Ideal S32x16x64 .f32) (X7 : FVec Ideal S32x16x64 .f32) : FVec Ideal S32x16x64x64 .f32 := (subf) (t62 X1 X2 X3 X6) (t65 X1 X2 X3 X7)
def t74 (X1 : FVec Ideal S32x64 .f32) (X2 : FVec Ideal S32x64 .f32) (X3 : FVec Ideal S32 .f32) (X4 : FVec Ideal S32x64x16 .f32) (X5 : FVec Ideal S32x64x16 .f32) (X6 : FVec Ideal S32x16x64 .f32) (X7 : FVec Ideal S32x16x64 .f32) : FVec Ideal S32x16x16x64 .f32 := ((fun l r => Host.dotGeneral dot_S32x64x16_S32x16x64x64_S32x16x16x64_1_3_2_12_0_0 (some .fp32) l r)) (t32 X1 X2 X3 X4 X5) (t66 X1 X2 X3 X6 X7)
def t33 (X1 : FVec Ideal S32x64 .f32) (X2 : FVec Ideal S32x64 .f32) (X3 : FVec Ideal S32 .f32) : FVec Ideal S32x64x16 .f32 := (broadcastInDim S32x64x16 ![0, 1, 2] bcast_S32x64x1_S32x64x16_0_1_2) (t26 X1 X2 X3)
def t34 (X1 : FVec Ideal S32x64 .f32) (X2 : FVec Ideal S32x64 .f32) (X3 : FVec Ideal S32 .f32) (X5 : FVec Ideal S32x64x16 .f32) : FVec Ideal S32x64x16 .f32 := (mulf) (t33 X1 X2 X3) X5
def t35 (X1 : FVec Ideal S32x64 .f32) (X2 : FVec Ideal S32x64 .f32) (X3 : FVec Ideal S32 .f32) : FVec Ideal S32x64x16 .f32 := (broadcastInDim S32x64x16 ![0, 1, 2] bcast_S32x64x1_S32x64x16_0_1_2) (t27 X1 X2 X3)
def t36 (X1 : FVec Ideal S32x64 .f32) (X2 : FVec Ideal S32x64 .f32) (X3 : FVec Ideal S32 .f32) (X4 : FVec Ideal S32x64x16 .f32) : FVec Ideal S32x64x16 .f32 := (mulf) (t35 X1 X2 X3) X4
def t37 (X1 : FVec Ideal S32x64 .f32) (X2 : FVec Ideal S32x64 .f32) (X3 : FVec Ideal S32 .f32) (X4 : FVec Ideal S32x64x16 .f32) (X5 : FVec Ideal S32x64x16 .f32) : FVec Ideal S32x64x16 .f32 := (addf) (t34 X1 X2 X3 X5) (t36 X1 X2 X3 X4)
def t67 (X6 : FVec Ideal S32x16x64 .f32) : FVec Ideal S32x16x64x64 .f32 := (broadcastInDim S32x16x64x64 ![0, 1, 2, 3] bcast_S32x16x1x64_S32x16x64x64_0_1_2_3) (t54 X6)
def t68 (X1 : FVec Ideal S32x64 .f32) (X2 : FVec Ideal S32x64 .f32) (X3 : FVec Ideal S32 .f32) : FVec Ideal S32x16x64x64 .f32 := (broadcastInDim S32x16x64x64 ![0, 1, 2, 3] bcast_S32x1x64x64_S32x16x64x64_0_1_2_3) (t59 X1 X2 X3)
def t69 (X1 : FVec Ideal S32x64 .f32) (X2 : FVec Ideal S32x64 .f32) (X3 : FVec Ideal S32 .f32) (X6 : FVec Ideal S32x16x64 .f32) : FVec Ideal S32x16x64x64 .f32 := (mulf) (t67 X6) (t68 X1 X2 X3)
def t70 (X7 : FVec Ideal S32x16x64 .f32) : FVec Ideal S32x16x64x64 .f32 := (broadcastInDim S32x16x64x64 ![0, 1, 2, 3] bcast_S32x16x1x64_S32x16x64x64_0_1_2_3) (t55 X7)
def t71 (X1 : FVec Ideal S32x64 .f32) (X2 : FVec Ideal S32x64 .f32) (X3 : FVec Ideal S32 .f32) : FVec Ideal S32x16x64x64 .f32 := (broadcastInDim S32x16x64x64 ![0, 1, 2, 3] bcast_S32x1x64x64_S32x16x64x64_0_1_2_3) (t57 X1 X2 X3)
def t72 (X1 : FVec Ideal S32x64 .f32) (X2 : FVec Ideal S32x64 .f32) (X3 : FVec Ideal S32 .f32) (X7 : FVec Ideal S32x16x64 .f32) : FVec Ideal S32x16x64x64 .f32 := (mulf) (t70 X7) (t71 X1 X2 X3)
def t73 (X1 : FVec Ideal S32x64 .f32) (X2 : FVec Ideal S32x64 .f32) (X3 : FVec Ideal S32 .f32) (X6 : FVec Ideal S32x16x64 .f32) (X7 : FVec Ideal S32x16x64 .f32) : FVec Ideal S32x16x64x64 .f32 := (addf) (t69 X1 X2 X3 X6) (t72 X1 X2 X3 X7)
def t75 (X1 : FVec Ideal S32x64 .f32) (X2 : FVec Ideal S32x64 .f32) (X3 : FVec Ideal S32 .f32) (X4 : FVec Ideal S32x64x16 .f32) (X5 : FVec Ideal S32x64x16 .f32) (X6 : FVec Ideal S32x16x64 .f32) (X7 : FVec Ideal S32x16x64 .f32) : FVec Ideal S32x16x16x64 .f32 := ((fun l r => Host.dotGeneral dot_S32x64x16_S32x16x64x64_S32x16x16x64_1_3_2_12_0_0 (some .fp32) l r)) (t37 X1 X2 X3 X4 X5) (t73 X1 X2 X3 X6 X7)
def t76 (X1 : FVec Ideal S32x64 .f32) (X2 : FVec Ideal S32x64 .f32) (X3 : FVec Ideal S32 .f32) (X4 : FVec Ideal S32x64x16 .f32) (X5 : FVec Ideal S32x64x16 .f32) (X6 : FVec Ideal S32x16x64 .f32) (X7 : FVec Ideal S32x16x64 .f32) : FVec Ideal S32x16x16x64 .f32 := (subf) (t74 X1 X2 X3 X4 X5 X6 X7) (t75 X1 X2 X3 X4 X5 X6 X7)
def t88 (X1 : FVec Ideal S32x64 .f32) (X2 : FVec Ideal S32x64 .f32) (X3 : FVec Ideal S32 .f32) (X4 : FVec Ideal S32x64x16 .f32) (X5 : FVec Ideal S32x64x16 .f32) (X6 : FVec Ideal S32x16x64 .f32) (X7 : FVec Ideal S32x16x64 .f32) : FVec Ideal S32x16x16x64 .bf16 := ((truncf .bf16 · bitsLt_bf16_f32)) (t76 X1 X2 X3 X4 X5 X6 X7)
def t89 (X1 : FVec Ideal S32x64 .f32) (X2 : FVec Ideal S32x64 .f32) (X3 : FVec Ideal S32 .f32) (X4 : FVec Ideal S32x64x16 .f32) (X5 : FVec Ideal S32x64x16 .f32) (X6 : FVec Ideal S32x16x64 .f32) (X7 : FVec Ideal S32x16x64 .f32) : FVec Ideal S32x16x8x128 .bf16 := shapeCast S32x16x8x128 (t88 X1 X2 X3 X4 X5 X6 X7) shapeCasts_S32x16x16x64_S32x16x8x128
def t90 (X1 : FVec Ideal S32x64 .f32) (X2 : FVec Ideal S32x64 .f32) (X3 : FVec Ideal S32 .f32) (X4 : FVec Ideal S32x64x16 .f32) (X5 : FVec Ideal S32x64x16 .f32) (X6 : FVec Ideal S32x16x64 .f32) (X7 : FVec Ideal S32x16x64 .f32) : FVec Ideal S32x16x8x128 .f32 := ((extf .f32 · bitsLt_bf16_f32)) (t89 X1 X2 X3 X4 X5 X6 X7)
def t91 (X1 : FVec Ideal S32x64 .f32) (X2 : FVec Ideal S32x64 .f32) (X3 : FVec Ideal S32 .f32) (X4 : FVec Ideal S32x64x16 .f32) (X5 : FVec Ideal S32x64x16 .f32) (X6 : FVec Ideal S32x16x64 .f32) (X7 : FVec Ideal S32x16x64 .f32) : FVec Ideal S32x16x8x128x1x1 .f32 := (broadcastInDim S32x16x8x128x1x1 ![0, 1, 2, 3] bcast_S32x16x8x128_S32x16x8x128x1x1_0_1_2_3) (t90 X1 X2 X3 X4 X5 X6 X7)
def t_call4_v2 (X1 : FVec Ideal S32x64 .f32) (X2 : FVec Ideal S32x64 .f32) (X3 : FVec Ideal S32 .f32) (X4 : FVec Ideal S32x64x16 .f32) (X5 : FVec Ideal S32x64x16 .f32) (X6 : FVec Ideal S32x16x64 .f32) (X7 : FVec Ideal S32x16x64 .f32) : FVec Ideal S32x16x8x128x64x128 .f32 := (broadcastInDim S32x16x8x128x64x128 ![0, 1, 2, 3, 4, 5] bcast_S32x16x8x128x1x1_S32x16x8x128x64x128_0_1_2_3_4_5) (t91 X1 X2 X3 X4 X5 X6 X7)
def t_cst_4 : FVec Ideal S_ .f32 := (constant S_ .f32 0x00000000#32)
def t_call4_v0 : FVec Ideal S_ .f32 := id t_cst_4
def t_call4_v3 : FVec Ideal S32x16x8x128x64x128 .f32 := (broadcastInDim S32x16x8x128x64x128 ![] bcast_S_S32x16x8x128x64x128) t_call4_v0
def t92 (X1 : FVec Ideal S32x64 .f32) (X2 : FVec Ideal S32x64 .f32) (X3 : FVec Ideal S32 .f32) (X4 : FVec Ideal S32x64x16 .f32) (X5 : FVec Ideal S32x64x16 .f32) (X6 : FVec Ideal S32x16x64 .f32) (X7 : FVec Ideal S32x16x64 .f32) : FVec Ideal S32x16x8x128x64x128 .f32 := select t_call4_v1 (t_call4_v2 X1 X2 X3 X4 X5 X6 X7) t_call4_v3
def t_cst_5 : FVec Ideal S_ .f32 := (constant S_ .f32 0x00000000#32)
def t93 (X1 : FVec Ideal S32x64 .f32) (X2 : FVec Ideal S32x64 .f32) (X3 : FVec Ideal S32 .f32) (X4 : FVec Ideal S32x64x16 .f32) (X5 : FVec Ideal S32x64x16 .f32) (X6 : FVec Ideal S32x16x64 .f32) (X7 : FVec Ideal S32x16x64 .f32) : FVec Ideal S32x16x8x64x128 .f32 := ((fun x v => Host.reduceAdd x v reducesTo_S32x16x8x128x64x128_S32x16x8x64x128_d3 h_S_)) (t92 X1 X2 X3 X4 X5 X6 X7) t_cst_5
def t94 (X1 : FVec Ideal S32x64 .f32) (X2 : FVec Ideal S32x64 .f32) (X3 : FVec Ideal S32 .f32) (X4 : FVec Ideal S32x64x16 .f32) (X5 : FVec Ideal S32x64x16 .f32) (X6 : FVec Ideal S32x16x64 .f32) (X7 : FVec Ideal S32x16x64 .f32) : FVec Ideal S32x16x8x64x128 .bf16 := ((truncf .bf16 · bitsLt_bf16_f32)) (t93 X1 X2 X3 X4 X5 X6 X7)
def t95 (X1 : FVec Ideal S32x64 .f32) (X2 : FVec Ideal S32x64 .f32) (X3 : FVec Ideal S32 .f32) (X4 : FVec Ideal S32x64x16 .f32) (X5 : FVec Ideal S32x64x16 .f32) : FVec Ideal S32x16x64 .f32 := ((transpose S32x16x64 [0, 2, 1] · transposes_S32x64x16_S32x16x64_0_2_1)) (t32 X1 X2 X3 X4 X5)
def t96 (X1 : FVec Ideal S32x64 .f32) (X2 : FVec Ideal S32x64 .f32) (X3 : FVec Ideal S32 .f32) (X4 : FVec Ideal S32x64x16 .f32) (X5 : FVec Ideal S32x64x16 .f32) : FVec Ideal S32x16x1x64 .f32 := (broadcastInDim S32x16x1x64 ![0, 1, 3] bcast_S32x16x64_S32x16x1x64_0_1_3) (t95 X1 X2 X3 X4 X5)
def t105 (X1 : FVec Ideal S32x64 .f32) (X2 : FVec Ideal S32x64 .f32) (X3 : FVec Ideal S32 .f32) (X4 : FVec Ideal S32x64x16 .f32) (X5 : FVec Ideal S32x64x16 .f32) : FVec Ideal S32x16x64x64 .f32 := (broadcastInDim S32x16x64x64 ![0, 1, 2, 3] bcast_S32x16x1x64_S32x16x64x64_0_1_2_3) (t96 X1 X2 X3 X4 X5)
def t99 (X1 : FVec Ideal S32x64 .f32) (X2 : FVec Ideal S32x64 .f32) (X3 : FVec Ideal S32 .f32) : FVec Ideal S32x64x64 .f32 := ((extractStridedSlice S32x64x64 ![0, 0, 0] · slices_S32x65x64_S32x64x64_0_0_0)) (t51 X1 X2 X3)
def t100 (X1 : FVec Ideal S32x64 .f32) (X2 : FVec Ideal S32x64 .f32) (X3 : FVec Ideal S32 .f32) : FVec Ideal S32x64x64 .f32 := (Host.reverse [1]) (t99 X1 X2 X3)
def t101 (X1 : FVec Ideal S32x64 .f32) (X2 : FVec Ideal S32x64 .f32) (X3 : FVec Ideal S32 .f32) : FVec Ideal S32x1x64x64 .f32 := (broadcastInDim S32x1x64x64 ![0, 2, 3] bcast_S32x64x64_S32x1x64x64_0_2_3) (t100 X1 X2 X3)
def t106 (X1 : FVec Ideal S32x64 .f32) (X2 : FVec Ideal S32x64 .f32) (X3 : FVec Ideal S32 .f32) : FVec Ideal S32x16x64x64 .f32 := (broadcastInDim S32x16x64x64 ![0, 1, 2, 3] bcast_S32x1x64x64_S32x16x64x64_0_1_2_3) (t101 X1 X2 X3)
def t107 (X1 : FVec Ideal S32x64 .f32) (X2 : FVec Ideal S32x64 .f32) (X3 : FVec Ideal S32 .f32) (X4 : FVec Ideal S32x64x16 .f32) (X5 : FVec Ideal S32x64x16 .f32) : FVec Ideal S32x16x64x64 .f32 := (mulf) (t105 X1 X2 X3 X4 X5) (t106 X1 X2 X3)
def t97 (X1 : FVec Ideal S32x64 .f32) (X2 : FVec Ideal S32x64 .f32) (X3 : FVec Ideal S32 .f32) (X4 : FVec Ideal S32x64x16 .f32) (X5 : FVec Ideal S32x64x16 .f32) : FVec Ideal S32x16x64 .f32 := ((transpose S32x16x64 [0, 2, 1] · transposes_S32x64x16_S32x16x64_0_2_1)) (t37 X1 X2 X3 X4 X5)
def t98 (X1 : FVec Ideal S32x64 .f32) (X2 : FVec Ideal S32x64 .f32) (X3 : FVec Ideal S32 .f32) (X4 : FVec Ideal S32x64x16 .f32) (X5 : FVec Ideal S32x64x16 .f32) : FVec Ideal S32x16x1x64 .f32 := (broadcastInDim S32x16x1x64 ![0, 1, 3] bcast_S32x16x64_S32x16x1x64_0_1_3) (t97 X1 X2 X3 X4 X5)
def t108 (X1 : FVec Ideal S32x64 .f32) (X2 : FVec Ideal S32x64 .f32) (X3 : FVec Ideal S32 .f32) (X4 : FVec Ideal S32x64x16 .f32) (X5 : FVec Ideal S32x64x16 .f32) : FVec Ideal S32x16x64x64 .f32 := (broadcastInDim S32x16x64x64 ![0, 1, 2, 3] bcast_S32x16x1x64_S32x16x64x64_0_1_2_3) (t98 X1 X2 X3 X4 X5)
def t102 (X1 : FVec Ideal S32x64 .f32) (X2 : FVec Ideal S32x64 .f32) (X3 : FVec Ideal S32 .f32) : FVec Ideal S32x64x64 .f32 := ((extractStridedSlice S32x64x64 ![0, 0, 0] · slices_S32x65x64_S32x64x64_0_0_0)) (t53 X1 X2 X3)
def t103 (X1 : FVec Ideal S32x64 .f32) (X2 : FVec Ideal S32x64 .f32) (X3 : FVec Ideal S32 .f32) : FVec Ideal S32x64x64 .f32 := (Host.reverse [1]) (t102 X1 X2 X3)
def t104 (X1 : FVec Ideal S32x64 .f32) (X2 : FVec Ideal S32x64 .f32) (X3 : FVec Ideal S32 .f32) : FVec Ideal S32x1x64x64 .f32 := (broadcastInDim S32x1x64x64 ![0, 2, 3] bcast_S32x64x64_S32x1x64x64_0_2_3) (t103 X1 X2 X3)
def t109 (X1 : FVec Ideal S32x64 .f32) (X2 : FVec Ideal S32x64 .f32) (X3 : FVec Ideal S32 .f32) : FVec Ideal S32x16x64x64 .f32 := (broadcastInDim S32x16x64x64 ![0, 1, 2, 3] bcast_S32x1x64x64_S32x16x64x64_0_1_2_3) (t104 X1 X2 X3)
def t110 (X1 : FVec Ideal S32x64 .f32) (X2 : FVec Ideal S32x64 .f32) (X3 : FVec Ideal S32 .f32) (X4 : FVec Ideal S32x64x16 .f32) (X5 : FVec Ideal S32x64x16 .f32) : FVec Ideal S32x16x64x64 .f32 := (mulf) (t108 X1 X2 X3 X4 X5) (t109 X1 X2 X3)
def t111 (X1 : FVec Ideal S32x64 .f32) (X2 : FVec Ideal S32x64 .f32) (X3 : FVec Ideal S32 .f32) (X4 : FVec Ideal S32x64x16 .f32) (X5 : FVec Ideal S32x64x16 .f32) : FVec Ideal S32x16x64x64 .f32 := (subf) (t107 X1 X2 X3 X4 X5) (t110 X1 X2 X3 X4 X5)
def t119 (X1 : FVec Ideal S32x64 .f32) (X2 : FVec Ideal S32x64 .f32) (X3 : FVec Ideal S32 .f32) (X4 : FVec Ideal S32x64x16 .f32) (X5 : FVec Ideal S32x64x16 .f32) : FVec Ideal S32x1024x64 .f32 := shapeCast S32x1024x64 (t111 X1 X2 X3 X4 X5) shapeCasts_S32x16x64x64_S32x1024x64
def t112 (X1 : FVec Ideal S32x64 .f32) (X2 : FVec Ideal S32x64 .f32) (X3 : FVec Ideal S32 .f32) (X4 : FVec Ideal S32x64x16 .f32) (X5 : FVec Ideal S32x64x16 .f32) : FVec Ideal S32x16x64x64 .f32 := (broadcastInDim S32x16x64x64 ![0, 1, 2, 3] bcast_S32x16x1x64_S32x16x64x64_0_1_2_3) (t96 X1 X2 X3 X4 X5)
def t113 (X1 : FVec Ideal S32x64 .f32) (X2 : FVec Ideal S32x64 .f32) (X3 : FVec Ideal S32 .f32) : FVec Ideal S32x16x64x64 .f32 := (broadcastInDim S32x16x64x64 ![0, 1, 2, 3] bcast_S32x1x64x64_S32x16x64x64_0_1_2_3) (t104 X1 X2 X3)
def t114 (X1 : FVec Ideal S32x64 .f32) (X2 : FVec Ideal S32x64 .f32) (X3 : FVec Ideal S32 .f32) (X4 : FVec Ideal S32x64x16 .f32) (X5 : FVec Ideal S32x64x16 .f32) : FVec Ideal S32x16x64x64 .f32 := (mulf) (t112 X1 X2 X3 X4 X5) (t113 X1 X2 X3)
def t115 (X1 : FVec Ideal S32x64 .f32) (X2 : FVec Ideal S32x64 .f32) (X3 : FVec Ideal S32 .f32) (X4 : FVec Ideal S32x64x16 .f32) (X5 : FVec Ideal S32x64x16 .f32) : FVec Ideal S32x16x64x64 .f32 := (broadcastInDim S32x16x64x64 ![0, 1, 2, 3] bcast_S32x16x1x64_S32x16x64x64_0_1_2_3) (t98 X1 X2 X3 X4 X5)
def t116 (X1 : FVec Ideal S32x64 .f32) (X2 : FVec Ideal S32x64 .f32) (X3 : FVec Ideal S32 .f32) : FVec Ideal S32x16x64x64 .f32 := (broadcastInDim S32x16x64x64 ![0, 1, 2, 3] bcast_S32x1x64x64_S32x16x64x64_0_1_2_3) (t101 X1 X2 X3)
def t117 (X1 : FVec Ideal S32x64 .f32) (X2 : FVec Ideal S32x64 .f32) (X3 : FVec Ideal S32 .f32) (X4 : FVec Ideal S32x64x16 .f32) (X5 : FVec Ideal S32x64x16 .f32) : FVec Ideal S32x16x64x64 .f32 := (mulf) (t115 X1 X2 X3 X4 X5) (t116 X1 X2 X3)
def t118 (X1 : FVec Ideal S32x64 .f32) (X2 : FVec Ideal S32x64 .f32) (X3 : FVec Ideal S32 .f32) (X4 : FVec Ideal S32x64x16 .f32) (X5 : FVec Ideal S32x64x16 .f32) : FVec Ideal S32x16x64x64 .f32 := (addf) (t114 X1 X2 X3 X4 X5) (t117 X1 X2 X3 X4 X5)
def t120 (X1 : FVec Ideal S32x64 .f32) (X2 : FVec Ideal S32x64 .f32) (X3 : FVec Ideal S32 .f32) (X4 : FVec Ideal S32x64x16 .f32) (X5 : FVec Ideal S32x64x16 .f32) : FVec Ideal S32x1024x64 .f32 := shapeCast S32x1024x64 (t118 X1 X2 X3 X4 X5) shapeCasts_S32x16x64x64_S32x1024x64
def t121 (X1 : FVec Ideal S32x64 .f32) (X2 : FVec Ideal S32x64 .f32) (X3 : FVec Ideal S32 .f32) (X4 : FVec Ideal S32x64x16 .f32) (X5 : FVec Ideal S32x64x16 .f32) : FVec Ideal S32x1024x128 .f32 := ((fun a b => concatenate S32x1024x128 2 [⟨S32x1024x64, a⟩, ⟨S32x1024x64, b⟩] concatenates_S32x1024x64_S32x1024x64_S32x1024x128_d2)) (t119 X1 X2 X3 X4 X5) (t120 X1 X2 X3 X4 X5)
def t181 (X1 : FVec Ideal S32x64 .f32) (X2 : FVec Ideal S32x64 .f32) (X3 : FVec Ideal S32 .f32) (X4 : FVec Ideal S32x64x16 .f32) (X5 : FVec Ideal S32x64x16 .f32) : FVec Ideal S32x1024x128 .bf16 := ((truncf .bf16 · bitsLt_bf16_f32)) (t121 X1 X2 X3 X4 X5)
def t122 (X6 : FVec Ideal S32x16x64 .f32) : FVec Ideal S32x64x16 .f32 := ((transpose S32x64x16 [0, 2, 1] · transposes_S32x16x64_S32x64x16_0_2_1)) X6
def t123 (X6 : FVec Ideal S32x16x64 .f32) : FVec Ideal S32x64x16x1 .f32 := (broadcastInDim S32x64x16x1 ![0, 1, 2] bcast_S32x64x16_S32x64x16x1_0_1_2) (t122 X6)
def t132 (X6 : FVec Ideal S32x16x64 .f32) : FVec Ideal S32x64x16x64 .f32 := (broadcastInDim S32x64x16x64 ![0, 1, 2, 3] bcast_S32x64x16x1_S32x64x16x64_0_1_2_3) (t123 X6)
def t126 (X1 : FVec Ideal S32x64 .f32) (X2 : FVec Ideal S32x64 .f32) (X3 : FVec Ideal S32 .f32) : FVec Ideal S32x64x64 .f32 := ((extractStridedSlice S32x64x64 ![0, 1, 0] · slices_S32x65x64_S32x64x64_0_1_0)) (t51 X1 X2 X3)
def t127 (X1 : FVec Ideal S32x64 .f32) (X2 : FVec Ideal S32x64 .f32) (X3 : FVec Ideal S32 .f32) : FVec Ideal S32x64x64 .f32 := ((transpose S32x64x64 [0, 2, 1] · transposes_S32x64x64_S32x64x64_0_2_1)) (t126 X1 X2 X3)
def t128 (X1 : FVec Ideal S32x64 .f32) (X2 : FVec Ideal S32x64 .f32) (X3 : FVec Ideal S32 .f32) : FVec Ideal S32x64x1x64 .f32 := (broadcastInDim S32x64x1x64 ![0, 1, 3] bcast_S32x64x64_S32x64x1x64_0_1_3) (t127 X1 X2 X3)
def t133 (X1 : FVec Ideal S32x64 .f32) (X2 : FVec Ideal S32x64 .f32) (X3 : FVec Ideal S32 .f32) : FVec Ideal S32x64x16x64 .f32 := (broadcastInDim S32x64x16x64 ![0, 1, 2, 3] bcast_S32x64x1x64_S32x64x16x64_0_1_2_3) (t128 X1 X2 X3)
def t134 (X1 : FVec Ideal S32x64 .f32) (X2 : FVec Ideal S32x64 .f32) (X3 : FVec Ideal S32 .f32) (X6 : FVec Ideal S32x16x64 .f32) : FVec Ideal S32x64x16x64 .f32 := (mulf) (t132 X6) (t133 X1 X2 X3)
def t124 (X7 : FVec Ideal S32x16x64 .f32) : FVec Ideal S32x64x16 .f32 := ((transpose S32x64x16 [0, 2, 1] · transposes_S32x16x64_S32x64x16_0_2_1)) X7
def t125 (X7 : FVec Ideal S32x16x64 .f32) : FVec Ideal S32x64x16x1 .f32 := (broadcastInDim S32x64x16x1 ![0, 1, 2] bcast_S32x64x16_S32x64x16x1_0_1_2) (t124 X7)
def t135 (X7 : FVec Ideal S32x16x64 .f32) : FVec Ideal S32x64x16x64 .f32 := (broadcastInDim S32x64x16x64 ![0, 1, 2, 3] bcast_S32x64x16x1_S32x64x16x64_0_1_2_3) (t125 X7)
def t129 (X1 : FVec Ideal S32x64 .f32) (X2 : FVec Ideal S32x64 .f32) (X3 : FVec Ideal S32 .f32) : FVec Ideal S32x64x64 .f32 := ((extractStridedSlice S32x64x64 ![0, 1, 0] · slices_S32x65x64_S32x64x64_0_1_0)) (t53 X1 X2 X3)
def t130 (X1 : FVec Ideal S32x64 .f32) (X2 : FVec Ideal S32x64 .f32) (X3 : FVec Ideal S32 .f32) : FVec Ideal S32x64x64 .f32 := ((transpose S32x64x64 [0, 2, 1] · transposes_S32x64x64_S32x64x64_0_2_1)) (t129 X1 X2 X3)
def t131 (X1 : FVec Ideal S32x64 .f32) (X2 : FVec Ideal S32x64 .f32) (X3 : FVec Ideal S32 .f32) : FVec Ideal S32x64x1x64 .f32 := (broadcastInDim S32x64x1x64 ![0, 1, 3] bcast_S32x64x64_S32x64x1x64_0_1_3) (t130 X1 X2 X3)
def t136 (X1 : FVec Ideal S32x64 .f32) (X2 : FVec Ideal S32x64 .f32) (X3 : FVec Ideal S32 .f32) : FVec Ideal S32x64x16x64 .f32 := (broadcastInDim S32x64x16x64 ![0, 1, 2, 3] bcast_S32x64x1x64_S32x64x16x64_0_1_2_3) (t131 X1 X2 X3)
def t137 (X1 : FVec Ideal S32x64 .f32) (X2 : FVec Ideal S32x64 .f32) (X3 : FVec Ideal S32 .f32) (X7 : FVec Ideal S32x16x64 .f32) : FVec Ideal S32x64x16x64 .f32 := (mulf) (t135 X7) (t136 X1 X2 X3)
def t138 (X1 : FVec Ideal S32x64 .f32) (X2 : FVec Ideal S32x64 .f32) (X3 : FVec Ideal S32 .f32) (X6 : FVec Ideal S32x16x64 .f32) (X7 : FVec Ideal S32x16x64 .f32) : FVec Ideal S32x64x16x64 .f32 := (subf) (t134 X1 X2 X3 X6) (t137 X1 X2 X3 X7)
def t146 (X1 : FVec Ideal S32x64 .f32) (X2 : FVec Ideal S32x64 .f32) (X3 : FVec Ideal S32 .f32) (X6 : FVec Ideal S32x16x64 .f32) (X7 : FVec Ideal S32x16x64 .f32) : FVec Ideal S32x64x1024 .f32 := shapeCast S32x64x1024 (t138 X1 X2 X3 X6 X7) shapeCasts_S32x64x16x64_S32x64x1024
def t139 (X6 : FVec Ideal S32x16x64 .f32) : FVec Ideal S32x64x16x64 .f32 := (broadcastInDim S32x64x16x64 ![0, 1, 2, 3] bcast_S32x64x16x1_S32x64x16x64_0_1_2_3) (t123 X6)
def t140 (X1 : FVec Ideal S32x64 .f32) (X2 : FVec Ideal S32x64 .f32) (X3 : FVec Ideal S32 .f32) : FVec Ideal S32x64x16x64 .f32 := (broadcastInDim S32x64x16x64 ![0, 1, 2, 3] bcast_S32x64x1x64_S32x64x16x64_0_1_2_3) (t131 X1 X2 X3)
def t141 (X1 : FVec Ideal S32x64 .f32) (X2 : FVec Ideal S32x64 .f32) (X3 : FVec Ideal S32 .f32) (X6 : FVec Ideal S32x16x64 .f32) : FVec Ideal S32x64x16x64 .f32 := (mulf) (t139 X6) (t140 X1 X2 X3)
def t142 (X7 : FVec Ideal S32x16x64 .f32) : FVec Ideal S32x64x16x64 .f32 := (broadcastInDim S32x64x16x64 ![0, 1, 2, 3] bcast_S32x64x16x1_S32x64x16x64_0_1_2_3) (t125 X7)
def t143 (X1 : FVec Ideal S32x64 .f32) (X2 : FVec Ideal S32x64 .f32) (X3 : FVec Ideal S32 .f32) : FVec Ideal S32x64x16x64 .f32 := (broadcastInDim S32x64x16x64 ![0, 1, 2, 3] bcast_S32x64x1x64_S32x64x16x64_0_1_2_3) (t128 X1 X2 X3)
def t144 (X1 : FVec Ideal S32x64 .f32) (X2 : FVec Ideal S32x64 .f32) (X3 : FVec Ideal S32 .f32) (X7 : FVec Ideal S32x16x64 .f32) : FVec Ideal S32x64x16x64 .f32 := (mulf) (t142 X7) (t143 X1 X2 X3)
def t145 (X1 : FVec Ideal S32x64 .f32) (X2 : FVec Ideal S32x64 .f32) (X3 : FVec Ideal S32 .f32) (X6 : FVec Ideal S32x16x64 .f32) (X7 : FVec Ideal S32x16x64 .f32) : FVec Ideal S32x64x16x64 .f32 := (addf) (t141 X1 X2 X3 X6) (t144 X1 X2 X3 X7)
def t147 (X1 : FVec Ideal S32x64 .f32) (X2 : FVec Ideal S32x64 .f32) (X3 : FVec Ideal S32 .f32) (X6 : FVec Ideal S32x16x64 .f32) (X7 : FVec Ideal S32x16x64 .f32) : FVec Ideal S32x64x1024 .f32 := shapeCast S32x64x1024 (t145 X1 X2 X3 X6 X7) shapeCasts_S32x64x16x64_S32x64x1024
def t148 (X1 : FVec Ideal S32x64 .f32) (X2 : FVec Ideal S32x64 .f32) (X3 : FVec Ideal S32 .f32) (X6 : FVec Ideal S32x16x64 .f32) (X7 : FVec Ideal S32x16x64 .f32) : FVec Ideal S32x64x1024 .f32 := (Host.negf) (t147 X1 X2 X3 X6 X7)
def t149 (X1 : FVec Ideal S32x64 .f32) (X2 : FVec Ideal S32x64 .f32) (X3 : FVec Ideal S32 .f32) (X6 : FVec Ideal S32x16x64 .f32) (X7 : FVec Ideal S32x16x64 .f32) : FVec Ideal S32x128x1024 .f32 := ((fun a b => concatenate S32x128x1024 1 [⟨S32x64x1024, a⟩, ⟨S32x64x1024, b⟩] concatenates_S32x64x1024_S32x64x1024_S32x128x1024_d1)) (t146 X1 X2 X3 X6 X7) (t148 X1 X2 X3 X6 X7)
def t182 (X1 : FVec Ideal S32x64 .f32) (X2 : FVec Ideal S32x64 .f32) (X3 : FVec Ideal S32 .f32) (X6 : FVec Ideal S32x16x64 .f32) (X7 : FVec Ideal S32x16x64 .f32) : FVec Ideal S32x128x1024 .bf16 := ((truncf .bf16 · bitsLt_bf16_f32)) (t149 X1 X2 X3 X6 X7)
def t156 (X1 : FVec Ideal S32x64 .f32) (X3 : FVec Ideal S32 .f32) : FVec Ideal S32x1x64 .f32 := (broadcastInDim S32x1x64 ![0, 2] bcast_S32x64_S32x1x64_0_2) (t5 X1 X3)
def t158 (X1 : FVec Ideal S32x64 .f32) (X3 : FVec Ideal S32 .f32) : FVec Ideal S32x7x64 .f32 := (broadcastInDim S32x7x64 ![0, 1, 2] bcast_S32x1x64_S32x7x64_0_1_2) (t156 X1 X3)
def t_c_7 : IVec S_ 32 := (constantI S_ 32 64#32)
def t153 : IVec S7 32 := (broadcastInDim S7 ![] bcast_S_S7) t_c_7
def t_c_6 : IVec S_ 32 := (constantI S_ 32 1#32)
def t151 : IVec S7 32 := (broadcastInDim S7 ![] bcast_S_S7) t_c_6
def t150 : IVec S7 32 := (iotaInDim S7 32 0)
def t152 : IVec S7 32 := (Host.shli) t151 t150
def t154 : IVec S7 32 := (muli) t153 t152
def t155 : FVec Ideal S7 .f32 := (sitofp .f32) t154
def t157 : FVec Ideal S1x7x1 .f32 := (broadcastInDim S1x7x1 ![1] bcast_S7_S1x7x1_1) t155
def t159 : FVec Ideal S32x7x64 .f32 := (broadcastInDim S32x7x64 ![0, 1, 2] bcast_S1x7x1_S32x7x64_0_1_2) t157
def t160 (X1 : FVec Ideal S32x64 .f32) (X3 : FVec Ideal S32 .f32) : FVec Ideal S32x7x64 .f32 := (mulf) (t158 X1 X3) t159
def t166 (X1 : FVec Ideal S32x64 .f32) (X3 : FVec Ideal S32 .f32) : FVec Ideal S32x7x64 .f32 := (Host.exp) (t160 X1 X3)
def t161 (X2 : FVec Ideal S32x64 .f32) (X3 : FVec Ideal S32 .f32) : FVec Ideal S32x1x64 .f32 := (broadcastInDim S32x1x64 ![0, 2] bcast_S32x64_S32x1x64_0_2) (t7 X2 X3)
def t163 (X2 : FVec Ideal S32x64 .f32) (X3 : FVec Ideal S32 .f32) : FVec Ideal S32x7x64 .f32 := (broadcastInDim S32x7x64 ![0, 1, 2] bcast_S32x1x64_S32x7x64_0_1_2) (t161 X2 X3)
def t162 : FVec Ideal S1x7x1 .f32 := (broadcastInDim S1x7x1 ![1] bcast_S7_S1x7x1_1) t155
def t164 : FVec Ideal S32x7x64 .f32 := (broadcastInDim S32x7x64 ![0, 1, 2] bcast_S1x7x1_S32x7x64_0_1_2) t162
def t165 (X2 : FVec Ideal S32x64 .f32) (X3 : FVec Ideal S32 .f32) : FVec Ideal S32x7x64 .f32 := (mulf) (t163 X2 X3) t164
def t167 (X2 : FVec Ideal S32x64 .f32) (X3 : FVec Ideal S32 .f32) : FVec Ideal S32x7x64 .f32 := (Host.cos) (t165 X2 X3)
def t168 (X1 : FVec Ideal S32x64 .f32) (X2 : FVec Ideal S32x64 .f32) (X3 : FVec Ideal S32 .f32) : FVec Ideal S32x7x64 .f32 := (mulf) (t166 X1 X3) (t167 X2 X3)
def t171 (X1 : FVec Ideal S32x64 .f32) (X2 : FVec Ideal S32x64 .f32) (X3 : FVec Ideal S32 .f32) : FVec Ideal S32x7x128 .f32 := ((fun a b => concatenate S32x7x128 2 [⟨S32x7x64, a⟩, ⟨S32x7x64, b⟩] concatenates_S32x7x64_S32x7x64_S32x7x128_d2)) (t168 X1 X2 X3) (t168 X1 X2 X3)
def t174 (X1 : FVec Ideal S32x64 .f32) (X2 : FVec Ideal S32x64 .f32) (X3 : FVec Ideal S32 .f32) : FVec Ideal S32x7x1x128 .f32 := (broadcastInDim S32x7x1x128 ![0, 1, 3] bcast_S32x7x128_S32x7x1x128_0_1_3) (t171 X1 X2 X3)
def t169 (X2 : FVec Ideal S32x64 .f32) (X3 : FVec Ideal S32 .f32) : FVec Ideal S32x7x64 .f32 := (Host.sin) (t165 X2 X3)
def t170 (X1 : FVec Ideal S32x64 .f32) (X2 : FVec Ideal S32x64 .f32) (X3 : FVec Ideal S32 .f32) : FVec Ideal S32x7x64 .f32 := (mulf) (t166 X1 X3) (t169 X2 X3)
def t172 (X1 : FVec Ideal S32x64 .f32) (X2 : FVec Ideal S32x64 .f32) (X3 : FVec Ideal S32 .f32) : FVec Ideal S32x7x64 .f32 := (Host.negf) (t170 X1 X2 X3)
def t173 (X1 : FVec Ideal S32x64 .f32) (X2 : FVec Ideal S32x64 .f32) (X3 : FVec Ideal S32 .f32) : FVec Ideal S32x7x128 .f32 := ((fun a b => concatenate S32x7x128 2 [⟨S32x7x64, a⟩, ⟨S32x7x64, b⟩] concatenates_S32x7x64_S32x7x64_S32x7x128_d2)) (t172 X1 X2 X3) (t170 X1 X2 X3)
def t175 (X1 : FVec Ideal S32x64 .f32) (X2 : FVec Ideal S32x64 .f32) (X3 : FVec Ideal S32 .f32) : FVec Ideal S32x7x1x128 .f32 := (broadcastInDim S32x7x1x128 ![0, 1, 3] bcast_S32x7x128_S32x7x1x128_0_1_3) (t173 X1 X2 X3)
def t176 (X1 : FVec Ideal S32x64 .f32) (X2 : FVec Ideal S32x64 .f32) (X3 : FVec Ideal S32 .f32) : FVec Ideal S32x7x2x128 .f32 := ((fun a b => concatenate S32x7x2x128 2 [⟨S32x7x1x128, a⟩, ⟨S32x7x1x128, b⟩] concatenates_S32x7x1x128_S32x7x1x128_S32x7x2x128_d2)) (t174 X1 X2 X3) (t175 X1 X2 X3)
def t177 (X1 : FVec Ideal S32x64 .f32) (X2 : FVec Ideal S32x64 .f32) (X3 : FVec Ideal S32 .f32) : FVec Ideal S32x14x128 .f32 := shapeCast S32x14x128 (t176 X1 X2 X3) shapeCasts_S32x7x2x128_S32x14x128
def t178 (X8 : FVec Ideal S512 .f32) : FVec Ideal S32x1x16 .f32 := shapeCast S32x1x16 X8 shapeCasts_S512_S32x1x16
def t179 (X8 : FVec Ideal S512 .f32) : FVec Ideal S32x1x16x64 .f32 := (broadcastInDim S32x1x16x64 ![0, 1, 2] bcast_S32x1x16_S32x1x16x64_0_1_2) (t178 X8)
def t180 (X8 : FVec Ideal S512 .f32) : FVec Ideal S32x1x1024 .f32 := shapeCast S32x1x1024 (t179 X8) shapeCasts_S32x1x16x64_S32x1x1024
def t183 (X0 : FVec Ideal S4x8192x512 .f32) : FVec Ideal S32768x512 .f32 := shapeCast S32768x512 X0 shapeCasts_S4x8192x512_S32768x512
def t184 (X0 : FVec Ideal S4x8192x512 .f32) : FVec Ideal S512x32768 .f32 := ((transpose S512x32768 [1, 0] · transposes_S32768x512_S512x32768_1_0)) (t183 X0)
def t185 (X0 : FVec Ideal S4x8192x512 .f32) : FVec Ideal S512x256x128 .f32 := shapeCast S512x256x128 (t184 X0) shapeCasts_S512x32768_S512x256x128

end Cert.KernelIdeal.Host0
end
end
-- ==== Proof.SsmHostV.lean ====
/-
  What the launch finds in its windows' arrays: the tables of the host code.
-/
module

public import proofs.«01_k».proof.Proof.Gen.KernelIdeal.Value
public import proofs.«01_k».proof.Proof.SsmHost
public import Idealize.ShloMosaic.Lib.Pointwise
public import Idealize.ShloMosaic.Lib.StableHlo.Run

@[expose] public section

set_option maxRecDepth 16384

noncomputable section

namespace Cert.KernelIdeal.Host0

open Cert.KernelIdeal Cert.KernelIdeal.Gen Idealize.ShloMosaic Idealize.ShloMosaic.TcCoe Idealize.SL.Sem

variable (m : (ℓ : Loc nD τ sig) → Buf (Elt Ideal) ℓ)

abbrev X0 (c : Dev nD) : Vec Ideal S4x8192x512 .f32 := m ((c : Thread nD τ).loc main_arg0)
abbrev X1 (c : Dev nD) : Vec Ideal S32x64 .f32 := m ((c : Thread nD τ).loc main_arg1)
abbrev X2 (c : Dev nD) : Vec Ideal S32x64 .f32 := m ((c : Thread nD τ).loc main_arg2)
abbrev X3 (c : Dev nD) : Vec Ideal S32 .f32 := m ((c : Thread nD τ).loc main_arg3)
abbrev X4 (c : Dev nD) : Vec Ideal S32x64x16 .f32 := m ((c : Thread nD τ).loc main_arg4)
abbrev X5 (c : Dev nD) : Vec Ideal S32x64x16 .f32 := m ((c : Thread nD τ).loc main_arg5)
abbrev X6 (c : Dev nD) : Vec Ideal S32x16x64 .f32 := m ((c : Thread nD τ).loc main_arg6)
abbrev X7 (c : Dev nD) : Vec Ideal S32x16x64 .f32 := m ((c : Thread nD τ).loc main_arg7)
abbrev X8 (c : Dev nD) : Vec Ideal S512 .f32 := m ((c : Thread nD τ).loc main_arg8)

set_option maxHeartbeats 4000000 in
/-- The launch finds the table of delayed products. -/
theorem V_94 (c : Dev nD) : V m c main_v94 = t94 (X1 m c) (X2 m c) (X3 m c) (X4 m c) (X5 m c) (X6 m c) (X7 m c) := by
  simp only [V, hostOps0, hostOps0_1, hostOps0_2, hostOps0_3, hostOps0_4, hostOps0_5, hostOps0_6, hostOps0_7, hostOps0_8, hostOps0_9, hostOps0_10,
    List.flatten_cons, List.flatten_nil, List.cons_append, List.nil_append, List.append_nil]
  after_results_simp <;> rfl

/-- The launch finds the table from inputs to a chunk's state. -/
theorem V_181 (c : Dev nD) : V m c main_v181 = t181 (X1 m c) (X2 m c) (X3 m c) (X4 m c) (X5 m c) := by
  simp only [V, hostOps0, hostOps0_1, hostOps0_2, hostOps0_3, hostOps0_4, hostOps0_5, hostOps0_6, hostOps0_7, hostOps0_8, hostOps0_9, hostOps0_10,
    List.flatten_cons, List.flatten_nil, List.cons_append, List.nil_append, List.append_nil]
  after_results_simp <;> rfl

/-- The launch finds the table from a state to the chunk's outputs. -/
theorem V_182 (c : Dev nD) : V m c main_v182 = t182 (X1 m c) (X2 m c) (X3 m c) (X6 m c) (X7 m c) := by
  simp only [V, hostOps0, hostOps0_1, hostOps0_2, hostOps0_3, hostOps0_4, hostOps0_5, hostOps0_6, hostOps0_7, hostOps0_8, hostOps0_9, hostOps0_10,
    List.flatten_cons, List.flatten_nil, List.cons_append, List.nil_append, List.append_nil]
  after_results_simp <;> rfl

/-- The launch finds the powers of the decay. -/
theorem V_177 (c : Dev nD) : V m c main_v177 = t177 (X1 m c) (X2 m c) (X3 m c) := by
  simp only [V, hostOps0, hostOps0_1, hostOps0_2, hostOps0_3, hostOps0_4, hostOps0_5, hostOps0_6, hostOps0_7, hostOps0_8, hostOps0_9, hostOps0_10,
    List.flatten_cons, List.flatten_nil, List.cons_append, List.nil_append, List.append_nil]
  after_results_simp <;> rfl

/-- The launch finds the input's own factors. -/
theorem V_180 (c : Dev nD) : V m c main_v180 = t180 (X8 m c) := by
  simp only [V, hostOps0, hostOps0_1, hostOps0_2, hostOps0_3, hostOps0_4, hostOps0_5, hostOps0_6, hostOps0_7, hostOps0_8, hostOps0_9, hostOps0_10,
    List.flatten_cons, List.flatten_nil, List.cons_append, List.nil_append, List.append_nil]
  after_results_simp <;> rfl

/-- The launch finds the inputs, channels first. -/
theorem V_185 (c : Dev nD) : V m c main_v185 = t185 (X0 m c) := by
  simp only [V, hostOps0, hostOps0_1, hostOps0_2, hostOps0_3, hostOps0_4, hostOps0_5, hostOps0_6, hostOps0_7, hostOps0_8, hostOps0_9, hostOps0_10,
    List.flatten_cons, List.flatten_nil, List.cons_append, List.nil_append, List.append_nil]
  after_results_simp <;> rfl

end Cert.KernelIdeal.Host0
end
end
-- ==== Proof.Spec.lean ====
/-
  The mathematics of the layer's dense parts, on extended reals and with plain index types: a row of a LayerNorm, a
  hidden unit of a SwiGLU, and the value of one element of `LayerNorm(α·x + ½·FFN(x))`. Both the kernels' blocks and
  the references' arrays are read as these functions.
-/
module

public import Idealize.ShloMosaic.PureOps.Ideal

@[expose] public section

noncomputable section

namespace Cert.Spec

open Idealize.ShloMosaic

/-- The mean of a row of 1024 numbers. -/
def meanRow (y : Fin 1024 → EReal) : EReal := Ideal.div (∑ k, y k) (Ideal.ofBits .f32 0x44800000#32)

/-- The variance of a row: the mean of the squares of the differences from the row's mean. -/
def varRow (y : Fin 1024 → EReal) : EReal :=
  Ideal.div (∑ k, (y k - meanRow y) * (y k - meanRow y)) (Ideal.ofBits .f32 0x44800000#32)

/-- Element `c` of the LayerNorm of a row with gain `g` and shift `b`. -/
def normRow (y g b : Fin 1024 → EReal) (c : Fin 1024) : EReal :=
  (y c - meanRow y) * Ideal.rsqrt (varRow y + Ideal.ofBits .f32 0x3727C5AC#32) * g c + b c

/-- A SwiGLU unit from its gate and its linear part. -/
def gated (p q : EReal) : EReal := p * Ideal.logistic p * q

/-- Hidden unit `k` of a SwiGLU: column `k` of the up projection gates column `2816 + k`. -/
def hiddenUnit (x : Fin 1024 → EReal) (wup : Fin 1024 → Fin 5632 → EReal) (k : Fin 2816) : EReal :=
  gated (∑ d, x d * wup d ⟨k.val, by omega⟩) (∑ d, x d * wup d ⟨2816 + k.val, by omega⟩)

/-- The row before its LayerNorm: `α·x + ½·FFN(x)`. -/
def ffnRow (x : Fin 1024 → EReal) (wup : Fin 1024 → Fin 5632 → EReal) (wdn : Fin 2816 → Fin 1024 → EReal)
    (c : Fin 1024) : EReal :=
  Ideal.ofBits .f32 0x3FB504F3#32 * x c + Ideal.ofBits .f32 0x3F000000#32 * ∑ k, hiddenUnit x wup k * wdn k c

/-- `LayerNorm(α·x + ½·FFN(x))`, one element. -/
def ffnNorm (x : Fin 1024 → EReal) (wup : Fin 1024 → Fin 5632 → EReal) (wdn : Fin 2816 → Fin 1024 → EReal)
    (g b : Fin 1024 → EReal) (c : Fin 1024) : EReal :=
  normRow (ffnRow x wup wdn) g b c

/-- The part of the down projection that comes from one chunk of 256 hidden units. -/
def chunkRow (x : Fin 1024 → EReal) (wg wu : Fin 1024 → Fin 256 → EReal) (wd : Fin 256 → Fin 1024 → EReal) (c : Fin 1024) : EReal :=
  ∑ t : Fin 256, gated (∑ d, x d * wg d t) (∑ d, x d * wu d t) * wd t c

/-- A chunk whose three weight blocks are the columns `o …` and `2816 + o …` of the up projection and the rows `o …` of
    the down projection is the sum of the hidden units `o …` through their rows of the down projection. -/
theorem chunkRow_eq (x : Fin 1024 → EReal) (wup : Fin 1024 → Fin 5632 → EReal) (wdn : Fin 2816 → Fin 1024 → EReal)
    (wg wu : Fin 1024 → Fin 256 → EReal) (wd : Fin 256 → Fin 1024 → EReal) (o : ℕ) (ho : o ≤ 2560)
    (hg : ∀ d t, wg d t = wup d ⟨o + t.val, by omega⟩) (hu : ∀ d t, wu d t = wup d ⟨2816 + (o + t.val), by omega⟩)
    (hd : ∀ t c, wd t c = wdn ⟨o + t.val, by omega⟩ c) (c : Fin 1024) :
    chunkRow x wg wu wd c = ∑ t : Fin 256, hiddenUnit x wup ⟨o + t.val, by omega⟩ * wdn ⟨o + t.val, by omega⟩ c := by
  unfold chunkRow hiddenUnit
  simp only [hg, hu, hd]

/-! ## The merge of the two branches -/

/-- The GELU in its tanh form. -/
def gelu (v : EReal) : EReal :=
  v * (Ideal.ofBits .f32 0x3F000000#32 * (1 + Ideal.tanh (Ideal.ofBits .f32 0x3F4C422A#32
    * (v + Ideal.ofBits .f32 0x3D372713#32 * (v * v * v)))))

/-- Unit `j` of the SSM branch's gated linear unit: `y·σ(y·W)` with `y` the GELU of the recurrence's output. -/
def gluUnit (ys : Fin 512 → EReal) (wglu : Fin 512 → Fin 512 → EReal) (j : Fin 512) : EReal :=
  gelu (ys j) * Ideal.logistic (∑ i, gelu (ys i) * wglu i j)

/-- The two branches' projections, each through its gate, added. -/
def mergedUnit (ys ya : Fin 512 → EReal) (gs ga : Fin 1024 → EReal) (wglu : Fin 512 → Fin 512 → EReal)
    (wb0 wb1 : Fin 512 → Fin 1024 → EReal) (c : Fin 1024) : EReal :=
  gs c * (∑ j, gluUnit ys wglu j * wb0 j c) + ga c * (∑ j, ya j * wb1 j c)

/-- The row before the middle LayerNorm: `α·x + merged·W_out`. -/
def midRow (x : Fin 1024 → EReal) (merged : Fin 1024 → EReal) (wout : Fin 1024 → Fin 1024 → EReal) (c : Fin 1024) : EReal :=
  Ideal.ofBits .f32 0x3FB504F3#32 * x c + ∑ k, merged k * wout k c

/-- A sum over 2816 indices is the sum, in order, of eleven sums over 256. -/
theorem sum_chunks (f : Fin 2816 → EReal) :
    ∑ k, f k = (∑ t : Fin 256, f ⟨0 + t.val, by omega⟩) + (∑ t : Fin 256, f ⟨256 + t.val, by omega⟩)
      + (∑ t : Fin 256, f ⟨512 + t.val, by omega⟩) + (∑ t : Fin 256, f ⟨768 + t.val, by omega⟩)
      + (∑ t : Fin 256, f ⟨1024 + t.val, by omega⟩) + (∑ t : Fin 256, f ⟨1280 + t.val, by omega⟩)
      + (∑ t : Fin 256, f ⟨1536 + t.val, by omega⟩) + (∑ t : Fin 256, f ⟨1792 + t.val, by omega⟩)
      + (∑ t : Fin 256, f ⟨2048 + t.val, by omega⟩) + (∑ t : Fin 256, f ⟨2304 + t.val, by omega⟩)
      + (∑ t : Fin 256, f ⟨2560 + t.val, by omega⟩) := by
  have h : ∑ k, f k = ∑ j : Fin 11, ∑ t : Fin 256, f ⟨256 * j.val + t.val, by omega⟩ := by
    rw [← Fintype.sum_prod_type' (f := fun (j : Fin 11) (t : Fin 256) => f ⟨256 * j.val + t.val, by omega⟩)]
    refine (Fintype.sum_equiv ((finProdFinEquiv (m := 11) (n := 256))) _ _ fun p => ?_).symm
    exact congrArg f (Fin.ext (by simp [finProdFinEquiv]; omega))
  have e (F : Fin 11 → EReal) :
      ∑ j, F j = F 0 + F 1 + F 2 + F 3 + F 4 + F 5 + F 6 + F 7 + F 8 + F 9 + F 10 := by
    simp only [Fin.sum_univ_castSucc, Finset.univ_eq_empty, Finset.sum_empty, zero_add]
    rfl
  rw [h, e]
  rfl

end Cert.Spec

end
-- ==== Proof.SsmMath.lean ====
/-
  The mathematics of the recurrence, over the complex numbers: a linear recurrence over 8192 steps, its states at the ends of
  chunks, and the doubling scan that computes the states at the ends of the rows of a sequence.
-/
module

public import proofs.«01_k».proof.Proof.Spec
public import Mathlib.Analysis.Complex.Trigonometric
public import Mathlib.Algebra.BigOperators.Fin
public import Mathlib.Tactic.Ring
public import Mathlib.Tactic.LinearCombination

@[expose] public section

noncomputable section

namespace Cert.Ssm

open Finset

/-- The state before step `n` of the recurrence `x ↦ a x + f n`, started at zero. -/
def st (a : ℂ) (f : ℕ → ℂ) : ℕ → ℂ
  | 0 => 0
  | n + 1 => a * st a f n + f n

/-- `k` steps at once: the state decays by `a ^ k` and the inputs enter with the powers left to go. -/
theorem st_add (a : ℂ) (f : ℕ → ℂ) (n k : ℕ) :
    st a f (n + k) = a ^ k * st a f n + ∑ t ∈ range k, a ^ (k - 1 - t) * f (n + t) := by
  induction k with
  | zero => simp
  | succ k ih =>
    rw [← add_assoc, st, ih, sum_range_succ, mul_add, mul_sum, pow_succ']
    have : ∀ t ∈ range k, a * (a ^ (k - 1 - t) * f (n + t)) = a ^ (k + 1 - 1 - t) * f (n + t) := fun t ht => by
      have h : k + 1 - 1 - t = (k - 1 - t) + 1 := by have := mem_range.1 ht; omega
      rw [h, pow_succ']
      ring
    rw [sum_congr rfl this]
    have h0 : k + 1 - 1 - k = 0 := by omega
    rw [h0]
    ring

/-- The state is additive and homogeneous in the inputs, here over a finite sum of channels. -/
theorem st_chunk_sum {ι : Type} [Fintype ι] (a : ℂ) (f : ι → ℂ) (u : ι → ℕ → ℂ) (n k : ℕ) :
    (∑ t ∈ range k, a ^ (k - 1 - t) * (∑ i, f i * u i (n + t))) = ∑ i, ∑ t ∈ range k, u i (n + t) * (f i * a ^ (k - 1 - t)) := by
  rw [sum_comm]
  refine sum_congr rfl fun t _ => ?_
  rw [mul_sum]
  exact sum_congr rfl fun i _ => by ring

/-- What a doubling step keeps: the partial scan over `s` rows is the whole scan less what lies `s` rows back. -/
def part (β : ℂ) (X : ℕ → ℂ) (s r : ℕ) : ℂ := X r - if s ≤ r % 64 then β ^ s * X (r - s) else 0

/-- One doubling step. -/
theorem part_step (β : ℂ) (X : ℕ → ℂ) (s r : ℕ) :
    part β X s r + β ^ s * (if s ≤ r % 64 then part β X s (r - s) else 0) = part β X (s + s) r := by
  unfold part
  by_cases h : s ≤ r % 64
  · have hm : (r - s) % 64 = r % 64 - s := by omega
    rw [if_pos h, if_pos h, hm]
    by_cases h2 : s + s ≤ r % 64
    · rw [if_pos h2, if_pos (by omega), Nat.sub_sub, pow_add]
      ring
    · rw [if_neg h2, if_neg (by omega)]
      ring
  · rw [if_neg h, if_neg h, if_neg (by omega)]
    ring

/-- After the steps 1, 2, 4, …, 32 the scan is whole. -/
theorem part_full (β : ℂ) (X : ℕ → ℂ) (r : ℕ) : part β X 64 r = X r := by
  unfold part
  rw [if_neg (by omega), sub_zero]

/-- The states at the ends of the rows of 128 steps, rows counted within a sequence of 64. -/
def rowEnd (a : ℂ) (f : ℕ → ℕ → ℂ) (r : ℕ) : ℂ := st a (f (r / 64)) (128 * (r % 64) + 128)

/-- What a chunk of 64 steps adds to the state. -/
def chunk (a : ℂ) (f : ℕ → ℂ) (n : ℕ) : ℂ := ∑ t ∈ range 64, a ^ (63 - t) * f (n + t)

/-- A whole chunk's steps at once. -/
theorem st_chunk (a : ℂ) (f : ℕ → ℂ) (n : ℕ) : st a f (n + 64) = a ^ 64 * st a f n + chunk a f n := st_add a f n 64

/-- The row's own contribution is the scan before its first step. -/
theorem part_one (a : ℂ) (f : ℕ → ℕ → ℂ) (r : ℕ) :
    a ^ 64 * chunk a (f (r / 64)) (128 * (r % 64)) + chunk a (f (r / 64)) (128 * (r % 64) + 64) = part (a ^ 128) (rowEnd a f) 1 r := by
  unfold part rowEnd
  rw [show 128 * (r % 64) + 128 = (128 * (r % 64) + 64) + 64 by ring, st_chunk, st_chunk]
  by_cases h : 1 ≤ r % 64
  · have hd : (r - 1) / 64 = r / 64 := by omega
    have hm : 128 * ((r - 1) % 64) + 128 = 128 * (r % 64) := by omega
    rw [if_pos h, hd, hm, pow_one]
    ring
  · have h0 : r % 64 = 0 := by omega
    rw [if_neg h, h0]
    simp only [mul_zero, st]
    ring

/-- The state before a row is the state at the end of the row above, or zero at the start of a sequence. -/
theorem rowStart (a : ℂ) (f : ℕ → ℕ → ℂ) (r : ℕ) :
    (if 1 ≤ r % 64 then rowEnd a f (r - 1) else 0) = st a (f (r / 64)) (128 * (r % 64)) := by
  unfold rowEnd
  by_cases h : 1 ≤ r % 64
  · have hd : (r - 1) / 64 = r / 64 := by omega
    have hm : 128 * ((r - 1) % 64) + 128 = 128 * (r % 64) := by omega
    rw [if_pos h, hd, hm]
  · have h0 : r % 64 = 0 := by omega
    rw [if_neg h, h0]
    rfl

/-- The rotation and decay of one step. -/
def rot (x y : ℝ) : ℂ := Complex.exp ⟨x, y⟩

/-- The real part of the exponential. -/
theorem rot_re (x y : ℝ) : (rot x y).re = Real.exp x * Real.cos y := Complex.exp_re _
/-- The imaginary part of the exponential. -/
theorem rot_im (x y : ℝ) : (rot x y).im = Real.exp x * Real.sin y := Complex.exp_im _

/-- The rotation of `n` steps is the rotation of `n` times the angle. -/
theorem rot_pow (x y : ℝ) (n : ℕ) : rot (x * n) (y * n) = rot x y ^ n := by
  unfold rot
  rw [← Complex.exp_nat_mul]
  congr 1
  apply Complex.ext <;> simp [mul_comm]

end Cert.Ssm

end

end
-- ==== Proof.SsmData.lean ====
/-
  The recurrence's numbers: the nine arguments as real arrays, the discretised decay and input matrix of every state, the input
  each step adds, and the layer's value as the states read through the output matrix plus the direct term.
-/
module

public import proofs.«01_k».proof.Proof.SsmMath
public import Idealize.ShloMosaic.Lib.Pointwise
public import Idealize.ShloMosaic.Lib.IdealHost

@[expose] public section

noncomputable section

namespace Cert.Ssm

open Idealize.ShloMosaic Finset

/-- The nine arguments as real numbers. -/
structure Data where
  u : Fin 4 → Fin 8192 → Fin 512 → ℝ
  lr : Fin 32 → Fin 64 → ℝ
  li : Fin 32 → Fin 64 → ℝ
  ld : Fin 32 → ℝ
  br : Fin 32 → Fin 64 → Fin 16 → ℝ
  bi : Fin 32 → Fin 64 → Fin 16 → ℝ
  cr : Fin 32 → Fin 16 → Fin 64 → ℝ
  ci : Fin 32 → Fin 16 → Fin 64 → ℝ
  d : Fin 512 → ℝ

/-- The bound on the real part of a decay rate. -/
def bound : ℝ := -(13743895 / 137438953472)

/-- The literal of the bound on the poles. -/
theorem bound_lit : Ideal.ofBits .f32 0xB8D1B717#32 = ((bound : ℝ) : EReal) := by
  simp [Ideal.ofBits, Ideal.ieee, bound, -EReal.coe_mul, -EReal.coe_neg]; norm_num

/-- The bound is negative. -/
theorem bound_neg : bound < 0 := by unfold bound; norm_num

/-- A finite sum of real numbers, among the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

variable (D : Data)

namespace Data

/-- The decay rate's real part, the step, and the real and imaginary parts of one step's exponent. -/
def lam (g : Fin 32) (p : Fin 64) : ℝ := min (D.lr g p) bound
def dt (g : Fin 32) : ℝ := Real.exp (D.ld g)
def ar (g : Fin 32) (p : Fin 64) : ℝ := D.lam g p * D.dt g
def ai (g : Fin 32) (p : Fin 64) : ℝ := D.li g p * D.dt g

/-- One step's decay and rotation. -/
def a (g : Fin 32) (p : Fin 64) : ℂ := rot (D.ar g p) (D.ai g p)

def den (g : Fin 32) (p : Fin 64) : ℝ := D.lam g p * D.lam g p + D.li g p * D.li g p

/-- The squared modulus of a pole is not zero. -/
theorem den_ne (g : Fin 32) (p : Fin 64) : D.den g p ≠ 0 := by
  have h : D.lam g p < 0 := lt_of_le_of_lt (min_le_right _ _) bound_neg
  have h1 : 0 < D.lam g p * D.lam g p := mul_pos_of_neg_of_neg h h
  have h2 : 0 ≤ D.li g p * D.li g p := mul_self_nonneg _
  unfold den
  linarith

/-- `(a − 1) / λ`, by its real and imaginary parts. -/
def z (g : Fin 32) (p : Fin 64) : ℂ :=
  ⟨(((D.a g p).re - 1) * D.lam g p + (D.a g p).im * D.li g p) * (1 / D.den g p),
    ((D.a g p).im * D.lam g p - ((D.a g p).re - 1) * D.li g p) * (1 / D.den g p)⟩

/-- The discretised input matrix. -/
def bb (g : Fin 32) (p : Fin 64) (k : Fin 16) : ℂ := D.z g p * ⟨D.br g p k, D.bi g p k⟩

/-- The output matrix. -/
def c (g : Fin 32) (h : Fin 16) (p : Fin 64) : ℂ := ⟨D.cr g h p, D.ci g h p⟩

/-- Channel `k` of group `g`, at step `l` of sequence `b`; past the end nothing is read. -/
def us (g : Fin 32) (b : ℕ) (k : Fin 16) (l : ℕ) : ℝ :=
  if h : b < 4 ∧ l < 8192 then D.u ⟨b, h.1⟩ ⟨l, h.2⟩ ⟨16 * g.val + k.val, by omega⟩ else 0

/-- The input of one step of one state. -/
def f (g : Fin 32) (p : Fin 64) (b l : ℕ) : ℂ := ∑ k, D.bb g p k * ((D.us g b k l : ℝ) : ℂ)

/-- The layer's value. -/
def y (b : Fin 4) (l : Fin 8192) (g : Fin 32) (h : Fin 16) : ℝ :=
  (∑ p, D.c g h p * st (D.a g p) (D.f g p b.val) (l.val + 1)).re + D.d ⟨16 * g.val + h.val, by omega⟩ * D.us g b.val h l.val

end Data

/-- What an input at step `t` of a chunk leaves in the state at the chunk's end. -/
def wz (g : Fin 32) (k : Fin 16) (t : ℕ) (p : Fin 64) : ℂ := D.bb g p k * D.a g p ^ (63 - t)

/-- What a state leaves in the output at step `t` of the chunk after it. -/
def vz (g : Fin 32) (p : Fin 64) (h : Fin 16) (t : ℕ) : ℂ := D.c g h p * D.a g p ^ (t + 1)

/-- What an input leaves in the output `t` steps later. -/
def kz (g : Fin 32) (k h : Fin 16) (t : ℕ) : ℝ := ∑ p, (D.bb g p k * (D.c g h p * D.a g p ^ t)).re

/-- A chunk's contribution to the state, input by input. -/
theorem chunk_eq (g : Fin 32) (p : Fin 64) (b n : ℕ) :
    chunk (D.a g p) (D.f g p b) n = ∑ k, ∑ t : Fin 64, ((D.us g b k (n + t.val) : ℝ) : ℂ) * wz D g k t.val p := by
  unfold chunk Data.f wz
  rw [show (63 : ℕ) = 64 - 1 from rfl, st_chunk_sum (D.a g p) (fun k => D.bb g p k) (fun k l => ((D.us g b k l : ℝ) : ℂ)) n 64]
  exact sum_congr rfl fun k _ => sum_range (fun t => ((D.us g b k (n + t) : ℝ) : ℂ) * (D.bb g p k * D.a g p ^ (64 - 1 - t)))

/-- The output at step `t` of a chunk: the inputs of the chunk up to `t`, and the state before the chunk. -/
theorem out_eq (g : Fin 32) (h : Fin 16) (b n : ℕ) (t : Fin 64) :
    (∑ k, ∑ s : Fin 64, D.us g b k (n + s.val) * (if s.val ≤ t.val then kz D g k h (t.val - s.val) else 0))
      + ∑ p, (st (D.a g p) (D.f g p b) n * vz D g p h t.val).re
      = (∑ p, D.c g h p * st (D.a g p) (D.f g p b) (n + t.val + 1)).re := by
  have e : ∀ p, D.c g h p * st (D.a g p) (D.f g p b) (n + t.val + 1)
      = (∑ k, ∑ s : Fin 64, ((D.us g b k (n + s.val) : ℝ) : ℂ) * (if s.val ≤ t.val then D.bb g p k * (D.c g h p * D.a g p ^ (t.val - s.val)) else 0))
        + st (D.a g p) (D.f g p b) n * vz D g p h t.val := fun p => by
    rw [add_assoc, st_add, mul_add, add_comm]
    congr 1
    · unfold Data.f
      rw [st_chunk_sum (D.a g p) (fun k => D.bb g p k) (fun k l => ((D.us g b k l : ℝ) : ℂ)) n (t.val + 1), mul_sum]
      refine sum_congr rfl fun k _ => ?_
      rw [mul_sum, ← sum_range (fun s => ((D.us g b k (n + s) : ℝ) : ℂ) * (if s ≤ t.val then D.bb g p k * (D.c g h p * D.a g p ^ (t.val - s)) else 0))]
      have hsub : range (t.val + 1) ⊆ range 64 := range_subset_range.2 (by omega)
      rw [← sum_subset hsub]
      · refine sum_congr rfl fun s hs => ?_
        have hs' := mem_range.1 hs
        rw [if_pos (by omega), Nat.add_sub_cancel]
        ring
      · intro s _ hs
        rw [if_neg (by rw [mem_range] at hs; omega), mul_zero]
    · unfold vz
      ring
  simp only [e]
  rw [sum_add_distrib, Complex.add_re, Complex.re_sum (f := fun p => st (D.a g p) (D.f g p b) n * vz D g p h t.val)]
  congr 1
  conv_rhs => rw [sum_comm, Complex.re_sum]
  refine sum_congr rfl fun k _ => ?_
  conv_rhs => rw [sum_comm, Complex.re_sum]
  refine sum_congr rfl fun s _ => ?_
  rw [← mul_sum, Complex.re_ofReal_mul]
  congr 1
  by_cases hc : s.val ≤ t.val
  · simp only [if_pos hc, Complex.re_sum]; rfl
  · simp only [if_neg hc, sum_const_zero, Complex.zero_re]

end Cert.Ssm

end

end
-- ==== Proof.SsmTab.lean ====
/-
  The host code's tables of the recurrence, read at an index: the discretised decay and input matrix, and the decay's powers.
-/
module

public import proofs.«01_k».proof.Proof.SsmHost
public import proofs.«01_k».proof.Proof.SsmData

@[expose] public section

set_option maxRecDepth 16384

noncomputable section

namespace Cert.KernelIdeal.Host0

open Cert.KernelIdeal Cert.KernelIdeal.Gen Idealize.ShloMosaic Cert.Ssm

variable {D : Data} {X1 X2 : FVec Ideal S32x64 .f32} {X3 : FVec Ideal S32 .f32} {X4 X5 : FVec Ideal S32x64x16 .f32}
  {X6 X7 : FVec Ideal S32x16x64 .f32}

/-- The arrays of weights hold the numbers of `D`. -/
structure Reads (D : Data) (X1 X2 : FVec Ideal S32x64 .f32) (X3 : FVec Ideal S32 .f32) (X4 X5 : FVec Ideal S32x64x16 .f32)
    (X6 X7 : FVec Ideal S32x16x64 .f32) : Prop where
  lr : ∀ g p, X1 (ix2 g p) = ((D.lr g p : ℝ) : EReal)
  li : ∀ g p, X2 (ix2 g p) = ((D.li g p : ℝ) : EReal)
  ld : ∀ g, X3 (ix1 g) = ((D.ld g : ℝ) : EReal)
  br : ∀ g p k, X4 (ix3 g p k) = ((D.br g p k : ℝ) : EReal)
  bi : ∀ g p k, X5 (ix3 g p k) = ((D.bi g p k : ℝ) : EReal)
  cr : ∀ g h p, X6 (ix3 g h p) = ((D.cr g h p : ℝ) : EReal)
  ci : ∀ g h p, X7 (ix3 g h p) = ((D.ci g h p : ℝ) : EReal)

variable (H : Reads D X1 X2 X3 X4 X5 X6 X7)
include H

/-- The clamped real part of the poles. -/
theorem t1_at (g : Fin 32) (p : Fin 64) : t1 X1 (ix2 g p) = ((D.lam g p : ℝ) : EReal) := by
  pointwise [t1, t0, t_cst]
  rw [H.lr, bound_lit, Data.lam]
  exact (EReal.coe_strictMono.monotone.map_min).symm

/-- The pole's real part over one step. -/
theorem t5_at (g : Fin 32) (p : Fin 64) : t5 X1 X3 (ix2 g p) = ((D.ar g p : ℝ) : EReal) := by
  have h : t5 X1 X3 (ix2 g p) = t1 X1 (ix2 g p) * Ideal.exp (X3 (ix1 g)) := by
    pointwise [t5, t4, t3, t2]
  rw [h, t1_at H, H.ld, Ideal.exp_coe, ← EReal.coe_mul]
  rfl

/-- The pole's imaginary part over one step. -/
theorem t7_at (g : Fin 32) (p : Fin 64) : t7 X2 X3 (ix2 g p) = ((D.ai g p : ℝ) : EReal) := by
  have h : t7 X2 X3 (ix2 g p) = X2 (ix2 g p) * Ideal.exp (X3 (ix1 g)) := by
    pointwise [t7, t6, t3, t2]
  rw [h, H.li, H.ld, Ideal.exp_coe, ← EReal.coe_mul]
  rfl

/-- The decay's real part. -/
theorem t10_at (g : Fin 32) (p : Fin 64) : t10 X1 X2 X3 (ix2 g p) = (((D.a g p).re : ℝ) : EReal) := by
  have h : t10 X1 X2 X3 (ix2 g p) = Ideal.exp (t5 X1 X3 (ix2 g p)) * Ideal.cos (t7 X2 X3 (ix2 g p)) := by
    pointwise [t10, t8, t9]
  rw [h, t5_at H, t7_at H, Ideal.exp_coe, Ideal.cos_coe, ← EReal.coe_mul, Data.a, rot_re]

/-- The decay's imaginary part. -/
theorem t12_at (g : Fin 32) (p : Fin 64) : t12 X1 X2 X3 (ix2 g p) = (((D.a g p).im : ℝ) : EReal) := by
  have h : t12 X1 X2 X3 (ix2 g p) = Ideal.exp (t5 X1 X3 (ix2 g p)) * Ideal.sin (t7 X2 X3 (ix2 g p)) := by
    pointwise [t12, t8, t11]
  rw [h, t5_at H, t7_at H, Ideal.exp_coe, Ideal.sin_coe, ← EReal.coe_mul, Data.a, rot_im]

/-- The squared modulus of the pole. -/
theorem t17_at (g : Fin 32) (p : Fin 64) : t17 X1 X2 (ix2 g p) = ((D.den g p : ℝ) : EReal) := by
  have h : t17 X1 X2 (ix2 g p) = t1 X1 (ix2 g p) * t1 X1 (ix2 g p) + X2 (ix2 g p) * X2 (ix2 g p) := by
    pointwise [t17, t15, t16]
  rw [h, t1_at H, H.li, ← EReal.coe_mul, ← EReal.coe_mul, ← EReal.coe_add]
  rfl

/-- The decay's real part less one. -/
theorem t14_at (g : Fin 32) (p : Fin 64) : t14 X1 X2 X3 (ix2 g p) = (((D.a g p).re - 1 : ℝ) : EReal) := by
  have h : t14 X1 X2 X3 (ix2 g p) = t10 X1 X2 X3 (ix2 g p) - Ideal.ofBits .f32 0x3F800000#32 := by
    pointwise [t14, t13, t_cst_0]
  rw [h, t10_at H, Ideal.ofBits_one_f32, ← EReal.coe_one, ← EReal.coe_sub]

/-- The factor of the input matrix, real part. -/
theorem t21_at (g : Fin 32) (p : Fin 64) : t21 X1 X2 X3 (ix2 g p) = (((D.z g p).re : ℝ) : EReal) := by
  have h : t21 X1 X2 X3 (ix2 g p) = Ideal.div (t14 X1 X2 X3 (ix2 g p) * t1 X1 (ix2 g p) + t12 X1 X2 X3 (ix2 g p) * X2 (ix2 g p)) (t17 X1 X2 (ix2 g p)) := by
    pointwise [t21, t20, t18, t19]
  rw [h, t14_at H, t1_at H, t12_at H, H.li, t17_at H, Ideal.div_coe (D.den_ne g p)]
  simp only [← EReal.coe_mul, ← EReal.coe_add]
  rfl

/-- The factor of the input matrix, imaginary part. -/
theorem t25_at (g : Fin 32) (p : Fin 64) : t25 X1 X2 X3 (ix2 g p) = (((D.z g p).im : ℝ) : EReal) := by
  have h : t25 X1 X2 X3 (ix2 g p) = Ideal.div (t12 X1 X2 X3 (ix2 g p) * t1 X1 (ix2 g p) - t14 X1 X2 X3 (ix2 g p) * X2 (ix2 g p)) (t17 X1 X2 (ix2 g p)) := by
    pointwise [t25, t24, t22, t23]
  rw [h, t14_at H, t1_at H, t12_at H, H.li, t17_at H, Ideal.div_coe (D.den_ne g p)]
  simp only [← EReal.coe_mul, ← EReal.coe_sub]
  rfl

/-- The discretised input matrix, real part. -/
theorem t32_at (g : Fin 32) (p : Fin 64) (k : Fin 16) : t32 X1 X2 X3 X4 X5 (ix3 g p k) = (((D.bb g p k).re : ℝ) : EReal) := by
  have h : t32 X1 X2 X3 X4 X5 (ix3 g p k) = t21 X1 X2 X3 (ix2 g p) * X4 (ix3 g p k) - t25 X1 X2 X3 (ix2 g p) * X5 (ix3 g p k) := by
    pointwise [t32, t29, t31, t28, t30, t26, t27]
  rw [h, t21_at H, t25_at H, H.br, H.bi, ← EReal.coe_mul, ← EReal.coe_mul, ← EReal.coe_sub, Data.bb, Complex.mul_re]

/-- The discretised input matrix, imaginary part. -/
theorem t37_at (g : Fin 32) (p : Fin 64) (k : Fin 16) : t37 X1 X2 X3 X4 X5 (ix3 g p k) = (((D.bb g p k).im : ℝ) : EReal) := by
  have h : t37 X1 X2 X3 X4 X5 (ix3 g p k) = t21 X1 X2 X3 (ix2 g p) * X5 (ix3 g p k) + t25 X1 X2 X3 (ix2 g p) * X4 (ix3 g p k) := by
    pointwise [t37, t34, t36, t33, t35, t26, t27]
  rw [h, t21_at H, t25_at H, H.br, H.bi, ← EReal.coe_mul, ← EReal.coe_mul, ← EReal.coe_add, Data.bb, Complex.mul_im]

omit H in
/-- The exponents of the powers. -/
theorem t38_at (t : Fin 65) : t38 (ix1 t) = (((t.val : ℕ) : ℝ) : EReal) := by
  have h : t38 (ix1 t) = (((BitVec.ofNat 32 t.val).toInt : ℝ) : EReal) := by
    pointwise [t38]
    rfl
  rw [h, (by decide +kernel : ∀ t : Fin 65, (BitVec.ofNat 32 t.val).toInt = (t.val : ℤ)) t, Int.cast_natCast]

/-- The decay's powers, real part. -/
theorem t51_at (g : Fin 32) (t : Fin 65) (p : Fin 64) : t51 X1 X2 X3 (ix3 g t p) = (((D.a g p ^ t.val).re : ℝ) : EReal) := by
  have h : t51 X1 X2 X3 (ix3 g t p) = Ideal.exp (t5 X1 X3 (ix2 g p) * t38 (ix1 t)) * Ideal.cos (t7 X2 X3 (ix2 g p) * t38 (ix1 t)) := by
    pointwise [t51, t49, t50, t43, t48, t41, t42, t46, t47, t39, t40, t44, t45]
  rw [h, t5_at H, t7_at H, t38_at, ← EReal.coe_mul, ← EReal.coe_mul, Ideal.exp_coe, Ideal.cos_coe, ← EReal.coe_mul, Data.a, ← rot_pow, rot_re]

/-- The decay's powers, imaginary part. -/
theorem t53_at (g : Fin 32) (t : Fin 65) (p : Fin 64) : t53 X1 X2 X3 (ix3 g t p) = (((D.a g p ^ t.val).im : ℝ) : EReal) := by
  have h : t53 X1 X2 X3 (ix3 g t p) = Ideal.exp (t5 X1 X3 (ix2 g p) * t38 (ix1 t)) * Ideal.sin (t7 X2 X3 (ix2 g p) * t38 (ix1 t)) := by
    pointwise [t53, t49, t52, t43, t48, t41, t42, t46, t47, t39, t40, t44, t45]
  rw [h, t5_at H, t7_at H, t38_at, ← EReal.coe_mul, ← EReal.coe_mul, Ideal.exp_coe, Ideal.sin_coe, ← EReal.coe_mul, Data.a, ← rot_pow, rot_im]

end Cert.KernelIdeal.Host0

end

end
-- ==== Proof.SsmTab2.lean ====
/-
  Four of the launch's tables, read at an index: the matrix from a chunk's inputs to its states, the matrix from a state to a
  chunk's outputs, the decays of the doubling scan, and the direct term.
-/
module

public import proofs.«01_k».proof.Proof.SsmTab

@[expose] public section

set_option maxRecDepth 16384

noncomputable section

namespace Cert.KernelIdeal.Host0

open Cert.KernelIdeal Cert.KernelIdeal.Gen Idealize.ShloMosaic Cert.Ssm

variable {D : Data} {X1 X2 : FVec Ideal S32x64 .f32} {X3 : FVec Ideal S32 .f32} {X4 X5 : FVec Ideal S32x64x16 .f32}
  {X6 X7 : FVec Ideal S32x16x64 .f32}

variable (H : Reads D X1 X2 X3 X4 X5 X6 X7)
include H

omit H in
/-- The exponents taken backwards. -/
theorem rev_eq (t : Fin 64) : (⟨(t.rev).val, by omega⟩ : Fin 65) = ⟨63 - t.val, by omega⟩ := Fin.ext (by show (t.rev).val = 63 - t.val; rw [Fin.val_rev]; omega)

omit H in
/-- The exponents from one on. -/
theorem add_one_eq (t : Fin 64) : (⟨1 + t.val, by omega⟩ : Fin 65) = ⟨t.val + 1, by omega⟩ := Fin.ext (Nat.add_comm _ _)

/-- Inputs to a chunk's state, real part. -/
theorem t111_at (g : Fin 32) (k : Fin 16) (t p : Fin 64) : t111 X1 X2 X3 X4 X5 (ix4 g k t p) = (((wz D g k t.val p).re : ℝ) : EReal) := by
  have h : t111 X1 X2 X3 X4 X5 (ix4 g k t p) = t32 X1 X2 X3 X4 X5 (ix3 g p k) * t51 X1 X2 X3 (ix3 g ⟨63 - t.val, by omega⟩ p)
      - t37 X1 X2 X3 X4 X5 (ix3 g p k) * t53 X1 X2 X3 (ix3 g ⟨63 - t.val, by omega⟩ p) := by
    pointwise [t111, t107, t105, t96, t95, t106, t101, t100, t99, t110, t108, t98, t97, t109, t104, t103, t102]
    exact congrArg₂ _ (congrArg₂ _ rfl (congrArg (t51 X1 X2 X3) (congrArg (ix3 g · p) (rev_eq t))))
      (congrArg₂ _ rfl (congrArg (t53 X1 X2 X3) (congrArg (ix3 g · p) (rev_eq t))))
  rw [h, t32_at H, t51_at H, t37_at H, t53_at H, ← EReal.coe_mul, ← EReal.coe_mul, ← EReal.coe_sub, wz, Complex.mul_re]

/-- Inputs to a chunk's state, imaginary part. -/
theorem t118_at (g : Fin 32) (k : Fin 16) (t p : Fin 64) : t118 X1 X2 X3 X4 X5 (ix4 g k t p) = (((wz D g k t.val p).im : ℝ) : EReal) := by
  have h : t118 X1 X2 X3 X4 X5 (ix4 g k t p) = t32 X1 X2 X3 X4 X5 (ix3 g p k) * t53 X1 X2 X3 (ix3 g ⟨63 - t.val, by omega⟩ p)
      + t37 X1 X2 X3 X4 X5 (ix3 g p k) * t51 X1 X2 X3 (ix3 g ⟨63 - t.val, by omega⟩ p) := by
    pointwise [t118, t114, t112, t96, t95, t113, t104, t103, t102, t117, t115, t98, t97, t116, t101, t100, t99]
    exact congrArg₂ _ (congrArg₂ _ rfl (congrArg (t53 X1 X2 X3) (congrArg (ix3 g · p) (rev_eq t))))
      (congrArg₂ _ rfl (congrArg (t51 X1 X2 X3) (congrArg (ix3 g · p) (rev_eq t))))
  rw [h, t32_at H, t51_at H, t37_at H, t53_at H, ← EReal.coe_mul, ← EReal.coe_mul, ← EReal.coe_add, wz, Complex.mul_im]

/-- A state to the chunk's outputs, real part. -/
theorem t138_at (g : Fin 32) (p : Fin 64) (k : Fin 16) (t : Fin 64) : t138 X1 X2 X3 X6 X7 (ix4 g p k t) = (((vz D g p k t.val).re : ℝ) : EReal) := by
  have h : t138 X1 X2 X3 X6 X7 (ix4 g p k t) = X6 (ix3 g k p) * t51 X1 X2 X3 (ix3 g ⟨t.val + 1, by omega⟩ p)
      - X7 (ix3 g k p) * t53 X1 X2 X3 (ix3 g ⟨t.val + 1, by omega⟩ p) := by
    pointwise [t138, t134, t132, t123, t122, t133, t128, t127, t126, t137, t135, t125, t124, t136, t131, t130, t129]
    rw [add_one_eq t]
  rw [h, t51_at H, t53_at H, H.cr, H.ci, ← EReal.coe_mul, ← EReal.coe_mul, ← EReal.coe_sub, vz, Complex.mul_re]
  rfl

/-- A state to the chunk's outputs, imaginary part. -/
theorem t145_at (g : Fin 32) (p : Fin 64) (k : Fin 16) (t : Fin 64) : t145 X1 X2 X3 X6 X7 (ix4 g p k t) = (((vz D g p k t.val).im : ℝ) : EReal) := by
  have h : t145 X1 X2 X3 X6 X7 (ix4 g p k t) = X6 (ix3 g k p) * t53 X1 X2 X3 (ix3 g ⟨t.val + 1, by omega⟩ p)
      + X7 (ix3 g k p) * t51 X1 X2 X3 (ix3 g ⟨t.val + 1, by omega⟩ p) := by
    pointwise [t145, t141, t139, t123, t122, t140, t131, t130, t129, t144, t142, t125, t124, t143, t128, t127, t126]
    rw [add_one_eq t]
  rw [h, t51_at H, t53_at H, H.cr, H.ci, ← EReal.coe_mul, ← EReal.coe_mul, ← EReal.coe_add, vz, Complex.mul_im]
  rfl

omit H in
/-- The steps of the doubling scan's decays. -/
theorem t154_at : ∀ k : Fin 7, t154 (ix1 k) = BitVec.ofNat 32 (64 * 2 ^ k.val) := by
  decide +kernel

omit H in
/-- The exponents of the decays over chunks. -/
theorem t155_at (k : Fin 7) : t155 (ix1 k) = (((64 * 2 ^ k.val : ℕ) : ℝ) : EReal) := by
  have h : t155 (ix1 k) = (((t154 (ix1 k)).toInt : ℝ) : EReal) := by
    pointwise [t155]
    rfl
  rw [h, t154_at, (by decide +kernel : ∀ k : Fin 7, (BitVec.ofNat 32 (64 * 2 ^ k.val)).toInt = ((64 * 2 ^ k.val : ℕ) : ℤ)) k, Int.cast_natCast]

/-- The decays over chunks, real part. -/
theorem t168_at (g : Fin 32) (k : Fin 7) (p : Fin 64) : t168 X1 X2 X3 (ix3 g k p) = (((D.a g p ^ (64 * 2 ^ k.val)).re : ℝ) : EReal) := by
  have h : t168 X1 X2 X3 (ix3 g k p) = Ideal.exp (t5 X1 X3 (ix2 g p) * t155 (ix1 k)) * Ideal.cos (t7 X2 X3 (ix2 g p) * t155 (ix1 k)) := by
    pointwise [t168, t166, t167, t160, t165, t158, t156, t159, t157, t163, t161, t164, t162]
  rw [h, t5_at H, t7_at H, t155_at, ← EReal.coe_mul, ← EReal.coe_mul, Ideal.exp_coe, Ideal.cos_coe, ← EReal.coe_mul, Data.a, ← rot_pow, rot_re]

/-- The decays over chunks, imaginary part. -/
theorem t170_at (g : Fin 32) (k : Fin 7) (p : Fin 64) : t170 X1 X2 X3 (ix3 g k p) = (((D.a g p ^ (64 * 2 ^ k.val)).im : ℝ) : EReal) := by
  have h : t170 X1 X2 X3 (ix3 g k p) = Ideal.exp (t5 X1 X3 (ix2 g p) * t155 (ix1 k)) * Ideal.sin (t7 X2 X3 (ix2 g p) * t155 (ix1 k)) := by
    pointwise [t170, t166, t169, t160, t165, t158, t156, t159, t157, t163, t161, t164, t162]
  rw [h, t5_at H, t7_at H, t155_at, ← EReal.coe_mul, ← EReal.coe_mul, Ideal.exp_coe, Ideal.sin_coe, ← EReal.coe_mul, Data.a, ← rot_pow, rot_im]

/-- The first half of the columns to the state holds real parts. -/
theorem t181_re (g : Fin 32) (k : Fin 16) (t p : Fin 64) :
    t181 X1 X2 X3 X4 X5 (ix3 g ⟨64 * k.val + t.val, by omega⟩ ⟨p.val, by omega⟩) = (((wz D g k t.val p).re : ℝ) : EReal) := by
  rw [← t111_at H]
  pointwise [t181, t121, t119]

/-- The second half of the columns to the state holds imaginary parts. -/
theorem t181_im (g : Fin 32) (k : Fin 16) (t p : Fin 64) :
    t181 X1 X2 X3 X4 X5 (ix3 g ⟨64 * k.val + t.val, by omega⟩ ⟨64 + p.val, by omega⟩) = (((wz D g k t.val p).im : ℝ) : EReal) := by
  rw [← t118_at H]
  pointwise [t181, t121, t120]

/-- The first half of the rows from the state holds real parts. -/
theorem t182_re (g : Fin 32) (p : Fin 64) (k : Fin 16) (t : Fin 64) :
    t182 X1 X2 X3 X6 X7 (ix3 g ⟨p.val, by omega⟩ ⟨64 * k.val + t.val, by omega⟩) = (((vz D g p k t.val).re : ℝ) : EReal) := by
  rw [← t138_at H]
  pointwise [t182, t149, t146]

/-- The second half of the rows from the state holds imaginary parts. -/
theorem t182_im (g : Fin 32) (p : Fin 64) (k : Fin 16) (t : Fin 64) :
    t182 X1 X2 X3 X6 X7 (ix3 g ⟨64 + p.val, by omega⟩ ⟨64 * k.val + t.val, by omega⟩) = ((-(vz D g p k t.val).im : ℝ) : EReal) := by
  rw [EReal.coe_neg, ← t145_at H]
  pointwise [t182, t149, t148, t147]

/-- Even rows of the powers, first half. -/
theorem t177_even_lo (g : Fin 32) (k : Fin 7) (p : Fin 64) :
    t177 X1 X2 X3 (ix3 g ⟨2 * k.val, by omega⟩ ⟨p.val, by omega⟩) = (((D.a g p ^ (64 * 2 ^ k.val)).re : ℝ) : EReal) := by
  rw [← t168_at H]
  pointwise [t177, t176, t174, t171]
  rw [dif_pos (by omega)]

/-- Even rows of the powers, second half. -/
theorem t177_even_hi (g : Fin 32) (k : Fin 7) (p : Fin 64) :
    t177 X1 X2 X3 (ix3 g ⟨2 * k.val, by omega⟩ ⟨64 + p.val, by omega⟩) = (((D.a g p ^ (64 * 2 ^ k.val)).re : ℝ) : EReal) := by
  rw [← t168_at H]
  pointwise [t177, t176, t174, t171]
  rw [dif_pos (by omega)]

/-- Odd rows of the powers, first half. -/
theorem t177_odd_lo (g : Fin 32) (k : Fin 7) (p : Fin 64) :
    t177 X1 X2 X3 (ix3 g ⟨2 * k.val + 1, by omega⟩ ⟨p.val, by omega⟩) = ((-(D.a g p ^ (64 * 2 ^ k.val)).im : ℝ) : EReal) := by
  rw [EReal.coe_neg, ← t170_at H]
  pointwise [t177, t176, t175, t173, t172]
  rw [dif_neg (by omega)]

/-- Odd rows of the powers, second half. -/
theorem t177_odd_hi (g : Fin 32) (k : Fin 7) (p : Fin 64) :
    t177 X1 X2 X3 (ix3 g ⟨2 * k.val + 1, by omega⟩ ⟨64 + p.val, by omega⟩) = (((D.a g p ^ (64 * 2 ^ k.val)).im : ℝ) : EReal) := by
  rw [← t170_at H]
  pointwise [t177, t176, t175, t173]
  rw [dif_neg (by omega)]

omit H in
/-- The input's own factors. -/
theorem t180_at (X8 : FVec Ideal S512 .f32) (g : Fin 32) (k : Fin 16) (t : Fin 64) :
    t180 X8 (ix3 g 0 ⟨64 * k.val + t.val, by omega⟩) = X8 (ix1 ⟨16 * g.val + k.val, by omega⟩) := by
  pointwise [t180, t179, t178]
  exact congrArg X8 (congrArg ix1 (Fin.ext (by dsimp only; omega)))

omit H in
/-- The inputs, channels first. -/
theorem t185_at (X0 : FVec Ideal S4x8192x512 .f32) (n : Fin 512) (r : Fin 256) (l : Fin 128) :
    t185 X0 (ix3 n r l) = X0 (ix3 ⟨r.val / 64, by omega⟩ ⟨128 * (r.val % 64) + l.val, by omega⟩ n) := by
  pointwise [t185, t184, t183]
  have e1 : (⟨(r.val * 128 + l.val) / 8192, by omega⟩ : Fin 4) = ⟨r.val / 64, by omega⟩ := Fin.ext (by dsimp only; omega)
  have e2 : (⟨(r.val * 128 + l.val) % 8192, by omega⟩ : Fin 8192) = ⟨128 * (r.val % 64) + l.val, by omega⟩ := Fin.ext (by dsimp only; omega)
  rw [e1, e2]

end Cert.KernelIdeal.Host0

end

end
-- ==== Proof.SsmTab3.lean ====
/-
  The launch's within-chunk table, read at an index: what an input at step `s` leaves in the output at step `t ≥ s` of the same
  chunk, and nothing for `t < s`.
-/
module

public import proofs.«01_k».proof.Proof.SsmTab2

@[expose] public section

set_option maxRecDepth 16384

noncomputable section

namespace Cert.KernelIdeal.Host0

open Cert.KernelIdeal Cert.KernelIdeal.Gen Idealize.ShloMosaic Cert.Ssm

/-! ## The mask -/

/-- The quotient by 64, as the host spells it. -/
theorem half_word : ∀ n : Fin 128, Scalar.select
    (IntOp.andi (IntOp.cmpi .ne (if BitVec.ofNat 32 n.val = 0 then (0 : BitVec 32) else if (BitVec.ofNat 32 n.val).msb = true then (-1 : BitVec 32) else 1)
      (if (64#32 : BitVec 32) = 0 then (0 : BitVec 32) else if (64#32 : BitVec 32).msb = true then (-1 : BitVec 32) else 1))
      (IntOp.cmpi .ne (IntOp.remsi .host (BitVec.ofNat 32 n.val) 64#32) 0#32))
    (IntOp.subi (IntOp.divsi .host (BitVec.ofNat 32 n.val) 64#32) 1#32) (IntOp.divsi .host (BitVec.ofNat 32 n.val) 64#32)
    = BitVec.ofNat 32 (n.val / 64) := by
  decide +kernel

/-- The lag's half of a pair of lanes. -/
theorem t80_at (n : Fin 128) (s : Fin 64) (l : Fin 128) : t80 (ix3 n s l) = BitVec.ofNat 32 (n.val / 64) := by
  pointwise [t80, t77, t_call0_v11, t_call0_v13, t_call0_v2, t_call0_v1, t_call0_v0, t_c, t_call0_v12, t_call0_c_0, t_call0_v6, t_call0_v10,
    t_call0_v3, t_call0_v5, t_call0_v4, t_call0_v8, t_call0_v7, t_call0_v9, t_call0_c]
  exact half_word n

/-- The lane's half of a pair of lanes. -/
theorem t81_at (n : Fin 128) (s : Fin 64) (l : Fin 128) : t81 (ix3 n s l) = BitVec.ofNat 32 (l.val / 64) := by
  pointwise [t81, t79, t_call1_v11, t_call1_v13, t_call1_v2, t_call1_v1, t_call1_v0, t_c_1, t_call1_v12, t_call1_c_0, t_call1_v6, t_call1_v10,
    t_call1_v3, t_call1_v5, t_call1_v4, t_call1_v8, t_call1_v7, t_call1_v9, t_call1_c]
  exact half_word l

/-- The lane's step. -/
theorem t83_at (n : Fin 128) (s : Fin 64) (l : Fin 128) : t83 (ix3 n s l) = BitVec.ofNat 32 (l.val % 64) := by
  pointwise [t83, t79, t_c_2, t_call2_v0, t_call2_c, t_call2_v1, t_call2_c_0, t_call2_v2, t_call2_v3, t_call2_v4, t_call2_c_2, t_call2_v7, t_call2_v8,
    t_call2_c_3, t_call2_v9, t_call2_v10, t_call2_v11, t_call2_c_1, t_call2_v5, t_call2_v6, t_call2_v12, t_call2_v13, t_call2_v14]
  revert l
  decide +kernel

/-- The lag's number of steps. -/
theorem t85_at (n : Fin 128) (s : Fin 64) (l : Fin 128) : t85 (ix3 n s l) = BitVec.ofNat 32 (n.val % 64) := by
  pointwise [t85, t77, t_c_3, t_call3_v0, t_call3_c, t_call3_v1, t_call3_c_0, t_call3_v2, t_call3_v3, t_call3_v4, t_call3_c_2, t_call3_v7, t_call3_v8,
    t_call3_c_3, t_call3_v9, t_call3_v10, t_call3_v11, t_call3_c_1, t_call3_v5, t_call3_v6, t_call3_v12, t_call3_v13, t_call3_v14]
  revert n
  decide +kernel

/-- The mask keeps a lag exactly when it lies in the lane's half and leads from step `s` to the lane's step. -/
theorem t87_at (n : Fin 128) (s : Fin 64) (l : Fin 128) :
    t87 (ix3 n s l) = if n.val / 64 = l.val / 64 ∧ l.val % 64 = s.val + n.val % 64 then 1#1 else 0#1 := by
  have h : t87 (ix3 n s l) = IntOp.andi (IntOp.cmpi .eq (t80 (ix3 n s l)) (t81 (ix3 n s l)))
      (IntOp.cmpi .eq (IntOp.subi (t83 (ix3 n s l)) (BitVec.ofNat 32 s.val)) (t85 (ix3 n s l))) := by
    pointwise [t87, t82, t86, t84, t78]
  rw [h, t80_at, t81_at, t83_at, t85_at]
  have e1 : IntOp.cmpi .eq (BitVec.ofNat 32 (n.val / 64)) (BitVec.ofNat 32 (l.val / 64)) = if n.val / 64 = l.val / 64 then 1#1 else 0#1 := by
    have ha : n.val / 64 < 2 := by omega
    have hb : l.val / 64 < 2 := by omega
    generalize n.val / 64 = a at *
    generalize l.val / 64 = b at *
    exact (by decide +kernel : ∀ a b : Fin 2, IntOp.cmpi .eq (BitVec.ofNat 32 a.val) (BitVec.ofNat 32 b.val) = if a.val = b.val then 1#1 else 0#1) ⟨a, ha⟩ ⟨b, hb⟩
  have e2 : IntOp.cmpi .eq (IntOp.subi (BitVec.ofNat 32 (l.val % 64)) (BitVec.ofNat 32 s.val)) (BitVec.ofNat 32 (n.val % 64))
      = if l.val % 64 = s.val + n.val % 64 then 1#1 else 0#1 := by
    have ha : n.val % 64 < 64 := by omega
    have hb : l.val % 64 < 64 := by omega
    have hs := s.isLt
    generalize n.val % 64 = a at *
    generalize l.val % 64 = b at *
    generalize s.val = c at *
    have hiff : BitVec.ofNat 32 b - BitVec.ofNat 32 c = BitVec.ofNat 32 a ↔ b = c + a := by
      constructor
      · intro h; bv_omega
      · intro h; subst h; bv_omega
    show BitVec.ofBool (BitVec.ofNat 32 b - BitVec.ofNat 32 c == BitVec.ofNat 32 a) = _
    by_cases hc : b = c + a
    · rw [if_pos hc, hiff.2 hc, beq_self_eq_true]; rfl
    · rw [if_neg hc, beq_eq_false_iff_ne.2 (fun h => hc (hiff.1 h))]; rfl
  rw [e1, e2]
  by_cases h1 : n.val / 64 = l.val / 64 <;> by_cases h2 : l.val % 64 = s.val + n.val % 64 <;> simp only [h1, h2, if_true, if_false, and_true, and_false, and_self] <;> decide

/-- At most one lag leads from step `s` to the lane's step. -/
theorem mask_sum (F : Fin 2 → ℕ → ℝ) (s : Fin 64) (l : Fin 128) :
    (∑ n : Fin 128, if n.val / 64 = l.val / 64 ∧ l.val % 64 = s.val + n.val % 64 then ((F ⟨n.val / 64, by omega⟩ (n.val % 64) : ℝ) : EReal) else 0)
      = ((if s.val ≤ l.val % 64 then F ⟨l.val / 64, by omega⟩ (l.val % 64 - s.val) else 0 : ℝ) : EReal) := by
  by_cases h : s.val ≤ l.val % 64
  · rw [if_pos h, Finset.sum_eq_single (⟨64 * (l.val / 64) + (l.val % 64 - s.val), by omega⟩ : Fin 128)]
    · rw [if_pos (by dsimp only; omega)]
      congr 2
      · exact Fin.ext (by dsimp only; omega)
      · dsimp only; omega
    · intro n _ hn
      rw [if_neg]
      intro hc
      exact hn (Fin.ext (by dsimp only; omega))
    · intro hn
      exact absurd (Finset.mem_univ _) hn
  · rw [if_neg h, EReal.coe_zero]
    refine Finset.sum_eq_zero fun n _ => ?_
    rw [if_neg (by omega)]

/-! ## The table -/

variable {D : Data} {X1 X2 : FVec Ideal S32x64 .f32} {X3 : FVec Ideal S32 .f32} {X4 X5 : FVec Ideal S32x64x16 .f32}
  {X6 X7 : FVec Ideal S32x16x64 .f32}

variable (H : Reads D X1 X2 X3 X4 X5 X6 X7)
include H

/-- The output matrix times a power of the decay, real part. -/
theorem t66_at (g : Fin 32) (h : Fin 16) (t p : Fin 64) : t66 X1 X2 X3 X6 X7 (ix4 g h t p) = (((D.c g h p * D.a g p ^ t.val).re : ℝ) : EReal) := by
  have e : t66 X1 X2 X3 X6 X7 (ix4 g h t p) = X6 (ix3 g h p) * t51 X1 X2 X3 (ix3 g ⟨t.val, by omega⟩ p) - X7 (ix3 g h p) * t53 X1 X2 X3 (ix3 g ⟨t.val, by omega⟩ p) := by
    pointwise [t66, t62, t65, t60, t61, t63, t64, t54, t57, t56, t55, t59, t58]
  rw [e, t51_at H, t53_at H, H.cr, H.ci, ← EReal.coe_mul, ← EReal.coe_mul, ← EReal.coe_sub, Complex.mul_re]
  rfl

/-- The output matrix times a power of the decay, imaginary part. -/
theorem t73_at (g : Fin 32) (h : Fin 16) (t p : Fin 64) : t73 X1 X2 X3 X6 X7 (ix4 g h t p) = (((D.c g h p * D.a g p ^ t.val).im : ℝ) : EReal) := by
  have e : t73 X1 X2 X3 X6 X7 (ix4 g h t p) = X6 (ix3 g h p) * t53 X1 X2 X3 (ix3 g ⟨t.val, by omega⟩ p) + X7 (ix3 g h p) * t51 X1 X2 X3 (ix3 g ⟨t.val, by omega⟩ p) := by
    pointwise [t73, t69, t72, t67, t68, t70, t71, t54, t57, t56, t55, t59, t58]
  rw [e, t51_at H, t53_at H, H.cr, H.ci, ← EReal.coe_mul, ← EReal.coe_mul, ← EReal.coe_add, Complex.mul_im]
  rfl

/-- The kernel of delayed products. -/
theorem t76_at (g : Fin 32) (k h : Fin 16) (t : Fin 64) : t76 X1 X2 X3 X4 X5 X6 X7 (ix4 g k h t) = ((kz D g k h t.val : ℝ) : EReal) := by
  have e : t76 X1 X2 X3 X4 X5 X6 X7 (ix4 g k h t) = (∑ x, t32 X1 X2 X3 X4 X5 (ix3 g x k) * t66 X1 X2 X3 X6 X7 (ix4 g h t x)) -
      ∑ x, t37 X1 X2 X3 X4 X5 (ix3 g x k) * t73 X1 X2 X3 X6 X7 (ix4 g h t x) := by
    pointwise [t76, t74, t75]
  rw [e]
  simp only [t32_at H, t66_at H, t37_at H, t73_at H, ← EReal.coe_mul]
  rw [← coe_sum, ← coe_sum, ← EReal.coe_sub, ← Finset.sum_sub_distrib]
  unfold kz
  exact congrArg _ (Finset.sum_congr rfl fun p _ => (Complex.mul_re _ _).symm)

/-- The kernel of delayed products laid out by pairs. -/
theorem t92_at (g : Fin 32) (k : Fin 16) (j : Fin 8) (n : Fin 128) (s : Fin 64) (l : Fin 128) :
    t92 X1 X2 X3 X4 X5 X6 X7 (ix6 g k j n s l)
      = if n.val / 64 = l.val / 64 ∧ l.val % 64 = s.val + n.val % 64 then ((kz D g k ⟨2 * j.val + n.val / 64, by omega⟩ (n.val % 64) : ℝ) : EReal) else 0 := by
  have e : t92 X1 X2 X3 X4 X5 X6 X7 (ix6 g k j n s l)
      = Scalar.select (t87 (ix3 n s l)) (t90 X1 X2 X3 X4 X5 X6 X7 (ix4 g k j n)) (0 : EReal) := by
    pointwise [t92, t_call4_v1, t_call4_v2, t91, t_call4_v3, t_call4_v0, t_cst_4]
    exact congrArg (Scalar.select _ _) Ideal.ofBits_zero_f32
  have e2 : t90 X1 X2 X3 X4 X5 X6 X7 (ix4 g k j n) = t76 X1 X2 X3 X4 X5 X6 X7 (ix4 g k ⟨2 * j.val + n.val / 64, by omega⟩ ⟨n.val % 64, by omega⟩) := by
    pointwise [t90, t89, t88]
    have e3 : (⟨j.val * 2 + n.val / 64, by omega⟩ : Fin 16) = ⟨2 * j.val + n.val / 64, by omega⟩ := Fin.ext (by dsimp only; omega)
    rw [e3]
  rw [e, e2, t76_at H, t87_at]
  by_cases h : n.val / 64 = l.val / 64 ∧ l.val % 64 = s.val + n.val % 64
  · rw [if_pos h, if_pos h]; rfl
  · rw [if_neg h, if_neg h]; rfl

/-- The table of delayed products: below the diagonal the kernel at the delay, above it zero. -/
theorem t94_at (g : Fin 32) (k : Fin 16) (j : Fin 8) (s : Fin 64) (l : Fin 128) :
    t94 X1 X2 X3 X4 X5 X6 X7 (ix5 g k j s l)
      = ((if s.val ≤ l.val % 64 then kz D g k ⟨2 * j.val + l.val / 64, by omega⟩ (l.val % 64 - s.val) else 0 : ℝ) : EReal) := by
  have e : t94 X1 X2 X3 X4 X5 X6 X7 (ix5 g k j s l)
      = Ideal.hostReduceAdd reducesTo_S32x16x8x128x64x128_S32x16x8x64x128_d3 (t92 X1 X2 X3 X4 X5 X6 X7) 0 (ix5 g k j s l) := by
    pointwise [t94, t93, t_cst_5]
  rw [e, Ideal.hostReduceAdd_single _ (by decide), zero_add]
  have e2 : ∀ n : Fin 128, t92 X1 X2 X3 X4 X5 X6 X7 (Shape.Reduces.lift (s := S32x16x8x128x64x128) (a := 3) (t := S32x16x8x64x128) (by decide) (ix5 g k j s l) n)
      = t92 X1 X2 X3 X4 X5 X6 X7 (ix6 g k j n s l) := fun n => by
    congr 1
    funext a
    fin_cases a <;> rfl
  refine (Finset.sum_congr rfl fun n _ => (e2 n).trans (t92_at H g k j n s l)).trans ?_
  exact (mask_sum (fun i t => kz D g k ⟨2 * j.val + i.val, by have := i.isLt; omega⟩ t) s l)

end Cert.KernelIdeal.Host0

end

end
-- ==== Proof.SsmBlock.lean ====
/-
  What one grid point of the recurrence's kernel leaves in its output block, in terms of its input blocks: the two
  scratch buffers that only re-lay their input are read back, and the rest is named `yBlock`.
-/
module

public import proofs.«01_k».proof.Proof.Gen.KernelIdeal.Value
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe Idealize.SL.Sem

variable (m : (ℓ : Loc nD τ sig) → Buf (Elt Ideal) ℓ)

/-- The inputs of a group laid out as rows: row `256 e + r` holds half `e` of row `r` of each of the 16 channels. -/
def uScr (x0 : Vec Ideal S16x256x128 .f32) : Vec Ideal S512x1024 .f32 := fun y =>
  x0 (ix3 (⟨(y 1).val / 64, by have := (y 1).isLt; change (y 1).val < 1024 at this; omega⟩ : Fin 16)
    (⟨(y 0).val % 256, Nat.mod_lt _ (by decide)⟩ : Fin 256)
    (⟨64 * ((y 0).val / 256) + (y 1).val % 64, by have := (y 0).isLt; change (y 0).val < 512 at this; omega⟩ : Fin 128))

/-- The table of one group laid out as a square matrix. -/
def mScr (x1 : Vec Ideal S1x16x8x64x128 .bf16) : Vec Ideal S1024x1024 .bf16 := fun y =>
  x1 (ix5 (0 : Fin 1) (⟨(y 0).val / 64, by have := (y 0).isLt; change (y 0).val < 1024 at this; omega⟩ : Fin 16)
    (⟨(y 1).val / 128, by have := (y 1).isLt; change (y 1).val < 1024 at this; omega⟩ : Fin 8)
    (⟨(y 0).val % 64, Nat.mod_lt _ (by decide)⟩ : Fin 64) (⟨(y 1).val % 128, Nat.mod_lt _ (by decide)⟩ : Fin 128))

/-- The rows of results laid out as the channels' array again. -/
def outArr (Y : Vec Ideal S512x1024 .f32) : Vec Ideal S16x256x128 .f32 := fun y =>
  Y (ix2 (⟨256 * ((y 2).val / 64) + (y 1).val, by
      have h1 := (y 1).isLt; have h2 := (y 2).isLt; change (y 1).val < 256 at h1; change (y 2).val < 128 at h2; omega⟩ : Fin 512)
    (⟨64 * (y 0).val + (y 2).val % 64, by have := (y 0).isLt; change (y 0).val < 16 at this; omega⟩ : Fin 1024))

/-- One channel's piece of the inputs. -/
theorem u_piece (X : Vec Ideal S16x256x128 .f32) (off : Fin 3 → ℕ) (off' : Fin 2 → ℕ)
    (inb : ∀ a, off a + S1x256x64.size a ≤ S16x256x128.size a) (inb' : ∀ a, off' a + S256x64.size a ≤ S512x1024.size a)
    (h0 : off' 0 = 4 * off 2) (h1 : off' 1 = 64 * off 0) (h2 : off 1 = 0) (h3 : off 2 = 0 ∨ off 2 = 64)
    (x : S256x64.Idx) :
    shapeCast S256x64 (shapeCast S256x64 (View.ld X (Rect.unit (s := S16x256x128) off S1x256x64.size inb)) shapeCasts_S1x256x64_S256x64)
      shapeCasts_S256x64_S256x64 x = uScr X ((Rect.unit (s := S512x1024) off' S256x64.size inb').emb x) := by
  idx_vars x
  have e : ∀ v : Vec Ideal S1x256x64 .f32, ∀ a b, shapeCast S256x64 (shapeCast S256x64 v shapeCasts_S1x256x64_S256x64)
      shapeCasts_S256x64_S256x64 (ix2 a b) = v (ix3 0 a b) := fun v a b => by pointwise
  rw [e]
  have hi := x0.isLt
  have hj := x1.isLt
  refine congrArg X (funext fun a => Fin.ext ?_)
  fin_cases a
  · show off 0 + 1 * 0 = (off' 1 + 1 * x1.val) / 64
    omega
  · show off 1 + 1 * x0.val = (off' 0 + 1 * x0.val) % 256
    omega
  · show off 2 + 1 * x1.val = 64 * ((off' 0 + 1 * x0.val) / 256) + (off' 1 + 1 * x1.val) % 64
    omega

/-- One channel's piece of the table of delayed products. -/
theorem m_piece (X : Vec Ideal S1x16x8x64x128 .bf16) (off : Fin 5 → ℕ) (off' : Fin 2 → ℕ)
    (inb : ∀ a, off a + S1x1x1x64x128.size a ≤ S1x16x8x64x128.size a) (inb' : ∀ a, off' a + S64x128.size a ≤ S1024x1024.size a)
    (h0 : off' 0 = 64 * off 1) (h1 : off' 1 = 128 * off 2) (h2 : off 0 = 0) (h3 : off 3 = 0) (h4 : off 4 = 0)
    (x : S64x128.Idx) :
    shapeCast S64x128 (shapeCast S64x128 (View.ld X (Rect.unit (s := S1x16x8x64x128) off S1x1x1x64x128.size inb)) shapeCasts_S1x1x1x64x128_S64x128)
      shapeCasts_S64x128_S64x128 x = mScr X ((Rect.unit (s := S1024x1024) off' S64x128.size inb').emb x) := by
  idx_vars x
  have e : ∀ v : Vec Ideal S1x1x1x64x128 .bf16, ∀ a b, shapeCast S64x128 (shapeCast S64x128 v shapeCasts_S1x1x1x64x128_S64x128)
      shapeCasts_S64x128_S64x128 (ix2 a b) = v (ix5 0 0 0 a b) := fun v a b => by pointwise
  rw [e]
  have hi := x0.isLt
  have hj := x1.isLt
  refine congrArg X (funext fun a => Fin.ext ?_)
  fin_cases a
  · show off 0 + 1 * 0 = 0
    omega
  · show off 1 + 1 * 0 = (off' 0 + 1 * x0.val) / 64
    omega
  · show off 2 + 1 * 0 = (off' 1 + 1 * x1.val) / 128
    omega
  · show off 3 + 1 * x0.val = (off' 0 + 1 * x0.val) % 64
    omega
  · show off 4 + 1 * x1.val = (off' 1 + 1 * x1.val) % 128
    omega

/-- One channel's piece of what is written back. -/
theorem out_piece (Y : Vec Ideal S512x1024 .f32) (off : Fin 2 → ℕ) (off' : Fin 3 → ℕ)
    (inb : ∀ a, off a + S256x64.size a ≤ S512x1024.size a) (inb' : ∀ a, off' a + S1x256x64.size a ≤ S16x256x128.size a)
    (h0 : off 0 = 4 * off' 2) (h1 : off 1 = 64 * off' 0) (h2 : off' 1 = 0) (h3 : off' 2 = 0 ∨ off' 2 = 64)
    (x : S1x256x64.Idx) :
    shapeCast S1x256x64 (View.ld Y (Rect.unit (s := S512x1024) off S256x64.size inb)) shapeCasts_S256x64_S1x256x64 x
      = outArr Y ((Rect.unit (s := S16x256x128) off' S1x256x64.size inb').emb x) := by
  idx_vars x
  have e : ∀ v : Vec Ideal S256x64 .f32, ∀ k a b, shapeCast S1x256x64 v shapeCasts_S256x64_S1x256x64 (ix3 k a b) = v (ix2 a b) :=
    fun v k a b => by pointwise
  rw [e]
  have hk := x0.isLt
  have hi := x1.isLt
  have hj := x2.isLt
  refine congrArg Y (funext fun a => Fin.ext ?_)
  fin_cases a
  · show off 0 + 1 * x1.val = 256 * ((off' 2 + 1 * x2.val) / 64) + (off' 1 + 1 * x1.val)
    omega
  · show off 1 + 1 * x2.val = 64 * (off' 0 + 1 * x0.val) + (off' 2 + 1 * x2.val) % 64
    omega

/-- The offset of a whole array of two axes. -/
theorem hz2 : (![0, 0] : Fin 2 → ℕ) = fun _ => 0 := by decide
/-- The offset of a whole array of three axes. -/
theorem hz3 : (![0, 0, 0] : Fin 3 → ℕ) = fun _ => 0 := by decide

/-- Row `k` of the table of powers. -/
def aRow (x4 : Vec Ideal S1x14x128 .f32) (k : ℕ) (inb : ∀ a, (![0, k, 0] : Fin 3 → ℕ) a + S1x1x128.size a ≤ S1x14x128.size a) :
    Vec Ideal S1x1x128 .f32 :=
  View.ld x4 (Rect.unit (s := S1x14x128) ![0, k, 0] S1x1x128.size inb)

/-- The states before each row's chunk: the even chunks' on top, the odd chunks' below. -/
def hBlock (U : Vec Ideal S512x1024 .f32) (x2 : Vec Ideal S1x1024x128 .bf16) (x4 : Vec Ideal S1x14x128 .f32) : Vec Ideal S512x128 .f32 :=
  have v161 := k0_pay36 U
  have v199 := k0_pay41 v161 x2 (aRow x4 0 (by decide)) (aRow x4 1 (by decide))
  have v194 := k0_pay40 v161 x2 (aRow x4 0 (by decide)) (aRow x4 1 (by decide))
  have v201 := k0_pay42 (aRow x4 2 (by decide))
  have v226 := k0_pay43 k0_pay39 v194 v199 v201 (aRow x4 3 (by decide)) (aRow x4 4 (by decide)) (aRow x4 5 (by decide))
  have v231 := k0_pay44 k0_pay39 v194 v199 v201 (aRow x4 3 (by decide)) (aRow x4 4 (by decide)) (aRow x4 5 (by decide))
  have v235 := k0_pay45 (aRow x4 7 (by decide))
  have v237 := k0_pay46 k0_pay39 v194 v199 v201 (aRow x4 3 (by decide)) (aRow x4 4 (by decide)) (aRow x4 5 (by decide)) (aRow x4 6 (by decide))
  have v274 := k0_pay47 k0_pay39 v226 v231 v235 v237 64#32 (aRow x4 8 (by decide)) (aRow x4 9 (by decide)) (aRow x4 10 (by decide)) (aRow x4 11 (by decide))
  k0_pay49 (k0_pay38 v161 x2) k0_pay39 v274 (k0_pay48 k0_pay39) (aRow x4 12 (by decide)) (aRow x4 13 (by decide)) (aRow x4 0 (by decide)) (aRow x4 1 (by decide))

/-- The rows of results. -/
def yBlock (U : Vec Ideal S512x1024 .f32) (M : Vec Ideal S1024x1024 .bf16) (x2 : Vec Ideal S1x1024x128 .bf16) (x3 : Vec Ideal S1x128x1024 .bf16)
    (x4 : Vec Ideal S1x14x128 .f32) (x5 : Vec Ideal S1x1x1024 .f32) : Vec Ideal S512x1024 .f32 :=
  k0_pay190 (k0_pay189 U (k0_pay36 U) (hBlock U x2 x4) M x3 x5)

/-- The rectangle that is the whole array places every index at itself. -/
theorem emb_full {s : Shape} {off : Fin s.rank → ℕ} (inb : ∀ a, off a + s.size a ≤ s.size a) (z : (Rect.unit off s.size inb).shape.Idx) :
    (Rect.unit off s.size inb).emb z = z :=
  funext fun a => Fin.ext (by
    show off a + 1 * (z a).val = (z a).val
    have := inb a
    omega)

/-- Loads from pieces that all agree with one array are loads from that array. -/
theorem readCov_of {S : Shape} {e : EltTy} {sp : Space} (v : View sig .tc sp S e) (G : Vec Ideal S e) (L : List (View.Piece (Elt Ideal) S e))
    (r : Rect S) (hc : ∀ y : S.Idx, ∃ p ∈ L, y ∈ p.1.set) (hp : ∀ p ∈ L, ∀ x : p.1.shape.Idx, p.2 x = G (p.1.emb x)) :
    v.readCov L r.toLoadRect = View.ld G r := by
  rw [View.readCov_eq_canon_ld v L _ hc]
  exact congrArg (fun f => View.ld f r) (funext fun y => View.canon_apply_of_pieces G L hp y (hc y))

/-- A load from a buffer stored whole is a load from what was stored. -/
theorem readCov_whole {S : Shape} {e : EltTy} {sp : Space} {off : Fin S.rank → ℕ} (h : off = fun _ => 0) (v : View sig .tc sp S e)
    (inb : ∀ a, off a + S.size a ≤ S.size a) (P : Vec Ideal S e) (r : Rect S) :
    v.readCov [⟨Rect.unit off S.size inb, P⟩] r.toLoadRect = View.ld P r := by
  refine readCov_of v P _ r (fun y => ⟨_, List.mem_singleton_self _, ?_⟩) ?_
  · subst h
    exact (Rect.mem_set_unit (inb := inb)).mpr fun a => ⟨Nat.zero_le _, by rw [Nat.zero_add]; exact (y a).isLt⟩
  · intro p hp x
    obtain rfl := List.mem_singleton.1 hp
    exact (congrArg P (emb_full inb x)).symm

set_option maxHeartbeats 4000000 in
/-- What the body leaves in its output block, whatever the buffers it is called with. -/
theorem out_eq (c : Dev nD) (i : grid0.Coords) (arg1 : Memref sig .tc .vmem S16x256x128 .f32) (harg1 : arg1.IsWhole) (arg2 : Memref sig .tc .vmem S1x16x8x64x128 .bf16) (harg2 : arg2.IsWhole) (arg3 : Memref sig .tc .vmem S1x1024x128 .bf16) (harg3 : arg3.IsWhole) (arg4 : Memref sig .tc .vmem S1x128x1024 .bf16) (harg4 : arg4.IsWhole) (arg5 : Memref sig .tc .vmem S1x14x128 .f32) (harg5 : arg5.IsWhole) (arg6 : Memref sig .tc .vmem S1x1x1024 .f32) (harg6 : arg6.IsWhole) (arg7 : Memref sig .tc .vmem S16x256x128 .f32) (harg7 : arg7.IsWhole)
    (x0 : Vec Ideal S16x256x128 .f32) (x1 : Vec Ideal S1x16x8x64x128 .bf16) (x2 : Vec Ideal S1x1024x128 .bf16) (x3 : Vec Ideal S1x128x1024 .bf16) (x4 : Vec Ideal S1x14x128 .f32) (x5 : Vec Ideal S1x1x1024 .f32) :
    out0_A_6 c i arg1 harg1 arg2 harg2 arg3 harg3 arg4 harg4 arg5 harg5 arg6 harg6 arg7 harg7 scM0_0 (Memref.isWhole_whole _) scM0_1 (Memref.isWhole_whole _) scM0_2 (Memref.isWhole_whole _) x0 x1 x2 x3 x4 x5 = outArr (yBlock (uScr x0) (mScr x1) x2 x3 x4 x5) := by
  unfold out0_A_6
  have hcov := cover0_A_6 c i arg1 harg1 arg2 harg2 arg3 harg3 arg4 harg4 arg5 harg5 arg6 harg6 arg7 harg7 scM0_0 (Memref.isWhole_whole _) scM0_1 (Memref.isWhole_whole _) scM0_2 (Memref.isWhole_whole _) x0 x1 x2 x3 x4 x5
  rw [View.read_writes_eq_canon _ _ _ hcov]
  funext y
  refine View.canon_apply_of_pieces _ _ ?_ y (hcov y)
  clear hcov
  unfold kernelRun0_A
  dsimp only
  sl_unfold_words
  simp only [View.readAt_eq_ld, harg1.read_unread, harg2.read_unread, harg3.read_unread, harg4.read_unread, harg5.read_unread, harg6.read_unread]
  rw [readCov_of (S := S512x1024) (e := .f32) (View.whole cc0_scratch0) (uScr x0)]
  rotate_left
  · exact View.cover_of_tiledL _ S256x64.size (by sl_kernel_rfl)
  · repeat refine List.forall_mem_cons.2 ⟨by intro x; dsimp only; exact u_piece _ _ _ _ _ rfl rfl rfl (by decide) x, ?_⟩
    simp
  rw [readCov_of (S := S1024x1024) (e := .bf16) (View.whole cc0_scratch2) (mScr x1)]
  rotate_left
  · exact View.cover_of_tiledL _ S64x128.size (by sl_kernel_rfl)
  · repeat refine List.forall_mem_cons.2 ⟨by intro x; dsimp only; exact m_piece _ _ _ _ _ rfl rfl rfl rfl rfl x, ?_⟩
    simp
  have lU : View.ld (uScr x0) (Rect.unit (s := S512x1024) ![0, 0] S512x1024.size inb_S512x1024_S512x1024_0_0) = uScr x0 := View.ld_unit_zero hz2 _ _
  have lM : View.ld (mScr x1) (Rect.unit (s := S1024x1024) ![0, 0] S1024x1024.size inb_S1024x1024_S1024x1024_0_0) = mScr x1 := View.ld_unit_zero hz2 _ _
  have l2 : View.ld x2 (Rect.unit (s := S1x1024x128) ![0, 0, 0] S1x1024x128.size inb_S1x1024x128_S1x1024x128_0_0_0) = x2 := View.ld_unit_zero hz3 _ _
  have l3 : View.ld x3 (Rect.unit (s := S1x128x1024) ![0, 0, 0] S1x128x1024.size inb_S1x128x1024_S1x128x1024_0_0_0) = x3 := View.ld_unit_zero hz3 _ _
  have l5 : View.ld x5 (Rect.unit (s := S1x1x1024) ![0, 0, 0] S1x1x1024.size inb_S1x1x1024_S1x1x1024_0_0_0) = x5 := View.ld_unit_zero hz3 _ _
  simp only [readCov_whole (S := S512x1024) (e := .f32) hz2]
  simp only [lU, lM, l2, l3, l5]
  have hY : yBlock (uScr x0) (mScr x1) x2 x3 x4 x5 = yBlock (uScr x0) (mScr x1) x2 x3 x4 x5 := rfl
  conv_lhs at hY => unfold yBlock hBlock aRow k0_pay190
  dsimp only at hY
  simp only [hY]
  clear hY
  generalize yBlock (uScr x0) (mScr x1) x2 x3 x4 x5 = Y
  repeat refine List.forall_mem_cons.2 ⟨by intro x; dsimp only; exact out_piece Y _ _ _ _ (by rfl) (by rfl) (by rfl) (by first | exact Or.inl rfl | exact Or.inr rfl) x, ?_⟩
  simp

/-- What a grid point leaves is the body's array. -/
theorem outs_eq (c : Dev nD) (t : Fin cfg0.N) :
    outsAt0 m c t = outArr (yBlock (uScr (iblk m c 0 t)) (mScr (iblk m c 1 t)) (iblk m c 2 t) (iblk m c 3 t) (iblk m c 4 t) (iblk m c 5 t)) := by
  unfold outsAt0
  exact out_eq c _ _ _ _ _ _ _ _ _ _ _ _ _ _ _ _ _ _ _ _ _

end Cert.KernelIdeal.Block

end

end
-- ==== Proof.SsmOps.lean ====
/-
  One launch of the recurrence's kernel, its states read as complex numbers: lanes 0 … 63 hold the real parts and lanes 64 … 127
  the imaginary parts of the 64 states.
-/
module

public import proofs.«01_k».proof.Proof.SsmBlock
public import proofs.«01_k».proof.Proof.SsmMath

@[expose] public section

set_option maxRecDepth 16384

noncomputable section

namespace Cert.KernelIdeal.Block

open Cert.KernelIdeal Cert.KernelIdeal.Gen Idealize.ShloMosaic Idealize.ShloMosaic.TcCoe Idealize.SL.Sem Cert.Ssm

/-- A row of states times one decay: the product of the same lanes, and of the other half's lanes with the cross row. -/
def timesA (v : FVec Ideal S256x128 .f32) (A B : FVec Ideal S1x1x128 .f32) : FVec Ideal S256x128 .f32 :=
  addf (mulf v (broadcastTo S256x128 (shapeCast S1x128 A shapeCasts_S1x1x128_S1x128) broadcasts_S1x128_S256x128))
    (mulf (dynamicRotate 1 64#32 none v rotates_S256x128_d1)
      (broadcastTo S256x128 (shapeCast S1x128 B shapeCasts_S1x1x128_S1x128) broadcasts_S1x128_S256x128))

/-- Rows shifted down within their sequences, zeros entering from above. -/
def shifted (v : FVec Ideal S256x128 .f32) (n : BitVec 32) : FVec Ideal S256x128 .f32 :=
  select (cmpi .sge k0_pay39 (broadcast S256x128 n)) (dynamicRotate 0 n none v rotates_S256x128_d0)
    (broadcast S256x128 (Scalar.ofBits .f32 0x00000000#32))

/-- One doubling step of the scan. -/
def scanStep (v : FVec Ideal S256x128 .f32) (n : BitVec 32) (A B : FVec Ideal S1x1x128 .f32) : FVec Ideal S256x128 .f32 :=
  addf v (timesA (shifted v n) A B)

/-- The states at the ends of the rows. -/
def rowEnds (se so : FVec Ideal S256x128 .f32) (x4 : Vec Ideal S1x14x128 .f32) : FVec Ideal S256x128 .f32 :=
  scanStep (scanStep (scanStep (scanStep (scanStep (scanStep
    (addf (timesA se (aRow x4 0 (by decide)) (aRow x4 1 (by decide))) so)
    1#32 (aRow x4 2 (by decide)) (aRow x4 3 (by decide))) 2#32 (aRow x4 4 (by decide)) (aRow x4 5 (by decide)))
    4#32 (aRow x4 6 (by decide)) (aRow x4 7 (by decide))) 8#32 (aRow x4 8 (by decide)) (aRow x4 9 (by decide)))
    16#32 (aRow x4 10 (by decide)) (aRow x4 11 (by decide))) 32#32 (aRow x4 12 (by decide)) (aRow x4 13 (by decide))

/-- What the even and the odd chunks of the rows add to the state. -/
def sEven (U : Vec Ideal S512x1024 .f32) (x2 : Vec Ideal S1x1024x128 .bf16) : FVec Ideal S256x128 .f32 := k0_pay38 (k0_pay36 U) x2
def sOdd (U : Vec Ideal S512x1024 .f32) (x2 : Vec Ideal S1x1024x128 .bf16) : FVec Ideal S256x128 .f32 :=
  extractStridedSlice S256x128 ![256, 0] (k0_pay37 (k0_pay36 U) x2) slices_S512x128_o256_0_S256x128

def hEven (U : Vec Ideal S512x1024 .f32) (x2 : Vec Ideal S1x1024x128 .bf16) (x4 : Vec Ideal S1x14x128 .f32) : FVec Ideal S256x128 .f32 :=
  shifted (rowEnds (sEven U x2) (sOdd U x2) x4) 1#32
def hOdd (U : Vec Ideal S512x1024 .f32) (x2 : Vec Ideal S1x1024x128 .bf16) (x4 : Vec Ideal S1x14x128 .f32) : FVec Ideal S256x128 .f32 :=
  addf (timesA (hEven U x2 x4) (aRow x4 0 (by decide)) (aRow x4 1 (by decide))) (sEven U x2)

/-- The states before the chunks, in the words above. -/
theorem hBlock_eq (U : Vec Ideal S512x1024 .f32) (x2 : Vec Ideal S1x1024x128 .bf16) (x4 : Vec Ideal S1x14x128 .f32) :
    hBlock U x2 x4 = concatenate S512x128 0 [⟨S256x128, hEven U x2 x4⟩, ⟨S256x128, hOdd U x2 x4⟩]
      concatenates_S256x128_S256x128_S512x128_d0 := rfl

/-- The rows hold the real and the imaginary parts of `z`. -/
def Holds (v : FVec Ideal S256x128 .f32) (z : ℕ → ℕ → ℂ) : Prop :=
  ∀ (r : Fin 256) (p : Fin 64), v (ix2 r ⟨p.val, by omega⟩) = (((z r.val p.val).re : ℝ) : EReal)
    ∧ v (ix2 r ⟨64 + p.val, by omega⟩) = (((z r.val p.val).im : ℝ) : EReal)

/-- The two rows of a decay hold its real part twice, and its imaginary part with both signs. -/
def HoldsRow (A B : FVec Ideal S1x1x128 .f32) (α : ℕ → ℂ) : Prop :=
  ∀ p : Fin 64, A (ix3 0 0 ⟨p.val, by omega⟩) = (((α p.val).re : ℝ) : EReal) ∧ A (ix3 0 0 ⟨64 + p.val, by omega⟩) = (((α p.val).re : ℝ) : EReal)
    ∧ B (ix3 0 0 ⟨p.val, by omega⟩) = ((-(α p.val).im : ℝ) : EReal) ∧ B (ix3 0 0 ⟨64 + p.val, by omega⟩) = (((α p.val).im : ℝ) : EReal)

/-- The product with a power of the decay, at an index. -/
theorem timesA_apply (v : FVec Ideal S256x128 .f32) (A B : FVec Ideal S1x1x128 .f32) (r : Fin 256) (l : Fin 128) :
    timesA v A B (ix2 r l) = v (ix2 r l) * A (ix3 0 0 l) + v (ix2 r ⟨(l.val + 64) % 128, Nat.mod_lt _ (by decide)⟩) * B (ix3 0 0 l) := by
  pointwise [timesA]
  have e : (⟨(l.val + 128 - 64) % 128, Nat.mod_lt _ (by decide)⟩ : Fin 128) = ⟨(l.val + 64) % 128, Nat.mod_lt _ (by decide)⟩ :=
    Fin.ext (by show (l.val + 128 - 64) % 128 = (l.val + 64) % 128; omega)
  rw [e]

/-- The row counted within its sequence. -/
theorem row_apply (r : Fin 256) (l : Fin 128) : k0_pay39 (ix2 r l) = BitVec.ofNat 32 (r.val % 64) := by
  pointwise [k0_pay39]
  revert r
  decide +kernel

/-- Where the rows hold complex numbers, the product holds their products. -/
theorem Holds.timesA {v : FVec Ideal S256x128 .f32} {A B : FVec Ideal S1x1x128 .f32} {z : ℕ → ℕ → ℂ} {α : ℕ → ℂ} (hv : Holds v z)
    (hA : HoldsRow A B α) : Holds (timesA v A B) (fun r p => α p * z r p) := by
  intro r p
  obtain ⟨h1, h2⟩ := hv r p
  obtain ⟨a1, a2, b1, b2⟩ := hA p
  have e1 : (⟨(p.val + 64) % 128, Nat.mod_lt _ (by decide)⟩ : Fin 128) = ⟨64 + p.val, by omega⟩ := Fin.ext (by show (p.val + 64) % 128 = 64 + p.val; omega)
  have e2 : (⟨(64 + p.val + 64) % 128, Nat.mod_lt _ (by decide)⟩ : Fin 128) = ⟨p.val, by omega⟩ := Fin.ext (by show (64 + p.val + 64) % 128 = p.val; omega)
  constructor
  · rw [timesA_apply]
    simp only [e1]
    rw [h1, h2, a1, b1, ← EReal.coe_mul, ← EReal.coe_mul, ← EReal.coe_add, Complex.mul_re]
    exact congrArg _ (by ring)
  · rw [timesA_apply]
    simp only [e2]
    rw [h1, h2, a2, b2, ← EReal.coe_mul, ← EReal.coe_mul, ← EReal.coe_add, Complex.mul_im]
    exact congrArg _ (by ring)

/-- Sums of rows that hold complex numbers hold the sums. -/
theorem Holds.addf {v w : FVec Ideal S256x128 .f32} {z y : ℕ → ℕ → ℂ} (hv : Holds v z) (hw : Holds w y) :
    Holds (addf v w) (fun r p => z r p + y r p) := by
  intro r p
  obtain ⟨h1, h2⟩ := hv r p
  obtain ⟨g1, g2⟩ := hw r p
  constructor
  · show v _ + w _ = _
    rw [h1, g1, ← EReal.coe_add, Complex.add_re]
  · show v _ + w _ = _
    rw [h2, g2, ← EReal.coe_add, Complex.add_im]

/-- The comparison that keeps a row: it is `s` rows down its sequence or more. -/
theorem sge_row : ∀ (k : Fin 6) (r : Fin 256), IntOp.cmpi .sge (BitVec.ofNat 32 (r.val % 64)) (BitVec.ofNat 32 (2 ^ k.val)) = if 2 ^ k.val ≤ r.val % 64 then 1#1 else 0#1 := by
  decide +kernel

/-- The shift down by rows of one sequence, at an index. -/
theorem shifted_apply (v : FVec Ideal S256x128 .f32) (k : Fin 6) (r : Fin 256) (l : Fin 128) :
    shifted v (BitVec.ofNat 32 (2 ^ k.val)) (ix2 r l)
      = if 2 ^ k.val ≤ r.val % 64 then v (ix2 ⟨r.val - 2 ^ k.val, lt_of_le_of_lt (Nat.sub_le _ _) r.isLt⟩ l) else 0 := by
  have hs : shifted v (BitVec.ofNat 32 (2 ^ k.val)) (ix2 r l)
      = Scalar.select (IntOp.cmpi .sge (k0_pay39 (ix2 r l)) (BitVec.ofNat 32 (2 ^ k.val)))
          (dynamicRotate 0 (BitVec.ofNat 32 (2 ^ k.val)) none v rotates_S256x128_d0 (ix2 r l)) (0 : EReal) := by
    pointwise [shifted]
  rw [hs, row_apply, sge_row]
  by_cases h : 2 ^ k.val ≤ r.val % 64
  · rw [if_pos h, if_pos h]
    have hk : (BitVec.ofNat 32 (2 ^ k.val)).toNat = 2 ^ k.val := (by decide : ∀ k : Fin 6, (BitVec.ofNat 32 (2 ^ k.val)).toNat = 2 ^ k.val) k
    have hk2 : 2 ^ k.val < 256 := (by decide : ∀ k : Fin 6, 2 ^ k.val < 256) k
    show v _ = v _
    refine congrArg v (funext fun a => Fin.ext ?_)
    fin_cases a
    · show (r.val + 256 - ((BitVec.ofNat 32 (2 ^ k.val)).toNat + 0) % 256) % 256 = r.val - 2 ^ k.val
      rw [hk]
      omega
    · rfl
  · rw [if_neg h, if_neg h]
    rfl

/-- Where the rows hold complex numbers, the shift holds those of earlier rows. -/
theorem Holds.shifted {v : FVec Ideal S256x128 .f32} {z : ℕ → ℕ → ℂ} (hv : Holds v z) (k : Fin 6) :
    Holds (shifted v (BitVec.ofNat 32 (2 ^ k.val))) (fun r p => if 2 ^ k.val ≤ r % 64 then z (r - 2 ^ k.val) p else 0) := by
  intro r p
  by_cases h : 2 ^ k.val ≤ r.val % 64
  · obtain ⟨h1, h2⟩ := hv ⟨r.val - 2 ^ k.val, lt_of_le_of_lt (Nat.sub_le _ _) r.isLt⟩ p
    constructor
    · simp only [shifted_apply, if_pos h, h1]
    · simp only [shifted_apply, if_pos h, h2]
  · constructor
    · simp only [shifted_apply, if_neg h]; rfl
    · simp only [shifted_apply, if_neg h]; rfl

/-- One doubling step carries the partial scan over `2 ^ k` rows to the one over twice as many. -/
theorem Holds.scanStep {v : FVec Ideal S256x128 .f32} {A B : FVec Ideal S1x1x128 .f32} {β : ℕ → ℂ} {X : ℕ → ℕ → ℂ} (k : Fin 6)
    (hv : Holds v (fun r p => part (β p) (X p) (2 ^ k.val) r)) (hA : HoldsRow A B (fun p => β p ^ 2 ^ k.val)) :
    Holds (scanStep v (BitVec.ofNat 32 (2 ^ k.val)) A B) (fun r p => part (β p) (X p) (2 ^ (k.val + 1)) r) := by
  have h := hv.addf ((hv.shifted k).timesA hA)
  have e : (fun r p => part (β p) (X p) (2 ^ k.val) r + β p ^ 2 ^ k.val * (if 2 ^ k.val ≤ r % 64 then part (β p) (X p) (2 ^ k.val) (r - 2 ^ k.val) else 0))
      = fun r p => part (β p) (X p) (2 ^ (k.val + 1)) r := by
    funext r p
    rw [part_step, ← two_mul, ← pow_succ']
  rw [← e]
  exact h

end Cert.KernelIdeal.Block

end

end
-- ==== Proof.SsmY.lean ====
/-
  One launch's block is the layer's value: the states before the chunks are the recurrence's states, and the outputs are read off
  them and the chunk's own inputs.
-/
module

public import proofs.«01_k».proof.Proof.SsmOps
public import proofs.«01_k».proof.Proof.SsmData

@[expose] public section

set_option maxRecDepth 16384

noncomputable section

namespace Cert.KernelIdeal.Block

open Cert.KernelIdeal Cert.KernelIdeal.Gen Idealize.ShloMosaic Idealize.ShloMosaic.TcCoe Idealize.SL.Sem Cert.Ssm

/-- A sum over 1024 columns, channel by channel and step by step. -/
theorem sum_1024 (F : Fin 1024 → EReal) : ∑ x, F x = ∑ k : Fin 16, ∑ t : Fin 64, F ⟨64 * k.val + t.val, by omega⟩ := by
  rw [← (finProdFinEquiv (m := 16) (n := 64)).sum_comp F, Fintype.sum_prod_type]
  refine Finset.sum_congr rfl fun k _ => Finset.sum_congr rfl fun t _ => congrArg F (Fin.ext ?_)
  show t.val + 64 * k.val = 64 * k.val + t.val
  omega

/-- A sum over 128 lanes, by halves. -/
theorem sum_128 (F : Fin 128 → EReal) : ∑ x, F x = (∑ p : Fin 64, F ⟨p.val, by omega⟩) + ∑ p : Fin 64, F ⟨64 + p.val, by omega⟩ :=
  Fin.sum_univ_add (a := 64) (b := 64) F

/-- The launch's arrays hold the inputs and the tables of group `g`. -/
structure Tables (D : Data) (g : Fin 32) (U : Vec Ideal S512x1024 .f32) (M : Vec Ideal S1024x1024 .bf16) (x2 : Vec Ideal S1x1024x128 .bf16)
    (x3 : Vec Ideal S1x128x1024 .bf16) (x4 : Vec Ideal S1x14x128 .f32) (x5 : Vec Ideal S1x1x1024 .f32) : Prop where
  u : ∀ (e : Fin 2) (r : Fin 256) (k : Fin 16) (t : Fin 64),
    U (ix2 ⟨256 * e.val + r.val, by omega⟩ ⟨64 * k.val + t.val, by omega⟩) = ((D.us g (r.val / 64) k (128 * (r.val % 64) + 64 * e.val + t.val) : ℝ) : EReal)
  m : ∀ (k h : Fin 16) (s t : Fin 64), M (ix2 ⟨64 * k.val + s.val, by omega⟩ ⟨64 * h.val + t.val, by omega⟩)
    = ((if s.val ≤ t.val then kz D g k h (t.val - s.val) else 0 : ℝ) : EReal)
  wRe : ∀ (k : Fin 16) (t p : Fin 64), x2 (ix3 0 ⟨64 * k.val + t.val, by omega⟩ ⟨p.val, by omega⟩) = (((wz D g k t.val p).re : ℝ) : EReal)
  wIm : ∀ (k : Fin 16) (t p : Fin 64), x2 (ix3 0 ⟨64 * k.val + t.val, by omega⟩ ⟨64 + p.val, by omega⟩) = (((wz D g k t.val p).im : ℝ) : EReal)
  vRe : ∀ (p : Fin 64) (h : Fin 16) (t : Fin 64), x3 (ix3 0 ⟨p.val, by omega⟩ ⟨64 * h.val + t.val, by omega⟩) = (((vz D g p h t.val).re : ℝ) : EReal)
  vIm : ∀ (p : Fin 64) (h : Fin 16) (t : Fin 64), x3 (ix3 0 ⟨64 + p.val, by omega⟩ ⟨64 * h.val + t.val, by omega⟩) = ((-(vz D g p h t.val).im : ℝ) : EReal)
  aEvenLo : ∀ (k : Fin 7) (p : Fin 64), x4 (ix3 0 ⟨2 * k.val, by omega⟩ ⟨p.val, by omega⟩) = (((D.a g p ^ (64 * 2 ^ k.val)).re : ℝ) : EReal)
  aEvenHi : ∀ (k : Fin 7) (p : Fin 64), x4 (ix3 0 ⟨2 * k.val, by omega⟩ ⟨64 + p.val, by omega⟩) = (((D.a g p ^ (64 * 2 ^ k.val)).re : ℝ) : EReal)
  aOddLo : ∀ (k : Fin 7) (p : Fin 64), x4 (ix3 0 ⟨2 * k.val + 1, by omega⟩ ⟨p.val, by omega⟩) = ((-(D.a g p ^ (64 * 2 ^ k.val)).im : ℝ) : EReal)
  aOddHi : ∀ (k : Fin 7) (p : Fin 64), x4 (ix3 0 ⟨2 * k.val + 1, by omega⟩ ⟨64 + p.val, by omega⟩) = (((D.a g p ^ (64 * 2 ^ k.val)).im : ℝ) : EReal)
  d : ∀ (h : Fin 16) (t : Fin 64), x5 (ix3 0 0 ⟨64 * h.val + t.val, by omega⟩) = ((D.d ⟨16 * g.val + h.val, by omega⟩ : ℝ) : EReal)

variable {D : Data} {g : Fin 32} {U : Vec Ideal S512x1024 .f32} {M : Vec Ideal S1024x1024 .bf16} {x2 : Vec Ideal S1x1024x128 .bf16}
    {x3 : Vec Ideal S1x128x1024 .bf16} {x4 : Vec Ideal S1x14x128 .f32} {x5 : Vec Ideal S1x1x1024 .f32} (T : Tables D g U M x2 x3 x4 x5)
include T

/-- State `p` of group `g`, its decay and the inputs of sequence `b`, by plain numbers. -/
def aN (D : Data) (g : Fin 32) (p : ℕ) : ℂ := if h : p < 64 then D.a g ⟨p, h⟩ else 0
def fN (D : Data) (g : Fin 32) (p b l : ℕ) : ℂ := if h : p < 64 then D.f g ⟨p, h⟩ b l else 0

omit T in
/-- The decay, named by a natural number, at a state of the group. -/
theorem aN_eq (p : Fin 64) : aN D g p.val = D.a g p := dif_pos p.isLt
omit T in
/-- The inputs, named by a natural number, at a state of the group. -/
theorem fN_eq (p : Fin 64) (b : ℕ) : fN D g p.val b = D.f g p b := funext fun l => dif_pos p.isLt

/-- A row of inputs through a chunk's table is the chunk's contribution. -/
theorem chunk_row (e : Fin 2) (r : Fin 256) (p : Fin 64) :
    (∑ x : Fin 1024, U (ix2 ⟨256 * e.val + r.val, by omega⟩ x) * x2 (ix3 0 x ⟨p.val, by omega⟩))
        = (((chunk (D.a g p) (D.f g p (r.val / 64)) (128 * (r.val % 64) + 64 * e.val)).re : ℝ) : EReal)
      ∧ (∑ x : Fin 1024, U (ix2 ⟨256 * e.val + r.val, by omega⟩ x) * x2 (ix3 0 x ⟨64 + p.val, by omega⟩))
        = (((chunk (D.a g p) (D.f g p (r.val / 64)) (128 * (r.val % 64) + 64 * e.val)).im : ℝ) : EReal) := by
  constructor
  · rw [sum_1024, chunk_eq]
    simp only [T.u, T.wRe, ← EReal.coe_mul, ← coe_sum, Complex.re_sum, Complex.re_ofReal_mul]
  · rw [sum_1024, chunk_eq]
    simp only [T.u, T.wIm, ← EReal.coe_mul, ← coe_sum, Complex.im_sum, Complex.im_ofReal_mul]

/-- What the even chunks leave in their states. -/
theorem sEven_holds : Holds (sEven U x2) (fun r p => chunk (aN D g p) (fN D g p (r / 64)) (128 * (r % 64))) := by
  intro r p
  have h := chunk_row T 0 r p
  have e0 : (⟨256 * (0 : Fin 2).val + r.val, by omega⟩ : Fin 512) = ⟨r.val, by omega⟩ := Fin.ext (by show 256 * 0 + r.val = r.val; omega)
  rw [e0] at h
  have hl : ∀ l, sEven U x2 (ix2 r l) = ∑ x : Fin 1024, U (ix2 ⟨r.val, by omega⟩ x) * x2 (ix3 0 x l) := fun l => by
    pointwise [sEven, k0_pay38, k0_pay37, k0_pay36]
  simp only [aN_eq, fN_eq, hl]
  exact h

/-- What the odd chunks leave in their states. -/
theorem sOdd_holds : Holds (sOdd U x2) (fun r p => chunk (aN D g p) (fN D g p (r / 64)) (128 * (r % 64) + 64)) := by
  intro r p
  have h := chunk_row T 1 r p
  have e0 : (⟨256 * (1 : Fin 2).val + r.val, by omega⟩ : Fin 512) = ⟨256 + r.val, by omega⟩ := Fin.ext (by show 256 * 1 + r.val = 256 + r.val; omega)
  rw [e0] at h
  have hl : ∀ l, sOdd U x2 (ix2 r l) = ∑ x : Fin 1024, U (ix2 ⟨256 + r.val, by omega⟩ x) * x2 (ix3 0 x l) := fun l => by
    pointwise [sOdd, k0_pay37, k0_pay36]
  simp only [aN_eq, fN_eq, hl]
  exact h

/-- A pair of rows of the decays. -/
theorem aRow_holds (k : Fin 7) (ha : ∀ a, (![0, 2 * k.val, 0] : Fin 3 → ℕ) a + S1x1x128.size a ≤ S1x14x128.size a)
    (hb : ∀ a, (![0, 2 * k.val + 1, 0] : Fin 3 → ℕ) a + S1x1x128.size a ≤ S1x14x128.size a) :
    HoldsRow (aRow x4 (2 * k.val) ha) (aRow x4 (2 * k.val + 1) hb) (fun p => aN D g p ^ (64 * 2 ^ k.val)) := by
  have hr : ∀ (n : ℕ) (hn : n < 14) (h : ∀ a, (![0, n, 0] : Fin 3 → ℕ) a + S1x1x128.size a ≤ S1x14x128.size a) (l : Fin 128),
      aRow x4 n h (ix3 0 0 l) = x4 (ix3 0 ⟨n, hn⟩ l) := fun n hn h l => by
    pointwise [aRow]
  intro p
  simp only [aN_eq]
  rw [hr _ (by omega), hr _ (by omega), hr _ (by omega), hr _ (by omega)]
  exact ⟨T.aEvenLo k p, T.aEvenHi k p, T.aOddLo k p, T.aOddHi k p⟩

/-- The states at the ends of the rows. -/
theorem rowEnds_holds : Holds (rowEnds (sEven U x2) (sOdd U x2) x4) (fun r p => rowEnd (aN D g p) (fN D g p) r) := by
  have h0 : Holds (addf (timesA (sEven U x2) (aRow x4 0 (by decide)) (aRow x4 1 (by decide))) (sOdd U x2))
      (fun r p => part (aN D g p ^ 128) (rowEnd (aN D g p) (fN D g p)) (2 ^ (0 : Fin 6).val) r) := by
    have h := ((sEven_holds T).timesA (aRow_holds T 0 (by decide) (by decide))).addf (sOdd_holds T)
    have e : (fun r p => part (aN D g p ^ 128) (rowEnd (aN D g p) (fN D g p)) (2 ^ (0 : Fin 6).val) r)
        = fun r p => aN D g p ^ 64 * chunk (aN D g p) (fN D g p (r / 64)) (128 * (r % 64)) + chunk (aN D g p) (fN D g p (r / 64)) (128 * (r % 64) + 64) :=
      funext fun r => funext fun p => (part_one _ _ r).symm
    rw [e]
    exact h
  have step : ∀ (k : Fin 6) {v : FVec Ideal S256x128 .f32}
      (_ : Holds v (fun r p => part (aN D g p ^ 128) (rowEnd (aN D g p) (fN D g p)) (2 ^ k.val) r))
      (ha : ∀ a, (![0, 2 * (k.val + 1), 0] : Fin 3 → ℕ) a + S1x1x128.size a ≤ S1x14x128.size a)
      (hb : ∀ a, (![0, 2 * (k.val + 1) + 1, 0] : Fin 3 → ℕ) a + S1x1x128.size a ≤ S1x14x128.size a),
      Holds (scanStep v (BitVec.ofNat 32 (2 ^ k.val)) (aRow x4 (2 * (k.val + 1)) ha) (aRow x4 (2 * (k.val + 1) + 1) hb))
        (fun r p => part (aN D g p ^ 128) (rowEnd (aN D g p) (fN D g p)) (2 ^ (k.val + 1)) r) := fun k v hv ha hb => by
    refine hv.scanStep k ?_
    have h := aRow_holds T ⟨k.val + 1, by omega⟩ ha hb
    have e : (fun p => (aN D g p ^ 128) ^ 2 ^ k.val) = fun p => aN D g p ^ (64 * 2 ^ (k.val + 1)) := funext fun p => by
      rw [← pow_mul]
      congr 1
      rw [pow_succ]
      ring
    rw [e]
    exact h
  have h1 := step 0 h0 (by decide) (by decide)
  have h2 := step 1 h1 (by decide) (by decide)
  have h3 := step 2 h2 (by decide) (by decide)
  have h4 := step 3 h3 (by decide) (by decide)
  have h5 := step 4 h4 (by decide) (by decide)
  have h6 := step 5 h5 (by decide) (by decide)
  have e : (fun r p => rowEnd (aN D g p) (fN D g p) r) = fun r p => part (aN D g p ^ 128) (rowEnd (aN D g p) (fN D g p)) (2 ^ ((5 : Fin 6).val + 1)) r :=
    funext fun r => funext fun p => (part_full _ _ r).symm
  rw [e]
  exact h6

/-- The states before the even chunks. -/
theorem hEven_holds : Holds (hEven U x2 x4) (fun r p => st (aN D g p) (fN D g p (r / 64)) (128 * (r % 64))) := by
  have h := (rowEnds_holds T).shifted 0
  have e : (fun r p => st (aN D g p) (fN D g p (r / 64)) (128 * (r % 64)))
      = fun r p => if 2 ^ (0 : Fin 6).val ≤ r % 64 then rowEnd (aN D g p) (fN D g p) (r - 2 ^ (0 : Fin 6).val) else 0 :=
    funext fun r => funext fun p => (rowStart _ _ r).symm
  rw [e]
  exact h

/-- The states before the odd chunks. -/
theorem hOdd_holds : Holds (hOdd U x2 x4) (fun r p => st (aN D g p) (fN D g p (r / 64)) (128 * (r % 64) + 64)) := by
  have h := ((hEven_holds T).timesA (aRow_holds T 0 (by decide) (by decide))).addf (sEven_holds T)
  simp only [st_chunk]
  exact h

/-- The states before the chunks, even chunks above odd ones. -/
theorem hBlock_holds (e : Fin 2) (r : Fin 256) (p : Fin 64) :
    hBlock U x2 x4 (ix2 ⟨256 * e.val + r.val, by omega⟩ ⟨p.val, by omega⟩)
        = (((st (D.a g p) (D.f g p (r.val / 64)) (128 * (r.val % 64) + 64 * e.val)).re : ℝ) : EReal)
      ∧ hBlock U x2 x4 (ix2 ⟨256 * e.val + r.val, by omega⟩ ⟨64 + p.val, by omega⟩)
        = (((st (D.a g p) (D.f g p (r.val / 64)) (128 * (r.val % 64) + 64 * e.val)).im : ℝ) : EReal) := by
  have hE := hEven_holds T r p
  have hO := hOdd_holds T r p
  simp only [aN_eq, fN_eq] at hE hO
  have hl : ∀ l, hBlock U x2 x4 (ix2 ⟨256 * e.val + r.val, by omega⟩ l) = if e.val = 0 then hEven U x2 x4 (ix2 r l) else hOdd U x2 x4 (ix2 r l) := fun l => by
    rw [hBlock_eq]
    fin_cases e
    · pointwise
    · pointwise
  rw [hl, hl]
  fin_cases e
  · exact hE
  · exact hO

/-- The block is the layer's value. -/
theorem yBlock_at (e : Fin 2) (r : Fin 256) (h : Fin 16) (t : Fin 64) :
    yBlock U M x2 x3 x4 x5 (ix2 ⟨256 * e.val + r.val, by omega⟩ ⟨64 * h.val + t.val, by omega⟩)
      = ((D.y ⟨r.val / 64, by omega⟩ ⟨128 * (r.val % 64) + 64 * e.val + t.val, by omega⟩ g h : ℝ) : EReal) := by
  have hy : ∀ (R : Fin 512) (C : Fin 1024), yBlock U M x2 x3 x4 x5 (ix2 R C)
      = (∑ x, U (ix2 R x) * M (ix2 x C)) + (∑ x, hBlock U x2 x4 (ix2 R x) * x3 (ix3 0 x C)) + x5 (ix3 0 0 C) * U (ix2 R C) := fun R C => by
    pointwise [yBlock, k0_pay190, k0_pay189, k0_pay36]
  rw [hy, sum_1024, sum_128]
  have hB := fun p => hBlock_holds T e r p
  simp only [T.u, T.m, T.vRe, T.vIm, T.d, fun p => (hB p).1, fun p => (hB p).2, ← EReal.coe_mul, ← coe_sum, ← EReal.coe_add]
  refine congrArg _ ?_
  unfold Data.y
  rw [← Cert.Ssm.out_eq]
  congr 2
  rw [← Finset.sum_add_distrib]
  refine Finset.sum_congr rfl fun p _ => ?_
  rw [Complex.mul_re]
  ring

end Cert.KernelIdeal.Block

end

end
-- ==== Proof.SsmRun.lean ====
/-
  The recurrence's kernel from its arguments to its result array: every grid point holds the inputs and tables of its group, so
  its block of the result is the layer's value, and the blocks cover the array.
-/
module

public import proofs.«01_k».proof.Proof.SsmHostV
public import proofs.«01_k».proof.Proof.SsmTab3
public import proofs.«01_k».proof.Proof.SsmY

@[expose] public section

set_option maxRecDepth 16384

noncomputable section

namespace Cert.KernelIdeal.Final

open Cert.KernelIdeal Cert.KernelIdeal.Gen Cert.KernelIdeal.Host0 Cert.KernelIdeal.Block Idealize.ShloMosaic Idealize.ShloMosaic.TcCoe
  Idealize.SL.Sem Cert.Ssm

variable (m : (ℓ : Loc nD τ sig) → Buf (Elt Ideal) ℓ)

/-- The index maps, decided over the grid: the group moves with the point. -/
theorem idx_facts : ∀ t : Fin cfg0.N,
    (win0_0.index t 0 * win0_0.size 0 = 16 * t.val ∧ win0_0.index t 1 * win0_0.size 1 = 0 ∧ win0_0.index t 2 * win0_0.size 2 = 0)
    ∧ (win0_1.index t 0 * win0_1.size 0 = t.val ∧ win0_1.index t 1 * win0_1.size 1 = 0 ∧ win0_1.index t 2 * win0_1.size 2 = 0
      ∧ win0_1.index t 3 * win0_1.size 3 = 0 ∧ win0_1.index t 4 * win0_1.size 4 = 0)
    ∧ (win0_2.index t 0 * win0_2.size 0 = t.val ∧ win0_2.index t 1 * win0_2.size 1 = 0 ∧ win0_2.index t 2 * win0_2.size 2 = 0)
    ∧ (win0_3.index t 0 * win0_3.size 0 = t.val ∧ win0_3.index t 1 * win0_3.size 1 = 0 ∧ win0_3.index t 2 * win0_3.size 2 = 0)
    ∧ (win0_4.index t 0 * win0_4.size 0 = t.val ∧ win0_4.index t 1 * win0_4.size 1 = 0 ∧ win0_4.index t 2 * win0_4.size 2 = 0)
    ∧ (win0_5.index t 0 * win0_5.size 0 = t.val ∧ win0_5.index t 1 * win0_5.size 1 = 0 ∧ win0_5.index t 2 * win0_5.size 2 = 0)
    ∧ (win0_6.index t 0 * win0_6.size 0 = 16 * t.val ∧ win0_6.index t 1 * win0_6.size 1 = 0 ∧ win0_6.index t 2 * win0_6.size 2 = 0)
    ∧ (win0_6.xsize (grid0.coords t) 0 = 16 ∧ win0_6.xsize (grid0.coords t) 1 = 256 ∧ win0_6.xsize (grid0.coords t) 2 = 128) :=
  (by decide +kernel : ∀ t : Fin grid0.N, _)

/-- The group of a grid point. -/
def grp (t : Fin cfg0.N) : Fin 32 := ⟨t.val, lt_of_lt_of_eq t.isLt N_0⟩

/-- The block a grid point reads, of the array. -/
theorem iblk_u (c : Dev nD) (t : Fin cfg0.N) (k : Fin 16) (r : Fin 256) (l : Fin 128) :
    (iblk m c 0 t : Vec Ideal S16x256x128 .f32) (ix3 k r l) = t185 (X0 m c) (ix3 ⟨16 * (grp t).val + k.val, by omega⟩ r l) := by
  rw [← V_185]
  show V m c main_v185 ((win0_0.rect t).idx (ix3 k r l)) = _
  obtain ⟨⟨e0, e1, e2⟩, -⟩ := idx_facts t
  refine congrArg _ (funext fun a => Fin.ext ?_)
  match a with
  | ⟨0, _⟩ => show win0_0.index t 0 * win0_0.size 0 + 1 * k.val = _; rw [e0, one_mul]; rfl
  | ⟨1, _⟩ => show win0_0.index t 1 * win0_0.size 1 + 1 * r.val = _; rw [e1, one_mul, zero_add]; rfl
  | ⟨2, _⟩ => show win0_0.index t 2 * win0_0.size 2 + 1 * l.val = _; rw [e2, one_mul, zero_add]; rfl

/-- The block a grid point reads, of the array. -/
theorem iblk_m (c : Dev nD) (t : Fin cfg0.N) (k : Fin 16) (j : Fin 8) (s : Fin 64) (l : Fin 128) :
    (iblk m c 1 t : Vec Ideal S1x16x8x64x128 .bf16) (ix5 0 k j s l)
      = t94 (X1 m c) (X2 m c) (X3 m c) (X4 m c) (X5 m c) (X6 m c) (X7 m c) (ix5 (grp t) k j s l) := by
  rw [← V_94]
  show V m c main_v94 ((win0_1.rect t).idx (ix5 0 k j s l)) = _
  obtain ⟨-, ⟨e0, e1, e2, e3, e4⟩, -⟩ := idx_facts t
  refine congrArg _ (funext fun a => Fin.ext ?_)
  match a with
  | ⟨0, _⟩ => show win0_1.index t 0 * win0_1.size 0 + 1 * 0 = _; rw [e0]; rfl
  | ⟨1, _⟩ => show win0_1.index t 1 * win0_1.size 1 + 1 * k.val = _; rw [e1, one_mul, zero_add]; rfl
  | ⟨2, _⟩ => show win0_1.index t 2 * win0_1.size 2 + 1 * j.val = _; rw [e2, one_mul, zero_add]; rfl
  | ⟨3, _⟩ => show win0_1.index t 3 * win0_1.size 3 + 1 * s.val = _; rw [e3, one_mul, zero_add]; rfl
  | ⟨4, _⟩ => show win0_1.index t 4 * win0_1.size 4 + 1 * l.val = _; rw [e4, one_mul, zero_add]; rfl

/-- The block a grid point reads, of the array. -/
theorem iblk_w (c : Dev nD) (t : Fin cfg0.N) (i : Fin 1024) (l : Fin 128) :
    (iblk m c 2 t : Vec Ideal S1x1024x128 .bf16) (ix3 0 i l)
      = t181 (X1 m c) (X2 m c) (X3 m c) (X4 m c) (X5 m c) (ix3 (grp t) i l) := by
  rw [← V_181]
  show V m c main_v181 ((win0_2.rect t).idx (ix3 0 i l)) = _
  obtain ⟨-, -, ⟨e0, e1, e2⟩, -⟩ := idx_facts t
  refine congrArg _ (funext fun a => Fin.ext ?_)
  match a with
  | ⟨0, _⟩ => show win0_2.index t 0 * win0_2.size 0 + 1 * 0 = _; rw [e0]; rfl
  | ⟨1, _⟩ => show win0_2.index t 1 * win0_2.size 1 + 1 * i.val = _; rw [e1, one_mul, zero_add]; rfl
  | ⟨2, _⟩ => show win0_2.index t 2 * win0_2.size 2 + 1 * l.val = _; rw [e2, one_mul, zero_add]; rfl

/-- The block a grid point reads, of the array. -/
theorem iblk_v (c : Dev nD) (t : Fin cfg0.N) (i : Fin 128) (l : Fin 1024) :
    (iblk m c 3 t : Vec Ideal S1x128x1024 .bf16) (ix3 0 i l)
      = t182 (X1 m c) (X2 m c) (X3 m c) (X6 m c) (X7 m c) (ix3 (grp t) i l) := by
  rw [← V_182]
  show V m c main_v182 ((win0_3.rect t).idx (ix3 0 i l)) = _
  obtain ⟨-, -, -, ⟨e0, e1, e2⟩, -⟩ := idx_facts t
  refine congrArg _ (funext fun a => Fin.ext ?_)
  match a with
  | ⟨0, _⟩ => show win0_3.index t 0 * win0_3.size 0 + 1 * 0 = _; rw [e0]; rfl
  | ⟨1, _⟩ => show win0_3.index t 1 * win0_3.size 1 + 1 * i.val = _; rw [e1, one_mul, zero_add]; rfl
  | ⟨2, _⟩ => show win0_3.index t 2 * win0_3.size 2 + 1 * l.val = _; rw [e2, one_mul, zero_add]; rfl

/-- The block a grid point reads, of the array. -/
theorem iblk_a (c : Dev nD) (t : Fin cfg0.N) (i : Fin 14) (l : Fin 128) :
    (iblk m c 4 t : Vec Ideal S1x14x128 .f32) (ix3 0 i l) = t177 (X1 m c) (X2 m c) (X3 m c) (ix3 (grp t) i l) := by
  rw [← V_177]
  show V m c main_v177 ((win0_4.rect t).idx (ix3 0 i l)) = _
  obtain ⟨-, -, -, -, ⟨e0, e1, e2⟩, -⟩ := idx_facts t
  refine congrArg _ (funext fun a => Fin.ext ?_)
  match a with
  | ⟨0, _⟩ => show win0_4.index t 0 * win0_4.size 0 + 1 * 0 = _; rw [e0]; rfl
  | ⟨1, _⟩ => show win0_4.index t 1 * win0_4.size 1 + 1 * i.val = _; rw [e1, one_mul, zero_add]; rfl
  | ⟨2, _⟩ => show win0_4.index t 2 * win0_4.size 2 + 1 * l.val = _; rw [e2, one_mul, zero_add]; rfl

/-- The block a grid point reads, of the array. -/
theorem iblk_d (c : Dev nD) (t : Fin cfg0.N) (l : Fin 1024) :
    (iblk m c 5 t : Vec Ideal S1x1x1024 .f32) (ix3 0 0 l) = t180 (X8 m c) (ix3 (grp t) 0 l) := by
  rw [← V_180]
  show V m c main_v180 ((win0_5.rect t).idx (ix3 0 0 l)) = _
  obtain ⟨-, -, -, -, -, ⟨e0, e1, e2⟩, -⟩ := idx_facts t
  refine congrArg _ (funext fun a => Fin.ext ?_)
  match a with
  | ⟨0, _⟩ => show win0_5.index t 0 * win0_5.size 0 + 1 * 0 = _; rw [e0]; rfl
  | ⟨1, _⟩ => show win0_5.index t 1 * win0_5.size 1 + 1 * 0 = _; rw [e1]; rfl
  | ⟨2, _⟩ => show win0_5.index t 2 * win0_5.size 2 + 1 * l.val = _; rw [e2, one_mul, zero_add]; rfl

/-- The device's arguments hold the numbers of `D`. -/
structure Args (D : Data) (c : Dev nD) : Prop where
  w : Reads D (X1 m c) (X2 m c) (X3 m c) (X4 m c) (X5 m c) (X6 m c) (X7 m c)
  u : ∀ b l n, X0 m c (ix3 b l n) = ((D.u b l n : ℝ) : EReal)
  d : ∀ n, X8 m c (ix1 n) = ((D.d n : ℝ) : EReal)

variable {m} {D : Data} {c : Dev nD}

/-- Every grid point holds the inputs and the tables of its group. -/
theorem tables (A : Args m D c) (t : Fin cfg0.N) :
    Tables D (grp t) (uScr (iblk m c 0 t)) (mScr (iblk m c 1 t)) (iblk m c 2 t) (iblk m c 3 t) (iblk m c 4 t) (iblk m c 5 t) where
  u e r k s := by
    have h : uScr (iblk m c 0 t) (ix2 ⟨256 * e.val + r.val, by omega⟩ ⟨64 * k.val + s.val, by omega⟩)
        = (iblk m c 0 t : Vec Ideal S16x256x128 .f32) (ix3 k r ⟨64 * e.val + s.val, by omega⟩) := by
      show (iblk m c 0 t : Vec Ideal S16x256x128 .f32) (ix3 ⟨(64 * k.val + s.val) / 64, _⟩ ⟨(256 * e.val + r.val) % 256, _⟩
        ⟨64 * ((256 * e.val + r.val) / 256) + (64 * k.val + s.val) % 64, _⟩) = _
      congr 2 <;> exact Fin.ext (by dsimp only; omega)
    rw [h, iblk_u, t185_at, A.u]
    congr 1
    have hr : r.val / 64 < 4 ∧ 128 * (r.val % 64) + 64 * e.val + s.val < 8192 := by omega
    rw [Data.us, dif_pos hr]
    congr 1
    exact Fin.ext (by dsimp only; omega)
  m k h s s' := by
    have e : mScr (iblk m c 1 t) (ix2 ⟨64 * k.val + s.val, by omega⟩ ⟨64 * h.val + s'.val, by omega⟩)
        = (iblk m c 1 t : Vec Ideal S1x16x8x64x128 .bf16) (ix5 0 k ⟨h.val / 2, by omega⟩ s ⟨64 * (h.val % 2) + s'.val, by omega⟩) := by
      show (iblk m c 1 t : Vec Ideal S1x16x8x64x128 .bf16) (ix5 0 ⟨(64 * k.val + s.val) / 64, _⟩ ⟨(64 * h.val + s'.val) / 128, _⟩
        ⟨(64 * k.val + s.val) % 64, _⟩ ⟨(64 * h.val + s'.val) % 128, _⟩) = _
      congr 2 <;> exact Fin.ext (by dsimp only; omega)
    rw [e, iblk_m, t94_at A.w]
    have e1 : (64 * (h.val % 2) + s'.val) % 64 = s'.val := by omega
    have e2 : (⟨2 * (h.val / 2) + (64 * (h.val % 2) + s'.val) / 64, by omega⟩ : Fin 16) = h := Fin.ext (by dsimp only; omega)
    simp only [e1, e2]
  wRe k s p := by rw [iblk_w]; exact t181_re A.w (grp t) k s p
  wIm k s p := by rw [iblk_w]; exact t181_im A.w (grp t) k s p
  vRe p h s := by rw [iblk_v]; exact t182_re A.w (grp t) p h s
  vIm p h s := by rw [iblk_v]; exact t182_im A.w (grp t) p h s
  aEvenLo k p := by rw [iblk_a]; exact t177_even_lo A.w (grp t) k p
  aEvenHi k p := by rw [iblk_a]; exact t177_even_hi A.w (grp t) k p
  aOddLo k p := by rw [iblk_a]; exact t177_odd_lo A.w (grp t) k p
  aOddHi k p := by rw [iblk_a]; exact t177_odd_hi A.w (grp t) k p
  d h s := by rw [iblk_d, t180_at]; exact A.d _

/-- One element of the result: channel `n`, step `l` of row `r`. -/
def elem (D : Data) (n : Fin 512) (r : Fin 256) (l : Fin 128) : EReal :=
  ((D.y ⟨r.val / 64, by omega⟩ ⟨128 * (r.val % 64) + l.val, by omega⟩ ⟨n.val / 16, by omega⟩ ⟨n.val % 16, by omega⟩ : ℝ) : EReal)

/-- The whole result array. -/
def res (D : Data) (c : Dev nD) : Buf (Elt Ideal) ((c : Thread nD τ).loc main_v186) := fun j : S512x256x128.Idx => elem D (j 0) (j 1) (j 2)

/-- What a grid point writes back is its block of the result array. -/
theorem flushed_eq (A : Args m D c) (t : Fin cfg0.N) : (dats m 0 c).flushed 6 t = (win0_6.blk t).view.read (Elt Ideal) (res D c) := by
  rw [Value.flushed6, outs_eq]
  obtain ⟨-, -, -, -, -, -, ⟨e0, e1, e2⟩, -⟩ := idx_facts t
  funext (j : S16x256x128.Idx)
  obtain ⟨h, r, l, rfl⟩ : ∃ (h : Fin 16) (r : Fin 256) (l : Fin 128), j = ix3 h r l := ⟨j 0, j 1, j 2, eq_ix3 j⟩
  show outArr _ (ix3 h r l) = res D c ((win0_6.rect t).idx (ix3 h r l))
  have ej : (win0_6.rect t).idx (ix3 h r l) = ix3 ⟨16 * (grp t).val + h.val, by omega⟩ r l := by
    refine funext fun a => Fin.ext ?_
    match a with
    | ⟨0, _⟩ => show win0_6.index t 0 * win0_6.size 0 + 1 * h.val = _; rw [e0, one_mul]; rfl
    | ⟨1, _⟩ => show win0_6.index t 1 * win0_6.size 1 + 1 * r.val = _; rw [e1, one_mul, zero_add]; rfl
    | ⟨2, _⟩ => show win0_6.index t 2 * win0_6.size 2 + 1 * l.val = _; rw [e2, one_mul, zero_add]; rfl
  rw [ej]
  refine (yBlock_at (tables A t) ⟨l.val / 64, by omega⟩ r h ⟨l.val % 64, by omega⟩).trans ?_
  show _ = elem D ⟨16 * (grp t).val + h.val, _⟩ r l
  unfold elem
  have f1 : (⟨128 * (r.val % 64) + 64 * (l.val / 64) + l.val % 64, by omega⟩ : Fin 8192) = ⟨128 * (r.val % 64) + l.val, by omega⟩ := Fin.ext (by dsimp only; omega)
  have f2 : (⟨(16 * (grp t).val + h.val) / 16, by omega⟩ : Fin 32) = grp t := Fin.ext (by dsimp only; omega)
  have f3 : (⟨(16 * (grp t).val + h.val) % 16, by omega⟩ : Fin 16) = h := Fin.ext (by dsimp only; omega)
  simp only [f1, f2, f3]

/-- Every index of the result array lies in some point's block. -/
theorem cover (i : S512x256x128.Idx) : ∃ t : Fin cfg0.N, (cfg0.win 6).flush t = true ∧ i ∈ ((cfg0.win 6).blk t).view.set := by
  have h0 : (i 0 : Nat) < 512 := (i 0).isLt
  have h1 : (i 1 : Nat) < 256 := (i 1).isLt
  have h2 : (i 2 : Nat) < 128 := (i 2).isLt
  obtain ⟨t, ht⟩ : ∃ t : Fin cfg0.N, t.val = (i 0 : Nat) / 16 := ⟨⟨(i 0 : Nat) / 16, lt_of_lt_of_eq (by omega : (i 0 : Nat) / 16 < 32) N_0.symm⟩, rfl⟩
  refine ⟨t, flush0_6 _, ?_⟩
  show i ∈ ((View.whole main_v186).slice (win0_6.rect t)).set
  rw [View.set_slice_whole, Rect.mem_set_unit]
  obtain ⟨-, -, -, -, -, -, ⟨e0, e1, e2⟩, ⟨x0, x1, x2⟩⟩ := idx_facts t
  intro a
  match a with
  | ⟨0, _⟩ =>
    show win0_6.index t 0 * win0_6.size 0 ≤ (i 0 : Nat) ∧ (i 0 : Nat) < win0_6.index t 0 * win0_6.size 0 + win0_6.xsize (grid0.coords t) 0
    rw [e0, x0, ht]; omega
  | ⟨1, _⟩ =>
    show win0_6.index t 1 * win0_6.size 1 ≤ (i 1 : Nat) ∧ (i 1 : Nat) < win0_6.index t 1 * win0_6.size 1 + win0_6.xsize (grid0.coords t) 1
    rw [e1, x1]; omega
  | ⟨2, _⟩ =>
    show win0_6.index t 2 * win0_6.size 2 ≤ (i 2 : Nat) ∧ (i 2 : Nat) < win0_6.index t 2 * win0_6.size 2 + win0_6.xsize (grid0.coords t) 2
    rw [e2, x2]; omega

/-- So the result array ends at the layer's value. -/
theorem final (A : Args m D c) : (dats m 0 c).arrAt 6 cfg0.N = res D c :=
  (dats m 0 c).arrAt_eq_of_cover 6 (res D c) (fun t _ => flushed_eq A t) cover

end Cert.KernelIdeal.Final

end

end
-- ==== Proof.SsmRefHost.lean ====
/-
  The host code of the recurrence's reference, operation by operation, up to the loop: `r<n>` is the array the operation `%<n>` leaves.
-/
module

public import proofs.«01_k».proof.Proof.Gen.ReferenceIdeal.Run
public import Idealize.ShloMosaic.Lib.Pointwise
public import Idealize.ShloMosaic.Lib.StableHlo.Run

@[expose] public section

set_option maxRecDepth 16384

noncomputable section

namespace Cert.ReferenceIdeal.Host0

open Cert.ReferenceIdeal Cert.ReferenceIdeal.Gen Cert.ReferenceIdeal.Value Idealize.ShloMosaic Idealize.ShloMosaic.TcCoe Idealize.SL.Sem Idealize.ShloMosaic.StableHlo

def r0 (X0 : FVec Ideal S4x8192x512 .f32) : FVec Ideal S4x8192x32x16 .f32 := shapeCast _ X0 shapeCasts_S4x8192x512_S4x8192x32x16
def r_cst : FVec Ideal S_ .f32 := (constant S_ .f32 0xB8D1B717#32)
def r1 : FVec Ideal S32x64 .f32 := (broadcastInDim S32x64 ![] bcast_S_S32x64) r_cst
def r2 (X1 : FVec Ideal S32x64 .f32) : FVec Ideal S32x64 .f32 := (minimumf) X1 r1
def r3 (X3 : FVec Ideal S32 .f32) : FVec Ideal S32 .f32 := (Host.exp) X3
def r4 (X3 : FVec Ideal S32 .f32) : FVec Ideal S32x1 .f32 := (broadcastInDim S32x1 ![0] bcast_S32_S32x1_0) (r3 X3)
def r5 (X3 : FVec Ideal S32 .f32) : FVec Ideal S32x64 .f32 := (broadcastInDim S32x64 ![0, 1] bcast_S32x1_S32x64_0_1) (r4 X3)
def r6 (X1 : FVec Ideal S32x64 .f32) (X3 : FVec Ideal S32 .f32) : FVec Ideal S32x64 .f32 := (mulf) (r2 X1) (r5 X3)
def r7 (X1 : FVec Ideal S32x64 .f32) (X3 : FVec Ideal S32 .f32) : FVec Ideal S32x64 .f32 := (Host.exp) (r6 X1 X3)
def r8 (X3 : FVec Ideal S32 .f32) : FVec Ideal S32x64 .f32 := (broadcastInDim S32x64 ![0, 1] bcast_S32x1_S32x64_0_1) (r4 X3)
def r9 (X2 : FVec Ideal S32x64 .f32) (X3 : FVec Ideal S32 .f32) : FVec Ideal S32x64 .f32 := (mulf) X2 (r8 X3)
def r10 (X2 : FVec Ideal S32x64 .f32) (X3 : FVec Ideal S32 .f32) : FVec Ideal S32x64 .f32 := (Host.cos) (r9 X2 X3)
/-- The decay of one step, its real part. -/
def r11 (X1 : FVec Ideal S32x64 .f32) (X2 : FVec Ideal S32x64 .f32) (X3 : FVec Ideal S32 .f32) : FVec Ideal S32x64 .f32 := (mulf) (r7 X1 X3) (r10 X2 X3)
def r12 (X3 : FVec Ideal S32 .f32) : FVec Ideal S32x64 .f32 := (broadcastInDim S32x64 ![0, 1] bcast_S32x1_S32x64_0_1) (r4 X3)
def r13 (X2 : FVec Ideal S32x64 .f32) (X3 : FVec Ideal S32 .f32) : FVec Ideal S32x64 .f32 := (mulf) X2 (r12 X3)
def r14 (X2 : FVec Ideal S32x64 .f32) (X3 : FVec Ideal S32 .f32) : FVec Ideal S32x64 .f32 := (Host.sin) (r13 X2 X3)
/-- The decay of one step, its imaginary part. -/
def r15 (X1 : FVec Ideal S32x64 .f32) (X2 : FVec Ideal S32x64 .f32) (X3 : FVec Ideal S32 .f32) : FVec Ideal S32x64 .f32 := (mulf) (r7 X1 X3) (r14 X2 X3)
def r16 (X1 : FVec Ideal S32x64 .f32) : FVec Ideal S32x64 .f32 := (mulf) (r2 X1) (r2 X1)
def r17 (X2 : FVec Ideal S32x64 .f32) : FVec Ideal S32x64 .f32 := (mulf) X2 X2
def r18 (X1 : FVec Ideal S32x64 .f32) (X2 : FVec Ideal S32x64 .f32) : FVec Ideal S32x64 .f32 := (addf) (r16 X1) (r17 X2)
def r_cst_0 : FVec Ideal S_ .f32 := (constant S_ .f32 0x3F800000#32)
def r19 : FVec Ideal S32x64 .f32 := (broadcastInDim S32x64 ![] bcast_S_S32x64) r_cst_0
def r20 (X1 : FVec Ideal S32x64 .f32) (X2 : FVec Ideal S32x64 .f32) (X3 : FVec Ideal S32 .f32) : FVec Ideal S32x64 .f32 := (subf) (r11 X1 X2 X3) r19
def r21 (X1 : FVec Ideal S32x64 .f32) (X2 : FVec Ideal S32x64 .f32) (X3 : FVec Ideal S32 .f32) : FVec Ideal S32x64 .f32 := (mulf) (r20 X1 X2 X3) (r2 X1)
def r22 (X1 : FVec Ideal S32x64 .f32) (X2 : FVec Ideal S32x64 .f32) (X3 : FVec Ideal S32 .f32) : FVec Ideal S32x64 .f32 := (mulf) (r15 X1 X2 X3) X2
def r23 (X1 : FVec Ideal S32x64 .f32) (X2 : FVec Ideal S32x64 .f32) (X3 : FVec Ideal S32 .f32) : FVec Ideal S32x64 .f32 := (addf) (r21 X1 X2 X3) (r22 X1 X2 X3)
def r24 (X1 : FVec Ideal S32x64 .f32) (X2 : FVec Ideal S32x64 .f32) (X3 : FVec Ideal S32 .f32) : FVec Ideal S32x64 .f32 := (Host.divf) (r23 X1 X2 X3) (r18 X1 X2)
def r25 (X1 : FVec Ideal S32x64 .f32) (X2 : FVec Ideal S32x64 .f32) (X3 : FVec Ideal S32 .f32) : FVec Ideal S32x64 .f32 := (mulf) (r15 X1 X2 X3) (r2 X1)
def r_cst_1 : FVec Ideal S_ .f32 := (constant S_ .f32 0x3F800000#32)
def r26 : FVec Ideal S32x64 .f32 := (broadcastInDim S32x64 ![] bcast_S_S32x64) r_cst_1
def r27 (X1 : FVec Ideal S32x64 .f32) (X2 : FVec Ideal S32x64 .f32) (X3 : FVec Ideal S32 .f32) : FVec Ideal S32x64 .f32 := (subf) (r11 X1 X2 X3) r26
def r28 (X1 : FVec Ideal S32x64 .f32) (X2 : FVec Ideal S32x64 .f32) (X3 : FVec Ideal S32 .f32) : FVec Ideal S32x64 .f32 := (mulf) (r27 X1 X2 X3) X2
def r29 (X1 : FVec Ideal S32x64 .f32) (X2 : FVec Ideal S32x64 .f32) (X3 : FVec Ideal S32 .f32) : FVec Ideal S32x64 .f32 := (subf) (r25 X1 X2 X3) (r28 X1 X2 X3)
def r30 (X1 : FVec Ideal S32x64 .f32) (X2 : FVec Ideal S32x64 .f32) (X3 : FVec Ideal S32 .f32) : FVec Ideal S32x64 .f32 := (Host.divf) (r29 X1 X2 X3) (r18 X1 X2)
def r31 (X1 : FVec Ideal S32x64 .f32) (X2 : FVec Ideal S32x64 .f32) (X3 : FVec Ideal S32 .f32) : FVec Ideal S32x64x1 .f32 := (broadcastInDim S32x64x1 ![0, 1] bcast_S32x64_S32x64x1_0_1) (r24 X1 X2 X3)
def r32 (X1 : FVec Ideal S32x64 .f32) (X2 : FVec Ideal S32x64 .f32) (X3 : FVec Ideal S32 .f32) : FVec Ideal S32x64x16 .f32 := (broadcastInDim S32x64x16 ![0, 1, 2] bcast_S32x64x1_S32x64x16_0_1_2) (r31 X1 X2 X3)
def r33 (X1 : FVec Ideal S32x64 .f32) (X2 : FVec Ideal S32x64 .f32) (X3 : FVec Ideal S32 .f32) (X4 : FVec Ideal S32x64x16 .f32) : FVec Ideal S32x64x16 .f32 := (mulf) (r32 X1 X2 X3) X4
def r34 (X1 : FVec Ideal S32x64 .f32) (X2 : FVec Ideal S32x64 .f32) (X3 : FVec Ideal S32 .f32) : FVec Ideal S32x64x1 .f32 := (broadcastInDim S32x64x1 ![0, 1] bcast_S32x64_S32x64x1_0_1) (r30 X1 X2 X3)
def r35 (X1 : FVec Ideal S32x64 .f32) (X2 : FVec Ideal S32x64 .f32) (X3 : FVec Ideal S32 .f32) : FVec Ideal S32x64x16 .f32 := (broadcastInDim S32x64x16 ![0, 1, 2] bcast_S32x64x1_S32x64x16_0_1_2) (r34 X1 X2 X3)
def r36 (X1 : FVec Ideal S32x64 .f32) (X2 : FVec Ideal S32x64 .f32) (X3 : FVec Ideal S32 .f32) (X5 : FVec Ideal S32x64x16 .f32) : FVec Ideal S32x64x16 .f32 := (mulf) (r35 X1 X2 X3) X5
def r37 (X1 : FVec Ideal S32x64 .f32) (X2 : FVec Ideal S32x64 .f32) (X3 : FVec Ideal S32 .f32) (X4 : FVec Ideal S32x64x16 .f32) (X5 : FVec Ideal S32x64x16 .f32) : FVec Ideal S32x64x16 .f32 := (subf) (r33 X1 X2 X3 X4) (r36 X1 X2 X3 X5)
def r38 (X1 : FVec Ideal S32x64 .f32) (X2 : FVec Ideal S32x64 .f32) (X3 : FVec Ideal S32 .f32) : FVec Ideal S32x64x1 .f32 := (broadcastInDim S32x64x1 ![0, 1] bcast_S32x64_S32x64x1_0_1) (r24 X1 X2 X3)
def r39 (X1 : FVec Ideal S32x64 .f32) (X2 : FVec Ideal S32x64 .f32) (X3 : FVec Ideal S32 .f32) : FVec Ideal S32x64x16 .f32 := (broadcastInDim S32x64x16 ![0, 1, 2] bcast_S32x64x1_S32x64x16_0_1_2) (r38 X1 X2 X3)
def r40 (X1 : FVec Ideal S32x64 .f32) (X2 : FVec Ideal S32x64 .f32) (X3 : FVec Ideal S32 .f32) (X5 : FVec Ideal S32x64x16 .f32) : FVec Ideal S32x64x16 .f32 := (mulf) (r39 X1 X2 X3) X5
def r41 (X1 : FVec Ideal S32x64 .f32) (X2 : FVec Ideal S32x64 .f32) (X3 : FVec Ideal S32 .f32) : FVec Ideal S32x64x1 .f32 := (broadcastInDim S32x64x1 ![0, 1] bcast_S32x64_S32x64x1_0_1) (r30 X1 X2 X3)
def r42 (X1 : FVec Ideal S32x64 .f32) (X2 : FVec Ideal S32x64 .f32) (X3 : FVec Ideal S32 .f32) : FVec Ideal S32x64x16 .f32 := (broadcastInDim S32x64x16 ![0, 1, 2] bcast_S32x64x1_S32x64x16_0_1_2) (r41 X1 X2 X3)
def r43 (X1 : FVec Ideal S32x64 .f32) (X2 : FVec Ideal S32x64 .f32) (X3 : FVec Ideal S32 .f32) (X4 : FVec Ideal S32x64x16 .f32) : FVec Ideal S32x64x16 .f32 := (mulf) (r42 X1 X2 X3) X4
def r44 (X1 : FVec Ideal S32x64 .f32) (X2 : FVec Ideal S32x64 .f32) (X3 : FVec Ideal S32 .f32) (X4 : FVec Ideal S32x64x16 .f32) (X5 : FVec Ideal S32x64x16 .f32) : FVec Ideal S32x64x16 .f32 := (addf) (r40 X1 X2 X3 X5) (r43 X1 X2 X3 X4)
def r45 (X0 : FVec Ideal S4x8192x512 .f32) (X1 : FVec Ideal S32x64 .f32) (X2 : FVec Ideal S32x64 .f32) (X3 : FVec Ideal S32 .f32) (X4 : FVec Ideal S32x64x16 .f32) (X5 : FVec Ideal S32x64x16 .f32) : FVec Ideal S32x64x4x8192 .f32 := ((fun l r => Host.dotGeneral dot_S32x64x16_S4x8192x32x16_S32x64x4x8192_2_3_1_01_0_2 none l r)) (r37 X1 X2 X3 X4 X5) (r0 X0)
/-- What every step feeds the state, its real part. -/
def r46 (X0 : FVec Ideal S4x8192x512 .f32) (X1 : FVec Ideal S32x64 .f32) (X2 : FVec Ideal S32x64 .f32) (X3 : FVec Ideal S32 .f32) (X4 : FVec Ideal S32x64x16 .f32) (X5 : FVec Ideal S32x64x16 .f32) : FVec Ideal S8192x4x32x64 .f32 := ((transpose S8192x4x32x64 [3, 2, 0, 1] · transposes_S32x64x4x8192_S8192x4x32x64_3_2_0_1)) (r45 X0 X1 X2 X3 X4 X5)
def r47 (X0 : FVec Ideal S4x8192x512 .f32) (X1 : FVec Ideal S32x64 .f32) (X2 : FVec Ideal S32x64 .f32) (X3 : FVec Ideal S32 .f32) (X4 : FVec Ideal S32x64x16 .f32) (X5 : FVec Ideal S32x64x16 .f32) : FVec Ideal S32x64x4x8192 .f32 := ((fun l r => Host.dotGeneral dot_S32x64x16_S4x8192x32x16_S32x64x4x8192_2_3_1_01_0_2 none l r)) (r44 X1 X2 X3 X4 X5) (r0 X0)
/-- What every step feeds the state, its imaginary part. -/
def r48 (X0 : FVec Ideal S4x8192x512 .f32) (X1 : FVec Ideal S32x64 .f32) (X2 : FVec Ideal S32x64 .f32) (X3 : FVec Ideal S32 .f32) (X4 : FVec Ideal S32x64x16 .f32) (X5 : FVec Ideal S32x64x16 .f32) : FVec Ideal S8192x4x32x64 .f32 := ((transpose S8192x4x32x64 [3, 2, 0, 1] · transposes_S32x64x4x8192_S8192x4x32x64_3_2_0_1)) (r47 X0 X1 X2 X3 X4 X5)
def r_cst_2 : FVec Ideal S_ .f32 := (constant S_ .f32 0x00000000#32)
def r49 : FVec Ideal S4x32x64 .f32 := (broadcastInDim S4x32x64 ![] bcast_S_S4x32x64) r_cst_2
def r_cst_3 : FVec Ideal S_ .f32 := (constant S_ .f32 0x00000000#32)
def r50 : FVec Ideal S8192x4x32x64 .f32 := (broadcastInDim S8192x4x32x64 ![] bcast_S_S8192x4x32x64) r_cst_3
def r_cst_4 : FVec Ideal S_ .f32 := (constant S_ .f32 0x00000000#32)
def r51 : FVec Ideal S8192x4x32x64 .f32 := (broadcastInDim S8192x4x32x64 ![] bcast_S_S8192x4x32x64) r_cst_4
def r_c : IVec S_ 32 := (constantI S_ 32 0#32)

variable (m : (ℓ : Loc nD τ sig) → Buf (Elt Ideal) ℓ)

/-- Argument 0 as the launch has it. -/
abbrev X0 (c : Dev nD) : FVec Ideal S4x8192x512 .f32 := m ((c.tc : Thread nD τ).loc main_arg0)
/-- Argument 1 as the launch has it. -/
abbrev X1 (c : Dev nD) : FVec Ideal S32x64 .f32 := m ((c.tc : Thread nD τ).loc main_arg1)
/-- Argument 2 as the launch has it. -/
abbrev X2 (c : Dev nD) : FVec Ideal S32x64 .f32 := m ((c.tc : Thread nD τ).loc main_arg2)
/-- Argument 3 as the launch has it. -/
abbrev X3 (c : Dev nD) : FVec Ideal S32 .f32 := m ((c.tc : Thread nD τ).loc main_arg3)
/-- Argument 4 as the launch has it. -/
abbrev X4 (c : Dev nD) : FVec Ideal S32x64x16 .f32 := m ((c.tc : Thread nD τ).loc main_arg4)
/-- Argument 5 as the launch has it. -/
abbrev X5 (c : Dev nD) : FVec Ideal S32x64x16 .f32 := m ((c.tc : Thread nD τ).loc main_arg5)
/-- Argument 6 as the launch has it. -/
abbrev X6 (c : Dev nD) : FVec Ideal S32x16x64 .f32 := m ((c.tc : Thread nD τ).loc main_arg6)
/-- Argument 7 as the launch has it. -/
abbrev X7 (c : Dev nD) : FVec Ideal S32x16x64 .f32 := m ((c.tc : Thread nD τ).loc main_arg7)
/-- Argument 8 as the launch has it. -/
abbrev X8 (c : Dev nD) : FVec Ideal S512 .f32 := m ((c.tc : Thread nD τ).loc main_arg8)

set_option maxHeartbeats 4000000 in
/-- The loop begins with the inputs, real part. -/
theorem entry_0 (c : Dev nD) : entryContents preI m c (Proc.devRef .tc main_v52_0) = r46 (X0 m c) (X1 m c) (X2 m c) (X3 m c) (X4 m c) (X5 m c) := by
  simp only [entryContents, afterL_cons, afterL_nil]
  after_results_simp <;> rfl

set_option maxHeartbeats 4000000 in
/-- The loop begins with the inputs, imaginary part. -/
theorem entry_1 (c : Dev nD) : entryContents preI m c (Proc.devRef .tc main_v52_1) = r48 (X0 m c) (X1 m c) (X2 m c) (X3 m c) (X4 m c) (X5 m c) := by
  simp only [entryContents, afterL_cons, afterL_nil]
  after_results_simp <;> rfl

set_option maxHeartbeats 4000000 in
/-- The loop begins with the decay, real part. -/
theorem entry_2 (c : Dev nD) : entryContents preI m c (Proc.devRef .tc main_v52_2) = r11 (X1 m c) (X2 m c) (X3 m c) := by
  simp only [entryContents, afterL_cons, afterL_nil]
  after_results_simp <;> rfl

set_option maxHeartbeats 4000000 in
/-- The loop begins with the decay, imaginary part. -/
theorem entry_3 (c : Dev nD) : entryContents preI m c (Proc.devRef .tc main_v52_3) = r15 (X1 m c) (X2 m c) (X3 m c) := by
  simp only [entryContents, afterL_cons, afterL_nil]
  after_results_simp <;> rfl

set_option maxHeartbeats 4000000 in
/-- The loop begins with a state of zeros. -/
theorem entry_5 (c : Dev nD) : entryContents preI m c (Proc.devRef .tc main_v52_5) = r49 := by
  simp only [entryContents, afterL_cons, afterL_nil]
  after_results_simp <;> rfl

set_option maxHeartbeats 4000000 in
/-- The loop begins with a state of zeros. -/
theorem entry_6 (c : Dev nD) : entryContents preI m c (Proc.devRef .tc main_v52_6) = r49 := by
  simp only [entryContents, afterL_cons, afterL_nil]
  after_results_simp <;> rfl

end Cert.ReferenceIdeal.Host0

end

end
-- ==== Proof.SsmRefTab.lean ====
/-
  The reference's discretised decay and the inputs of its steps, read at an index: the real and imaginary parts of the
  numbers of `Cert.Ssm.Data`.
-/
module

public import proofs.«01_k».proof.Proof.SsmRefHost
public import proofs.«01_k».proof.Proof.SsmTab

@[expose] public section

set_option maxRecDepth 16384

noncomputable section

namespace Cert.ReferenceIdeal.Host0

open Cert.ReferenceIdeal Cert.ReferenceIdeal.Gen Idealize.ShloMosaic Cert.Ssm
open Cert.KernelIdeal.Host0 (Reads)

variable {D : Data} {X0 : FVec Ideal S4x8192x512 .f32} {X1 X2 : FVec Ideal S32x64 .f32} {X3 : FVec Ideal S32 .f32}
  {X4 X5 : FVec Ideal S32x64x16 .f32} {X6 X7 : FVec Ideal S32x16x64 .f32}
variable (H : Reads D X1 X2 X3 X4 X5 X6 X7)
include H

/-- The clamped real part of the poles. -/
theorem r2_at (g : Fin 32) (p : Fin 64) : r2 X1 (ix2 g p) = ((D.lam g p : ℝ) : EReal) := by
  pointwise [r2, r1, r_cst]
  rw [H.lr, bound_lit, Data.lam]
  exact (EReal.coe_strictMono.monotone.map_min).symm

/-- The pole's real part over one step. -/
theorem r6_at (g : Fin 32) (p : Fin 64) : r6 X1 X3 (ix2 g p) = ((D.ar g p : ℝ) : EReal) := by
  have h : r6 X1 X3 (ix2 g p) = r2 X1 (ix2 g p) * Ideal.exp (X3 (ix1 g)) := by
    pointwise [r6, r5, r4, r3]
  rw [h, r2_at H, H.ld, Ideal.exp_coe, ← EReal.coe_mul]
  rfl

/-- The pole's imaginary part over one step. -/
theorem r9_at (g : Fin 32) (p : Fin 64) : r9 X2 X3 (ix2 g p) = ((D.ai g p : ℝ) : EReal) := by
  have h : r9 X2 X3 (ix2 g p) = X2 (ix2 g p) * Ideal.exp (X3 (ix1 g)) := by
    pointwise [r9, r8, r4, r3]
  rw [h, H.li, H.ld, Ideal.exp_coe, ← EReal.coe_mul]
  rfl

/-- The pole's imaginary part over one step, as the host code makes it the second time. -/
theorem r13_at (g : Fin 32) (p : Fin 64) : r13 X2 X3 (ix2 g p) = ((D.ai g p : ℝ) : EReal) := by
  have h : r13 X2 X3 (ix2 g p) = X2 (ix2 g p) * Ideal.exp (X3 (ix1 g)) := by
    pointwise [r13, r12, r4, r3]
  rw [h, H.li, H.ld, Ideal.exp_coe, ← EReal.coe_mul]
  rfl

/-- The decay's real part. -/
theorem r11_at (g : Fin 32) (p : Fin 64) : r11 X1 X2 X3 (ix2 g p) = (((D.a g p).re : ℝ) : EReal) := by
  have h : r11 X1 X2 X3 (ix2 g p) = Ideal.exp (r6 X1 X3 (ix2 g p)) * Ideal.cos (r9 X2 X3 (ix2 g p)) := by
    pointwise [r11, r7, r10]
  rw [h, r6_at H, r9_at H, Ideal.exp_coe, Ideal.cos_coe, ← EReal.coe_mul, Data.a, rot_re]

/-- The decay's imaginary part. -/
theorem r15_at (g : Fin 32) (p : Fin 64) : r15 X1 X2 X3 (ix2 g p) = (((D.a g p).im : ℝ) : EReal) := by
  have h : r15 X1 X2 X3 (ix2 g p) = Ideal.exp (r6 X1 X3 (ix2 g p)) * Ideal.sin (r13 X2 X3 (ix2 g p)) := by
    pointwise [r15, r7, r14]
  rw [h, r6_at H, r13_at H, Ideal.exp_coe, Ideal.sin_coe, ← EReal.coe_mul, Data.a, rot_im]

/-- The squared modulus of the pole. -/
theorem r18_at (g : Fin 32) (p : Fin 64) : r18 X1 X2 (ix2 g p) = ((D.den g p : ℝ) : EReal) := by
  have h : r18 X1 X2 (ix2 g p) = r2 X1 (ix2 g p) * r2 X1 (ix2 g p) + X2 (ix2 g p) * X2 (ix2 g p) := by
    pointwise [r18, r16, r17]
  rw [h, r2_at H, H.li, ← EReal.coe_mul, ← EReal.coe_mul, ← EReal.coe_add]
  rfl

/-- The decay's real part less one. -/
theorem r20_at (g : Fin 32) (p : Fin 64) : r20 X1 X2 X3 (ix2 g p) = (((D.a g p).re - 1 : ℝ) : EReal) := by
  have h : r20 X1 X2 X3 (ix2 g p) = r11 X1 X2 X3 (ix2 g p) - Ideal.ofBits .f32 0x3F800000#32 := by
    pointwise [r20, r19, r_cst_0]
  rw [h, r11_at H, Ideal.ofBits_one_f32, ← EReal.coe_one, ← EReal.coe_sub]

/-- The decay's real part less one, as the host code makes it the second time. -/
theorem r27_at (g : Fin 32) (p : Fin 64) : r27 X1 X2 X3 (ix2 g p) = (((D.a g p).re - 1 : ℝ) : EReal) := by
  have h : r27 X1 X2 X3 (ix2 g p) = r11 X1 X2 X3 (ix2 g p) - Ideal.ofBits .f32 0x3F800000#32 := by
    pointwise [r27, r26, r_cst_1]
  rw [h, r11_at H, Ideal.ofBits_one_f32, ← EReal.coe_one, ← EReal.coe_sub]

/-- The factor of the input matrix, real part. -/
theorem r24_at (g : Fin 32) (p : Fin 64) : r24 X1 X2 X3 (ix2 g p) = (((D.z g p).re : ℝ) : EReal) := by
  have h : r24 X1 X2 X3 (ix2 g p) = Ideal.div (r20 X1 X2 X3 (ix2 g p) * r2 X1 (ix2 g p) + r15 X1 X2 X3 (ix2 g p) * X2 (ix2 g p)) (r18 X1 X2 (ix2 g p)) := by
    pointwise [r24, r23, r21, r22]
  rw [h, r20_at H, r2_at H, r15_at H, H.li, r18_at H, Ideal.div_coe (D.den_ne g p)]
  simp only [← EReal.coe_mul, ← EReal.coe_add]
  rfl

/-- The factor of the input matrix, imaginary part. -/
theorem r30_at (g : Fin 32) (p : Fin 64) : r30 X1 X2 X3 (ix2 g p) = (((D.z g p).im : ℝ) : EReal) := by
  have h : r30 X1 X2 X3 (ix2 g p) = Ideal.div (r15 X1 X2 X3 (ix2 g p) * r2 X1 (ix2 g p) - r27 X1 X2 X3 (ix2 g p) * X2 (ix2 g p)) (r18 X1 X2 (ix2 g p)) := by
    pointwise [r30, r29, r25, r28]
  rw [h, r27_at H, r2_at H, r15_at H, H.li, r18_at H, Ideal.div_coe (D.den_ne g p)]
  simp only [← EReal.coe_mul, ← EReal.coe_sub]
  rfl

/-- The discretised input matrix, real part. -/
theorem r37_at (g : Fin 32) (p : Fin 64) (k : Fin 16) : r37 X1 X2 X3 X4 X5 (ix3 g p k) = (((D.bb g p k).re : ℝ) : EReal) := by
  have h : r37 X1 X2 X3 X4 X5 (ix3 g p k) = r24 X1 X2 X3 (ix2 g p) * X4 (ix3 g p k) - r30 X1 X2 X3 (ix2 g p) * X5 (ix3 g p k) := by
    pointwise [r37, r33, r36, r32, r35, r31, r34]
  rw [h, r24_at H, r30_at H, H.br, H.bi, ← EReal.coe_mul, ← EReal.coe_mul, ← EReal.coe_sub, Data.bb, Complex.mul_re]

/-- The discretised input matrix, imaginary part. -/
theorem r44_at (g : Fin 32) (p : Fin 64) (k : Fin 16) : r44 X1 X2 X3 X4 X5 (ix3 g p k) = (((D.bb g p k).im : ℝ) : EReal) := by
  have h : r44 X1 X2 X3 X4 X5 (ix3 g p k) = r24 X1 X2 X3 (ix2 g p) * X5 (ix3 g p k) + r30 X1 X2 X3 (ix2 g p) * X4 (ix3 g p k) := by
    pointwise [r44, r40, r43, r39, r42, r38, r41]
  rw [h, r24_at H, r30_at H, H.br, H.bi, ← EReal.coe_mul, ← EReal.coe_mul, ← EReal.coe_add, Data.bb, Complex.mul_im]

omit H in
/-- The inputs, the channels in groups. -/
theorem r0_at (hu : ∀ b l n, X0 (ix3 b l n) = ((D.u b l n : ℝ) : EReal)) (b : Fin 4) (l : Fin 8192) (g : Fin 32) (k : Fin 16) :
    r0 X0 (ix4 b l g k) = ((D.us g b.val k l.val : ℝ) : EReal) := by
  have h : r0 X0 (ix4 b l g k) = X0 (ix3 b l ⟨16 * g.val + k.val, by omega⟩) := by
    pointwise [r0]
    exact congrArg (X0 <| ix3 b l ·) (Fin.ext (by dsimp only; omega))
  rw [h, hu, Data.us, dif_pos ⟨b.isLt, l.isLt⟩]

/-- What a step feeds the state, real part. -/
theorem r46_at (hu : ∀ b l n, X0 (ix3 b l n) = ((D.u b l n : ℝ) : EReal)) (l : Fin 8192) (b : Fin 4) (g : Fin 32) (p : Fin 64) :
    r46 X0 X1 X2 X3 X4 X5 (ix4 l b g p) = (((D.f g p b.val l.val).re : ℝ) : EReal) := by
  have h : r46 X0 X1 X2 X3 X4 X5 (ix4 l b g p) = ∑ k : Fin 16, r37 X1 X2 X3 X4 X5 (ix3 g p k) * r0 X0 (ix4 b l g k) := by
    pointwise [r46, r45]
  rw [h, Data.f, Complex.re_sum, coe_sum]
  refine Finset.sum_congr rfl fun k _ => ?_
  rw [r37_at H, r0_at hu, ← EReal.coe_mul, Complex.re_mul_ofReal]

/-- What a step feeds the state, imaginary part. -/
theorem r48_at (hu : ∀ b l n, X0 (ix3 b l n) = ((D.u b l n : ℝ) : EReal)) (l : Fin 8192) (b : Fin 4) (g : Fin 32) (p : Fin 64) :
    r48 X0 X1 X2 X3 X4 X5 (ix4 l b g p) = (((D.f g p b.val l.val).im : ℝ) : EReal) := by
  have h : r48 X0 X1 X2 X3 X4 X5 (ix4 l b g p) = ∑ k : Fin 16, r44 X1 X2 X3 X4 X5 (ix3 g p k) * r0 X0 (ix4 b l g k) := by
    pointwise [r48, r47]
  rw [h, Data.f, Complex.im_sum, coe_sum]
  refine Finset.sum_congr rfl fun k _ => ?_
  rw [r44_at H, r0_at hu, ← EReal.coe_mul, Complex.im_mul_ofReal]

end Cert.ReferenceIdeal.Host0

end

end
-- ==== Proof.SsmRefLoop.lean ====
/-
  The reference's loop over the steps: after `n` trips the two state buffers hold the state after `n` steps, and the first
  `n` rows of the two history buffers the states after steps `1` to `n`.
-/
module

public import proofs.«01_k».proof.Proof.SsmRefTab
public import Idealize.ShloMosaic.Lib.DynamicIndex
public import Idealize.ShloMosaic.Lib.WordCmp

@[expose] public section

set_option maxRecDepth 16384

noncomputable section

namespace Cert.ReferenceIdeal.Loop

open Cert.ReferenceIdeal Cert.ReferenceIdeal.Gen Cert.ReferenceIdeal.Value Idealize.ShloMosaic Idealize.ShloMosaic.TcCoe
open Idealize.SL.Sem Idealize.ShloMosaic.StableHlo Cert.Ssm
open Cert.KernelIdeal.Host0 (Reads)

/-- The trip counter's word, read as an integer. -/
theorem word_int (n : ℕ) (h : n < 8192) : (BitVec.ofNat 32 n).toInt = (n : ℤ) := by
  have e : (BitVec.ofNat 32 n).toNat = n := by rw [BitVec.toNat_ofNat]; omega
  rw [BitVec.toInt_eq_toNat_of_lt (by rw [e]; omega), e]

/-- The row of a history the trip reads and writes: at the counter, whole otherwise. -/
theorem start_at (w : IVec S_ 32) (n : ℕ) (hn : n < 8192) (hw : w = fun _ => BitVec.ofNat 32 n) (a : Fin 4) :
    ((![w, constantI S_ 32 0#32, constantI S_ 32 0#32, constantI S_ 32 0#32] : Fin 4 → IVec S_ 32) a (Shape.Idx.first h_S_)).toInt
      = ((![n, 0, 0, 0] : Fin 4 → ℕ) a : ℤ) := by
  subst hw
  fin_cases a
  · exact word_int n hn
  · rfl
  · rfl
  · rfl

/-- The row read at trip `n`. -/
theorem slice_at (x : FVec Ideal S8192x4x32x64 .f32) (w : IVec S_ 32) (n : ℕ) (hn : n < 8192) (hw : w = fun _ => BitVec.ofNat 32 n)
    (b : Fin 4) (g : Fin 32) (p : Fin 64) :
    shapeCast S4x32x64 (Host.dynamicSlice S1x4x32x64 x (fun k => ((![w, constantI S_ 32 0#32, constantI S_ 32 0#32, constantI S_ 32 0#32] : Fin 4 → IVec S_ 32) k (Shape.Idx.first h_S_)).toInt)
      sliceFits_S8192x4x32x64_S1x4x32x64) shapeCasts_S1x4x32x64_S4x32x64 (ix3 b g p) = x (ix4 ⟨n, hn⟩ b g p) := by
  have hk : S8192x4x32x64.Slices ![n, 0, 0, 0] S1x4x32x64 := ⟨rfl, fun a => by
    fin_cases a
    · exact hn
    · exact le_refl _
    · exact le_refl _
    · exact le_refl _⟩
  rw [Host.dynamicSlice_eq_extractStridedSlice S1x4x32x64 x _ ![n, 0, 0, 0] _ hk (start_at w n hn hw)]
  pointwise []

/-- The row written at trip `n`. -/
theorem update_at (x : FVec Ideal S8192x4x32x64 .f32) (v : FVec Ideal S4x32x64 .f32) (w : IVec S_ 32) (n : ℕ) (hn : n < 8192)
    (hw : w = fun _ => BitVec.ofNat 32 n) (i : Fin 8192) (b : Fin 4) (g : Fin 32) (p : Fin 64) :
    Host.dynamicUpdateSlice x (broadcastInDim S1x4x32x64 ![1, 2, 3] bcast_S4x32x64_S1x4x32x64_1_2_3 v)
      (fun k => ((![w, constantI S_ 32 0#32, constantI S_ 32 0#32, constantI S_ 32 0#32] : Fin 4 → IVec S_ 32) k (Shape.Idx.first h_S_)).toInt)
      updateFits_S8192x4x32x64_S1x4x32x64 (ix4 i b g p) = if i.val = n then v (ix3 b g p) else x (ix4 i b g p) := by
  have hk : S8192x4x32x64.Slices ![n, 0, 0, 0] S1x4x32x64 := ⟨rfl, fun a => by
    fin_cases a
    · exact hn
    · exact le_refl _
    · exact le_refl _
    · exact le_refl _⟩
  rw [WordCmp.dynamicUpdateSlice_eq_update x _ _ _ ![n, 0, 0, 0] hk (start_at w n hn hw)]
  pointwise []
  by_cases h : i.val = n
  · rw [dif_pos ⟨by omega, by omega⟩, if_pos h]
  · rw [dif_neg (by omega), if_neg h]

variable (m : (ℓ : Loc nD τ sig) → Buf (Elt Ideal) ℓ) (D : Data) (c : Dev nD)

/-- The contents after `n` trips. -/
abbrev W (n : ℕ) : Valuation τ sig (Elt Ideal) := STEP^[n] (entryContents preI m c)

/-- The inputs of the steps, real part. -/
def fRe (V : Valuation τ sig (Elt Ideal)) : FVec Ideal S8192x4x32x64 .f32 := V (Proc.devRef .tc main_v52_0)

/-- The inputs of the steps, imaginary part. -/
def fIm (V : Valuation τ sig (Elt Ideal)) : FVec Ideal S8192x4x32x64 .f32 := V (Proc.devRef .tc main_v52_1)

/-- The decay, real part. -/
def aRe (V : Valuation τ sig (Elt Ideal)) : FVec Ideal S32x64 .f32 := V (Proc.devRef .tc main_v52_2)

/-- The decay, imaginary part. -/
def aIm (V : Valuation τ sig (Elt Ideal)) : FVec Ideal S32x64 .f32 := V (Proc.devRef .tc main_v52_3)

/-- The state, real part. -/
def xRe (V : Valuation τ sig (Elt Ideal)) : FVec Ideal S4x32x64 .f32 := V (Proc.devRef .tc main_v52_5)

/-- The state, imaginary part. -/
def xIm (V : Valuation τ sig (Elt Ideal)) : FVec Ideal S4x32x64 .f32 := V (Proc.devRef .tc main_v52_6)

/-- The history, real part. -/
def sRe (V : Valuation τ sig (Elt Ideal)) : FVec Ideal S8192x4x32x64 .f32 := V (Proc.devRef .tc main_v52_7)

/-- The history, imaginary part. -/
def sIm (V : Valuation τ sig (Elt Ideal)) : FVec Ideal S8192x4x32x64 .f32 := V (Proc.devRef .tc main_v52_8)

/-- What the carried buffers hold after `n` trips. -/
structure Inv (V : Valuation τ sig (Elt Ideal)) (n : ℕ) : Prop where
  fr : ∀ (l : Fin 8192) (b : Fin 4) (g : Fin 32) (p : Fin 64),
    fRe V (ix4 l b g p) = (((D.f g p b.val l.val).re : ℝ) : EReal)
  fi : ∀ (l : Fin 8192) (b : Fin 4) (g : Fin 32) (p : Fin 64),
    fIm V (ix4 l b g p) = (((D.f g p b.val l.val).im : ℝ) : EReal)
  ar : ∀ (g : Fin 32) (p : Fin 64), aRe V (ix2 g p) = (((D.a g p).re : ℝ) : EReal)
  ai : ∀ (g : Fin 32) (p : Fin 64), aIm V (ix2 g p) = (((D.a g p).im : ℝ) : EReal)
  ct : (V (Proc.devRef .tc main_v52_4) : IVec S_ 32) = fun _ => BitVec.ofNat 32 n
  xr : ∀ (b : Fin 4) (g : Fin 32) (p : Fin 64), xRe V (ix3 b g p)
    = (((st (D.a g p) (D.f g p b.val) n).re : ℝ) : EReal)
  xi : ∀ (b : Fin 4) (g : Fin 32) (p : Fin 64), xIm V (ix3 b g p)
    = (((st (D.a g p) (D.f g p b.val) n).im : ℝ) : EReal)
  sr : ∀ (i : Fin 8192) (b : Fin 4) (g : Fin 32) (p : Fin 64), i.val < n →
    sRe V (ix4 i b g p) = (((st (D.a g p) (D.f g p b.val) (i.val + 1)).re : ℝ) : EReal)
  si : ∀ (i : Fin 8192) (b : Fin 4) (g : Fin 32) (p : Fin 64), i.val < n →
    sIm V (ix4 i b g p) = (((st (D.a g p) (D.f g p b.val) (i.val + 1)).im : ℝ) : EReal)

variable {D}

/-- One trip's new state, real part. -/
theorem re_at {V : Valuation τ sig (Elt Ideal)} {n : ℕ} (I : Inv D V n) (hn : n < 8192) (b : Fin 4) (g : Fin 32) (p : Fin 64) :
    (res_main_while0b_v76 V : FVec Ideal S4x32x64 .f32) (ix3 b g p) = (((st (D.a g p) (D.f g p b.val) (n + 1)).re : ℝ) : EReal) := by
  have h : (res_main_while0b_v76 V : FVec Ideal S4x32x64 .f32) (ix3 b g p)
      = (aRe V (ix2 g p) * xRe V (ix3 b g p)
          - aIm V (ix2 g p) * xIm V (ix3 b g p))
        + fRe V (ix4 ⟨n, hn⟩ b g p) := by
    rw [← slice_at (fRe V) _ n hn I.ct b g p, res_main_while0b_v76, aRe, aIm, xRe, xIm, fRe]
    refine congrArg₂ (fun s t : EReal => s + t) ?_ rfl
    pointwise []
  rw [h, I.ar, I.ai, I.xr, I.xi, I.fr, ← EReal.coe_mul, ← EReal.coe_mul, ← EReal.coe_sub, ← EReal.coe_add, st, Complex.add_re, Complex.mul_re]

/-- One trip's new state, imaginary part. -/
theorem im_at {V : Valuation τ sig (Elt Ideal)} {n : ℕ} (I : Inv D V n) (hn : n < 8192) (b : Fin 4) (g : Fin 32) (p : Fin 64) :
    (res_main_while0b_v84 V : FVec Ideal S4x32x64 .f32) (ix3 b g p) = (((st (D.a g p) (D.f g p b.val) (n + 1)).im : ℝ) : EReal) := by
  have h : (res_main_while0b_v84 V : FVec Ideal S4x32x64 .f32) (ix3 b g p)
      = (aRe V (ix2 g p) * xIm V (ix3 b g p)
          + aIm V (ix2 g p) * xRe V (ix3 b g p))
        + fIm V (ix4 ⟨n, hn⟩ b g p) := by
    rw [← slice_at (fIm V) _ n hn I.ct b g p, res_main_while0b_v84, aRe, aIm, xRe, xIm, fIm]
    refine congrArg₂ (fun s t : EReal => s + t) ?_ rfl
    pointwise []
  rw [h, I.ar, I.ai, I.xr, I.xi, I.fi, ← EReal.coe_mul, ← EReal.coe_mul, ← EReal.coe_add, ← EReal.coe_add, st, Complex.add_im, Complex.mul_im]

/-- One trip takes the buffers of `n` steps to those of `n + 1`. -/
theorem step {V : Valuation τ sig (Elt Ideal)} {n : ℕ} (I : Inv D V n) (hn : n < 8192) : Inv D (STEP V) (n + 1) where
  fr := by rw [fRe, STEP_main_v52_0]; exact I.fr
  fi := by rw [fIm, STEP_main_v52_1]; exact I.fi
  ar := by rw [aRe, STEP_main_v52_2]; exact I.ar
  ai := by rw [aIm, STEP_main_v52_3]; exact I.ai
  ct := by
    rw [STEP_main_v52_4, step_main_v52_4]
    have h := I.ct
    rw [h]
    funext j
    exact (BitVec.ofNat_add n 1).symm
  xr := by rw [xRe, STEP_main_v52_5]; exact re_at I hn
  xi := by rw [xIm, STEP_main_v52_6]; exact im_at I hn
  sr := fun i b g p hi => by
    rw [sRe, STEP_main_v52_7]
    refine (update_at _ _ _ n hn I.ct i b g p).trans ?_
    by_cases h : i.val = n
    · rw [if_pos h, h]; exact re_at I hn b g p
    · rw [if_neg h]; exact I.sr i b g p (by omega)
  si := fun i b g p hi => by
    rw [sIm, STEP_main_v52_8]
    refine (update_at _ _ _ n hn I.ct i b g p).trans ?_
    by_cases h : i.val = n
    · rw [if_pos h, h]; exact im_at I hn b g p
    · rw [if_neg h]; exact I.si i b g p (by omega)

/-- The loop begins with the state zero. -/
theorem start (H : Reads D (Host0.X1 m c) (Host0.X2 m c) (Host0.X3 m c) (Host0.X4 m c) (Host0.X5 m c) (Host0.X6 m c) (Host0.X7 m c))
    (hu : ∀ b l n, Host0.X0 m c (ix3 b l n) = ((D.u b l n : ℝ) : EReal)) : Inv D (entryContents preI m c) 0 where
  fr := by rw [fRe, Host0.entry_0]; exact Host0.r46_at H hu
  fi := by rw [fIm, Host0.entry_1]; exact Host0.r48_at H hu
  ar := by rw [aRe, Host0.entry_2]; exact Host0.r11_at H
  ai := by rw [aIm, Host0.entry_3]; exact Host0.r15_at H
  ct := ctr_entry m c
  xr := fun b g p => by
    rw [xRe, Host0.entry_5]
    pointwise [Host0.r49, Host0.r_cst_2]
    rfl
  xi := fun b g p => by
    rw [xIm, Host0.entry_6]
    pointwise [Host0.r49, Host0.r_cst_2]
    rfl
  sr := fun i _ _ _ h => absurd h (Nat.not_lt_zero _)
  si := fun i _ _ _ h => absurd h (Nat.not_lt_zero _)

/-- After every trip the buffers are as told. -/
theorem inv (H : Reads D (Host0.X1 m c) (Host0.X2 m c) (Host0.X3 m c) (Host0.X4 m c) (Host0.X5 m c) (Host0.X6 m c) (Host0.X7 m c))
    (hu : ∀ b l n, Host0.X0 m c (ix3 b l n) = ((D.u b l n : ℝ) : EReal)) : ∀ n, n ≤ 8192 → Inv D (W m c n) n
  | 0, _ => start m c H hu
  | n + 1, h => by
    rw [W, Function.iterate_succ_apply']
    exact step (inv H hu n (by omega)) (by omega)

end Cert.ReferenceIdeal.Loop

end

end
-- ==== Proof.SsmRefOut.lean ====
/-
  The reference's result: the states of all steps through the output matrix, the input added, one element at a time.
-/
module

public import proofs.«01_k».proof.Proof.SsmRefLoop

@[expose] public section

set_option maxRecDepth 16384

noncomputable section

namespace Cert.ReferenceIdeal.Loop

open Cert.ReferenceIdeal Cert.ReferenceIdeal.Gen Cert.ReferenceIdeal.Value Idealize.ShloMosaic Idealize.ShloMosaic.TcCoe
open Idealize.SL.Sem Idealize.ShloMosaic.StableHlo Cert.Ssm

/-- The operations after the loop, of the arrays they read. -/
def outOf (U : FVec Ideal S4x8192x512 .f32) (C1 C2 : FVec Ideal S32x16x64 .f32) (dd : FVec Ideal S512 .f32)
    (s1 s2 : FVec Ideal S8192x4x32x64 .f32) : FVec Ideal S512x256x128 .f32 :=
  shapeCast _ (transpose S512x32768 [1, 0] (shapeCast _ (addf (subf
    (transpose S4x8192x32x16 [3, 2, 0, 1] (Host.dotGeneral dot_S32x16x64_S8192x4x32x64_S32x16x8192x4_2_3_1_01_0_2 none C1 s1) transposes_S32x16x8192x4_S4x8192x32x16_3_2_0_1)
    (transpose S4x8192x32x16 [3, 2, 0, 1] (Host.dotGeneral dot_S32x16x64_S8192x4x32x64_S32x16x8192x4_2_3_1_01_0_2 none C2 s2) transposes_S32x16x8192x4_S4x8192x32x16_3_2_0_1))
    (mulf (broadcastInDim S4x8192x32x16 ![0, 1, 2, 3] bcast_S1x1x32x16_S4x8192x32x16_0_1_2_3 (broadcastInDim S1x1x32x16 ![2, 3] bcast_S32x16_S1x1x32x16_2_3 (shapeCast _ dd shapeCasts_S512_S32x16)))
      (shapeCast _ U shapeCasts_S4x8192x512_S4x8192x32x16))) shapeCasts_S4x8192x32x16_S32768x512) transposes_S32768x512_S512x32768_1_0) shapeCasts_S512x32768_S512x256x128

/-- One element of the result, of the arrays. -/
theorem outOf_at (U : FVec Ideal S4x8192x512 .f32) (C1 C2 : FVec Ideal S32x16x64 .f32) (dd : FVec Ideal S512 .f32)
    (s1 s2 : FVec Ideal S8192x4x32x64 .f32) (n : Fin 512) (r : Fin 256) (l : Fin 128) :
    outOf U C1 C2 dd s1 s2 (ix3 n r l)
      = ((∑ p : Fin 64, C1 (ix3 ⟨n.val / 16, by omega⟩ ⟨n.val % 16, by omega⟩ p)
            * s1 (ix4 ⟨128 * (r.val % 64) + l.val, by omega⟩ ⟨r.val / 64, by omega⟩ ⟨n.val / 16, by omega⟩ p))
          - ∑ p : Fin 64, C2 (ix3 ⟨n.val / 16, by omega⟩ ⟨n.val % 16, by omega⟩ p)
            * s2 (ix4 ⟨128 * (r.val % 64) + l.val, by omega⟩ ⟨r.val / 64, by omega⟩ ⟨n.val / 16, by omega⟩ p))
        + dd (ix1 n) * U (ix3 ⟨r.val / 64, by omega⟩ ⟨128 * (r.val % 64) + l.val, by omega⟩ n) := by
  pointwise [outOf]
  have e1 : (r.val * 128 + l.val) % 8192 = 128 * (r.val % 64) + l.val := by omega
  have e2 : (r.val * 128 + l.val) / 8192 = r.val / 64 := by omega
  simp only [e1, e2]

/-- The result read off the arrays the run leaves. -/
theorem out_eq (V : Valuation τ sig (Elt Ideal)) : out_main_v66 V = outOf (V (Proc.devRef .tc main_arg0)) (V (Proc.devRef .tc main_arg6))
    (V (Proc.devRef .tc main_arg7)) (V (Proc.devRef .tc main_arg8)) (sRe V) (sIm V) := rfl

variable (m : (ℓ : Loc nD τ sig) → Buf (Elt Ideal) ℓ) {D : Data} (c : Dev nD)
open Cert.KernelIdeal.Host0 (Reads)

/-- The reference's result holds the numbers of the layer's value. -/
theorem out_at (H : Reads D (Host0.X1 m c) (Host0.X2 m c) (Host0.X3 m c) (Host0.X4 m c) (Host0.X5 m c) (Host0.X6 m c) (Host0.X7 m c))
    (hu : ∀ b l n, Host0.X0 m c (ix3 b l n) = ((D.u b l n : ℝ) : EReal)) (hd : ∀ n, Host0.X8 m c (ix1 n) = ((D.d n : ℝ) : EReal))
    (n : Fin 512) (r : Fin 256) (l : Fin 128) :
    (out_main_v66 (W m c 8192) : FVec Ideal S512x256x128 .f32) (ix3 n r l)
      = ((D.y ⟨r.val / 64, by omega⟩ ⟨128 * (r.val % 64) + l.val, by omega⟩ ⟨n.val / 16, by omega⟩ ⟨n.val % 16, by omega⟩ : ℝ) : EReal) := by
  have I := inv m c H hu 8192 le_rfl
  have h0 : W m c 8192 (Proc.devRef .tc main_arg0) = Host0.X0 m c := iter_main_arg0 m c 8192
  have h6 : W m c 8192 (Proc.devRef .tc main_arg6) = Host0.X6 m c := iter_main_arg6 m c 8192
  have h7 : W m c 8192 (Proc.devRef .tc main_arg7) = Host0.X7 m c := iter_main_arg7 m c 8192
  have h8 : W m c 8192 (Proc.devRef .tc main_arg8) = Host0.X8 m c := iter_main_arg8 m c 8192
  revert I h0 h6 h7 h8
  generalize W m c 8192 = V
  intro I h0 h6 h7 h8
  rw [out_eq, h0, h6, h7, h8, outOf_at, hu, hd]
  simp only [H.cr, H.ci]
  have er : ∀ (i : Fin 8192) (b : Fin 4) (g : Fin 32) (p : Fin 64), sRe V (ix4 i b g p)
      = (((st (D.a g p) (D.f g p b.val) (i.val + 1)).re : ℝ) : EReal) := fun i b g p => I.sr i b g p i.isLt
  have ei : ∀ (i : Fin 8192) (b : Fin 4) (g : Fin 32) (p : Fin 64), sIm V (ix4 i b g p)
      = (((st (D.a g p) (D.f g p b.val) (i.val + 1)).im : ℝ) : EReal) := fun i b g p => I.si i b g p i.isLt
  simp only [er, ei, ← EReal.coe_mul, ← coe_sum, ← EReal.coe_sub, ← EReal.coe_add]
  congr 1
  rw [Data.y, Complex.re_sum, ← Finset.sum_sub_distrib, Data.us, dif_pos ⟨by dsimp only; omega, by dsimp only; omega⟩]
  have en : (⟨16 * (n.val / 16) + n.val % 16, by omega⟩ : Fin 512) = n := Fin.ext (by dsimp only; omega)
  simp only [en, Complex.mul_re, Data.c]

end Cert.ReferenceIdeal.Loop

end

end
-- ==== Proof.SsmClaims.lean ====
/-
  The value claim of the state-space recurrence: on real arguments the kernel's chunked form and the step-by-step reference
  leave the same array.
-/
module

public import proofs.«01_k».proof.Proof.SsmFrames
public import proofs.«01_k».proof.Proof.SsmPre
public import proofs.«01_k».proof.Proof.SsmRun
public import proofs.«01_k».proof.Proof.SsmRefOut

@[expose] public section

set_option maxRecDepth 16384

noncomputable section

namespace Cert.SsmClaims

open Idealize.ShloMosaic Idealize.ShloMosaic.TcCoe Idealize.SL.Sem Cert.Ssm
open Cert.KernelIdeal.Host0 (X0 X1 X2 X3 X4 X5 X6 X7 X8)

instance : Cert.Pre_finite.Facts := Cert.SsmPre.facts

/-- The frame of the ideal kernel, where the arguments are real. -/
theorem frame_pi_finite : Cert.quiescent_KernelIdeal_pre_finite := fun m ρ _ => frame_pi m ρ trivial

/-- The frame of the reference, where the arguments are real. -/
theorem frame_ri_finite : Cert.quiescent_ReferenceIdeal_pre_finite := fun m ρ _ => frame_ri m ρ trivial

open Cert.KernelIdeal in
/-- The real numbers in the kernel's arguments. -/
def data (m : (ℓ : Loc nD τ sig) → Buf (Elt Ideal) ℓ) (c : Dev nD) : Data where
  u b l n := (X0 m c (ix3 b l n)).toReal
  lr g p := (X1 m c (ix2 g p)).toReal
  li g p := (X2 m c (ix2 g p)).toReal
  ld g := (X3 m c (ix1 g)).toReal
  br g p k := (X4 m c (ix3 g p k)).toReal
  bi g p k := (X5 m c (ix3 g p k)).toReal
  cr g h p := (X6 m c (ix3 g h p)).toReal
  ci g h p := (X7 m c (ix3 g h p)).toReal
  d n := (X8 m c (ix1 n)).toReal

open Cert.KernelIdeal in
/-- Where the precondition holds the arguments are those numbers. -/
theorem args (m : (ℓ : Loc nD τ sig) → Buf (Elt Ideal) ℓ) (h : Cert.Pre_KernelIdeal_finite m) (c : Dev nD) :
    Cert.KernelIdeal.Final.Args m (data m c) c := by
  obtain ⟨h0, h1, h2, h3, h4, h5, h6, h7, h8⟩ := Cert.SsmPre.reals _ _ _ _ _ _ _ _ _ (fun a => a.elim0) (congrFun (h c) _)
  exact ⟨⟨fun _ _ => h1 _, fun _ _ => h2 _, fun _ => h3 _, fun _ _ _ => h4 _, fun _ _ _ => h5 _, fun _ _ _ => h6 _, fun _ _ _ => h7 _⟩,
    fun _ _ _ => h0 _, fun _ => h8 _⟩

/-- The two programs leave equal results. -/
theorem algebraic : Cert.algebraic_KernelIdeal_ReferenceIdeal_pre_finite := by
  intro m ρ m' ρ' hpre hagree
  refine ⟨fun c => Cert.KernelIdeal.Final.res (data m c) c,
    (θ_run Cert.KernelIdeal.defs _ _).mono (fun _ h c => ⟨(h c).1.trans (Cert.KernelIdeal.Final.final (args m hpre c)), (h c).2⟩)
      (Cert.KernelIdeal.Value.run_blocks m ρ), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  have A := args m hpre c
  have f1 : Cert.ReferenceIdeal.Host0.X1 m' c = X1 m c := e1
  have f2 : Cert.ReferenceIdeal.Host0.X2 m' c = X2 m c := e2
  have f3 : Cert.ReferenceIdeal.Host0.X3 m' c = X3 m c := e3
  have f4 : Cert.ReferenceIdeal.Host0.X4 m' c = X4 m c := e4
  have f5 : Cert.ReferenceIdeal.Host0.X5 m' c = X5 m c := e5
  have f6 : Cert.ReferenceIdeal.Host0.X6 m' c = X6 m c := e6
  have f7 : Cert.ReferenceIdeal.Host0.X7 m' c = X7 m c := e7
  have f0 : Cert.ReferenceIdeal.Host0.X0 m' c = X0 m c := e0
  have f8 : Cert.ReferenceIdeal.Host0.X8 m' c = X8 m c := e8
  show _ = Cert.KernelIdeal.Final.res (data m c) c
  funext (j : Cert.KernelIdeal.S512x256x128.Idx)
  obtain ⟨n, r, l, rfl⟩ : ∃ (n : Fin 512) (r : Fin 256) (l : Fin 128), j = ix3 n r l := ⟨j 0, j 1, j 2, eq_ix3 j⟩
  exact Cert.ReferenceIdeal.Loop.out_at m' c (by rw [f1, f2, f3, f4, f5, f6, f7]; exact A.w) (fun b l n => by rw [f0]; exact A.u b l n)
    (fun n => by rw [f8]; exact A.d n) n r l

end Cert.SsmClaims

end

end
-- ==== Proof.FfnBlock.lean ====
/-
  The block one grid point of the feed-forward kernel writes, element by element: the body's chunks of 256 hidden units
  add up to the whole sum over 2816, and the rest is the LayerNorm Proof/Spec.lean defines.
-/
module

public import proofs.«01_k».proof.Proof.Spec
public import proofs.«01_k».proof.Proof.Gen.FfnIdeal.Value
public import Idealize.ShloMosaic.Lib.Pointwise

@[expose] public section

set_option maxRecDepth 16384

noncomputable section

namespace Cert.FfnIdeal.Block

open Cert.FfnIdeal Cert.FfnIdeal.Gen Idealize.ShloMosaic Cert.Spec

/-- One chunk of 256 hidden units, for row `r` of the block and output `c`. -/
def chunk (x : FVec Ideal S512x1024 .f32) (wg wu : FVec Ideal S1024x256 .bf16) (wd : FVec Ideal S256x1024 .bf16)
    (r : Fin 512) (c : Fin 1024) : EReal :=
  chunkRow (fun d => x (ix2 r d)) (fun d t => wg (ix2 d t)) (fun d t => wu (ix2 d t)) (fun t c => wd (ix2 t c)) c

/-- A chunk over its slices of the weights. -/
theorem chunk_eq (x : FVec Ideal S512x1024 .f32) (w1 : FVec Ideal S1024x5632 .bf16) (w2 : FVec Ideal S2816x1024 .bf16)
    (wg wu : FVec Ideal S1024x256 .bf16) (wd : FVec Ideal S256x1024 .bf16) (o : ℕ) (ho : o ≤ 2560)
    (hg : ∀ (d : Fin 1024) (t : Fin 256), wg (ix2 d t) = w1 (ix2 d ⟨o + t.val, by omega⟩))
    (hu : ∀ (d : Fin 1024) (t : Fin 256), wu (ix2 d t) = w1 (ix2 d ⟨2816 + (o + t.val), by omega⟩))
    (hd : ∀ (t : Fin 256) (c : Fin 1024), wd (ix2 t c) = w2 (ix2 ⟨o + t.val, by omega⟩ c)) (r : Fin 512) (c : Fin 1024) :
    chunk x wg wu wd r c = ∑ t : Fin 256, hiddenUnit (fun d => x (ix2 r d)) (fun d k => w1 (ix2 d k)) ⟨o + t.val, by omega⟩
      * w2 (ix2 ⟨o + t.val, by omega⟩ c) :=
  chunkRow_eq _ (fun d k => w1 (ix2 d k)) (fun k d => w2 (ix2 k d)) _ _ _ o ho hg hu hd c

/-! ## The body's values, chunk by chunk -/

/-- The first two chunks. -/
theorem pay4_apply (x : FVec Ideal S512x1024 .f32) (g0 u0 : FVec Ideal S1024x256 .bf16) (d0 : FVec Ideal S256x1024 .bf16) (g1 u1 : FVec Ideal S1024x256 .bf16) (d1 : FVec Ideal S256x1024 .bf16) (r : Fin 512) (c : Fin 1024) :
    k0_pay4 (F := Ideal) x g0 u0 d0 g1 u1 d1 (ix2 r c) = chunk x g0 u0 d0 r c + chunk x g1 u1 d1 r c := by
  pointwise [k0_pay4, k0_pay3, k0_pay2]
  rfl

/-- Two more chunks added to the sum so far. -/
theorem pay6_apply (x : FVec Ideal S512x1024 .f32) (acc : FVec Ideal S512x1024 .f32) (g0 u0 : FVec Ideal S1024x256 .bf16) (d0 : FVec Ideal S256x1024 .bf16) (g1 u1 : FVec Ideal S1024x256 .bf16) (d1 : FVec Ideal S256x1024 .bf16) (r : Fin 512) (c : Fin 1024) :
    k0_pay6 (F := Ideal) (k0_pay3 x) acc (k0_pay5 x g0) u0 d0 g1 u1 d1 (ix2 r c) = acc (ix2 r c) + chunk x g0 u0 d0 r c + chunk x g1 u1 d1 r c := by
  pointwise [k0_pay6, k0_pay5, k0_pay3, k0_pay2]
  rfl

/-- Three more chunks. -/
theorem pay9_apply (x : FVec Ideal S512x1024 .f32) (acc : FVec Ideal S512x1024 .f32) (g0 u0 : FVec Ideal S1024x256 .bf16) (d0 : FVec Ideal S256x1024 .bf16) (g1 u1 : FVec Ideal S1024x256 .bf16) (d1 : FVec Ideal S256x1024 .bf16) (g2 u2 : FVec Ideal S1024x256 .bf16) (d2 : FVec Ideal S256x1024 .bf16) (r : Fin 512) (c : Fin 1024) :
    k0_pay9 (F := Ideal) (k0_pay3 x) acc (k0_pay7 (k0_pay3 x) g0 u0) (k0_pay8 d0) g1 u1 d1 g2 u2 d2 (ix2 r c)
      = acc (ix2 r c) + chunk x g0 u0 d0 r c + chunk x g1 u1 d1 r c + chunk x g2 u2 d2 r c := by
  pointwise [k0_pay9, k0_pay7, k0_pay8, k0_pay3, k0_pay2]
  rfl

/-- Three more chunks. -/
theorem pay12_apply (x : FVec Ideal S512x1024 .f32) (acc : FVec Ideal S512x1024 .f32) (g0 u0 : FVec Ideal S1024x256 .bf16) (d0 : FVec Ideal S256x1024 .bf16) (g1 u1 : FVec Ideal S1024x256 .bf16) (d1 : FVec Ideal S256x1024 .bf16) (g2 u2 : FVec Ideal S1024x256 .bf16) (d2 : FVec Ideal S256x1024 .bf16) (r : Fin 512) (c : Fin 1024) :
    k0_pay12 (F := Ideal) (k0_pay3 x) acc (k0_pay10 (k0_pay3 x) g0) (k0_pay11 u0) (constant S512x256 .f32 0x00000000#32)
        d0 g1 u1 d1 g2 u2 d2 (ix2 r c)
      = acc (ix2 r c) + chunk x g0 u0 d0 r c + chunk x g1 u1 d1 r c + chunk x g2 u2 d2 r c := by
  pointwise [k0_pay12, k0_pay10, k0_pay11, k0_pay3, k0_pay2]
  rfl

/-- The last chunk, the residual and the LayerNorm but for its shift. -/
theorem pay13_apply (x : FVec Ideal S512x1024 .f32) (acc : FVec Ideal S512x1024 .f32) (g0 u0 : FVec Ideal S1024x256 .bf16) (d0 : FVec Ideal S256x1024 .bf16) (g : FVec Ideal S1x1024 .f32) (r : Fin 512) (c : Fin 1024)
    (y : Fin 1024 → EReal)
    (hy : ∀ k, y k = Ideal.ofBits .f32 0x3FB504F3#32 * x (ix2 r k)
      + Ideal.ofBits .f32 0x3F000000#32 * (acc (ix2 r k) + chunk x g0 u0 d0 r k)) :
    k0_pay13 (F := Ideal) (k0_pay2 x) (k0_pay3 x) acc g0 u0 d0 g (ix2 r c)
      = (y c - meanRow y) * Ideal.rsqrt (varRow y + Ideal.ofBits .f32 0x3727C5AC#32) * g (ix2 0 c) := by
  unfold varRow meanRow
  simp only [hy]
  pointwise [k0_pay13, k0_pay3, k0_pay2]
  rfl

/-! ## The block one grid point writes -/

/-- The offset of a whole array. -/
theorem hz : (![0, 0] : Fin 2 → Nat) = fun _ => 0 := funext fun a => by fin_cases a <;> rfl

/-- Element `(r, c)` of the block: the LayerNorm of `α·x + ½·FFN(x)` of row `r` of the block's input. -/
theorem out_apply (x0 : Vec Ideal S512x1024 .f32) (x1 : Vec Ideal S1024x5632 .bf16) (x2 : Vec Ideal S2816x1024 .bf16)
    (x3 x4 : Vec Ideal S1x1024 .f32) (r : Fin 512) (c : Fin 1024) :
    out0_5 (F := Ideal) x0 x1 x2 x3 x4 (ix2 r c)
      = ffnNorm (fun d => x0 (ix2 r d)) (fun d k => x1 (ix2 d k)) (fun k d => x2 (ix2 k d))
          (fun d => x3 (ix2 0 d)) (fun d => x4 (ix2 0 d)) c := by
  unfold out0_5 k0_pay15
  rw [View.canon_unit_zero hz, View.ld_unit_zero hz, View.ld_unit_zero hz, View.ld_unit_zero hz]
  unfold ffnNorm normRow
  have e : ∀ (P Q : FVec Ideal S512x1024 .f32) (p q : EReal), P (ix2 r c) = p → Q (ix2 r c) = q →
      k0_pay1 (F := Ideal) P Q (ix2 r c) = p + q := by
    rintro P Q _ _ rfl rfl
    pointwise [k0_pay1]
  refine e _ _ _ _ (pay13_apply x0 _ _ _ _ x3 r c _ fun k => ?_) ?_
  · rw [pay12_apply, pay9_apply, pay6_apply, pay4_apply]
    unfold ffnRow
    rw [sum_chunks]
    rw [chunk_eq x0 x1 x2 _ _ _ 0 (by omega) ?_ ?_ ?_ r k, chunk_eq x0 x1 x2 _ _ _ 256 (by omega) ?_ ?_ ?_ r k, chunk_eq x0 x1 x2 _ _ _ 512 (by omega) ?_ ?_ ?_ r k, chunk_eq x0 x1 x2 _ _ _ 768 (by omega) ?_ ?_ ?_ r k, chunk_eq x0 x1 x2 _ _ _ 1024 (by omega) ?_ ?_ ?_ r k, chunk_eq x0 x1 x2 _ _ _ 1280 (by omega) ?_ ?_ ?_ r k, chunk_eq x0 x1 x2 _ _ _ 1536 (by omega) ?_ ?_ ?_ r k, chunk_eq x0 x1 x2 _ _ _ 1792 (by omega) ?_ ?_ ?_ r k, chunk_eq x0 x1 x2 _ _ _ 2048 (by omega) ?_ ?_ ?_ r k, chunk_eq x0 x1 x2 _ _ _ 2304 (by omega) ?_ ?_ ?_ r k, chunk_eq x0 x1 x2 _ _ _ 2560 (by omega) ?_ ?_ ?_ r k]
    all_goals
      intro a b
      pointwise
      all_goals exact congrArg (fun q => x1 (ix2 a q)) (Fin.mk_eq_mk.mpr (by omega))
  · pointwise [k0_pay14]

end Cert.FfnIdeal.Block

end
-- ==== Proof.FfnRun.lean ====
/-
  The feed-forward kernel's result array after its grid: point `t` writes rows `512 t …` of it, and together they fill it.
-/
module

public import proofs.«01_k».proof.Proof.FfnBlock
public import Idealize.ShloMosaic.Lib.StableHlo.Run

@[expose] public section

set_option maxRecDepth 16384

noncomputable section

namespace Cert.FfnIdeal.Final

open Cert.FfnIdeal Cert.FfnIdeal.Gen Idealize.ShloMosaic Idealize.ShloMosaic.TcCoe Idealize.SL.Sem Cert.Spec
open Idealize.ShloMosaic.Pipeline (Dat)

variable (m : (ℓ : Loc nD τ sig) → Buf (Elt Ideal) ℓ) (ρ : Dev nD → PrngReg)

/-- The device's arguments as plain arrays. -/
abbrev ax (c : Dev nD) : FVec Ideal S4x8192x1024 .f32 := m ((c : Thread nD τ).loc main_arg0)
abbrev awup (c : Dev nD) : FVec Ideal S1024x5632 .f32 := m ((c : Thread nD τ).loc main_arg1)
abbrev awdn (c : Dev nD) : FVec Ideal S2816x1024 .f32 := m ((c : Thread nD τ).loc main_arg2)
abbrev ag (c : Dev nD) : FVec Ideal S1024 .f32 := m ((c : Thread nD τ).loc main_arg3)
abbrev ab (c : Dev nD) : FVec Ideal S1024 .f32 := m ((c : Thread nD τ).loc main_arg4)

/-! ## What the region finds in its windows' arrays -/

/-- The array the launch finds, as the host code makes it of an argument. -/
theorem V_x (c : Dev nD) : V m c main_v0 = shapeCast S32768x1024 (ax m c) shapeCasts_S4x8192x1024_S32768x1024 := by
  simp only [V, hostOps0]; after_results_simp <;> rfl
/-- The array the launch finds, as the host code makes it of an argument. -/
theorem V_wup (c : Dev nD) : V m c main_v1 = awup m c := by
  simp only [V, hostOps0]; after_results_simp <;> rfl
/-- The array the launch finds, as the host code makes it of an argument. -/
theorem V_wdn (c : Dev nD) : V m c main_v2 = awdn m c := by
  simp only [V, hostOps0]; after_results_simp <;> rfl
/-- The array the launch finds, as the host code makes it of an argument. -/
theorem V_g (c : Dev nD) : V m c main_v3 = shapeCast S1x1024 (ag m c) shapeCasts_S1024_S1x1024 := by
  simp only [V, hostOps0]; after_results_simp <;> rfl
/-- The array the launch finds, as the host code makes it of an argument. -/
theorem V_b (c : Dev nD) : V m c main_v4 = shapeCast S1x1024 (ab m c) shapeCasts_S1024_S1x1024 := by
  simp only [V, hostOps0]; after_results_simp <;> rfl

/-- The index maps, decided over the grid: the rows move with the point, the weights stay. -/
theorem idx_facts : ∀ t : Fin cfg0.N,
    (win0_0.index t 0 * win0_0.size 0 = 512 * t.val ∧ win0_0.index t 1 * win0_0.size 1 = 0)
    ∧ (win0_5.index t 0 * win0_5.size 0 = 512 * t.val ∧ win0_5.index t 1 * win0_5.size 1 = 0)
    ∧ (win0_5.xsize (grid0.coords t) 0 = 512 ∧ win0_5.xsize (grid0.coords t) 1 = 1024)
    ∧ (win0_1.index t 0 * win0_1.size 0 = 0 ∧ win0_1.index t 1 * win0_1.size 1 = 0)
    ∧ (win0_2.index t 0 * win0_2.size 0 = 0 ∧ win0_2.index t 1 * win0_2.size 1 = 0)
    ∧ (win0_3.index t 0 * win0_3.size 0 = 0 ∧ win0_3.index t 1 * win0_3.size 1 = 0)
    ∧ (win0_4.index t 0 * win0_4.size 0 = 0 ∧ win0_4.index t 1 * win0_4.size 1 = 0) :=
  (by decide +kernel : ∀ t : Fin grid0.N, _)

/-- A grid point is below the grid's extent. -/
theorem t_lt (t : Fin cfg0.N) : t.val < 64 := lt_of_lt_of_eq t.isLt N_0

/-- Row `r` of the block at `t` is row `512 t + r` of the flattened input. -/
theorem iblk_x (c : Dev nD) (t : Fin cfg0.N) (r : Fin 512) (d : Fin 1024) :
    (iblk m c 0 t : Vec Ideal S512x1024 .f32) (ix2 r d)
      = shapeCast S32768x1024 (ax m c) shapeCasts_S4x8192x1024_S32768x1024
          (ix2 ⟨512 * t.val + r.val, by have := t_lt t; omega⟩ d) := by
  rw [← V_x]
  show V m c main_v0 ((win0_0.rect t).idx (ix2 r d)) = _
  obtain ⟨⟨e0, e1⟩, -⟩ := idx_facts t
  refine congrArg _ (funext fun a => Fin.ext ?_)
  match a with
  | ⟨0, _⟩ => show win0_0.index t 0 * win0_0.size 0 + 1 * r.val = _; rw [e0, one_mul]; rfl
  | ⟨1, _⟩ => show win0_0.index t 1 * win0_0.size 1 + 1 * d.val = _; rw [e1, one_mul, zero_add]; rfl

/-! The weights' windows hold their whole arrays at every point. -/

/-- The block a grid point reads, of the array. -/
theorem iblk_wup (c : Dev nD) (t : Fin cfg0.N) : (iblk m c 1 t : Vec Ideal S1024x5632 .bf16) = awup m c := by
  rw [← V_wup]
  obtain ⟨-, -, -, ⟨e0, e1⟩, -⟩ := idx_facts t
  funext j
  show V m c main_v1 ((win0_1.rect t).idx j) = _
  refine congrArg _ (funext fun a => Fin.ext ?_)
  match a with
  | ⟨0, _⟩ => show win0_1.index t 0 * win0_1.size 0 + 1 * (j 0).val = _; rw [e0, one_mul, zero_add]; rfl
  | ⟨1, _⟩ => show win0_1.index t 1 * win0_1.size 1 + 1 * (j 1).val = _; rw [e1, one_mul, zero_add]; rfl

/-- The block a grid point reads, of the array. -/
theorem iblk_wdn (c : Dev nD) (t : Fin cfg0.N) : (iblk m c 2 t : Vec Ideal S2816x1024 .bf16) = awdn m c := by
  rw [← V_wdn]
  obtain ⟨-, -, -, -, ⟨e0, e1⟩, -⟩ := idx_facts t
  funext j
  show V m c main_v2 ((win0_2.rect t).idx j) = _
  refine congrArg _ (funext fun a => Fin.ext ?_)
  match a with
  | ⟨0, _⟩ => show win0_2.index t 0 * win0_2.size 0 + 1 * (j 0).val = _; rw [e0, one_mul, zero_add]; rfl
  | ⟨1, _⟩ => show win0_2.index t 1 * win0_2.size 1 + 1 * (j 1).val = _; rw [e1, one_mul, zero_add]; rfl

/-- The block a grid point reads, of the array. -/
theorem iblk_g (c : Dev nD) (t : Fin cfg0.N) : (iblk m c 3 t : Vec Ideal S1x1024 .f32) = shapeCast S1x1024 (ag m c) shapeCasts_S1024_S1x1024 := by
  rw [← V_g]
  obtain ⟨-, -, -, -, -, ⟨e0, e1⟩, -⟩ := idx_facts t
  funext j
  show V m c main_v3 ((win0_3.rect t).idx j) = _
  refine congrArg _ (funext fun a => Fin.ext ?_)
  match a with
  | ⟨0, _⟩ => show win0_3.index t 0 * win0_3.size 0 + 1 * (j 0).val = _; rw [e0, one_mul, zero_add]; rfl
  | ⟨1, _⟩ => show win0_3.index t 1 * win0_3.size 1 + 1 * (j 1).val = _; rw [e1, one_mul, zero_add]; rfl

/-- The block a grid point reads, of the array. -/
theorem iblk_b (c : Dev nD) (t : Fin cfg0.N) : (iblk m c 4 t : Vec Ideal S1x1024 .f32) = shapeCast S1x1024 (ab m c) shapeCasts_S1024_S1x1024 := by
  rw [← V_b]
  obtain ⟨-, -, -, -, -, -, e0, e1⟩ := idx_facts t
  funext j
  show V m c main_v4 ((win0_4.rect t).idx j) = _
  refine congrArg _ (funext fun a => Fin.ext ?_)
  match a with
  | ⟨0, _⟩ => show win0_4.index t 0 * win0_4.size 0 + 1 * (j 0).val = _; rw [e0, one_mul, zero_add]; rfl
  | ⟨1, _⟩ => show win0_4.index t 1 * win0_4.size 1 + 1 * (j 1).val = _; rw [e1, one_mul, zero_add]; rfl

/-! ## The result array -/

/-- Element `(n, c)` of the result, where row `n` is token `n % 8192` of sequence `n / 8192`. -/
def elem (c : Dev nD) (n : Fin 32768) (k : Fin 1024) : EReal :=
  ffnNorm (fun d => ax m c (ix3 ⟨n.val / 8192, by omega⟩ ⟨n.val % 8192, by omega⟩ d)) (fun d k => awup m c (ix2 d k))
    (fun k d => awdn m c (ix2 k d)) (fun d => ag m c (ix1 d)) (fun d => ab m c (ix1 d)) k

/-- The whole result array. -/
def res (c : Dev nD) : Buf (Elt Ideal) ((c : Thread nD τ).loc main_v5) := fun j : S32768x1024.Idx => elem m c (j 0) (j 1)

/-- What grid point `t` writes back is block `t` of the result array. -/
theorem flushed_eq (c : Dev nD) (t : Fin cfg0.N) :
    (dats m 0 c).flushed 5 t = (win0_5.blk t).view.read (Elt Ideal) (res m c) := by
  rw [Value.flushed5, iblk_wup, iblk_wdn, iblk_g, iblk_b]
  obtain ⟨-, ⟨e0, e1⟩, -⟩ := idx_facts t
  have ht := t_lt t
  funext (j : S512x1024.Idx)
  obtain ⟨r, k, rfl⟩ : ∃ (r : Fin 512) (k : Fin 1024), j = ix2 r k := ⟨j 0, j 1, eq_ix2 j⟩
  show out0_5 (F := Ideal) (iblk m c 0 t) (awup m c) (awdn m c) _ _ (ix2 r k) = res m c ((win0_5.rect t).idx (ix2 r k))
  have ej : (win0_5.rect t).idx (ix2 r k) = ix2 ⟨512 * t.val + r.val, by omega⟩ k := by
    refine funext fun a => Fin.ext ?_
    match a with
    | ⟨0, _⟩ => show win0_5.index t 0 * win0_5.size 0 + 1 * r.val = _; rw [e0, one_mul]; rfl
    | ⟨1, _⟩ => show win0_5.index t 1 * win0_5.size 1 + 1 * k.val = _; rw [e1, one_mul, zero_add]; rfl
  rw [ej, Block.out_apply]
  simp only [iblk_x]
  unfold res elem
  pointwise

/-- Every index of the result array lies in some point's block. -/
theorem cover (i : S32768x1024.Idx) :
    ∃ t : Fin cfg0.N, (cfg0.win 5).flush t = true ∧ i ∈ ((cfg0.win 5).blk t).view.set := by
  have h0 : (i 0 : Nat) < 32768 := (i 0).isLt
  have h1 : (i 1 : Nat) < 1024 := (i 1).isLt
  obtain ⟨t, ht⟩ : ∃ t : Fin cfg0.N, t.val = (i 0 : Nat) / 512 :=
    ⟨⟨(i 0 : Nat) / 512, lt_of_lt_of_eq (by omega : (i 0 : Nat) / 512 < 64) N_0.symm⟩, rfl⟩
  refine ⟨t, flush0_5 _, ?_⟩
  show i ∈ ((View.whole main_v5).slice (win0_5.rect t)).set
  rw [View.set_slice_whole, Rect.mem_set_unit]
  obtain ⟨-, ⟨e0, e1⟩, ⟨x0, x1⟩, -⟩ := idx_facts t
  intro a
  match a with
  | ⟨0, _⟩ =>
    show win0_5.index t 0 * win0_5.size 0 ≤ (i 0 : Nat) ∧ (i 0 : Nat) < win0_5.index t 0 * win0_5.size 0 + win0_5.xsize (grid0.coords t) 0
    rw [e0, x0, ht]; omega
  | ⟨1, _⟩ =>
    show win0_5.index t 1 * win0_5.size 1 ≤ (i 1 : Nat) ∧ (i 1 : Nat) < win0_5.index t 1 * win0_5.size 1 + win0_5.xsize (grid0.coords t) 1
    rw [e1, x1]; omega

/-- So the result array ends at `res`. -/
theorem final (c : Dev nD) : (dats m 0 c).arrAt 5 cfg0.N = res m c :=
  (dats m 0 c).arrAt_eq_of_cover 5 (res m c) (fun t _ => flushed_eq m c t) cover

end Cert.FfnIdeal.Final

end
-- ==== Proof.FfnRef.lean ====
/-
  The reference's result, element by element: the LayerNorm of `α·x + ½·FFN(x)` as Proof/Spec.lean defines it.
-/
module

public import proofs.«01_k».proof.Proof.Spec
public import proofs.«01_k».proof.Proof.Gen.FfnRefIdeal.Read
public import Idealize.ShloMosaic.Lib.Pointwise

@[expose] public section

set_option maxRecDepth 16384

noncomputable section

namespace Cert.FfnRefIdeal.Elem

open Cert.FfnRefIdeal Cert.FfnRefIdeal.Gen Cert.FfnRefIdeal.Read Idealize.ShloMosaic Cert.Spec

variable (x : FVec Ideal S4x8192x1024 .f32) (wup : FVec Ideal S1024x5632 .f32) (wdn : FVec Ideal S2816x1024 .f32)
  (g b : FVec Ideal S1024 .f32)

/-- A hidden unit of the reference's SwiGLU. -/
theorem hidden_apply (a : Fin 4) (s : Fin 8192) (k : Fin 2816) :
    val_main_v6 (F := Ideal) x wup (ix3 a s k) = hiddenUnit (fun d => x (ix3 a s d)) (fun d k => wup (ix2 d k)) k := by
  pointwise [val_main_v6, val_main_v5, val_main_call0_v5, val_main_call0_v4, val_main_call0_v3, val_main_call0_v2,
    val_main_call0_v1, val_main_call0_v0, val_main_call0_cst, val_main_call0_cst_0, val_main_v4, val_main_v3, val_main_v2]
  rfl

/-- The row before its LayerNorm. -/
theorem pre_apply (a : Fin 4) (s : Fin 8192) (c : Fin 1024) :
    val_main_v10 (F := Ideal) x wup wdn (ix3 a s c)
      = ffnRow (fun d => x (ix3 a s d)) (fun d k => wup (ix2 d k)) (fun k d => wdn (ix2 k d)) c := by
  unfold ffnRow
  simp only [← hidden_apply]
  pointwise [val_main_v10, val_main_v9, val_main_v8, val_main_v7, val_main_v1, val_main_v0, val_main_cst, val_main_cst_0]

/-- The reference's result before its last reshape. -/
theorem norm_apply (a : Fin 4) (s : Fin 8192) (c : Fin 1024) :
    val_main_v34 (F := Ideal) x wup wdn g b (ix3 a s c)
      = ffnNorm (fun d => x (ix3 a s d)) (fun d k => wup (ix2 d k)) (fun k d => wdn (ix2 k d))
          (fun d => g (ix1 d)) (fun d => b (ix1 d)) c := by
  unfold ffnNorm normRow varRow meanRow
  simp only [← pre_apply]
  pointwise [val_main_v34, val_main_v33, val_main_v32, val_main_v31, val_main_v30, val_main_v29, val_main_v28, val_main_v27,
    val_main_v26, val_main_v25, val_main_v24, val_main_cst_5, val_main_v23, val_main_v22, val_main_v21, val_main_v20,
    val_main_cst_4, val_main_v19, val_main_v18, val_main_cst_3, val_main_v17, val_main_v16, val_main_v15, val_main_v14,
    val_main_v13, val_main_cst_2, val_main_v12, val_main_v11, val_main_cst_1]

/-- Element `(n, c)` of the reference's result. -/
theorem res_apply (n : Fin 32768) (c : Fin 1024) :
    val_main_v35 (F := Ideal) x wup wdn g b (ix2 n c)
      = ffnNorm (fun d => x (ix3 ⟨n.val / 8192, by omega⟩ ⟨n.val % 8192, by omega⟩ d)) (fun d k => wup (ix2 d k))
          (fun k d => wdn (ix2 k d)) (fun d => g (ix1 d)) (fun d => b (ix1 d)) c := by
  rw [← norm_apply]
  pointwise [val_main_v35]

end Cert.FfnRefIdeal.Elem

end
-- ==== Proof.FfnClaims.lean ====
/-
  The claims about the first feed-forward call: the two frames of the kernel, the reference's frame, and the equality
  of the two results.
-/
module

public import proofs.«01_k».proof.Defs
public import proofs.«01_k».proof.Proof.FfnRun
public import proofs.«01_k».proof.Proof.FfnRef
public import proofs.«01_k».proof.Proof.Gen.Ffn
public import proofs.«01_k».proof.Proof.Gen.Ffn.Frame
public import proofs.«01_k».proof.Proof.Gen.FfnIdeal
public import proofs.«01_k».proof.Proof.Gen.FfnRefIdeal
public import Idealize.ShloMosaic.Lib.Quiescent

@[expose] public section

set_option maxRecDepth 16384

noncomputable section

namespace Cert.FfnClaims

open Idealize.ShloMosaic Idealize.ShloMosaic.TcCoe Idealize.SL.Sem

/-- The kernel as written runs and leaves its arguments. -/
theorem frame_p : Cert.quiescent_Ffn := fun m ρ _ => Cert.Ffn.Gen.frame m ρ

/-- The same at the ideal values. -/
theorem frame_pi : Cert.quiescent_FfnIdeal := fun m ρ _ => Cert.FfnIdeal.Gen.frame m ρ

/-- The reference runs, leaves its arguments, and has no semaphore to leave. -/
theorem frame_ri : Cert.quiescent_FfnRefIdeal := fun m ρ _ =>
  (θ_run Cert.FfnRefIdeal.defs _ _).mono
    (fun r h => ⟨fun c => (h c).2, Idealize.ShloMosaic.sem_eq_zero_of_no_sems (by decide) r.2⟩)
    (Cert.FfnRefIdeal.Value.run (F := Ideal) m ρ)

/-- The array the kernel's blocks fill is the reference's result, from equal arguments. -/
theorem value_eq (m : (ℓ : Loc Cert.FfnIdeal.nD Cert.FfnIdeal.τ Cert.FfnIdeal.sig) → Buf (Elt Ideal) ℓ) (c : Dev Cert.FfnIdeal.nD) :
    Cert.FfnRefIdeal.Read.val_main_v35 (F := Ideal) (Cert.FfnIdeal.Final.ax m c) (Cert.FfnIdeal.Final.awup m c)
        (Cert.FfnIdeal.Final.awdn m c) (Cert.FfnIdeal.Final.ag m c) (Cert.FfnIdeal.Final.ab m c)
      = Cert.FfnIdeal.Final.res m c := by
  funext (i : Cert.FfnRefIdeal.S32768x1024.Idx)
  obtain ⟨n, k, rfl⟩ : ∃ (n : Fin 32768) (k : Fin 1024), i = ix2 n k := ⟨i 0, i 1, eq_ix2 i⟩
  rw [Cert.FfnRefIdeal.Elem.res_apply]
  rfl

/-- Kernel and reference end with the same array. -/
theorem algebraic : Cert.algebraic_FfnIdeal_FfnRefIdeal := by
  intro m ρ m' ρ' _ hagree
  refine ⟨fun c => Cert.FfnIdeal.Final.res m c,
    (θ_run Cert.FfnIdeal.defs _ _).mono (fun _ h c => ⟨(h c).1.trans (Cert.FfnIdeal.Final.final m c), (h c).2⟩)
      (Cert.FfnIdeal.Value.run_blocks m ρ), ?_⟩
  refine (θ_run Cert.FfnRefIdeal.defs _ _).mono (fun _ h c => ⟨(h c).1.trans ?_, (h c).2⟩)
    (Cert.FfnRefIdeal.Value.run (F := Ideal) m' ρ')
  obtain ⟨e0, e1, e2, e3, e4⟩ := hagree c
  show _ = Cert.FfnIdeal.Final.res m c
  rw [Cert.FfnRefIdeal.Read.val_main_v35_eq, ← value_eq, e0, e1, e2, e3, e4]

end Cert.FfnClaims

end
-- ==== Proof.MergeBlock.lean ====
/-
  The block one grid point of the merge kernel writes, element by element: the GELU and gated linear unit of the SSM
  branch, the two projections through their gates, the middle LayerNorm, and the second feed-forward part.
-/
module

public import proofs.«01_k».proof.Proof.Spec
public import proofs.«01_k».proof.Proof.Gen.MergeIdeal.Value
public import Idealize.ShloMosaic.Lib.Pointwise

@[expose] public section

set_option maxRecDepth 16384

noncomputable section

namespace Cert.MergeIdeal.Block

open Cert.MergeIdeal Cert.MergeIdeal.Gen Idealize.ShloMosaic Cert.Spec

/-- One chunk of 256 hidden units, for row `r` of the block and output `c`. -/
def chunk (z : FVec Ideal S512x1024 .bf16) (wg wu : FVec Ideal S1024x256 .bf16) (wd : FVec Ideal S256x1024 .bf16)
    (r : Fin 512) (c : Fin 1024) : EReal :=
  chunkRow (fun d => z (ix2 r d)) (fun d t => wg (ix2 d t)) (fun d t => wu (ix2 d t)) (fun t c => wd (ix2 t c)) c

/-- A chunk over its slices of the weights. -/
theorem chunk_eq (z : FVec Ideal S512x1024 .bf16) (w1 : FVec Ideal S1024x5632 .bf16) (w2 : FVec Ideal S2816x1024 .bf16)
    (wg wu : FVec Ideal S1024x256 .bf16) (wd : FVec Ideal S256x1024 .bf16) (o : ℕ) (ho : o ≤ 2560)
    (hg : ∀ (d : Fin 1024) (t : Fin 256), wg (ix2 d t) = w1 (ix2 d ⟨o + t.val, by omega⟩))
    (hu : ∀ (d : Fin 1024) (t : Fin 256), wu (ix2 d t) = w1 (ix2 d ⟨2816 + (o + t.val), by omega⟩))
    (hd : ∀ (t : Fin 256) (c : Fin 1024), wd (ix2 t c) = w2 (ix2 ⟨o + t.val, by omega⟩ c)) (r : Fin 512) (c : Fin 1024) :
    chunk z wg wu wd r c = ∑ t : Fin 256, hiddenUnit (fun d => z (ix2 r d)) (fun d k => w1 (ix2 d k)) ⟨o + t.val, by omega⟩
      * w2 (ix2 ⟨o + t.val, by omega⟩ c) :=
  chunkRow_eq _ (fun d k => w1 (ix2 d k)) (fun k d => w2 (ix2 k d)) _ _ _ o ho hg hu hd c

/-! ## The branches and the middle row -/

/-- The attention branch's projection. -/
theorem pay2_apply (ya : FVec Ideal S512x512 .f32) (wb1 : FVec Ideal S512x1024 .bf16) (r : Fin 512) (c : Fin 1024) :
    k0_pay2 (F := Ideal) ya wb1 (ix2 r c) = ∑ j : Fin 512, ya (ix2 r j) * wb1 (ix2 j c) := by
  pointwise [k0_pay2]

/-- The SSM branch's projection through its gate; the recurrence's output comes transposed. -/
theorem pay3_apply (ys : FVec Ideal S512x512 .f32) (wglu : FVec Ideal S512x512 .bf16) (wb0 gs : FVec Ideal S512x1024 .bf16)
    (r : Fin 512) (c : Fin 1024) :
    k0_pay3 (F := Ideal) ys wglu wb0 gs (ix2 r c)
      = gs (ix2 r c) * ∑ j, gluUnit (fun i => ys (ix2 i r)) (fun i j => wglu (ix2 i j)) j * wb0 (ix2 j c) := by
  unfold gluUnit gelu
  simp only [show ∀ v : EReal, v * v * v = v * (v * v) from fun v => mul_assoc v v v]
  pointwise [k0_pay3]

/-- The middle LayerNorm. -/
theorem pay5_apply (v31 v35 : FVec Ideal S512x1024 .f32) (v37 : FVec Ideal S512x1024 .bf16) (wout : FVec Ideal S1024x1024 .bf16)
    (x : FVec Ideal S512x1024 .f32) (g b : FVec Ideal S1x1024 .f32) (r : Fin 512) (c : Fin 1024) (y : Fin 1024 → EReal)
    (hy : ∀ k, y k = midRow (fun d => x (ix2 r d)) (fun d => v35 (ix2 r d) + v37 (ix2 r d) * v31 (ix2 r d)) (fun d k => wout (ix2 d k)) k) :
    k0_pay5 (F := Ideal) v31 v35 v37 wout x g b (ix2 r c) = normRow y (fun d => g (ix2 0 d)) (fun d => b (ix2 0 d)) c := by
  unfold normRow varRow meanRow
  simp only [hy, midRow]
  pointwise [k0_pay5]

/-- Its rounding is the identity here. -/
theorem pay6_apply (v31 v35 : FVec Ideal S512x1024 .f32) (v37 : FVec Ideal S512x1024 .bf16) (wout : FVec Ideal S1024x1024 .bf16)
    (x : FVec Ideal S512x1024 .f32) (g b : FVec Ideal S1x1024 .f32) (r : Fin 512) (c : Fin 1024) :
    k0_pay6 (F := Ideal) v31 v35 v37 wout x g b (ix2 r c) = k0_pay5 (F := Ideal) v31 v35 v37 wout x g b (ix2 r c) := by
  pointwise [k0_pay6]

/-! ## The second feed-forward part, chunk by chunk -/

/-- The first two chunks; the first one's gate is given. -/
theorem pay9_apply (z : FVec Ideal S512x1024 .bf16) (p : FVec Ideal S512x256 .f32) (g0 u0 : FVec Ideal S1024x256 .bf16) (d0 : FVec Ideal S256x1024 .bf16) (g1 u1 : FVec Ideal S1024x256 .bf16) (d1 : FVec Ideal S256x1024 .bf16) (r : Fin 512) (c : Fin 1024)
    (hp : ∀ t : Fin 256, p (ix2 r t) = ∑ d : Fin 1024, z (ix2 r d) * g0 (ix2 d t)) :
    k0_pay9 (F := Ideal) z (k0_pay7 (F := Ideal)) p u0 d0 g1 u1 d1 (ix2 r c) = chunk z g0 u0 d0 r c + chunk z g1 u1 d1 r c := by
  unfold chunk chunkRow gated
  simp only [← hp]
  pointwise [k0_pay9, k0_pay7]

/-- The first chunk's gate. -/
theorem pay8_apply (v31 v35 : FVec Ideal S512x1024 .f32) (v37 : FVec Ideal S512x1024 .bf16) (wout : FVec Ideal S1024x1024 .bf16)
    (x : FVec Ideal S512x1024 .f32) (g b : FVec Ideal S1x1024 .f32) (w : FVec Ideal S1024x256 .bf16) (r : Fin 512) (t : Fin 256) :
    k0_pay8 (F := Ideal) v31 v35 v37 wout x g b w (ix2 r t)
      = ∑ d : Fin 1024, k0_pay6 (F := Ideal) v31 v35 v37 wout x g b (ix2 r d) * w (ix2 d t) := by
  pointwise [k0_pay8]

/-- Three more chunks. -/
theorem pay12_apply (z : FVec Ideal S512x1024 .bf16) (acc : FVec Ideal S512x1024 .f32) (g0 u0 : FVec Ideal S1024x256 .bf16) (d0 : FVec Ideal S256x1024 .bf16) (g1 u1 : FVec Ideal S1024x256 .bf16) (d1 : FVec Ideal S256x1024 .bf16) (g2 u2 : FVec Ideal S1024x256 .bf16) (d2 : FVec Ideal S256x1024 .bf16) (r : Fin 512) (c : Fin 1024) :
    k0_pay12 (F := Ideal) z acc (k0_pay10 z g0 u0) (k0_pay11 d0) g1 u1 d1 g2 u2 d2 (ix2 r c)
      = acc (ix2 r c) + chunk z g0 u0 d0 r c + chunk z g1 u1 d1 r c + chunk z g2 u2 d2 r c := by
  pointwise [k0_pay12, k0_pay10, k0_pay11]
  rfl

/-- Three more chunks. -/
theorem pay15_apply (z : FVec Ideal S512x1024 .bf16) (acc : FVec Ideal S512x1024 .f32) (g0 u0 : FVec Ideal S1024x256 .bf16) (d0 : FVec Ideal S256x1024 .bf16) (g1 u1 : FVec Ideal S1024x256 .bf16) (d1 : FVec Ideal S256x1024 .bf16) (g2 u2 : FVec Ideal S1024x256 .bf16) (d2 : FVec Ideal S256x1024 .bf16) (r : Fin 512) (c : Fin 1024) :
    k0_pay15 (F := Ideal) z acc (k0_pay13 z g0) (k0_pay14 u0) (constant S512x256 .f32 0x00000000#32) d0 g1 u1 d1 g2 u2 d2 (ix2 r c)
      = acc (ix2 r c) + chunk z g0 u0 d0 r c + chunk z g1 u1 d1 r c + chunk z g2 u2 d2 r c := by
  pointwise [k0_pay15, k0_pay13, k0_pay14]
  rfl

/-- Two more chunks. -/
theorem pay16_apply (z : FVec Ideal S512x1024 .bf16) (acc : FVec Ideal S512x1024 .f32) (g0 u0 : FVec Ideal S1024x256 .bf16) (d0 : FVec Ideal S256x1024 .bf16) (g1 u1 : FVec Ideal S1024x256 .bf16) (d1 : FVec Ideal S256x1024 .bf16) (r : Fin 512) (c : Fin 1024) :
    k0_pay16 (F := Ideal) z acc g0 u0 d0 g1 u1 d1 (ix2 r c)
      = acc (ix2 r c) + chunk z g0 u0 d0 r c + chunk z g1 u1 d1 r c := by
  pointwise [k0_pay16]
  rfl

/-- The last chunk, the residual and the last LayerNorm. -/
theorem pay1_apply (z : FVec Ideal S512x1024 .bf16) (zf acc : FVec Ideal S512x1024 .f32) (g0 u0 : FVec Ideal S1024x256 .bf16) (d0 : FVec Ideal S256x1024 .bf16) (g b : FVec Ideal S1x1024 .f32)
    (r : Fin 512) (c : Fin 1024) (y : Fin 1024 → EReal)
    (hy : ∀ k, y k = Ideal.ofBits .f32 0x3FB504F3#32 * zf (ix2 r k)
      + Ideal.ofBits .f32 0x3F000000#32 * (acc (ix2 r k) + chunk z g0 u0 d0 r k)) :
    k0_pay1 (F := Ideal) zf acc (k0_pay17 z g0 u0) d0 g b (ix2 r c)
      = normRow y (fun d => g (ix2 0 d)) (fun d => b (ix2 0 d)) c := by
  unfold normRow varRow meanRow
  simp only [hy]
  pointwise [k0_pay1, k0_pay17]
  rfl

/-! ## The block one grid point writes -/

/-- The offset of a whole array. -/
theorem hz : (![0, 0] : Fin 2 → Nat) = fun _ => 0 := funext fun a => by fin_cases a <;> rfl

/-- Element `(r, c)` of the block. -/
theorem out_apply (x0 : Vec Ideal S512x1024 .f32) (x1 x2 : Vec Ideal S512x512 .f32) (x3 x4 : Vec Ideal S512x1024 .bf16)
    (x5 : Vec Ideal S512x512 .bf16) (x6 x7 : Vec Ideal S512x1024 .bf16) (x8 : Vec Ideal S1024x1024 .bf16)
    (x9 x10 : Vec Ideal S1x1024 .f32) (x11 : Vec Ideal S1024x5632 .bf16) (x12 : Vec Ideal S2816x1024 .bf16)
    (x13 x14 : Vec Ideal S1x1024 .f32) (r : Fin 512) (c : Fin 1024) :
    out0_15 (F := Ideal) x0 x1 x2 x3 x4 x5 x6 x7 x8 x9 x10 x11 x12 x13 x14 (ix2 r c)
      = ffnNorm (normRow (midRow (fun d => x0 (ix2 r d))
            (mergedUnit (fun i => x1 (ix2 i r)) (fun j => x2 (ix2 r j)) (fun d => x3 (ix2 r d)) (fun d => x4 (ix2 r d))
              (fun i j => x5 (ix2 i j)) (fun j d => x6 (ix2 j d)) (fun j d => x7 (ix2 j d)))
            (fun d k => x8 (ix2 d k))) (fun d => x9 (ix2 0 d)) (fun d => x10 (ix2 0 d)))
          (fun d k => x11 (ix2 d k)) (fun k d => x12 (ix2 k d)) (fun d => x13 (ix2 0 d)) (fun d => x14 (ix2 0 d)) c := by
  unfold out0_15 k0_pay21 k0_pay20 k0_pay19 k0_pay18 k0_pay4
  dsimp only
  rw [View.canon_unit_zero hz]
  have l0 {e} (x : Vec Ideal S512x512 e) : View.ld x r0_0 = x := View.ld_unit_zero hz _ _
  have l1 {e} (x : Vec Ideal S512x1024 e) : View.ld x r0_1 = x := View.ld_unit_zero hz _ _
  have l2 {e} (x : Vec Ideal S1024x1024 e) : View.ld x r0_2 = x := View.ld_unit_zero hz _ _
  have l3 {e} (x : Vec Ideal S1x1024 e) : View.ld x r0_3 = x := View.ld_unit_zero hz _ _
  simp only [l0, l1, l2, l3, shapeCast_self]
  unfold ffnNorm
  have hz5 : ∀ k : Fin 1024, k0_pay5 (F := Ideal) (k0_pay2 x2 x7) (k0_pay3 x1 x5 x6 x3) x4 x8 x0 x9 x10 (ix2 r k)
      = normRow (midRow (fun d => x0 (ix2 r d))
            (mergedUnit (fun i => x1 (ix2 i r)) (fun j => x2 (ix2 r j)) (fun d => x3 (ix2 r d)) (fun d => x4 (ix2 r d))
              (fun i j => x5 (ix2 i j)) (fun j d => x6 (ix2 j d)) (fun j d => x7 (ix2 j d)))
            (fun d k => x8 (ix2 d k))) (fun d => x9 (ix2 0 d)) (fun d => x10 (ix2 0 d)) k := fun k => by
    refine pay5_apply _ _ _ _ _ _ _ r k _ fun k => ?_
    unfold mergedUnit
    simp only [pay2_apply, pay3_apply]
  refine pay1_apply _ _ _ _ _ _ x13 x14 r c _ fun k => ?_
  rw [pay16_apply, pay15_apply, pay12_apply, pay9_apply _ _ _ _ _ _ _ _ _ _ (fun t => pay8_apply _ _ _ _ _ _ _ _ r t), hz5]
  unfold ffnRow
  rw [sum_chunks]
  rw [chunk_eq _ x11 x12 _ _ _ 0 (by omega) ?_ ?_ ?_ r k, chunk_eq _ x11 x12 _ _ _ 256 (by omega) ?_ ?_ ?_ r k, chunk_eq _ x11 x12 _ _ _ 512 (by omega) ?_ ?_ ?_ r k, chunk_eq _ x11 x12 _ _ _ 768 (by omega) ?_ ?_ ?_ r k, chunk_eq _ x11 x12 _ _ _ 1024 (by omega) ?_ ?_ ?_ r k, chunk_eq _ x11 x12 _ _ _ 1280 (by omega) ?_ ?_ ?_ r k, chunk_eq _ x11 x12 _ _ _ 1536 (by omega) ?_ ?_ ?_ r k, chunk_eq _ x11 x12 _ _ _ 1792 (by omega) ?_ ?_ ?_ r k, chunk_eq _ x11 x12 _ _ _ 2048 (by omega) ?_ ?_ ?_ r k, chunk_eq _ x11 x12 _ _ _ 2304 (by omega) ?_ ?_ ?_ r k, chunk_eq _ x11 x12 _ _ _ 2560 (by omega) ?_ ?_ ?_ r k]
  all_goals try
    intro a b
    pointwise
    all_goals exact congrArg (fun q => x11 (ix2 a q)) (Fin.mk_eq_mk.mpr (by omega))
  simp only [pay6_apply, hz5]

end Cert.MergeIdeal.Block

end
-- ==== Proof.MergeRun.lean ====
/-
  The merge kernel's result array after its grid: what each window's block holds, point by point, what a point writes
  back, and that the points' blocks fill the array.
-/
module

public import proofs.«01_k».proof.Proof.MergeBlock
public import Idealize.ShloMosaic.Lib.StableHlo.Run

@[expose] public section

set_option maxRecDepth 16384

noncomputable section

namespace Cert.MergeIdeal.Final

open Cert.MergeIdeal Cert.MergeIdeal.Gen Idealize.ShloMosaic Idealize.ShloMosaic.TcCoe Idealize.SL.Sem Cert.Spec
open Idealize.ShloMosaic.Pipeline (Dat)

variable (m : (ℓ : Loc nD τ sig) → Buf (Elt Ideal) ℓ) (ρ : Dev nD → PrngReg)

/-- The device's arguments as plain arrays. -/
abbrev ax (c : Dev nD) : FVec Ideal S4x8192x1024 .f32 := m ((c : Thread nD τ).loc main_arg0)
abbrev ays (c : Dev nD) : FVec Ideal S4x8192x512 .f32 := m ((c : Thread nD τ).loc main_arg1)
abbrev aya (c : Dev nD) : FVec Ideal S4x8192x512 .f32 := m ((c : Thread nD τ).loc main_arg2)
abbrev ags (c : Dev nD) : FVec Ideal S4x8192x1024 .f32 := m ((c : Thread nD τ).loc main_arg3)
abbrev aga (c : Dev nD) : FVec Ideal S4x8192x1024 .f32 := m ((c : Thread nD τ).loc main_arg4)
abbrev awglu (c : Dev nD) : FVec Ideal S512x512 .f32 := m ((c : Thread nD τ).loc main_arg5)
abbrev awbr (c : Dev nD) : FVec Ideal S2x512x1024 .f32 := m ((c : Thread nD τ).loc main_arg6)
abbrev awout (c : Dev nD) : FVec Ideal S1024x1024 .f32 := m ((c : Thread nD τ).loc main_arg7)
abbrev ag (c : Dev nD) : FVec Ideal S1024 .f32 := m ((c : Thread nD τ).loc main_arg8)
abbrev ab (c : Dev nD) : FVec Ideal S1024 .f32 := m ((c : Thread nD τ).loc main_arg9)
abbrev awup (c : Dev nD) : FVec Ideal S1024x5632 .f32 := m ((c : Thread nD τ).loc main_arg10)
abbrev awdn (c : Dev nD) : FVec Ideal S2816x1024 .f32 := m ((c : Thread nD τ).loc main_arg11)
abbrev ag3 (c : Dev nD) : FVec Ideal S1024 .f32 := m ((c : Thread nD τ).loc main_arg12)
abbrev ab3 (c : Dev nD) : FVec Ideal S1024 .f32 := m ((c : Thread nD τ).loc main_arg13)

/-- Row `n` of the flattened arrays is token `n % 8192` of sequence `n / 8192`. -/
def seqOf (n : Fin 32768) : Fin 4 := ⟨n.val / 8192, by omega⟩
def tokOf (n : Fin 32768) : Fin 8192 := ⟨n.val % 8192, by omega⟩

/-! ## What the region finds in its windows' arrays -/

/-- The array the launch finds, as the host code makes it of an argument. -/
theorem V_x (c : Dev nD) : V m c main_v0 = (shapeCast S32768x1024 (ax m c) shapeCasts_S4x8192x1024_S32768x1024 : FVec Ideal S32768x1024 .f32) := by
  simp only [V, hostOps0]; after_results_simp <;> rfl
/-- The array the launch finds, as the host code makes it of an argument. -/
theorem V_ys (c : Dev nD) : V m c main_v2 = (transpose S512x32768 [1, 0] (shapeCast S32768x512 (ays m c) shapeCasts_S4x8192x512_S32768x512) transposes_S32768x512_S512x32768_1_0 : FVec Ideal S512x32768 .f32) := by
  simp only [V, hostOps0]; after_results_simp <;> rfl
/-- The array the launch finds, as the host code makes it of an argument. -/
theorem V_ya (c : Dev nD) : V m c main_v3 = (shapeCast S32768x512 (aya m c) shapeCasts_S4x8192x512_S32768x512 : FVec Ideal S32768x512 .f32) := by
  simp only [V, hostOps0]; after_results_simp <;> rfl
/-- The array the launch finds, as the host code makes it of an argument. -/
theorem V_gs (c : Dev nD) : V m c main_v5 = (shapeCast S32768x1024 (ags m c) shapeCasts_S4x8192x1024_S32768x1024 : FVec Ideal S32768x1024 .f32) := by
  simp only [V, hostOps0]; after_results_simp <;> rfl
/-- The array the launch finds, as the host code makes it of an argument. -/
theorem V_ga (c : Dev nD) : V m c main_v7 = (shapeCast S32768x1024 (aga m c) shapeCasts_S4x8192x1024_S32768x1024 : FVec Ideal S32768x1024 .f32) := by
  simp only [V, hostOps0]; after_results_simp <;> rfl
/-- The array the launch finds, as the host code makes it of an argument. -/
theorem V_wglu (c : Dev nD) : V m c main_v8 = (awglu m c : FVec Ideal S512x512 .f32) := by
  simp only [V, hostOps0]; after_results_simp <;> rfl
/-- The array the launch finds, as the host code makes it of an argument. -/
theorem V_wb0 (c : Dev nD) : V m c main_v11 = (shapeCast S512x1024 (extractStridedSlice S1x512x1024 ![0, 0, 0] (awbr m c) slices_S2x512x1024_S1x512x1024_0_0_0) shapeCasts_S1x512x1024_S512x1024 : FVec Ideal S512x1024 .f32) := by
  simp only [V, hostOps0]; after_results_simp <;> rfl
/-- The array the launch finds, as the host code makes it of an argument. -/
theorem V_wb1 (c : Dev nD) : V m c main_v14 = (shapeCast S512x1024 (extractStridedSlice S1x512x1024 ![1, 0, 0] (awbr m c) slices_S2x512x1024_S1x512x1024_1_0_0) shapeCasts_S1x512x1024_S512x1024 : FVec Ideal S512x1024 .f32) := by
  simp only [V, hostOps0]; after_results_simp <;> rfl
/-- The array the launch finds, as the host code makes it of an argument. -/
theorem V_wout (c : Dev nD) : V m c main_v15 = (awout m c : FVec Ideal S1024x1024 .f32) := by
  simp only [V, hostOps0]; after_results_simp <;> rfl
/-- The array the launch finds, as the host code makes it of an argument. -/
theorem V_g (c : Dev nD) : V m c main_v18 = (shapeCast S1x1024 (ag m c) shapeCasts_S1024_S1x1024 : FVec Ideal S1x1024 .f32) := by
  simp only [V, hostOps0]; after_results_simp <;> rfl
/-- The array the launch finds, as the host code makes it of an argument. -/
theorem V_b (c : Dev nD) : V m c main_v19 = (shapeCast S1x1024 (ab m c) shapeCasts_S1024_S1x1024 : FVec Ideal S1x1024 .f32) := by
  simp only [V, hostOps0]; after_results_simp <;> rfl
/-- The array the launch finds, as the host code makes it of an argument. -/
theorem V_wup (c : Dev nD) : V m c main_v16 = (awup m c : FVec Ideal S1024x5632 .f32) := by
  simp only [V, hostOps0]; after_results_simp <;> rfl
/-- The array the launch finds, as the host code makes it of an argument. -/
theorem V_wdn (c : Dev nD) : V m c main_v17 = (awdn m c : FVec Ideal S2816x1024 .f32) := by
  simp only [V, hostOps0]; after_results_simp <;> rfl
/-- The array the launch finds, as the host code makes it of an argument. -/
theorem V_g3 (c : Dev nD) : V m c main_v20 = (shapeCast S1x1024 (ag3 m c) shapeCasts_S1024_S1x1024 : FVec Ideal S1x1024 .f32) := by
  simp only [V, hostOps0]; after_results_simp <;> rfl
/-- The array the launch finds, as the host code makes it of an argument. -/
theorem V_b3 (c : Dev nD) : V m c main_v21 = (shapeCast S1x1024 (ab3 m c) shapeCasts_S1024_S1x1024 : FVec Ideal S1x1024 .f32) := by
  simp only [V, hostOps0]; after_results_simp <;> rfl

/-- The index maps, decided over the grid: the rows (the transposed array's columns) move with the point, the weights stay. -/
theorem idx_facts : ∀ t : Fin cfg0.N,
    (win0_0.index t 0 * win0_0.size 0 = 512 * t.val ∧ win0_0.index t 1 * win0_0.size 1 = 0)
    ∧ (win0_1.index t 0 * win0_1.size 0 = 0 ∧ win0_1.index t 1 * win0_1.size 1 = 512 * t.val)
    ∧ (win0_2.index t 0 * win0_2.size 0 = 512 * t.val ∧ win0_2.index t 1 * win0_2.size 1 = 0)
    ∧ (win0_3.index t 0 * win0_3.size 0 = 512 * t.val ∧ win0_3.index t 1 * win0_3.size 1 = 0)
    ∧ (win0_4.index t 0 * win0_4.size 0 = 512 * t.val ∧ win0_4.index t 1 * win0_4.size 1 = 0)
    ∧ (win0_5.index t 0 * win0_5.size 0 = 0 ∧ win0_5.index t 1 * win0_5.size 1 = 0)
    ∧ (win0_6.index t 0 * win0_6.size 0 = 0 ∧ win0_6.index t 1 * win0_6.size 1 = 0)
    ∧ (win0_7.index t 0 * win0_7.size 0 = 0 ∧ win0_7.index t 1 * win0_7.size 1 = 0)
    ∧ (win0_8.index t 0 * win0_8.size 0 = 0 ∧ win0_8.index t 1 * win0_8.size 1 = 0)
    ∧ (win0_9.index t 0 * win0_9.size 0 = 0 ∧ win0_9.index t 1 * win0_9.size 1 = 0)
    ∧ (win0_10.index t 0 * win0_10.size 0 = 0 ∧ win0_10.index t 1 * win0_10.size 1 = 0)
    ∧ (win0_11.index t 0 * win0_11.size 0 = 0 ∧ win0_11.index t 1 * win0_11.size 1 = 0)
    ∧ (win0_12.index t 0 * win0_12.size 0 = 0 ∧ win0_12.index t 1 * win0_12.size 1 = 0)
    ∧ (win0_13.index t 0 * win0_13.size 0 = 0 ∧ win0_13.index t 1 * win0_13.size 1 = 0)
    ∧ (win0_14.index t 0 * win0_14.size 0 = 0 ∧ win0_14.index t 1 * win0_14.size 1 = 0)
    ∧ (win0_15.index t 0 * win0_15.size 0 = 512 * t.val ∧ win0_15.index t 1 * win0_15.size 1 = 0)
    ∧ (win0_15.xsize (grid0.coords t) 0 = 512 ∧ win0_15.xsize (grid0.coords t) 1 = 1024) :=
  (by decide +kernel : ∀ t : Fin grid0.N, _)

/-- A grid point is below the grid's extent. -/
theorem t_lt (t : Fin cfg0.N) : t.val < 64 := lt_of_lt_of_eq t.isLt N_0

/-- The row of the whole array that row `r` of block `t` is. -/
def rowOf (t : Fin cfg0.N) (r : Fin 512) : Fin 32768 := ⟨512 * t.val + r.val, by have := t_lt t; omega⟩

/-! ## The blocks at a grid point, element by element -/

/-- The block a grid point reads, of the array. -/
theorem blk_x (c : Dev nD) (t : Fin cfg0.N) (i : Fin 512) (j : Fin 1024) :
    (iblk m c 0 t : Vec Ideal S512x1024 .f32) (ix2 i j) = ax m c (ix3 (seqOf (rowOf t i)) (tokOf (rowOf t i)) j) := by
  obtain ⟨⟨e0, e1⟩, -⟩ := idx_facts t
  have e : (win0_0.rect t).idx (ix2 i j) = ix2 (rowOf t i) (j) := by
    refine funext fun a => Fin.ext ?_
    match a with
    | ⟨0, _⟩ => show win0_0.index t 0 * win0_0.size 0 + 1 * i.val = _; rw [e0, one_mul]; rfl
    | ⟨1, _⟩ => show win0_0.index t 1 * win0_0.size 1 + 1 * j.val = _; rw [e1, one_mul, zero_add]; rfl
  show V m c main_v0 ((win0_0.rect t).idx (ix2 i j)) = _
  rw [e, V_x]
  unfold seqOf tokOf
  pointwise

/-- The block a grid point reads, of the array. -/
theorem blk_ys (c : Dev nD) (t : Fin cfg0.N) (i : Fin 512) (j : Fin 512) :
    (iblk m c 1 t : Vec Ideal S512x512 .f32) (ix2 i j) = ays m c (ix3 (seqOf (rowOf t j)) (tokOf (rowOf t j)) i) := by
  obtain ⟨-, ⟨e0, e1⟩, -⟩ := idx_facts t
  have e : (win0_1.rect t).idx (ix2 i j) = ix2 (i) (rowOf t j) := by
    refine funext fun a => Fin.ext ?_
    match a with
    | ⟨0, _⟩ => show win0_1.index t 0 * win0_1.size 0 + 1 * i.val = _; rw [e0, one_mul, zero_add]; rfl
    | ⟨1, _⟩ => show win0_1.index t 1 * win0_1.size 1 + 1 * j.val = _; rw [e1, one_mul]; rfl
  show V m c main_v2 ((win0_1.rect t).idx (ix2 i j)) = _
  rw [e, V_ys]
  unfold seqOf tokOf
  pointwise

/-- The block a grid point reads, of the array. -/
theorem blk_ya (c : Dev nD) (t : Fin cfg0.N) (i : Fin 512) (j : Fin 512) :
    (iblk m c 2 t : Vec Ideal S512x512 .f32) (ix2 i j) = aya m c (ix3 (seqOf (rowOf t i)) (tokOf (rowOf t i)) j) := by
  obtain ⟨-, -, ⟨e0, e1⟩, -⟩ := idx_facts t
  have e : (win0_2.rect t).idx (ix2 i j) = ix2 (rowOf t i) (j) := by
    refine funext fun a => Fin.ext ?_
    match a with
    | ⟨0, _⟩ => show win0_2.index t 0 * win0_2.size 0 + 1 * i.val = _; rw [e0, one_mul]; rfl
    | ⟨1, _⟩ => show win0_2.index t 1 * win0_2.size 1 + 1 * j.val = _; rw [e1, one_mul, zero_add]; rfl
  show V m c main_v3 ((win0_2.rect t).idx (ix2 i j)) = _
  rw [e, V_ya]
  unfold seqOf tokOf
  pointwise

/-- The block a grid point reads, of the array. -/
theorem blk_gs (c : Dev nD) (t : Fin cfg0.N) (i : Fin 512) (j : Fin 1024) :
    (iblk m c 3 t : Vec Ideal S512x1024 .bf16) (ix2 i j) = ags m c (ix3 (seqOf (rowOf t i)) (tokOf (rowOf t i)) j) := by
  obtain ⟨-, -, -, ⟨e0, e1⟩, -⟩ := idx_facts t
  have e : (win0_3.rect t).idx (ix2 i j) = ix2 (rowOf t i) (j) := by
    refine funext fun a => Fin.ext ?_
    match a with
    | ⟨0, _⟩ => show win0_3.index t 0 * win0_3.size 0 + 1 * i.val = _; rw [e0, one_mul]; rfl
    | ⟨1, _⟩ => show win0_3.index t 1 * win0_3.size 1 + 1 * j.val = _; rw [e1, one_mul, zero_add]; rfl
  show V m c main_v5 ((win0_3.rect t).idx (ix2 i j)) = _
  rw [e, V_gs]
  unfold seqOf tokOf
  pointwise

/-- The block a grid point reads, of the array. -/
theorem blk_ga (c : Dev nD) (t : Fin cfg0.N) (i : Fin 512) (j : Fin 1024) :
    (iblk m c 4 t : Vec Ideal S512x1024 .bf16) (ix2 i j) = aga m c (ix3 (seqOf (rowOf t i)) (tokOf (rowOf t i)) j) := by
  obtain ⟨-, -, -, -, ⟨e0, e1⟩, -⟩ := idx_facts t
  have e : (win0_4.rect t).idx (ix2 i j) = ix2 (rowOf t i) (j) := by
    refine funext fun a => Fin.ext ?_
    match a with
    | ⟨0, _⟩ => show win0_4.index t 0 * win0_4.size 0 + 1 * i.val = _; rw [e0, one_mul]; rfl
    | ⟨1, _⟩ => show win0_4.index t 1 * win0_4.size 1 + 1 * j.val = _; rw [e1, one_mul, zero_add]; rfl
  show V m c main_v7 ((win0_4.rect t).idx (ix2 i j)) = _
  rw [e, V_ga]
  unfold seqOf tokOf
  pointwise

/-- The block a grid point reads, of the array. -/
theorem blk_wglu (c : Dev nD) (t : Fin cfg0.N) (i : Fin 512) (j : Fin 512) :
    (iblk m c 5 t : Vec Ideal S512x512 .bf16) (ix2 i j) = awglu m c (ix2 i j) := by
  obtain ⟨-, -, -, -, -, ⟨e0, e1⟩, -⟩ := idx_facts t
  have e : (win0_5.rect t).idx (ix2 i j) = ix2 (i) (j) := by
    refine funext fun a => Fin.ext ?_
    match a with
    | ⟨0, _⟩ => show win0_5.index t 0 * win0_5.size 0 + 1 * i.val = _; rw [e0, one_mul, zero_add]; rfl
    | ⟨1, _⟩ => show win0_5.index t 1 * win0_5.size 1 + 1 * j.val = _; rw [e1, one_mul, zero_add]; rfl
  show V m c main_v8 ((win0_5.rect t).idx (ix2 i j)) = _
  rw [e, V_wglu]

/-- The block a grid point reads, of the array. -/
theorem blk_wb0 (c : Dev nD) (t : Fin cfg0.N) (i : Fin 512) (j : Fin 1024) :
    (iblk m c 6 t : Vec Ideal S512x1024 .bf16) (ix2 i j) = awbr m c (ix3 0 i j) := by
  obtain ⟨-, -, -, -, -, -, ⟨e0, e1⟩, -⟩ := idx_facts t
  have e : (win0_6.rect t).idx (ix2 i j) = ix2 (i) (j) := by
    refine funext fun a => Fin.ext ?_
    match a with
    | ⟨0, _⟩ => show win0_6.index t 0 * win0_6.size 0 + 1 * i.val = _; rw [e0, one_mul, zero_add]; rfl
    | ⟨1, _⟩ => show win0_6.index t 1 * win0_6.size 1 + 1 * j.val = _; rw [e1, one_mul, zero_add]; rfl
  show V m c main_v11 ((win0_6.rect t).idx (ix2 i j)) = _
  rw [e, V_wb0]
  pointwise

/-- The block a grid point reads, of the array. -/
theorem blk_wb1 (c : Dev nD) (t : Fin cfg0.N) (i : Fin 512) (j : Fin 1024) :
    (iblk m c 7 t : Vec Ideal S512x1024 .bf16) (ix2 i j) = awbr m c (ix3 1 i j) := by
  obtain ⟨-, -, -, -, -, -, -, ⟨e0, e1⟩, -⟩ := idx_facts t
  have e : (win0_7.rect t).idx (ix2 i j) = ix2 (i) (j) := by
    refine funext fun a => Fin.ext ?_
    match a with
    | ⟨0, _⟩ => show win0_7.index t 0 * win0_7.size 0 + 1 * i.val = _; rw [e0, one_mul, zero_add]; rfl
    | ⟨1, _⟩ => show win0_7.index t 1 * win0_7.size 1 + 1 * j.val = _; rw [e1, one_mul, zero_add]; rfl
  show V m c main_v14 ((win0_7.rect t).idx (ix2 i j)) = _
  rw [e, V_wb1]
  pointwise

/-- The block a grid point reads, of the array. -/
theorem blk_wout (c : Dev nD) (t : Fin cfg0.N) (i : Fin 1024) (j : Fin 1024) :
    (iblk m c 8 t : Vec Ideal S1024x1024 .bf16) (ix2 i j) = awout m c (ix2 i j) := by
  obtain ⟨-, -, -, -, -, -, -, -, ⟨e0, e1⟩, -⟩ := idx_facts t
  have e : (win0_8.rect t).idx (ix2 i j) = ix2 (i) (j) := by
    refine funext fun a => Fin.ext ?_
    match a with
    | ⟨0, _⟩ => show win0_8.index t 0 * win0_8.size 0 + 1 * i.val = _; rw [e0, one_mul, zero_add]; rfl
    | ⟨1, _⟩ => show win0_8.index t 1 * win0_8.size 1 + 1 * j.val = _; rw [e1, one_mul, zero_add]; rfl
  show V m c main_v15 ((win0_8.rect t).idx (ix2 i j)) = _
  rw [e, V_wout]

/-- The block a grid point reads, of the array. -/
theorem blk_g (c : Dev nD) (t : Fin cfg0.N) (i : Fin 1) (j : Fin 1024) :
    (iblk m c 9 t : Vec Ideal S1x1024 .f32) (ix2 i j) = ag m c (ix1 j) := by
  obtain ⟨-, -, -, -, -, -, -, -, -, ⟨e0, e1⟩, -⟩ := idx_facts t
  have e : (win0_9.rect t).idx (ix2 i j) = ix2 (i) (j) := by
    refine funext fun a => Fin.ext ?_
    match a with
    | ⟨0, _⟩ => show win0_9.index t 0 * win0_9.size 0 + 1 * i.val = _; rw [e0, one_mul, zero_add]; rfl
    | ⟨1, _⟩ => show win0_9.index t 1 * win0_9.size 1 + 1 * j.val = _; rw [e1, one_mul, zero_add]; rfl
  show V m c main_v18 ((win0_9.rect t).idx (ix2 i j)) = _
  rw [e, V_g]
  pointwise

/-- The block a grid point reads, of the array. -/
theorem blk_b (c : Dev nD) (t : Fin cfg0.N) (i : Fin 1) (j : Fin 1024) :
    (iblk m c 10 t : Vec Ideal S1x1024 .f32) (ix2 i j) = ab m c (ix1 j) := by
  obtain ⟨-, -, -, -, -, -, -, -, -, -, ⟨e0, e1⟩, -⟩ := idx_facts t
  have e : (win0_10.rect t).idx (ix2 i j) = ix2 (i) (j) := by
    refine funext fun a => Fin.ext ?_
    match a with
    | ⟨0, _⟩ => show win0_10.index t 0 * win0_10.size 0 + 1 * i.val = _; rw [e0, one_mul, zero_add]; rfl
    | ⟨1, _⟩ => show win0_10.index t 1 * win0_10.size 1 + 1 * j.val = _; rw [e1, one_mul, zero_add]; rfl
  show V m c main_v19 ((win0_10.rect t).idx (ix2 i j)) = _
  rw [e, V_b]
  pointwise

/-- The block a grid point reads, of the array. -/
theorem blk_wup (c : Dev nD) (t : Fin cfg0.N) (i : Fin 1024) (j : Fin 5632) :
    (iblk m c 11 t : Vec Ideal S1024x5632 .bf16) (ix2 i j) = awup m c (ix2 i j) := by
  obtain ⟨-, -, -, -, -, -, -, -, -, -, -, ⟨e0, e1⟩, -⟩ := idx_facts t
  have e : (win0_11.rect t).idx (ix2 i j) = ix2 (i) (j) := by
    refine funext fun a => Fin.ext ?_
    match a with
    | ⟨0, _⟩ => show win0_11.index t 0 * win0_11.size 0 + 1 * i.val = _; rw [e0, one_mul, zero_add]; rfl
    | ⟨1, _⟩ => show win0_11.index t 1 * win0_11.size 1 + 1 * j.val = _; rw [e1, one_mul, zero_add]; rfl
  show V m c main_v16 ((win0_11.rect t).idx (ix2 i j)) = _
  rw [e, V_wup]

/-- The block a grid point reads, of the array. -/
theorem blk_wdn (c : Dev nD) (t : Fin cfg0.N) (i : Fin 2816) (j : Fin 1024) :
    (iblk m c 12 t : Vec Ideal S2816x1024 .bf16) (ix2 i j) = awdn m c (ix2 i j) := by
  obtain ⟨-, -, -, -, -, -, -, -, -, -, -, -, ⟨e0, e1⟩, -⟩ := idx_facts t
  have e : (win0_12.rect t).idx (ix2 i j) = ix2 (i) (j) := by
    refine funext fun a => Fin.ext ?_
    match a with
    | ⟨0, _⟩ => show win0_12.index t 0 * win0_12.size 0 + 1 * i.val = _; rw [e0, one_mul, zero_add]; rfl
    | ⟨1, _⟩ => show win0_12.index t 1 * win0_12.size 1 + 1 * j.val = _; rw [e1, one_mul, zero_add]; rfl
  show V m c main_v17 ((win0_12.rect t).idx (ix2 i j)) = _
  rw [e, V_wdn]

/-- The block a grid point reads, of the array. -/
theorem blk_g3 (c : Dev nD) (t : Fin cfg0.N) (i : Fin 1) (j : Fin 1024) :
    (iblk m c 13 t : Vec Ideal S1x1024 .f32) (ix2 i j) = ag3 m c (ix1 j) := by
  obtain ⟨-, -, -, -, -, -, -, -, -, -, -, -, -, ⟨e0, e1⟩, -⟩ := idx_facts t
  have e : (win0_13.rect t).idx (ix2 i j) = ix2 (i) (j) := by
    refine funext fun a => Fin.ext ?_
    match a with
    | ⟨0, _⟩ => show win0_13.index t 0 * win0_13.size 0 + 1 * i.val = _; rw [e0, one_mul, zero_add]; rfl
    | ⟨1, _⟩ => show win0_13.index t 1 * win0_13.size 1 + 1 * j.val = _; rw [e1, one_mul, zero_add]; rfl
  show V m c main_v20 ((win0_13.rect t).idx (ix2 i j)) = _
  rw [e, V_g3]
  pointwise

/-- The block a grid point reads, of the array. -/
theorem blk_b3 (c : Dev nD) (t : Fin cfg0.N) (i : Fin 1) (j : Fin 1024) :
    (iblk m c 14 t : Vec Ideal S1x1024 .f32) (ix2 i j) = ab3 m c (ix1 j) := by
  obtain ⟨-, -, -, -, -, -, -, -, -, -, -, -, -, -, ⟨e0, e1⟩, -⟩ := idx_facts t
  have e : (win0_14.rect t).idx (ix2 i j) = ix2 (i) (j) := by
    refine funext fun a => Fin.ext ?_
    match a with
    | ⟨0, _⟩ => show win0_14.index t 0 * win0_14.size 0 + 1 * i.val = _; rw [e0, one_mul, zero_add]; rfl
    | ⟨1, _⟩ => show win0_14.index t 1 * win0_14.size 1 + 1 * j.val = _; rw [e1, one_mul, zero_add]; rfl
  show V m c main_v21 ((win0_14.rect t).idx (ix2 i j)) = _
  rw [e, V_b3]
  pointwise

/-! ## The result array -/

/-- Element `(n, k)` of the result. -/
def elem (c : Dev nD) (n : Fin 32768) (k : Fin 1024) : EReal :=
  ffnNorm (normRow (midRow (fun d => ax m c (ix3 (seqOf n) (tokOf n) d))
        (mergedUnit (fun i => ays m c (ix3 (seqOf n) (tokOf n) i)) (fun j => aya m c (ix3 (seqOf n) (tokOf n) j))
          (fun d => ags m c (ix3 (seqOf n) (tokOf n) d)) (fun d => aga m c (ix3 (seqOf n) (tokOf n) d))
          (fun i j => awglu m c (ix2 i j)) (fun j d => awbr m c (ix3 0 j d)) (fun j d => awbr m c (ix3 1 j d)))
        (fun d k => awout m c (ix2 d k))) (fun d => ag m c (ix1 d)) (fun d => ab m c (ix1 d)))
    (fun d k => awup m c (ix2 d k)) (fun k d => awdn m c (ix2 k d)) (fun d => ag3 m c (ix1 d)) (fun d => ab3 m c (ix1 d)) k

/-- The whole result array. -/
def res (c : Dev nD) : Buf (Elt Ideal) ((c : Thread nD τ).loc main_v22) := fun j : S32768x1024.Idx => elem m c (j 0) (j 1)

/-- What grid point `t` writes back is block `t` of the result array. -/
theorem flushed_eq (c : Dev nD) (t : Fin cfg0.N) :
    (dats m 0 c).flushed 15 t = (win0_15.blk t).view.read (Elt Ideal) (res m c) := by
  rw [Value.flushed15]
  obtain ⟨-, -, -, -, -, -, -, -, -, -, -, -, -, -, -, ⟨e0, e1⟩, -⟩ := idx_facts t
  funext (j : S512x1024.Idx)
  obtain ⟨r, k, rfl⟩ : ∃ (r : Fin 512) (k : Fin 1024), j = ix2 r k := ⟨j 0, j 1, eq_ix2 j⟩
  show out0_15 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) (iblk m c 14 t) (ix2 r k) = res m c ((win0_15.rect t).idx (ix2 r k))
  have e : (win0_15.rect t).idx (ix2 r k) = ix2 (rowOf t r) k := by
    refine funext fun a => Fin.ext ?_
    match a with
    | ⟨0, _⟩ => show win0_15.index t 0 * win0_15.size 0 + 1 * r.val = _; rw [e0, one_mul]; rfl
    | ⟨1, _⟩ => show win0_15.index t 1 * win0_15.size 1 + 1 * k.val = _; rw [e1, one_mul, zero_add]; rfl
  rw [e, Block.out_apply]
  simp only [blk_x, blk_ys, blk_ya, blk_gs, blk_ga, blk_wglu, blk_wb0, blk_wb1, blk_wout, blk_g, blk_b, blk_wup, blk_wdn, blk_g3, blk_b3]
  rfl

/-- Every index of the result array lies in some point's block. -/
theorem cover (i : S32768x1024.Idx) :
    ∃ t : Fin cfg0.N, (cfg0.win 15).flush t = true ∧ i ∈ ((cfg0.win 15).blk t).view.set := by
  have h0 : (i 0 : Nat) < 32768 := (i 0).isLt
  have h1 : (i 1 : Nat) < 1024 := (i 1).isLt
  obtain ⟨t, ht⟩ : ∃ t : Fin cfg0.N, t.val = (i 0 : Nat) / 512 :=
    ⟨⟨(i 0 : Nat) / 512, lt_of_lt_of_eq (by omega : (i 0 : Nat) / 512 < 64) N_0.symm⟩, rfl⟩
  refine ⟨t, flush0_15 _, ?_⟩
  show i ∈ ((View.whole main_v22).slice (win0_15.rect t)).set
  rw [View.set_slice_whole, Rect.mem_set_unit]
  obtain ⟨-, -, -, -, -, -, -, -, -, -, -, -, -, -, -, ⟨e0, e1⟩, x0, x1⟩ := idx_facts t
  intro a
  match a with
  | ⟨0, _⟩ =>
    show win0_15.index t 0 * win0_15.size 0 ≤ (i 0 : Nat) ∧ (i 0 : Nat) < win0_15.index t 0 * win0_15.size 0 + win0_15.xsize (grid0.coords t) 0
    rw [e0, x0, ht]; omega
  | ⟨1, _⟩ =>
    show win0_15.index t 1 * win0_15.size 1 ≤ (i 1 : Nat) ∧ (i 1 : Nat) < win0_15.index t 1 * win0_15.size 1 + win0_15.xsize (grid0.coords t) 1
    rw [e1, x1]; omega

/-- So the result array ends at `res`. -/
theorem final (c : Dev nD) : (dats m 0 c).arrAt 15 cfg0.N = res m c :=
  (dats m 0 c).arrAt_eq_of_cover 15 (res m c) (fun t _ => flushed_eq m c t) cover

end Cert.MergeIdeal.Final

end
-- ==== Proof.MergeRef.lean ====
/-
  The merge reference's result, element by element, in the terms of Proof/Spec.lean.
-/
module

public import proofs.«01_k».proof.Proof.Spec
public import proofs.«01_k».proof.Proof.Gen.MergeRefIdeal.Read
public import Idealize.ShloMosaic.Lib.Pointwise

@[expose] public section

set_option maxRecDepth 16384

noncomputable section

namespace Cert.MergeRefIdeal.Elem

open Cert.MergeRefIdeal Cert.MergeRefIdeal.Gen Cert.MergeRefIdeal.Read Idealize.ShloMosaic Cert.Spec

variable (x : FVec Ideal S4x8192x1024 .f32) (ys ya : FVec Ideal S4x8192x512 .f32) (gs ga : FVec Ideal S4x8192x1024 .f32)
  (wglu : FVec Ideal S512x512 .f32) (wbr : FVec Ideal S2x512x1024 .f32) (wout : FVec Ideal S1024x1024 .f32)
  (g b : FVec Ideal S1024 .f32) (wup : FVec Ideal S1024x5632 .f32) (wdn : FVec Ideal S2816x1024 .f32)
  (g3 b3 : FVec Ideal S1024 .f32)

/-- The GELU of the recurrence's output. -/
theorem gelu_apply (a : Fin 4) (s : Fin 8192) (j : Fin 512) :
    val_main_v12 (F := Ideal) ys (ix3 a s j) = gelu (ys (ix3 a s j)) := by
  unfold gelu
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]

/-- Its gated linear unit. -/
theorem glu_apply (a : Fin 4) (s : Fin 8192) (j : Fin 512) :
    val_main_v20 (F := Ideal) ys wglu (ix3 a s j) = gluUnit (fun i => ys (ix3 a s i)) (fun i j => wglu (ix2 i j)) j := by
  unfold gluUnit
  simp only [← gelu_apply]
  pointwise [val_main_v20, val_main_v19, val_main_v18, val_main_v17, val_main_v16, val_main_v15, val_main_v14, val_main_v13,
    val_main_cst_3, val_main_cst_4]
  rfl

/-- The two branches through their gates. -/
theorem merged_apply (a : Fin 4) (s : Fin 8192) (c : Fin 1024) :
    val_main_v29 (F := Ideal) ys ya gs ga wglu wbr (ix3 a s c)
      = mergedUnit (fun i => ys (ix3 a s i)) (fun j => ya (ix3 a s j)) (fun d => gs (ix3 a s d)) (fun d => ga (ix3 a s d))
          (fun i j => wglu (ix2 i j)) (fun j d => wbr (ix3 0 j d)) (fun j d => wbr (ix3 1 j d)) c := by
  unfold mergedUnit
  simp only [← glu_apply]
  pointwise [val_main_v29, val_main_v28, val_main_v27, val_main_v26, val_main_v25, val_main_v24, val_main_v23, val_main_v22, val_main_v21]

/-- The row before the middle LayerNorm. -/
theorem mid_apply (a : Fin 4) (s : Fin 8192) (c : Fin 1024) :
    val_main_v33 (F := Ideal) x ys ya gs ga wglu wbr wout (ix3 a s c)
      = midRow (fun d => x (ix3 a s d)) (mergedUnit (fun i => ys (ix3 a s i)) (fun j => ya (ix3 a s j)) (fun d => gs (ix3 a s d)) (fun d => ga (ix3 a s d))
          (fun i j => wglu (ix2 i j)) (fun j d => wbr (ix3 0 j d)) (fun j d => wbr (ix3 1 j d))) (fun d k => wout (ix2 d k)) c := by
  unfold midRow
  simp only [← merged_apply]
  pointwise [val_main_v33, val_main_v32, val_main_v31, val_main_v30, val_main_cst_5]

/-- The middle LayerNorm of any row array. -/
theorem norm_apply (a : Fin 4) (s : Fin 8192) (c : Fin 1024) (y : Fin 1024 → EReal)
    (hy : ∀ k, y k = val_main_v33 (F := Ideal) x ys ya gs ga wglu wbr wout (ix3 a s k)) :
    val_main_v57 (F := Ideal) x ys ya gs ga wglu wbr wout g b (ix3 a s c) = normRow y (fun d => g (ix1 d)) (fun d => b (ix1 d)) c := by
  unfold normRow varRow meanRow
  simp only [hy]
  pointwise [val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_cst_6, val_main_cst_7, val_main_cst_8, val_main_cst_9, val_main_cst_10]

/-- A hidden unit of the second SwiGLU. -/
theorem hidden_apply (a : Fin 4) (s : Fin 8192) (k : Fin 2816) (z : Fin 1024 → EReal)
    (hz : ∀ k, z k = val_main_v57 (F := Ideal) x ys ya gs ga wglu wbr wout g b (ix3 a s k)) :
    val_main_v64 (F := Ideal) x ys ya gs ga wglu wbr wout g b wup (ix3 a s k) = hiddenUnit z (fun d k => wup (ix2 d k)) k := by
  unfold hiddenUnit
  simp only [hz]
  pointwise [val_main_v64, val_main_v63, val_main_call0_v5, val_main_call0_v4, val_main_call0_v3, val_main_call0_v2,
    val_main_call0_v1, val_main_call0_v0, val_main_call0_cst, val_main_call0_cst_0, val_main_v62, val_main_v61, val_main_v60]
  rfl

/-- The row before the last LayerNorm. -/
theorem pre_apply (a : Fin 4) (s : Fin 8192) (c : Fin 1024) (z : Fin 1024 → EReal)
    (hz : ∀ k, z k = val_main_v57 (F := Ideal) x ys ya gs ga wglu wbr wout g b (ix3 a s k)) :
    val_main_v68 (F := Ideal) x ys ya gs ga wglu wbr wout g b wup wdn (ix3 a s c) = ffnRow z (fun d k => wup (ix2 d k)) (fun k d => wdn (ix2 k d)) c := by
  unfold ffnRow
  simp only [← hidden_apply x ys ya gs ga wglu wbr wout g b wup a s _ z hz, hz]
  pointwise [val_main_v68, val_main_v67, val_main_v66, val_main_v65, val_main_v59, val_main_v58, val_main_cst_11, val_main_cst_12]

/-- The last LayerNorm. -/
theorem last_apply (a : Fin 4) (s : Fin 8192) (c : Fin 1024) (y : Fin 1024 → EReal)
    (hy : ∀ k, y k = val_main_v68 (F := Ideal) x ys ya gs ga wglu wbr wout g b wup wdn (ix3 a s k)) :
    val_main_v92 (F := Ideal) x ys ya gs ga wglu wbr wout g b wup wdn g3 b3 (ix3 a s c) = normRow y (fun d => g3 (ix1 d)) (fun d => b3 (ix1 d)) c := by
  unfold normRow varRow meanRow
  simp only [hy]
  pointwise [val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_cst_13, val_main_cst_14, val_main_cst_15, val_main_cst_16, val_main_cst_17]

/-- Element `(n, c)` of the reference's result. -/
theorem res_apply (n : Fin 32768) (c : Fin 1024) (a : Fin 4) (s : Fin 8192) (ha : a = ⟨n.val / 8192, by omega⟩) (hs : s = ⟨n.val % 8192, by omega⟩) :
    val_main_v93 (F := Ideal) x ys ya gs ga wglu wbr wout g b wup wdn g3 b3 (ix2 n c)
      = ffnNorm (normRow (midRow (fun d => x (ix3 a s d))
            (mergedUnit (fun i => ys (ix3 a s i)) (fun j => ya (ix3 a s j)) (fun d => gs (ix3 a s d)) (fun d => ga (ix3 a s d))
              (fun i j => wglu (ix2 i j)) (fun j d => wbr (ix3 0 j d)) (fun j d => wbr (ix3 1 j d)))
            (fun d k => wout (ix2 d k))) (fun d => g (ix1 d)) (fun d => b (ix1 d)))
          (fun d k => wup (ix2 d k)) (fun k d => wdn (ix2 k d)) (fun d => g3 (ix1 d)) (fun d => b3 (ix1 d)) c := by
  have e : val_main_v93 (F := Ideal) x ys ya gs ga wglu wbr wout g b wup wdn g3 b3 (ix2 n c) = val_main_v92 (F := Ideal) x ys ya gs ga wglu wbr wout g b wup wdn g3 b3 (ix3 a s c) := by
    subst ha hs
    pointwise [val_main_v93]
  rw [e]
  unfold ffnNorm
  exact last_apply x ys ya gs ga wglu wbr wout g b wup wdn g3 b3 a s c _ fun k => (pre_apply x ys ya gs ga wglu wbr wout g b wup wdn a s k _ fun k =>
    (norm_apply x ys ya gs ga wglu wbr wout g b a s k _ fun k => (mid_apply x ys ya gs ga wglu wbr wout a s k).symm).symm).symm

end Cert.MergeRefIdeal.Elem

end
-- ==== Proof.MergeClaims.lean ====
/-
  The claims about the merge call, the one that gives the layer's result: the two frames of the kernel, the reference's frame, and the equality
  of the two results.
-/
module

public import proofs.«01_k».proof.Defs
public import proofs.«01_k».proof.Proof.MergeRun
public import proofs.«01_k».proof.Proof.MergeRef
public import proofs.«01_k».proof.Proof.Gen.Merge
public import proofs.«01_k».proof.Proof.Gen.Merge.Frame
public import proofs.«01_k».proof.Proof.Gen.MergeIdeal
public import proofs.«01_k».proof.Proof.Gen.MergeRefIdeal
public import Idealize.ShloMosaic.Lib.Quiescent

@[expose] public section

set_option maxRecDepth 16384

noncomputable section

namespace Cert.MergeClaims

open Idealize.ShloMosaic Idealize.ShloMosaic.TcCoe Idealize.SL.Sem

/-- The kernel as written runs and leaves its arguments. -/
theorem frame_p : Cert.quiescent_Merge := fun m ρ _ => Cert.Merge.Gen.frame m ρ

/-- The same at the ideal values. -/
theorem frame_pi : Cert.quiescent_MergeIdeal := fun m ρ _ => Cert.MergeIdeal.Gen.frame m ρ

/-- The reference runs, leaves its arguments, and has no semaphore to leave. -/
theorem frame_ri : Cert.quiescent_MergeRefIdeal := fun m ρ _ =>
  (θ_run Cert.MergeRefIdeal.defs _ _).mono
    (fun r h => ⟨fun c => (h c).2, Idealize.ShloMosaic.sem_eq_zero_of_no_sems (by decide) r.2⟩)
    (Cert.MergeRefIdeal.Value.run (F := Ideal) m ρ)

/-- The array the kernel's blocks fill is the reference's result, from equal arguments. -/
theorem value_eq (m : (ℓ : Loc Cert.MergeIdeal.nD Cert.MergeIdeal.τ Cert.MergeIdeal.sig) → Buf (Elt Ideal) ℓ) (c : Dev Cert.MergeIdeal.nD) :
    Cert.MergeRefIdeal.Read.val_main_v93 (F := Ideal) (Cert.MergeIdeal.Final.ax m c) (Cert.MergeIdeal.Final.ays m c) (Cert.MergeIdeal.Final.aya m c) (Cert.MergeIdeal.Final.ags m c) (Cert.MergeIdeal.Final.aga m c) (Cert.MergeIdeal.Final.awglu m c) (Cert.MergeIdeal.Final.awbr m c) (Cert.MergeIdeal.Final.awout m c) (Cert.MergeIdeal.Final.ag m c) (Cert.MergeIdeal.Final.ab m c) (Cert.MergeIdeal.Final.awup m c) (Cert.MergeIdeal.Final.awdn m c) (Cert.MergeIdeal.Final.ag3 m c) (Cert.MergeIdeal.Final.ab3 m c)
      = Cert.MergeIdeal.Final.res m c := by
  funext (i : Cert.MergeRefIdeal.S32768x1024.Idx)
  obtain ⟨n, k, rfl⟩ : ∃ (n : Fin 32768) (k : Fin 1024), i = ix2 n k := ⟨i 0, i 1, eq_ix2 i⟩
  exact Cert.MergeRefIdeal.Elem.res_apply _ _ _ _ _ _ _ _ _ _ _ _ _ _ n k (Cert.MergeIdeal.Final.seqOf n) (Cert.MergeIdeal.Final.tokOf n) rfl rfl

/-- Kernel and reference end with the same array. -/
theorem algebraic : Cert.algebraic_MergeIdeal_MergeRefIdeal := by
  intro m ρ m' ρ' _ hagree
  refine ⟨fun c => Cert.MergeIdeal.Final.res m c,
    (θ_run Cert.MergeIdeal.defs _ _).mono (fun _ h c => ⟨(h c).1.trans (Cert.MergeIdeal.Final.final m c), (h c).2⟩)
      (Cert.MergeIdeal.Value.run_blocks m ρ), ?_⟩
  refine (θ_run Cert.MergeRefIdeal.defs _ _).mono (fun _ h c => ⟨(h c).1.trans ?_, (h c).2⟩)
    (Cert.MergeRefIdeal.Value.run (F := Ideal) m' ρ')
  refine (Cert.MergeRefIdeal.Read.val_main_v93_eq (F := Ideal) (StableHlo.launchContents m' c)).trans ?_
  obtain ⟨e0, e1, e2, e3, e4, e5, e6, e7, e8, e9, e10, e11, e12, e13⟩ := hagree c
  show Cert.MergeRefIdeal.Read.val_main_v93 (F := Ideal) (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6)) (m' ((c.tc : Thread Cert.MergeRefIdeal.nD Cert.MergeRefIdeal.τ).loc Cert.MergeRefIdeal.main_arg7)) (m' ((c.tc : Thread Cert.MergeRefIdeal.nD Cert.MergeRefIdeal.τ).loc Cert.MergeRefIdeal.main_arg8)) (m' ((c.tc : Thread Cert.MergeRefIdeal.nD Cert.MergeRefIdeal.τ).loc Cert.MergeRefIdeal.main_arg9)) (m' ((c.tc : Thread Cert.MergeRefIdeal.nD Cert.MergeRefIdeal.τ).loc Cert.MergeRefIdeal.main_arg10)) (m' ((c.tc : Thread Cert.MergeRefIdeal.nD Cert.MergeRefIdeal.τ).loc Cert.MergeRefIdeal.main_arg11)) (m' ((c.tc : Thread Cert.MergeRefIdeal.nD Cert.MergeRefIdeal.τ).loc Cert.MergeRefIdeal.main_arg12)) (m' ((c.tc : Thread Cert.MergeRefIdeal.nD Cert.MergeRefIdeal.τ).loc Cert.MergeRefIdeal.main_arg13)) = Cert.MergeIdeal.Final.res m c
  rw [← value_eq, e0, e1, e2, e3, e4, e5, e6, e7, e8, e9, e10, e11, e12, e13]

end Cert.MergeClaims

end
-- ==== Proof.ProjSpec.lean ====
/-
  The input projection's mathematics, over plain functions of the extended reals: token `n` times column `j` of the
  weights, and what each of the ten result arrays holds of it. Two facts about sums and maxima: adding up the columns a
  0/1 array selects is adding up one head's 64 columns, and the largest of many zeros is zero.
-/
module

public import Mathlib.Data.EReal.Operations
public import Mathlib.Algebra.BigOperators.Fin
public import proofs.«01_k».proof.Proof.Spec

@[expose] public section

set_option maxRecDepth 16384

noncomputable section

namespace Cert.ProjSpec

open Idealize.ShloMosaic

variable (X : Fin 32768 → Fin 1024 → EReal) (W : Fin 1024 → Fin 4392 → EReal)

/-- Token `n` times column `j` of the projection. -/
def dotc (n : Fin 32768) (j : Fin 4392) : EReal := ∑ d, X n d * W d j

/-- A query, scaled for a softmax to base 2. -/
def eQ (n : Fin 32768) (j : Fin 512) : EReal := dotc X W n ⟨512 + j.val, by omega⟩ * Ideal.ofBits .f32 0x3E38AA3B#32
/-- A key. -/
def eK (n : Fin 32768) (j : Fin 512) : EReal := dotc X W n ⟨1024 + j.val, by omega⟩
/-- A key of the indexer. -/
def eKi (n : Fin 32768) (j : Fin 32) : EReal := dotc X W n ⟨2304 + j.val, by omega⟩
/-- The recurrence's gate. -/
def eGs (n : Fin 32768) (j : Fin 1024) : EReal := Ideal.logistic (dotc X W n ⟨2344 + j.val, by omega⟩)
/-- The attention's gate. -/
def eGa (n : Fin 32768) (j : Fin 1024) : EReal := Ideal.logistic (dotc X W n ⟨3368 + j.val, by omega⟩)

/-- The squared norm of head `h` of a row of eight heads. -/
def headSq (f : Fin 512 → EReal) (h : Fin 8) : EReal :=
  ∑ e : Fin 64, f ⟨h.val * 64 + e.val, by omega⟩ * f ⟨h.val * 64 + e.val, by omega⟩

/-- The largest squared norm of head `l` over the 1024 tokens of tile `t`; lanes past the heads hold zero. -/
def largest (f : Fin 32768 → Fin 512 → EReal) (t : Fin 32) (l : Fin 128) : EReal :=
  if h : l.val < 8 then
    Finset.univ.fold max (Ideal.ofBits .f32 0xFF800000#32) fun r : Fin 1024 => headSq (f ⟨1024 * t.val + r.val, by omega⟩) ⟨l.val, h⟩
  else 0

/-- The tile's statistics: the queries' in row 0, the keys' in row 1, zeros below. -/
def eStats (t : Fin 32) (a : Fin 8) (l : Fin 128) : EReal :=
  if a.val = 0 then largest (eQ X W) t l else if a.val = 1 then largest (eK X W) t l else 0

/-- An input of the recurrence, channels first. -/
def eU (j : Fin 512) (n : Fin 32768) : EReal := dotc X W n ⟨j.val, by omega⟩
/-- A value, channels first; a row of ones and fifteen of zeros follow each head's 64. -/
def eV (r : Fin 640) (n : Fin 32768) : EReal :=
  if h : r.val % 80 < 64 then dotc X W n ⟨1536 + (r.val / 80 * 64 + r.val % 80), by omega⟩ else if r.val % 80 = 64 then 1 else 0
/-- A query of the indexer, channels first. -/
def eQi (j : Fin 256) (n : Fin 32768) : EReal := dotc X W n ⟨2048 + j.val, by omega⟩
/-- A weight of the indexer, channels first; rows past the eight hold zero. -/
def eWi (j : Fin 16) (n : Fin 32768) : EReal := if h : j.val < 8 then dotc X W n ⟨2336 + j.val, by omega⟩ else 0

/-- Adding up the columns that a 0/1 array gives to head `l` adds up that head's 64 columns. -/
theorem sum_head (g : Fin 512 → EReal) (l : Nat) :
    ∑ j : Fin 512, g j * (if j.val / 64 = l then (1 : EReal) else 0)
      = if h : l < 8 then ∑ e : Fin 64, g ⟨l * 64 + e.val, by omega⟩ else 0 := by
  by_cases h : l < 8
  · rw [dif_pos h, ← Equiv.sum_comp (finProdFinEquiv (m := 8) (n := 64)) (fun j : Fin (8 * 64) => g j * (if j.val / 64 = l then (1 : EReal) else 0)),
      Fintype.sum_prod_type, Finset.sum_eq_single (⟨l, h⟩ : Fin 8)]
    · refine Finset.sum_congr rfl fun e _ => ?_
      have e1 : ((finProdFinEquiv (m := 8) (n := 64)) (⟨l, h⟩, e)).val = l * 64 + e.val := by
        show e.val + 64 * l = _
        omega
      rw [if_pos (by rw [e1]; omega), mul_one]
      exact congrArg g (Fin.ext e1)
    · intro a _ ha
      refine Finset.sum_eq_zero fun e _ => ?_
      have e1 : ((finProdFinEquiv (m := 8) (n := 64)) (a, e)).val = a.val * 64 + e.val := by
        show e.val + 64 * a.val = _
        omega
      rw [if_neg (by rw [e1]; intro h2; exact ha (Fin.ext (by show a.val = l; omega))), mul_zero]
    · intro h1
      exact absurd (Finset.mem_univ _) h1
  · rw [dif_neg h]
    refine Finset.sum_eq_zero fun j _ => ?_
    rw [if_neg (by omega), mul_zero]

/-- The largest of many zeros is zero. -/
theorem fold_zero : (Finset.univ : Finset (Fin 1024)).fold max (Ideal.ofBits .f32 0xFF800000#32) (fun _ => (0 : EReal)) = 0 := by
  have hb : max (Ideal.ofBits .f32 0xFF800000#32) (0 : EReal) = 0 := max_eq_right (by simp [Ideal.ofBits, Ideal.ieee])
  rw [Finset.fold_const _ (by rw [hb, max_self]), hb, if_neg (Finset.univ_nonempty.ne_empty)]

/-- The largest squared norm, the squares added up through the 0/1 array. -/
theorem fold_heads (f : Fin 1024 → Fin 512 → EReal) (l : Nat) :
    (Finset.univ : Finset (Fin 1024)).fold max (Ideal.ofBits .f32 0xFF800000#32)
        (fun r => ∑ j : Fin 512, f r j * f r j * (if j.val / 64 = l then (1 : EReal) else 0))
      = if h : l < 8 then Finset.univ.fold max (Ideal.ofBits .f32 0xFF800000#32) fun r : Fin 1024 => headSq (f r) ⟨l, h⟩ else 0 := by
  simp only [fun r => sum_head (fun j => f r j * f r j) l]
  by_cases h : l < 8
  · simp only [dif_pos h]
    rfl
  · simp only [dif_neg h]
    exact fold_zero

end Cert.ProjSpec

end

end
-- ==== Proof.ProjBlock.lean ====
/-
  The blocks one grid point of the input projection's kernel writes, element by element: entries of the product of the
  point's 1024 tokens with the packed weights, the queries scaled, the gates through the logistic function, and for each
  head the largest squared norm of a query and of a key.
-/
module

public import proofs.«01_k».proof.Proof.Spec
public import proofs.«01_k».proof.Proof.Gen.ProjIdeal.Value
public import Idealize.ShloMosaic.Lib.Pointwise
public import Idealize.ShloMosaic.Lib.WritesUnit

@[expose] public section

set_option maxRecDepth 16384

noncomputable section

namespace Cert.ProjIdeal.Block
open Cert.ProjIdeal Cert.ProjIdeal.Gen Idealize.ShloMosaic
/-- The offset of a whole array. -/
theorem hz : (![0, 0] : Fin 2 → Nat) = fun _ => 0 := funext fun a => by fin_cases a <;> rfl
/-- The offset of a whole array of three axes. -/
theorem hz3 : (![0, 0, 0] : Fin 3 → Nat) = fun _ => 0 := funext fun a => by fin_cases a <;> rfl

/-- Token `r` of the block times column `j` of the weights packed by columns. -/
def nat (x0 : Vec Ideal S1024x1024 .f32) (x1 : Vec Ideal S1024x3200 .bf16) (r : Fin 1024) (j : Nat) (hj : j < 3200) : EReal :=
  ∑ d : Fin 1024, x0 (ix2 r d) * x1 (ix2 d ⟨j, hj⟩)

/-- Row `j` of the weights packed by rows times token `r` of the block. -/
def trn (x0 : Vec Ideal S1024x1024 .f32) (x2 : Vec Ideal S1296x1024 .bf16) (j : Nat) (hj : j < 1296) (r : Fin 1024) : EReal :=
  ∑ d : Fin 1024, x2 (ix2 ⟨j, hj⟩ d) * x0 (ix2 r d)

/-- The largest sum of squares over the block's tokens, the columns summed as the constant array says. -/
def heads (f : Fin 1024 → Fin 512 → EReal) (x3 : Vec Ideal S512x128 .bf16) (h : Fin 128) : EReal :=
  Finset.univ.fold max (Ideal.ofBits .f32 0xFF800000#32) fun r : Fin 1024 => ∑ j : Fin 512, f r j * f r j * x3 (ix2 j h)

/-- The values' block, transposed: every head's 64 rows, then a row of ones and fifteen of zeros. -/
def vals (x0 : Vec Ideal S1024x1024 .f32) (x2 : Vec Ideal S1296x1024 .bf16) : Vec Ideal S640x1024 .bf16 := fun i =>
  if h : (i 0).val % 80 < 64 then trn x0 x2 (512 + ((i 0).val / 80 * 64 + (i 0).val % 80)) (by have h := (i 0).isLt; change (i 0).val < 640 at h; omega) (i 1)
  else if (i 0).val % 80 = 64 then 1 else 0

/-- A store of one head's values, read as a piece of the block. -/
theorem v_piece (x0 : Vec Ideal S1024x1024 .f32) (x2 : Vec Ideal S1296x1024 .bf16) (q : Fin 8) (off : Fin 2 → Nat)
    (inb : ∀ a, off a + S64x1024.size a ≤ S640x1024.size a) (P : Vec Ideal S64x1024 .bf16) (h0 : off 0 = 80 * q.val) (h1 : off 1 = 0)
    (hP : ∀ (r : Fin 64) (j : Fin 1024), P (ix2 r j) = trn x0 x2 (512 + (q.val * 64 + r.val)) (by omega) j) (x : S64x1024.Idx) :
    P x = vals x0 x2 ((Rect.unit (s := S640x1024) off S64x1024.size inb).emb x) := by
  obtain ⟨r, j, rfl⟩ : ∃ (r : Fin 64) (j : Fin 1024), x = ix2 r j := ⟨x 0, x 1, eq_ix2 x⟩
  have e0 : (((Rect.unit (s := S640x1024) off S64x1024.size inb).emb (ix2 r j)) 0).val = 80 * q.val + r.val := by
    show off 0 + 1 * r.val = _
    omega
  have e1 : ((Rect.unit (s := S640x1024) off S64x1024.size inb).emb (ix2 r j)) 1 = j := Fin.ext (by show off 1 + 1 * j.val = _; omega)
  rw [hP]
  unfold vals
  rw [dif_pos (by rw [e0]; omega), e1]
  simp only [e0]
  congr 1
  omega

/-- A counter below 16 is the zero word only at zero. -/
theorem cmp_ne (r : Nat) (h16 : r < 16) (hr : r ≠ 0) : IntOp.cmpi CmpIPredicate.eq (BitVec.ofNat 32 r) 0#32 = 0#1 := by
  have key : ∀ r : Fin 16, r.val ≠ 0 → IntOp.cmpi CmpIPredicate.eq (BitVec.ofNat 32 r.val) 0#32 = 0#1 := by decide
  exact key ⟨r, h16⟩ hr

/-- A store of a row of ones and fifteen of zeros, read as a piece of the block. -/
theorem p_piece (x0 : Vec Ideal S1024x1024 .f32) (x2 : Vec Ideal S1296x1024 .bf16) (q : Fin 8) (off : Fin 2 → Nat)
    (inb : ∀ a, off a + S16x1024.size a ≤ S640x1024.size a) (h0 : off 0 = 80 * q.val + 64) (x : S16x1024.Idx) :
    k0_pay18 (F := Ideal) x = vals x0 x2 ((Rect.unit (s := S640x1024) off S16x1024.size inb).emb x) := by
  obtain ⟨r, j, rfl⟩ : ∃ (r : Fin 16) (j : Fin 1024), x = ix2 r j := ⟨x 0, x 1, eq_ix2 x⟩
  have e0 : (((Rect.unit (s := S640x1024) off S16x1024.size inb).emb (ix2 r j)) 0).val = 80 * q.val + 64 + r.val := by
    show off 0 + 1 * r.val = _
    omega
  unfold vals
  rw [dif_neg (by rw [e0]; omega)]
  simp only [e0]
  pointwise [k0_pay18]
  by_cases hr : r.val = 0
  · rw [hr, if_pos (by omega)]
    rfl
  · rw [if_neg (by omega), cmp_ne _ (by omega) hr]
    rfl

/-- Head 0's values, as stored. -/
theorem v0 (x0 : Vec Ideal S1024x1024 .f32) (x2 : Vec Ideal S1296x1024 .bf16) (r : Fin 64) (j : Fin 1024) :
    k0_pay19 (F := Ideal) (k0_pay5 x0) (View.ld x2 (Rect.unit (s := S1296x1024) ![512, 0] S512x1024.size inb_S1296x1024_S512x1024_512_0)) (ix2 r j)
      = trn x0 x2 (512 + (0 * 64 + r.val)) (by omega) j := by
  pointwise [k0_pay19, k0_pay17, k0_pay5]
  exact Finset.sum_congr rfl fun d _ => congrArg (fun k => x2 (ix2 k d) * x0 (ix2 j d)) (Fin.ext (by dsimp only))

/-- Head 1's values, as stored. -/
theorem v1 (x0 : Vec Ideal S1024x1024 .f32) (x2 : Vec Ideal S1296x1024 .bf16) (r : Fin 64) (j : Fin 1024) :
    k0_pay20 (F := Ideal) (k0_pay5 x0) (View.ld x2 (Rect.unit (s := S1296x1024) ![512, 0] S512x1024.size inb_S1296x1024_S512x1024_512_0)) (ix2 r j)
      = trn x0 x2 (512 + (1 * 64 + r.val)) (by omega) j := by
  pointwise [k0_pay20, k0_pay17, k0_pay5]
  exact Finset.sum_congr rfl fun d _ => congrArg (fun k => x2 (ix2 k d) * x0 (ix2 j d)) (Fin.ext (by dsimp only))

/-- Head 2's values, as stored. -/
theorem v2 (x0 : Vec Ideal S1024x1024 .f32) (x2 : Vec Ideal S1296x1024 .bf16) (r : Fin 64) (j : Fin 1024) :
    k0_pay21 (F := Ideal) (k0_pay5 x0) (View.ld x2 (Rect.unit (s := S1296x1024) ![512, 0] S512x1024.size inb_S1296x1024_S512x1024_512_0)) (ix2 r j)
      = trn x0 x2 (512 + (2 * 64 + r.val)) (by omega) j := by
  pointwise [k0_pay21, k0_pay17, k0_pay5]
  exact Finset.sum_congr rfl fun d _ => congrArg (fun k => x2 (ix2 k d) * x0 (ix2 j d)) (Fin.ext (by dsimp only))

/-- Head 3's values, as stored. -/
theorem v3 (x0 : Vec Ideal S1024x1024 .f32) (x2 : Vec Ideal S1296x1024 .bf16) (r : Fin 64) (j : Fin 1024) :
    k0_pay22 (F := Ideal) (k0_pay5 x0) (View.ld x2 (Rect.unit (s := S1296x1024) ![512, 0] S512x1024.size inb_S1296x1024_S512x1024_512_0)) (ix2 r j)
      = trn x0 x2 (512 + (3 * 64 + r.val)) (by omega) j := by
  pointwise [k0_pay22, k0_pay17, k0_pay5]
  exact Finset.sum_congr rfl fun d _ => congrArg (fun k => x2 (ix2 k d) * x0 (ix2 j d)) (Fin.ext (by dsimp only))

/-- Head 4's values, as stored. -/
theorem v4 (x0 : Vec Ideal S1024x1024 .f32) (x2 : Vec Ideal S1296x1024 .bf16) (r : Fin 64) (j : Fin 1024) :
    k0_pay1 (F := Ideal) (k0_pay17 (k0_pay5 x0) (View.ld x2 (Rect.unit (s := S1296x1024) ![512, 0] S512x1024.size inb_S1296x1024_S512x1024_512_0))) (ix2 r j)
      = trn x0 x2 (512 + (4 * 64 + r.val)) (by omega) j := by
  pointwise [k0_pay1, k0_pay17, k0_pay5]
  exact Finset.sum_congr rfl fun d _ => congrArg (fun k => x2 (ix2 k d) * x0 (ix2 j d)) (Fin.ext (by dsimp only))

/-- Head 5's values, as stored. -/
theorem v5 (x0 : Vec Ideal S1024x1024 .f32) (x2 : Vec Ideal S1296x1024 .bf16) (r : Fin 64) (j : Fin 1024) :
    k0_pay2 (F := Ideal) (k0_pay17 (k0_pay5 x0) (View.ld x2 (Rect.unit (s := S1296x1024) ![512, 0] S512x1024.size inb_S1296x1024_S512x1024_512_0))) (ix2 r j)
      = trn x0 x2 (512 + (5 * 64 + r.val)) (by omega) j := by
  pointwise [k0_pay2, k0_pay17, k0_pay5]
  exact Finset.sum_congr rfl fun d _ => congrArg (fun k => x2 (ix2 k d) * x0 (ix2 j d)) (Fin.ext (by dsimp only))

/-- Head 6's values, as stored. -/
theorem v6 (x0 : Vec Ideal S1024x1024 .f32) (x2 : Vec Ideal S1296x1024 .bf16) (r : Fin 64) (j : Fin 1024) :
    k0_pay3 (F := Ideal) (k0_pay17 (k0_pay5 x0) (View.ld x2 (Rect.unit (s := S1296x1024) ![512, 0] S512x1024.size inb_S1296x1024_S512x1024_512_0))) (ix2 r j)
      = trn x0 x2 (512 + (6 * 64 + r.val)) (by omega) j := by
  pointwise [k0_pay3, k0_pay17, k0_pay5]
  exact Finset.sum_congr rfl fun d _ => congrArg (fun k => x2 (ix2 k d) * x0 (ix2 j d)) (Fin.ext (by dsimp only))

/-- Head 7's values, as stored. -/
theorem v7 (x0 : Vec Ideal S1024x1024 .f32) (x2 : Vec Ideal S1296x1024 .bf16) (r : Fin 64) (j : Fin 1024) :
    k0_pay4 (F := Ideal) (k0_pay17 (k0_pay5 x0) (View.ld x2 (Rect.unit (s := S1296x1024) ![512, 0] S512x1024.size inb_S1296x1024_S512x1024_512_0))) (ix2 r j)
      = trn x0 x2 (512 + (7 * 64 + r.val)) (by omega) j := by
  pointwise [k0_pay4, k0_pay17, k0_pay5]
  exact Finset.sum_congr rfl fun d _ => congrArg (fun k => x2 (ix2 k d) * x0 (ix2 j d)) (Fin.ext (by dsimp only))

variable (c : Dev nD) (i : grid0.Coords) (arg1 : Memref sig .tc .vmem S1024x1024 .f32) (harg1 : arg1.IsWhole) (arg2 : Memref sig .tc .vmem S1024x3200 .bf16) (harg2 : arg2.IsWhole) (arg3 : Memref sig .tc .vmem S1296x1024 .bf16) (harg3 : arg3.IsWhole) (arg4 : Memref sig .tc .vmem S512x128 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x32 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x8x128 .f32) (harg10 : arg10.IsWhole) (arg11 : Memref sig .tc .vmem S512x1024 .f32) (harg11 : arg11.IsWhole) (arg12 : Memref sig .tc .vmem S640x1024 .bf16) (harg12 : arg12.IsWhole) (arg13 : Memref sig .tc .vmem S256x1024 .bf16) (harg13 : arg13.IsWhole) (arg14 : Memref sig .tc .vmem S16x1024 .f32) (harg14 : arg14.IsWhole)
    (x0 : Vec Ideal S1024x1024 .f32) (x1 : Vec Ideal S1024x3200 .bf16) (x2 : Vec Ideal S1296x1024 .bf16) (x3 : Vec Ideal S512x128 .bf16)

/-- The queries' block. -/
theorem b4 (r : Fin 1024) (j : Fin 512) :
    out0_A_4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 (ix2 r j) = nat x0 x1 r j.val (by omega) * Ideal.ofBits .f32 0x3E38AA3B#32 := by
  unfold out0_A_4
  rw [View.read_writes_junk_eq_canon]
  unfold kernelRun0_A
  dsimp only
  sl_unfold_words
  rw [View.canon_unit_zero hz]
  simp only [View.readAt_eq_ld, harg1.read_unread, harg2.read_unread, harg3.read_unread, harg4.read_unread, View.ld_unit_zero (S := S1024x1024) hz, View.ld_unit_zero (S := S512x128) hz]
  pointwise [k0_pay7, k0_pay5]
  rfl

/-- The keys' block. -/
theorem b5 (r : Fin 1024) (j : Fin 512) :
    out0_A_5 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 (ix2 r j) = nat x0 x1 r (512 + j.val) (by omega) := by
  unfold out0_A_5
  rw [View.read_writes_junk_eq_canon]
  unfold kernelRun0_A
  dsimp only
  sl_unfold_words
  rw [View.canon_unit_zero hz]
  simp only [View.readAt_eq_ld, harg1.read_unread, harg2.read_unread, harg3.read_unread, harg4.read_unread, View.ld_unit_zero (S := S1024x1024) hz, View.ld_unit_zero (S := S512x128) hz]
  pointwise [k0_pay8, k0_pay5]
  rfl

/-- The indexer keys' block. -/
theorem b6 (r : Fin 1024) (j : Fin 32) :
    out0_A_6 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 (ix2 r j) = nat x0 x1 r (1024 + j.val) (by omega) := by
  unfold out0_A_6
  rw [View.read_writes_junk_eq_canon]
  unfold kernelRun0_A
  dsimp only
  sl_unfold_words
  rw [View.canon_unit_zero hz]
  simp only [View.readAt_eq_ld, harg1.read_unread, harg2.read_unread, harg3.read_unread, harg4.read_unread, View.ld_unit_zero (S := S1024x1024) hz, View.ld_unit_zero (S := S512x128) hz]
  pointwise [k0_pay12, k0_pay5]
  rfl

/-- The first gate's block. -/
theorem b7 (r j : Fin 1024) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 (ix2 r j) = Ideal.logistic (nat x0 x1 r (1152 + j.val) (by omega)) := by
  unfold out0_A_7
  rw [View.read_writes_junk_eq_canon]
  unfold kernelRun0_A
  dsimp only
  sl_unfold_words
  rw [View.canon_unit_zero hz]
  simp only [View.readAt_eq_ld, harg1.read_unread, harg2.read_unread, harg3.read_unread, harg4.read_unread, View.ld_unit_zero (S := S1024x1024) hz, View.ld_unit_zero (S := S512x128) hz]
  pointwise [k0_pay13, k0_pay5]
  rfl

/-- The second gate's block. -/
theorem b8 (r j : Fin 1024) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 (ix2 r j) = Ideal.logistic (nat x0 x1 r (2176 + j.val) (by omega)) := by
  unfold out0_A_8
  rw [View.read_writes_junk_eq_canon]
  unfold kernelRun0_A
  dsimp only
  sl_unfold_words
  rw [View.canon_unit_zero hz]
  simp only [View.readAt_eq_ld, harg1.read_unread, harg2.read_unread, harg3.read_unread, harg4.read_unread, View.ld_unit_zero (S := S1024x1024) hz, View.ld_unit_zero (S := S512x128) hz]
  pointwise [k0_pay14, k0_pay5]
  rfl

/-- The row of largest squared norms: per head the queries' in row 0, the keys' in row 1, zeros below. -/
theorem b9 (a : Fin 8) (h : Fin 128) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 (ix3 0 a h) =
      if a.val = 0 then heads (fun r j => nat x0 x1 r j.val (by omega) * Ideal.ofBits .f32 0x3E38AA3B#32) x3 h
      else if a.val = 1 then heads (fun r j => nat x0 x1 r (512 + j.val) (by omega)) x3 h else 0 := by
  unfold out0_A_9
  rw [View.read_writes_junk_eq_canon]
  unfold kernelRun0_A
  dsimp only
  sl_unfold_words
  rw [View.canon_unit_zero hz3]
  simp only [View.readAt_eq_ld, harg1.read_unread, harg2.read_unread, harg3.read_unread, harg4.read_unread, View.ld_unit_zero (S := S1024x1024) hz, View.ld_unit_zero (S := S512x128) hz]
  pointwise [k0_pay11, k0_pay10, k0_pay9, k0_pay8, k0_pay7, k0_pay5]
  by_cases h0 : a.val = 0
  · rw [dif_pos (by omega), if_pos h0]
    rfl
  · rw [dif_neg (by omega), if_neg h0]
    by_cases h1 : a.val = 1
    · rw [dif_pos (by omega), if_pos h1]
      rfl
    · rw [dif_neg (by omega), if_neg h1]

/-- The recurrence inputs' block, transposed. -/
theorem b10 (j : Fin 512) (r : Fin 1024) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 (ix2 j r) = trn x0 x2 j.val (by omega) r := by
  unfold out0_A_10
  rw [View.read_writes_junk_eq_canon]
  unfold kernelRun0_A
  dsimp only
  sl_unfold_words
  rw [View.canon_unit_zero hz]
  simp only [View.readAt_eq_ld, harg1.read_unread, harg2.read_unread, harg3.read_unread, harg4.read_unread, View.ld_unit_zero (S := S1024x1024) hz, View.ld_unit_zero (S := S512x128) hz]
  pointwise [k0_pay6, k0_pay5]
  rfl

/-- The values' block, transposed, with a row of ones after each head. -/
theorem b11 : out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 = vals x0 x2 := by
  unfold out0_A_11
  have hcov := cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3
  rw [View.read_writes_junk_eq_canon]
  funext y
  refine View.canon_apply_of_pieces _ _ ?_ y (hcov y)
  clear hcov
  unfold kernelRun0_A
  dsimp only
  sl_unfold_words
  simp only [View.readAt_eq_ld, harg1.read_unread, harg3.read_unread, View.ld_unit_zero (S := S1024x1024) hz]
  refine List.forall_mem_cons.2 ⟨by intro x; dsimp only; exact p_piece x0 x2 7 ![624, 0] inb_S640x1024_S16x1024_624_0 rfl x, ?_⟩
  refine List.forall_mem_cons.2 ⟨by intro x; dsimp only; refine v_piece x0 x2 7 ![560, 0] inb_S640x1024_S64x1024_560_0 _ rfl rfl ?_ x; intro r j; exact v7 x0 x2 r j, ?_⟩
  refine List.forall_mem_cons.2 ⟨by intro x; dsimp only; exact p_piece x0 x2 6 ![544, 0] inb_S640x1024_S16x1024_544_0 rfl x, ?_⟩
  refine List.forall_mem_cons.2 ⟨by intro x; dsimp only; refine v_piece x0 x2 6 ![480, 0] inb_S640x1024_S64x1024_480_0 _ rfl rfl ?_ x; intro r j; exact v6 x0 x2 r j, ?_⟩
  refine List.forall_mem_cons.2 ⟨by intro x; dsimp only; exact p_piece x0 x2 5 ![464, 0] inb_S640x1024_S16x1024_464_0 rfl x, ?_⟩
  refine List.forall_mem_cons.2 ⟨by intro x; dsimp only; refine v_piece x0 x2 5 ![400, 0] inb_S640x1024_S64x1024_400_0 _ rfl rfl ?_ x; intro r j; exact v5 x0 x2 r j, ?_⟩
  refine List.forall_mem_cons.2 ⟨by intro x; dsimp only; exact p_piece x0 x2 4 ![384, 0] inb_S640x1024_S16x1024_384_0 rfl x, ?_⟩
  refine List.forall_mem_cons.2 ⟨by intro x; dsimp only; refine v_piece x0 x2 4 ![320, 0] inb_S640x1024_S64x1024_320_0 _ rfl rfl ?_ x; intro r j; exact v4 x0 x2 r j, ?_⟩
  refine List.forall_mem_cons.2 ⟨by intro x; dsimp only; exact p_piece x0 x2 3 ![304, 0] inb_S640x1024_S16x1024_304_0 rfl x, ?_⟩
  refine List.forall_mem_cons.2 ⟨by intro x; dsimp only; refine v_piece x0 x2 3 ![240, 0] inb_S640x1024_S64x1024_240_0 _ rfl rfl ?_ x; intro r j; exact v3 x0 x2 r j, ?_⟩
  refine List.forall_mem_cons.2 ⟨by intro x; dsimp only; exact p_piece x0 x2 2 ![224, 0] inb_S640x1024_S16x1024_224_0 rfl x, ?_⟩
  refine List.forall_mem_cons.2 ⟨by intro x; dsimp only; refine v_piece x0 x2 2 ![160, 0] inb_S640x1024_S64x1024_160_0 _ rfl rfl ?_ x; intro r j; exact v2 x0 x2 r j, ?_⟩
  refine List.forall_mem_cons.2 ⟨by intro x; dsimp only; exact p_piece x0 x2 1 ![144, 0] inb_S640x1024_S16x1024_144_0 rfl x, ?_⟩
  refine List.forall_mem_cons.2 ⟨by intro x; dsimp only; refine v_piece x0 x2 1 ![80, 0] inb_S640x1024_S64x1024_80_0 _ rfl rfl ?_ x; intro r j; exact v1 x0 x2 r j, ?_⟩
  refine List.forall_mem_cons.2 ⟨by intro x; dsimp only; exact p_piece x0 x2 0 ![64, 0] inb_S640x1024_S16x1024_64_0 rfl x, ?_⟩
  refine List.forall_mem_cons.2 ⟨by intro x; dsimp only; refine v_piece x0 x2 0 ![0, 0] inb_S640x1024_S64x1024_0_0 _ rfl rfl ?_ x; intro r j; exact v0 x0 x2 r j, ?_⟩
  exact List.forall_mem_nil _

/-- The indexer queries' block, transposed. -/
theorem b12 (j : Fin 256) (r : Fin 1024) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 (ix2 j r) = trn x0 x2 (1024 + j.val) (by omega) r := by
  unfold out0_A_12
  rw [View.read_writes_junk_eq_canon]
  unfold kernelRun0_A
  dsimp only
  sl_unfold_words
  rw [View.canon_unit_zero hz]
  simp only [View.readAt_eq_ld, harg1.read_unread, harg2.read_unread, harg3.read_unread, harg4.read_unread, View.ld_unit_zero (S := S1024x1024) hz, View.ld_unit_zero (S := S512x128) hz]
  pointwise [k0_pay15, k0_pay5]
  rfl

/-- The indexer weights' block, transposed. -/
theorem b13 (j : Fin 16) (r : Fin 1024) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 (ix2 j r) = trn x0 x2 (1280 + j.val) (by omega) r := by
  unfold out0_A_13
  rw [View.read_writes_junk_eq_canon]
  unfold kernelRun0_A
  dsimp only
  sl_unfold_words
  rw [View.canon_unit_zero hz]
  simp only [View.readAt_eq_ld, harg1.read_unread, harg2.read_unread, harg3.read_unread, harg4.read_unread, View.ld_unit_zero (S := S1024x1024) hz, View.ld_unit_zero (S := S512x128) hz]
  pointwise [k0_pay16, k0_pay5]
  rfl

end Cert.ProjIdeal.Block

end

end
-- ==== Proof.ProjTable.lean ====
/-
  The constant array the input projection's kernel adds up squares with: element `(r, j)` is one where column `r` of the
  queries (or keys) belongs to head `j`, that is where `r / 64 = j`, and zero elsewhere. The array is printed row by row
  as a tree of matches; the rows of one head are one text, so eight rows are read and the others are equal to them.
-/
module

public import proofs.«01_k».proof.Proof.Spec
public import proofs.«01_k».proof.Proof.Gen.ProjIdeal.Value
public import Idealize.ShloMosaic.Lib.Pointwise
public import Idealize.ShloMosaic.Lib.IdealHost

@[expose] public section

set_option maxRecDepth 16384

noncomputable section

namespace Cert.ProjIdeal.Lit
open Cert.ProjIdeal Cert.ProjIdeal.Gen Idealize.ShloMosaic
/-- Row 0 of the table: a one in column 0. -/
theorem col_0 (i : Nat) (j : Fin 128) (h : i % 128 = j.val) : lit0t0_0 i = if 0 = j.val then 0x3F80#16 else 0x0000#16 := by
  unfold lit0t0_0
  rw [h]
  fin_cases j <;> rfl
/-- Row 64 of the table: a one in column 1. -/
theorem col_1 (i : Nat) (j : Fin 128) (h : i % 128 = j.val) : lit0t0_64 i = if 1 = j.val then 0x3F80#16 else 0x0000#16 := by
  unfold lit0t0_64
  rw [h]
  fin_cases j <;> rfl
/-- Row 128 of the table: a one in column 2. -/
theorem col_2 (i : Nat) (j : Fin 128) (h : i % 128 = j.val) : lit0t0_128 i = if 2 = j.val then 0x3F80#16 else 0x0000#16 := by
  unfold lit0t0_128
  rw [h]
  fin_cases j <;> rfl
/-- Row 192 of the table: a one in column 3. -/
theorem col_3 (i : Nat) (j : Fin 128) (h : i % 128 = j.val) : lit0t0_192 i = if 3 = j.val then 0x3F80#16 else 0x0000#16 := by
  unfold lit0t0_192
  rw [h]
  fin_cases j <;> rfl
/-- Row 256 of the table: a one in column 4. -/
theorem col_4 (i : Nat) (j : Fin 128) (h : i % 128 = j.val) : lit0t0_256 i = if 4 = j.val then 0x3F80#16 else 0x0000#16 := by
  unfold lit0t0_256
  rw [h]
  fin_cases j <;> rfl
/-- Row 320 of the table: a one in column 5. -/
theorem col_5 (i : Nat) (j : Fin 128) (h : i % 128 = j.val) : lit0t0_320 i = if 5 = j.val then 0x3F80#16 else 0x0000#16 := by
  unfold lit0t0_320
  rw [h]
  fin_cases j <;> rfl
/-- Row 384 of the table: a one in column 6. -/
theorem col_6 (i : Nat) (j : Fin 128) (h : i % 128 = j.val) : lit0t0_384 i = if 6 = j.val then 0x3F80#16 else 0x0000#16 := by
  unfold lit0t0_384
  rw [h]
  fin_cases j <;> rfl
/-- Row 448 of the table: a one in column 7. -/
theorem col_7 (i : Nat) (j : Fin 128) (h : i % 128 = j.val) : lit0t0_448 i = if 7 = j.val then 0x3F80#16 else 0x0000#16 := by
  unfold lit0t0_448
  rw [h]
  fin_cases j <;> rfl
/-- Rows 0 to 127 of the table: each is row 0 or row 64. -/
theorem rows_0 (i : Nat) (b : Fin 128) (h : i / 128 % 128 = b.val) :
    lit0t1_0 i = if b.val < 64 then lit0t0_0 i else lit0t0_64 i := by
  unfold lit0t1_0
  rw [h]
  fin_cases b <;> rfl
/-- Rows 128 to 255 of the table: each is row 128 or row 192. -/
theorem rows_1 (i : Nat) (b : Fin 128) (h : i / 128 % 128 = b.val) :
    lit0t1_1 i = if b.val < 64 then lit0t0_128 i else lit0t0_192 i := by
  unfold lit0t1_1
  rw [h]
  fin_cases b <;> rfl
/-- Rows 256 to 383 of the table: each is row 256 or row 320. -/
theorem rows_2 (i : Nat) (b : Fin 128) (h : i / 128 % 128 = b.val) :
    lit0t1_2 i = if b.val < 64 then lit0t0_256 i else lit0t0_320 i := by
  unfold lit0t1_2
  rw [h]
  fin_cases b <;> rfl
/-- Rows 384 to 511 of the table: each is row 384 or row 448. -/
theorem rows_3 (i : Nat) (b : Fin 128) (h : i / 128 % 128 = b.val) :
    lit0t1_3 i = if b.val < 64 then lit0t0_384 i else lit0t0_448 i := by
  unfold lit0t1_3
  rw [h]
  fin_cases b <;> rfl
/-- Quarter 0 of the table. -/
theorem top_0 (i : Nat) (h : i / 16384 = 0) : lit0t i = lit0t1_0 i := by
  unfold lit0t
  rw [h]
  rfl
/-- Quarter 1 of the table. -/
theorem top_1 (i : Nat) (h : i / 16384 = 1) : lit0t i = lit0t1_1 i := by
  unfold lit0t
  rw [h]
  rfl
/-- Quarter 2 of the table. -/
theorem top_2 (i : Nat) (h : i / 16384 = 2) : lit0t i = lit0t1_2 i := by
  unfold lit0t
  rw [h]
  rfl
/-- Quarter 3 of the table. -/
theorem top_3 (i : Nat) (h : i / 16384 = 3) : lit0t i = lit0t1_3 i := by
  unfold lit0t
  rw [h]
  rfl
/-- The table holds a one at row `r`, column `j` where `r / 64 = j`, and zeros elsewhere. -/
theorem lit0t_eq (i : Nat) (hi : i < 65536) : lit0t i = if i / 8192 = i % 128 then 0x3F80#16 else 0x0000#16 := by
  obtain ⟨j, hj⟩ : ∃ j : Fin 128, i % 128 = j.val := ⟨⟨i % 128, by omega⟩, rfl⟩
  obtain ⟨b, hb⟩ : ∃ b : Fin 128, i / 128 % 128 = b.val := ⟨⟨i / 128 % 128, by omega⟩, rfl⟩
  have h4 : i / 16384 = 0 ∨ i / 16384 = 1 ∨ i / 16384 = 2 ∨ i / 16384 = 3 := by omega
  have hq : ∀ a b : Nat, i / 16384 = a → i / 128 % 128 = b → (b < 64 → i / 8192 = 2 * a) ∧ (¬ b < 64 → i / 8192 = 2 * a + 1) := by
    intro a b h1 h2; constructor <;> intro h3 <;> omega
  rcases h4 with h | h | h | h
  · rw [top_0 i h, rows_0 i b hb, col_0 i j hj, col_1 i j hj, hj]
    by_cases hl : b.val < 64
    · rw [if_pos hl, (hq _ _ h hb).1 hl]
    · rw [if_neg hl, (hq _ _ h hb).2 hl]
  · rw [top_1 i h, rows_1 i b hb, col_2 i j hj, col_3 i j hj, hj]
    by_cases hl : b.val < 64
    · rw [if_pos hl, (hq _ _ h hb).1 hl]
    · rw [if_neg hl, (hq _ _ h hb).2 hl]
  · rw [top_2 i h, rows_2 i b hb, col_4 i j hj, col_5 i j hj, hj]
    by_cases hl : b.val < 64
    · rw [if_pos hl, (hq _ _ h hb).1 hl]
    · rw [if_neg hl, (hq _ _ h hb).2 hl]
  · rw [top_3 i h, rows_3 i b hb, col_6 i j hj, col_7 i j hj, hj]
    by_cases hl : b.val < 64
    · rw [if_pos hl, (hq _ _ h hb).1 hl]
    · rw [if_neg hl, (hq _ _ h hb).2 hl]
/-- So the constant array's element `(r, j)` is one where column `r` of the projection belongs to head `j`, else zero. -/
theorem head_apply (r : Fin 512) (j : Fin 128) :
    (FloatOps.ofBits .bf16 (lit0 (S512x128.rowMajor (ix2 r j))) : Ideal .bf16) = if r.val / 64 = j.val then (1 : EReal) else 0 := by
  have e : (S512x128.rowMajor (ix2 r j)).val = r.val * 128 + j.val := Shape.rowMajor_val_two _
  show Ideal.ofBits .bf16 (lit0t (S512x128.rowMajor (ix2 r j)).val) = _
  rw [e, lit0t_eq _ (by omega), show (r.val * 128 + j.val) / 8192 = r.val / 64 by omega, show (r.val * 128 + j.val) % 128 = j.val by omega]
  split
  · exact Ideal.ofBits_one_bf16
  · exact Ideal.ofBits_zero_bf16

end Cert.ProjIdeal.Lit

end

end
-- ==== Proof.ProjHost.lean ====
/-
  What the input projection's launch finds: the tokens in one list, the weights packed by columns and by rows, each
  column where it was taken from, the padding zero, and the 0/1 array of heads.
-/
module

public import proofs.«01_k».proof.Proof.ProjSpec
public import proofs.«01_k».proof.Proof.ProjBlock
public import proofs.«01_k».proof.Proof.ProjTable
public import Idealize.ShloMosaic.Lib.StableHlo.Run

@[expose] public section

set_option maxRecDepth 16384

noncomputable section

namespace Cert.ProjIdeal.Final

open Cert.ProjIdeal Cert.ProjIdeal.Gen Idealize.ShloMosaic Idealize.ShloMosaic.TcCoe Idealize.SL.Sem

variable (m : (ℓ : Loc nD τ sig) → Buf (Elt Ideal) ℓ) (ρ : Dev nD → PrngReg)

/-- The device's arguments as plain arrays. -/
abbrev ax (c : Dev nD) : FVec Ideal S4x8192x1024 .f32 := m ((c : Thread nD τ).loc main_arg0)
abbrev aw (c : Dev nD) : FVec Ideal S1024x4392 .f32 := m ((c : Thread nD τ).loc main_arg1)

/-- The weights packed by columns. -/
def natW (w : FVec Ideal S1024x4392 .f32) : FVec Ideal S1024x3200 .bf16 :=
  truncf .bf16 (concatenate S1024x3200 1 [⟨S1024x512, extractStridedSlice S1024x512 ![0, 512] w slices_S1024x4392_S1024x512_0_512⟩,
    ⟨S1024x512, extractStridedSlice S1024x512 ![0, 1024] w slices_S1024x4392_S1024x512_0_1024⟩,
    ⟨S1024x128, concatenate S1024x128 1 [⟨S1024x32, extractStridedSlice S1024x32 ![0, 2304] w slices_S1024x4392_S1024x32_0_2304⟩,
      ⟨S1024x96, broadcastInDim S1024x96 ![] bcast_S_S1024x96 (constant (F := Ideal) S_ .f32 0x00000000#32)⟩] concatenates_S1024x32_S1024x96_S1024x128_d1⟩,
    ⟨S1024x1024, extractStridedSlice S1024x1024 ![0, 2344] w slices_S1024x4392_S1024x1024_0_2344⟩,
    ⟨S1024x1024, extractStridedSlice S1024x1024 ![0, 3368] w slices_S1024x4392_S1024x1024_0_3368⟩]
    concatenates_S1024x512_S1024x512_S1024x128_S1024x1024_S1024x1024_S1024x3200_d1) bitsLt_bf16_f32

/-- The weights packed by rows. -/
def trnW (w : FVec Ideal S1024x4392 .f32) : FVec Ideal S1296x1024 .bf16 :=
  truncf .bf16 (transpose S1296x1024 [1, 0] (concatenate S1024x1296 1 [⟨S1024x512, extractStridedSlice S1024x512 ![0, 0] w slices_S1024x4392_S1024x512_0_0⟩,
    ⟨S1024x512, extractStridedSlice S1024x512 ![0, 1536] w slices_S1024x4392_S1024x512_0_1536⟩,
    ⟨S1024x256, extractStridedSlice S1024x256 ![0, 2048] w slices_S1024x4392_S1024x256_0_2048⟩,
    ⟨S1024x16, concatenate S1024x16 1 [⟨S1024x8, extractStridedSlice S1024x8 ![0, 2336] w slices_S1024x4392_S1024x8_0_2336⟩,
      ⟨S1024x8, broadcastInDim S1024x8 ![] bcast_S_S1024x8 (constant (F := Ideal) S_ .f32 0x00000000#32)⟩] concatenates_S1024x8_S1024x8_S1024x16_d1⟩]
    concatenates_S1024x512_S1024x512_S1024x256_S1024x16_S1024x1296_d1) transposes_S1024x1296_S1296x1024_1_0) bitsLt_bf16_f32

/-! ## What the region finds in its windows' arrays -/

/-- The tokens, as one list. -/
theorem V_x (c : Dev nD) : V m c main_v0 = shapeCast S32768x1024 (ax m c) shapeCasts_S4x8192x1024_S32768x1024 := by
  simp only [V, hostOps0]; after_results_simp <;> rfl
/-- The weights packed by columns. -/
theorem V_nat (c : Dev nD) : V m c main_v16 = natW (aw m c) := by
  simp only [V, hostOps0]; after_results_simp <;> rfl
/-- The weights packed by rows. -/
theorem V_trn (c : Dev nD) : V m c main_v18 = trnW (aw m c) := by
  simp only [V, hostOps0]; after_results_simp <;> rfl
/-- The array of heads. -/
theorem V_head (c : Dev nD) : V m c main_cst = ((fun i => FloatOps.ofBits .bf16 (lit0 (S512x128.rowMajor i))) : FVec Ideal S512x128 .bf16) := by
  simp only [V, hostOps0]; after_results_simp <;> rfl

/-! ## Where a packed column was taken from -/

/-- Closes the choice of a part of a concatenation, once read at an index. -/
theorem at_col (w : FVec Ideal S1024x4392 .f32) (d : Fin 1024) {a b : Nat} (ha : a < 4392) (hb : b < 4392) (h : a = b) :
    w (ix2 d ⟨a, ha⟩) = w (ix2 d ⟨b, hb⟩) := by subst h; rfl

/-- The columns of queries and keys. -/
theorem natW_qk (w : FVec Ideal S1024x4392 .f32) (d : Fin 1024) (j : Nat) (hj : j < 1024) :
    natW w (ix2 d ⟨j, by omega⟩) = w (ix2 d ⟨512 + j, by omega⟩) := by
  unfold natW
  pointwise
  by_cases h1 : j < 512
  · rw [dif_pos h1]
  · rw [dif_neg h1, dif_pos (by omega)]
    exact at_col w d _ _ (by omega)

/-- The columns of the indexer's keys. -/
theorem natW_ki (w : FVec Ideal S1024x4392 .f32) (d : Fin 1024) (j : Nat) (hj : j < 32) :
    natW w (ix2 d ⟨1024 + j, by omega⟩) = w (ix2 d ⟨2304 + j, by omega⟩) := by
  unfold natW
  pointwise
  rw [dif_neg (by omega), dif_neg (by omega), dif_pos (by omega), dif_pos (by omega)]
  exact at_col w d _ _ (by omega)

/-- The columns of the recurrence's gate. -/
theorem natW_gs (w : FVec Ideal S1024x4392 .f32) (d : Fin 1024) (j : Nat) (hj : j < 1024) :
    natW w (ix2 d ⟨1152 + j, by omega⟩) = w (ix2 d ⟨2344 + j, by omega⟩) := by
  unfold natW
  pointwise
  rw [dif_neg (by omega), dif_neg (by omega), dif_neg (by omega), dif_pos (by omega)]
  exact at_col w d _ _ (by omega)

/-- The columns of the attention's gate. -/
theorem natW_ga (w : FVec Ideal S1024x4392 .f32) (d : Fin 1024) (j : Nat) (hj : j < 1024) :
    natW w (ix2 d ⟨2176 + j, by omega⟩) = w (ix2 d ⟨3368 + j, by omega⟩) := by
  unfold natW
  pointwise
  rw [dif_neg (by omega), dif_neg (by omega), dif_neg (by omega), dif_neg (by omega)]
  exact at_col w d _ _ (by omega)

/-- The rows of the recurrence's inputs. -/
theorem trnW_u (w : FVec Ideal S1024x4392 .f32) (d : Fin 1024) (j : Nat) (hj : j < 512) :
    trnW w (ix2 ⟨j, by omega⟩ d) = w (ix2 d ⟨j, by omega⟩) := by
  unfold trnW
  pointwise
  rw [dif_pos hj]

/-- The rows of the values. -/
theorem trnW_v (w : FVec Ideal S1024x4392 .f32) (d : Fin 1024) (j : Nat) (hj : j < 512) :
    trnW w (ix2 ⟨512 + j, by omega⟩ d) = w (ix2 d ⟨1536 + j, by omega⟩) := by
  unfold trnW
  pointwise
  rw [dif_pos hj]

/-- The rows of the indexer's queries. -/
theorem trnW_qi (w : FVec Ideal S1024x4392 .f32) (d : Fin 1024) (j : Nat) (hj : j < 256) :
    trnW w (ix2 ⟨1024 + j, by omega⟩ d) = w (ix2 d ⟨2048 + j, by omega⟩) := by
  unfold trnW
  pointwise
  rw [dif_neg (by omega), dif_neg (by omega), dif_pos (by omega)]
  exact at_col w d _ _ (by omega)

/-- The rows of the indexer's weights and the zeros after them. -/
theorem trnW_w (w : FVec Ideal S1024x4392 .f32) (d : Fin 1024) (j : Nat) (hj : j < 16) :
    trnW w (ix2 ⟨1280 + j, by omega⟩ d) = if h : j < 8 then w (ix2 d ⟨2336 + j, by omega⟩) else 0 := by
  unfold trnW
  pointwise
  rw [dif_neg (by omega), dif_neg (by omega), dif_neg (by omega)]
  by_cases h1 : j < 8
  · rw [dif_pos (by omega), dif_pos h1]
    exact at_col w d _ _ (by omega)
  · rw [dif_neg (by omega), dif_neg h1]

end Cert.ProjIdeal.Final

end

end
-- ==== Proof.ProjRun.lean ====
/-
  The input projection's ten result arrays after its grid: point `t` writes tokens `1024 t …` of each, and together the points
  fill them.
-/
module

public import proofs.«01_k».proof.Proof.ProjSpec
public import proofs.«01_k».proof.Proof.ProjBlock
public import proofs.«01_k».proof.Proof.ProjHost
public import proofs.«01_k».proof.Proof.Gen.ProjIdeal.Frame
public import proofs.«01_k».proof.Proof.Gen.ProjIdeal.Value
public import Idealize.ShloMosaic.Lib.StableHlo.Run

@[expose] public section

set_option maxRecDepth 16384

noncomputable section

namespace Cert.ProjIdeal.Final

open Cert.ProjIdeal Cert.ProjIdeal.Gen Idealize.ShloMosaic Idealize.ShloMosaic.TcCoe Idealize.SL.Sem Cert.ProjSpec
open Idealize.ShloMosaic.Pipeline (Dat)

variable (m : (ℓ : Loc nD τ sig) → Buf (Elt Ideal) ℓ) (ρ : Dev nD → PrngReg)

/-- Token `n` of the flattened input: token `n % 8192` of sequence `n / 8192`. -/
def tX (c : Dev nD) (n : Fin 32768) (d : Fin 1024) : EReal := ax m c (ix3 ⟨n.val / 8192, by omega⟩ ⟨n.val % 8192, by omega⟩ d)
/-- The projection's weights. -/
def tW (c : Dev nD) (d : Fin 1024) (j : Fin 4392) : EReal := aw m c (ix2 d j)

/-- A grid point is below the grid's extent. -/
theorem t_lt (t : Fin cfg0.N) : t.val < 32 := lt_of_lt_of_eq t.isLt N_0

/-- Where block `t` of window 1 begins. -/
theorem at1 : ∀ t : Fin cfg0.N, win0_1.index t 0 * win0_1.size 0 = 0 ∧ win0_1.index t 1 * win0_1.size 1 = 0 :=
  (by decide +kernel : ∀ t : Fin grid0.N, _)
/-- Where block `t` of window 2 begins. -/
theorem at2 : ∀ t : Fin cfg0.N, win0_2.index t 0 * win0_2.size 0 = 0 ∧ win0_2.index t 1 * win0_2.size 1 = 0 :=
  (by decide +kernel : ∀ t : Fin grid0.N, _)
/-- Where block `t` of window 3 begins. -/
theorem at3 : ∀ t : Fin cfg0.N, win0_3.index t 0 * win0_3.size 0 = 0 ∧ win0_3.index t 1 * win0_3.size 1 = 0 :=
  (by decide +kernel : ∀ t : Fin grid0.N, _)
/-- Where block `t` of window 0 begins, and its extent. -/
theorem at0 : ∀ t : Fin cfg0.N, (win0_0.index t 0 * win0_0.size 0 = 1024 * t.val ∧ win0_0.index t 1 * win0_0.size 1 = 0)
    ∧ (win0_0.xsize (grid0.coords t) 0 = 1024 ∧ win0_0.xsize (grid0.coords t) 1 = 1024) :=
  (by decide +kernel : ∀ t : Fin grid0.N, _)
/-- Where block `t` of window 4 begins, and its extent. -/
theorem at4 : ∀ t : Fin cfg0.N, (win0_4.index t 0 * win0_4.size 0 = 1024 * t.val ∧ win0_4.index t 1 * win0_4.size 1 = 0)
    ∧ (win0_4.xsize (grid0.coords t) 0 = 1024 ∧ win0_4.xsize (grid0.coords t) 1 = 512) :=
  (by decide +kernel : ∀ t : Fin grid0.N, _)
/-- Where block `t` of window 5 begins, and its extent. -/
theorem at5 : ∀ t : Fin cfg0.N, (win0_5.index t 0 * win0_5.size 0 = 1024 * t.val ∧ win0_5.index t 1 * win0_5.size 1 = 0)
    ∧ (win0_5.xsize (grid0.coords t) 0 = 1024 ∧ win0_5.xsize (grid0.coords t) 1 = 512) :=
  (by decide +kernel : ∀ t : Fin grid0.N, _)
/-- Where block `t` of window 6 begins, and its extent. -/
theorem at6 : ∀ t : Fin cfg0.N, (win0_6.index t 0 * win0_6.size 0 = 1024 * t.val ∧ win0_6.index t 1 * win0_6.size 1 = 0)
    ∧ (win0_6.xsize (grid0.coords t) 0 = 1024 ∧ win0_6.xsize (grid0.coords t) 1 = 32) :=
  (by decide +kernel : ∀ t : Fin grid0.N, _)
/-- Where block `t` of window 7 begins, and its extent. -/
theorem at7 : ∀ t : Fin cfg0.N, (win0_7.index t 0 * win0_7.size 0 = 1024 * t.val ∧ win0_7.index t 1 * win0_7.size 1 = 0)
    ∧ (win0_7.xsize (grid0.coords t) 0 = 1024 ∧ win0_7.xsize (grid0.coords t) 1 = 1024) :=
  (by decide +kernel : ∀ t : Fin grid0.N, _)
/-- Where block `t` of window 8 begins, and its extent. -/
theorem at8 : ∀ t : Fin cfg0.N, (win0_8.index t 0 * win0_8.size 0 = 1024 * t.val ∧ win0_8.index t 1 * win0_8.size 1 = 0)
    ∧ (win0_8.xsize (grid0.coords t) 0 = 1024 ∧ win0_8.xsize (grid0.coords t) 1 = 1024) :=
  (by decide +kernel : ∀ t : Fin grid0.N, _)
/-- Where block `t` of window 9 begins, and its extent. -/
theorem at9 : ∀ t : Fin cfg0.N, (win0_9.index t 0 * win0_9.size 0 = t.val ∧ win0_9.index t 1 * win0_9.size 1 = 0 ∧ win0_9.index t 2 * win0_9.size 2 = 0)
    ∧ (win0_9.xsize (grid0.coords t) 0 = 1 ∧ win0_9.xsize (grid0.coords t) 1 = 8 ∧ win0_9.xsize (grid0.coords t) 2 = 128) :=
  (by decide +kernel : ∀ t : Fin grid0.N, _)
/-- Where block `t` of window 10 begins, and its extent. -/
theorem at10 : ∀ t : Fin cfg0.N, (win0_10.index t 0 * win0_10.size 0 = 0 ∧ win0_10.index t 1 * win0_10.size 1 = 1024 * t.val)
    ∧ (win0_10.xsize (grid0.coords t) 0 = 512 ∧ win0_10.xsize (grid0.coords t) 1 = 1024) :=
  (by decide +kernel : ∀ t : Fin grid0.N, _)
/-- Where block `t` of window 11 begins, and its extent. -/
theorem at11 : ∀ t : Fin cfg0.N, (win0_11.index t 0 * win0_11.size 0 = 0 ∧ win0_11.index t 1 * win0_11.size 1 = 1024 * t.val)
    ∧ (win0_11.xsize (grid0.coords t) 0 = 640 ∧ win0_11.xsize (grid0.coords t) 1 = 1024) :=
  (by decide +kernel : ∀ t : Fin grid0.N, _)
/-- Where block `t` of window 12 begins, and its extent. -/
theorem at12 : ∀ t : Fin cfg0.N, (win0_12.index t 0 * win0_12.size 0 = 0 ∧ win0_12.index t 1 * win0_12.size 1 = 1024 * t.val)
    ∧ (win0_12.xsize (grid0.coords t) 0 = 256 ∧ win0_12.xsize (grid0.coords t) 1 = 1024) :=
  (by decide +kernel : ∀ t : Fin grid0.N, _)
/-- Where block `t` of window 13 begins, and its extent. -/
theorem at13 : ∀ t : Fin cfg0.N, (win0_13.index t 0 * win0_13.size 0 = 0 ∧ win0_13.index t 1 * win0_13.size 1 = 1024 * t.val)
    ∧ (win0_13.xsize (grid0.coords t) 0 = 16 ∧ win0_13.xsize (grid0.coords t) 1 = 1024) :=
  (by decide +kernel : ∀ t : Fin grid0.N, _)

/-! ## The blocks a grid point reads -/

/-- Row `r` of the block at `t` is token `1024 t + r`. -/
theorem iblk_x (c : Dev nD) (t : Fin cfg0.N) (r : Fin 1024) (d : Fin 1024) :
    (iblk m c 0 t : Vec Ideal S1024x1024 .f32) (ix2 r d) = tX m c ⟨1024 * t.val + r.val, by have := t_lt t; omega⟩ d := by
  have e : shapeCast S32768x1024 (ax m c) shapeCasts_S4x8192x1024_S32768x1024
      (ix2 ⟨1024 * t.val + r.val, by have := t_lt t; omega⟩ d) = tX m c ⟨1024 * t.val + r.val, by have := t_lt t; omega⟩ d := by
    unfold tX
    pointwise
  rw [← e, ← V_x]
  show V m c main_v0 ((win0_0.rect t).idx (ix2 r d)) = _
  obtain ⟨⟨e0, e1⟩, -⟩ := at0 t
  refine congrArg _ (funext fun a => Fin.ext ?_)
  match a with
  | ⟨0, _⟩ => show win0_0.index t 0 * win0_0.size 0 + 1 * r.val = _; rw [e0, one_mul]; rfl
  | ⟨1, _⟩ => show win0_0.index t 1 * win0_0.size 1 + 1 * d.val = _; rw [e1, one_mul, zero_add]; rfl

/-- The array of window 1, whole at every point. -/
theorem iblk_nat (c : Dev nD) (t : Fin cfg0.N) : (iblk m c 1 t : Vec Ideal S1024x3200 .bf16) = natW (aw m c) := by
  rw [← V_nat m c]
  obtain ⟨e0, e1⟩ := at1 t
  funext j
  show V m c main_v16 ((win0_1.rect t).idx j) = _
  refine congrArg _ (funext fun a => Fin.ext ?_)
  match a with
  | ⟨0, _⟩ => show win0_1.index t 0 * win0_1.size 0 + 1 * (j 0).val = _; rw [e0, one_mul, zero_add]; rfl
  | ⟨1, _⟩ => show win0_1.index t 1 * win0_1.size 1 + 1 * (j 1).val = _; rw [e1, one_mul, zero_add]; rfl

/-- The array of window 2, whole at every point. -/
theorem iblk_trn (c : Dev nD) (t : Fin cfg0.N) : (iblk m c 2 t : Vec Ideal S1296x1024 .bf16) = trnW (aw m c) := by
  rw [← V_trn m c]
  obtain ⟨e0, e1⟩ := at2 t
  funext j
  show V m c main_v18 ((win0_2.rect t).idx j) = _
  refine congrArg _ (funext fun a => Fin.ext ?_)
  match a with
  | ⟨0, _⟩ => show win0_2.index t 0 * win0_2.size 0 + 1 * (j 0).val = _; rw [e0, one_mul, zero_add]; rfl
  | ⟨1, _⟩ => show win0_2.index t 1 * win0_2.size 1 + 1 * (j 1).val = _; rw [e1, one_mul, zero_add]; rfl

/-- The array of window 3, whole at every point. -/
theorem iblk_head (c : Dev nD) (t : Fin cfg0.N) : (iblk m c 3 t : Vec Ideal S512x128 .bf16) = ((fun i => FloatOps.ofBits .bf16 (lit0 (S512x128.rowMajor i))) : FVec Ideal S512x128 .bf16) := by
  rw [← V_head m c]
  obtain ⟨e0, e1⟩ := at3 t
  funext j
  show V m c main_cst ((win0_3.rect t).idx j) = _
  refine congrArg _ (funext fun a => Fin.ext ?_)
  match a with
  | ⟨0, _⟩ => show win0_3.index t 0 * win0_3.size 0 + 1 * (j 0).val = _; rw [e0, one_mul, zero_add]; rfl
  | ⟨1, _⟩ => show win0_3.index t 1 * win0_3.size 1 + 1 * (j 1).val = _; rw [e1, one_mul, zero_add]; rfl

/-! ## The products with the packed weights are the projection's columns -/

/-- A product with packed column `j`. -/
theorem nat_qk (c : Dev nD) (t : Fin cfg0.N) (r : Fin 1024) (j : Nat) (hj : j < 1024) :
    Block.nat (iblk m c 0 t) (iblk m c 1 t) r (j) (by omega)
      = dotc (tX m c) (tW m c) ⟨1024 * t.val + r.val, by have := t_lt t; omega⟩ ⟨512 + j, by omega⟩ := by
  unfold Block.nat dotc
  refine Finset.sum_congr rfl fun d _ => ?_
  rw [iblk_x, iblk_nat, natW_qk _ d j hj]
  rfl

/-- A product with packed column `1024 + j`. -/
theorem nat_ki (c : Dev nD) (t : Fin cfg0.N) (r : Fin 1024) (j : Nat) (hj : j < 32) :
    Block.nat (iblk m c 0 t) (iblk m c 1 t) r (1024 + j) (by omega)
      = dotc (tX m c) (tW m c) ⟨1024 * t.val + r.val, by have := t_lt t; omega⟩ ⟨2304 + j, by omega⟩ := by
  unfold Block.nat dotc
  refine Finset.sum_congr rfl fun d _ => ?_
  rw [iblk_x, iblk_nat, natW_ki _ d j hj]
  rfl

/-- A product with packed column `1152 + j`. -/
theorem nat_gs (c : Dev nD) (t : Fin cfg0.N) (r : Fin 1024) (j : Nat) (hj : j < 1024) :
    Block.nat (iblk m c 0 t) (iblk m c 1 t) r (1152 + j) (by omega)
      = dotc (tX m c) (tW m c) ⟨1024 * t.val + r.val, by have := t_lt t; omega⟩ ⟨2344 + j, by omega⟩ := by
  unfold Block.nat dotc
  refine Finset.sum_congr rfl fun d _ => ?_
  rw [iblk_x, iblk_nat, natW_gs _ d j hj]
  rfl

/-- A product with packed column `2176 + j`. -/
theorem nat_ga (c : Dev nD) (t : Fin cfg0.N) (r : Fin 1024) (j : Nat) (hj : j < 1024) :
    Block.nat (iblk m c 0 t) (iblk m c 1 t) r (2176 + j) (by omega)
      = dotc (tX m c) (tW m c) ⟨1024 * t.val + r.val, by have := t_lt t; omega⟩ ⟨3368 + j, by omega⟩ := by
  unfold Block.nat dotc
  refine Finset.sum_congr rfl fun d _ => ?_
  rw [iblk_x, iblk_nat, natW_ga _ d j hj]
  rfl

/-- A product with packed row `j`. -/
theorem trn_u (c : Dev nD) (t : Fin cfg0.N) (r : Fin 1024) (j : Nat) (hj : j < 512) :
    Block.trn (iblk m c 0 t) (iblk m c 2 t) (j) (by omega) r
      = dotc (tX m c) (tW m c) ⟨1024 * t.val + r.val, by have := t_lt t; omega⟩ ⟨j, by omega⟩ := by
  unfold Block.trn dotc
  refine Finset.sum_congr rfl fun d _ => ?_
  rw [iblk_x, iblk_trn, trnW_u _ d j hj, mul_comm]
  rfl

/-- A product with packed row `512 + j`. -/
theorem trn_v (c : Dev nD) (t : Fin cfg0.N) (r : Fin 1024) (j : Nat) (hj : j < 512) :
    Block.trn (iblk m c 0 t) (iblk m c 2 t) (512 + j) (by omega) r
      = dotc (tX m c) (tW m c) ⟨1024 * t.val + r.val, by have := t_lt t; omega⟩ ⟨1536 + j, by omega⟩ := by
  unfold Block.trn dotc
  refine Finset.sum_congr rfl fun d _ => ?_
  rw [iblk_x, iblk_trn, trnW_v _ d j hj, mul_comm]
  rfl

/-- A product with packed row `1024 + j`. -/
theorem trn_qi (c : Dev nD) (t : Fin cfg0.N) (r : Fin 1024) (j : Nat) (hj : j < 256) :
    Block.trn (iblk m c 0 t) (iblk m c 2 t) (1024 + j) (by omega) r
      = dotc (tX m c) (tW m c) ⟨1024 * t.val + r.val, by have := t_lt t; omega⟩ ⟨2048 + j, by omega⟩ := by
  unfold Block.trn dotc
  refine Finset.sum_congr rfl fun d _ => ?_
  rw [iblk_x, iblk_trn, trnW_qi _ d j hj, mul_comm]
  rfl

/-- A product with packed row `1280 + j`: the indexer's weights, and zeros after them. -/
theorem trn_w (c : Dev nD) (t : Fin cfg0.N) (r : Fin 1024) (j : Nat) (hj : j < 16) :
    Block.trn (iblk m c 0 t) (iblk m c 2 t) (1280 + j) (by omega) r
      = if h : j < 8 then dotc (tX m c) (tW m c) ⟨1024 * t.val + r.val, by have := t_lt t; omega⟩ ⟨2336 + j, by omega⟩ else 0 := by
  unfold Block.trn dotc
  by_cases h : j < 8
  · rw [dif_pos h]
    refine Finset.sum_congr rfl fun d _ => ?_
    rw [iblk_x, iblk_trn, trnW_w _ d j hj, dif_pos h, mul_comm]
    rfl
  · rw [dif_neg h]
    refine Finset.sum_eq_zero fun d _ => ?_
    rw [iblk_trn, trnW_w _ d j hj, dif_neg h, zero_mul]

/-- The largest squared norm of a head, over the tokens of a block. -/
theorem heads_eq (c : Dev nD) (t : Fin cfg0.N) (f : Fin 1024 → Fin 512 → EReal) (g : Fin 32768 → Fin 512 → EReal)
    (hfg : ∀ r j, f r j = g ⟨1024 * t.val + r.val, by have := t_lt t; omega⟩ j) (l : Fin 128) :
    Block.heads f (iblk m c 3 t) l = largest g ⟨t.val, t_lt t⟩ l := by
  unfold Block.heads largest
  rw [iblk_head]
  have e : ∀ j : Fin 512, ((fun i => FloatOps.ofBits .bf16 (lit0 (S512x128.rowMajor i))) : FVec Ideal S512x128 .bf16) (ix2 j l)
      = if j.val / 64 = l.val then (1 : EReal) else 0 := fun j => Lit.head_apply j l
  simp only [e, fold_heads]
  have ef : ∀ r, f r = g ⟨1024 * t.val + r.val, by have := t_lt t; omega⟩ := fun r => funext (hfg r)
  simp only [ef]

/-! ## The result arrays -/

/-- Result 0, whole. -/
def res4 (c : Dev nD) : Buf (Elt Ideal) ((c : Thread nD τ).loc main_v19_0) := fun j : S32768x512.Idx => eQ (tX m c) (tW m c) (j 0) (j 1)

/-- What grid point `t` writes back is its block of the result. -/
theorem flushed4 (c : Dev nD) (t : Fin cfg0.N) :
    (dats m 0 c).flushed 4 t = (win0_4.blk t).view.read (Elt Ideal) (res4 m c) := by
  rw [Value.flushed4_A]
  obtain ⟨⟨e0, e1⟩, -⟩ := at4 t
  have ht := t_lt t
  funext (j : S1024x512.Idx)
  obtain ⟨r, k, rfl⟩ : ∃ (r : Fin 1024) (k : Fin 512), j = ix2 r k := ⟨j 0, j 1, eq_ix2 j⟩
  have ej : (win0_4.rect t).idx (ix2 r k) = (ix2 ⟨1024 * t.val + r.val, by omega⟩ k) := by
    refine funext fun a => Fin.ext ?_
    match a with
    | ⟨0, _⟩ => show win0_4.index t 0 * win0_4.size 0 + 1 * r.val = _; rw [e0, one_mul]; rfl
    | ⟨1, _⟩ => show win0_4.index t 1 * win0_4.size 1 + 1 * k.val = _; rw [e1, one_mul, zero_add]; rfl
  refine (Block.b4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) r k).trans ?_
  show _ = res4 m c ((win0_4.rect t).idx (ix2 r k))
  rw [ej]
  show _ = eQ (tX m c) (tW m c) ⟨1024 * t.val + r.val, by omega⟩ k
  unfold eQ
  rw [nat_qk m c t r k.val (by omega)]

/-- Every index of the result lies in some point's block. -/
theorem cover4 (i : S32768x512.Idx) :
    ∃ t : Fin cfg0.N, (cfg0.win 4).flush t = true ∧ i ∈ ((cfg0.win 4).blk t).view.set := by
  have h0 : (i 0 : Nat) < 32768 := (i 0).isLt
  have h1 : (i 1 : Nat) < 512 := (i 1).isLt
  obtain ⟨t, ht⟩ : ∃ t : Fin cfg0.N, t.val = (i 0 : Nat) / 1024 :=
    ⟨⟨(i 0 : Nat) / 1024, lt_of_lt_of_eq (by omega : (i 0 : Nat) / 1024 < 32) N_0.symm⟩, rfl⟩
  refine ⟨t, flush0_4 _, ?_⟩
  show i ∈ ((View.whole main_v19_0).slice (win0_4.rect t)).set
  rw [View.set_slice_whole, Rect.mem_set_unit]
  obtain ⟨⟨e0, e1⟩, ⟨x0, x1⟩⟩ := at4 t
  intro a
  match a with
  | ⟨0, _⟩ =>
    show win0_4.index t 0 * win0_4.size 0 ≤ (i 0 : Nat) ∧ (i 0 : Nat) < win0_4.index t 0 * win0_4.size 0 + win0_4.xsize (grid0.coords t) 0
    rw [e0, x0]; omega
  | ⟨1, _⟩ =>
    show win0_4.index t 1 * win0_4.size 1 ≤ (i 1 : Nat) ∧ (i 1 : Nat) < win0_4.index t 1 * win0_4.size 1 + win0_4.xsize (grid0.coords t) 1
    rw [e1, x1]; omega

/-- So the result's array ends at `res4`. -/
theorem final4 (c : Dev nD) : (dats m 0 c).arrAt 4 cfg0.N = res4 m c :=
  (dats m 0 c).arrAt_eq_of_cover 4 (res4 m c) (fun t _ => flushed4 m c t) cover4

/-- Result 1, whole. -/
def res5 (c : Dev nD) : Buf (Elt Ideal) ((c : Thread nD τ).loc main_v19_1) := fun j : S32768x512.Idx => eK (tX m c) (tW m c) (j 0) (j 1)

/-- What grid point `t` writes back is its block of the result. -/
theorem flushed5 (c : Dev nD) (t : Fin cfg0.N) :
    (dats m 0 c).flushed 5 t = (win0_5.blk t).view.read (Elt Ideal) (res5 m c) := by
  rw [Value.flushed5_A]
  obtain ⟨⟨e0, e1⟩, -⟩ := at5 t
  have ht := t_lt t
  funext (j : S1024x512.Idx)
  obtain ⟨r, k, rfl⟩ : ∃ (r : Fin 1024) (k : Fin 512), j = ix2 r k := ⟨j 0, j 1, eq_ix2 j⟩
  have ej : (win0_5.rect t).idx (ix2 r k) = (ix2 ⟨1024 * t.val + r.val, by omega⟩ k) := by
    refine funext fun a => Fin.ext ?_
    match a with
    | ⟨0, _⟩ => show win0_5.index t 0 * win0_5.size 0 + 1 * r.val = _; rw [e0, one_mul]; rfl
    | ⟨1, _⟩ => show win0_5.index t 1 * win0_5.size 1 + 1 * k.val = _; rw [e1, one_mul, zero_add]; rfl
  refine (Block.b5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) r k).trans ?_
  show _ = res5 m c ((win0_5.rect t).idx (ix2 r k))
  rw [ej]
  show _ = eK (tX m c) (tW m c) ⟨1024 * t.val + r.val, by omega⟩ k
  unfold eK
  rw [nat_qk m c t r (512 + k.val) (by omega)]
  exact congrArg _ (Fin.ext (by dsimp only; omega))

/-- Every index of the result lies in some point's block. -/
theorem cover5 (i : S32768x512.Idx) :
    ∃ t : Fin cfg0.N, (cfg0.win 5).flush t = true ∧ i ∈ ((cfg0.win 5).blk t).view.set := by
  have h0 : (i 0 : Nat) < 32768 := (i 0).isLt
  have h1 : (i 1 : Nat) < 512 := (i 1).isLt
  obtain ⟨t, ht⟩ : ∃ t : Fin cfg0.N, t.val = (i 0 : Nat) / 1024 :=
    ⟨⟨(i 0 : Nat) / 1024, lt_of_lt_of_eq (by omega : (i 0 : Nat) / 1024 < 32) N_0.symm⟩, rfl⟩
  refine ⟨t, flush0_5 _, ?_⟩
  show i ∈ ((View.whole main_v19_1).slice (win0_5.rect t)).set
  rw [View.set_slice_whole, Rect.mem_set_unit]
  obtain ⟨⟨e0, e1⟩, ⟨x0, x1⟩⟩ := at5 t
  intro a
  match a with
  | ⟨0, _⟩ =>
    show win0_5.index t 0 * win0_5.size 0 ≤ (i 0 : Nat) ∧ (i 0 : Nat) < win0_5.index t 0 * win0_5.size 0 + win0_5.xsize (grid0.coords t) 0
    rw [e0, x0]; omega
  | ⟨1, _⟩ =>
    show win0_5.index t 1 * win0_5.size 1 ≤ (i 1 : Nat) ∧ (i 1 : Nat) < win0_5.index t 1 * win0_5.size 1 + win0_5.xsize (grid0.coords t) 1
    rw [e1, x1]; omega

/-- So the result's array ends at `res5`. -/
theorem final5 (c : Dev nD) : (dats m 0 c).arrAt 5 cfg0.N = res5 m c :=
  (dats m 0 c).arrAt_eq_of_cover 5 (res5 m c) (fun t _ => flushed5 m c t) cover5

/-- Result 2, whole. -/
def res6 (c : Dev nD) : Buf (Elt Ideal) ((c : Thread nD τ).loc main_v19_2) := fun j : S32768x32.Idx => eKi (tX m c) (tW m c) (j 0) (j 1)

/-- What grid point `t` writes back is its block of the result. -/
theorem flushed6 (c : Dev nD) (t : Fin cfg0.N) :
    (dats m 0 c).flushed 6 t = (win0_6.blk t).view.read (Elt Ideal) (res6 m c) := by
  rw [Value.flushed6_A]
  obtain ⟨⟨e0, e1⟩, -⟩ := at6 t
  have ht := t_lt t
  funext (j : S1024x32.Idx)
  obtain ⟨r, k, rfl⟩ : ∃ (r : Fin 1024) (k : Fin 32), j = ix2 r k := ⟨j 0, j 1, eq_ix2 j⟩
  have ej : (win0_6.rect t).idx (ix2 r k) = (ix2 ⟨1024 * t.val + r.val, by omega⟩ k) := by
    refine funext fun a => Fin.ext ?_
    match a with
    | ⟨0, _⟩ => show win0_6.index t 0 * win0_6.size 0 + 1 * r.val = _; rw [e0, one_mul]; rfl
    | ⟨1, _⟩ => show win0_6.index t 1 * win0_6.size 1 + 1 * k.val = _; rw [e1, one_mul, zero_add]; rfl
  refine (Block.b6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) r k).trans ?_
  show _ = res6 m c ((win0_6.rect t).idx (ix2 r k))
  rw [ej]
  show _ = eKi (tX m c) (tW m c) ⟨1024 * t.val + r.val, by omega⟩ k
  unfold eKi
  rw [nat_ki m c t r k.val (by omega)]

/-- Every index of the result lies in some point's block. -/
theorem cover6 (i : S32768x32.Idx) :
    ∃ t : Fin cfg0.N, (cfg0.win 6).flush t = true ∧ i ∈ ((cfg0.win 6).blk t).view.set := by
  have h0 : (i 0 : Nat) < 32768 := (i 0).isLt
  have h1 : (i 1 : Nat) < 32 := (i 1).isLt
  obtain ⟨t, ht⟩ : ∃ t : Fin cfg0.N, t.val = (i 0 : Nat) / 1024 :=
    ⟨⟨(i 0 : Nat) / 1024, lt_of_lt_of_eq (by omega : (i 0 : Nat) / 1024 < 32) N_0.symm⟩, rfl⟩
  refine ⟨t, flush0_6 _, ?_⟩
  show i ∈ ((View.whole main_v19_2).slice (win0_6.rect t)).set
  rw [View.set_slice_whole, Rect.mem_set_unit]
  obtain ⟨⟨e0, e1⟩, ⟨x0, x1⟩⟩ := at6 t
  intro a
  match a with
  | ⟨0, _⟩ =>
    show win0_6.index t 0 * win0_6.size 0 ≤ (i 0 : Nat) ∧ (i 0 : Nat) < win0_6.index t 0 * win0_6.size 0 + win0_6.xsize (grid0.coords t) 0
    rw [e0, x0]; omega
  | ⟨1, _⟩ =>
    show win0_6.index t 1 * win0_6.size 1 ≤ (i 1 : Nat) ∧ (i 1 : Nat) < win0_6.index t 1 * win0_6.size 1 + win0_6.xsize (grid0.coords t) 1
    rw [e1, x1]; omega

/-- So the result's array ends at `res6`. -/
theorem final6 (c : Dev nD) : (dats m 0 c).arrAt 6 cfg0.N = res6 m c :=
  (dats m 0 c).arrAt_eq_of_cover 6 (res6 m c) (fun t _ => flushed6 m c t) cover6

/-- Result 3, whole. -/
def res7 (c : Dev nD) : Buf (Elt Ideal) ((c : Thread nD τ).loc main_v19_3) := fun j : S32768x1024.Idx => eGs (tX m c) (tW m c) (j 0) (j 1)

/-- What grid point `t` writes back is its block of the result. -/
theorem flushed7 (c : Dev nD) (t : Fin cfg0.N) :
    (dats m 0 c).flushed 7 t = (win0_7.blk t).view.read (Elt Ideal) (res7 m c) := by
  rw [Value.flushed7_A]
  obtain ⟨⟨e0, e1⟩, -⟩ := at7 t
  have ht := t_lt t
  funext (j : S1024x1024.Idx)
  obtain ⟨r, k, rfl⟩ : ∃ (r : Fin 1024) (k : Fin 1024), j = ix2 r k := ⟨j 0, j 1, eq_ix2 j⟩
  have ej : (win0_7.rect t).idx (ix2 r k) = (ix2 ⟨1024 * t.val + r.val, by omega⟩ k) := by
    refine funext fun a => Fin.ext ?_
    match a with
    | ⟨0, _⟩ => show win0_7.index t 0 * win0_7.size 0 + 1 * r.val = _; rw [e0, one_mul]; rfl
    | ⟨1, _⟩ => show win0_7.index t 1 * win0_7.size 1 + 1 * k.val = _; rw [e1, one_mul, zero_add]; rfl
  refine (Block.b7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) r k).trans ?_
  show _ = res7 m c ((win0_7.rect t).idx (ix2 r k))
  rw [ej]
  show _ = eGs (tX m c) (tW m c) ⟨1024 * t.val + r.val, by omega⟩ k
  unfold eGs
  rw [nat_gs m c t r k.val (by omega)]

/-- Every index of the result lies in some point's block. -/
theorem cover7 (i : S32768x1024.Idx) :
    ∃ t : Fin cfg0.N, (cfg0.win 7).flush t = true ∧ i ∈ ((cfg0.win 7).blk t).view.set := by
  have h0 : (i 0 : Nat) < 32768 := (i 0).isLt
  have h1 : (i 1 : Nat) < 1024 := (i 1).isLt
  obtain ⟨t, ht⟩ : ∃ t : Fin cfg0.N, t.val = (i 0 : Nat) / 1024 :=
    ⟨⟨(i 0 : Nat) / 1024, lt_of_lt_of_eq (by omega : (i 0 : Nat) / 1024 < 32) N_0.symm⟩, rfl⟩
  refine ⟨t, flush0_7 _, ?_⟩
  show i ∈ ((View.whole main_v19_3).slice (win0_7.rect t)).set
  rw [View.set_slice_whole, Rect.mem_set_unit]
  obtain ⟨⟨e0, e1⟩, ⟨x0, x1⟩⟩ := at7 t
  intro a
  match a with
  | ⟨0, _⟩ =>
    show win0_7.index t 0 * win0_7.size 0 ≤ (i 0 : Nat) ∧ (i 0 : Nat) < win0_7.index t 0 * win0_7.size 0 + win0_7.xsize (grid0.coords t) 0
    rw [e0, x0]; omega
  | ⟨1, _⟩ =>
    show win0_7.index t 1 * win0_7.size 1 ≤ (i 1 : Nat) ∧ (i 1 : Nat) < win0_7.index t 1 * win0_7.size 1 + win0_7.xsize (grid0.coords t) 1
    rw [e1, x1]; omega

/-- So the result's array ends at `res7`. -/
theorem final7 (c : Dev nD) : (dats m 0 c).arrAt 7 cfg0.N = res7 m c :=
  (dats m 0 c).arrAt_eq_of_cover 7 (res7 m c) (fun t _ => flushed7 m c t) cover7

/-- Result 4, whole. -/
def res8 (c : Dev nD) : Buf (Elt Ideal) ((c : Thread nD τ).loc main_v19_4) := fun j : S32768x1024.Idx => eGa (tX m c) (tW m c) (j 0) (j 1)

/-- What grid point `t` writes back is its block of the result. -/
theorem flushed8 (c : Dev nD) (t : Fin cfg0.N) :
    (dats m 0 c).flushed 8 t = (win0_8.blk t).view.read (Elt Ideal) (res8 m c) := by
  rw [Value.flushed8_A]
  obtain ⟨⟨e0, e1⟩, -⟩ := at8 t
  have ht := t_lt t
  funext (j : S1024x1024.Idx)
  obtain ⟨r, k, rfl⟩ : ∃ (r : Fin 1024) (k : Fin 1024), j = ix2 r k := ⟨j 0, j 1, eq_ix2 j⟩
  have ej : (win0_8.rect t).idx (ix2 r k) = (ix2 ⟨1024 * t.val + r.val, by omega⟩ k) := by
    refine funext fun a => Fin.ext ?_
    match a with
    | ⟨0, _⟩ => show win0_8.index t 0 * win0_8.size 0 + 1 * r.val = _; rw [e0, one_mul]; rfl
    | ⟨1, _⟩ => show win0_8.index t 1 * win0_8.size 1 + 1 * k.val = _; rw [e1, one_mul, zero_add]; rfl
  refine (Block.b8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) r k).trans ?_
  show _ = res8 m c ((win0_8.rect t).idx (ix2 r k))
  rw [ej]
  show _ = eGa (tX m c) (tW m c) ⟨1024 * t.val + r.val, by omega⟩ k
  unfold eGa
  rw [nat_ga m c t r k.val (by omega)]

/-- Every index of the result lies in some point's block. -/
theorem cover8 (i : S32768x1024.Idx) :
    ∃ t : Fin cfg0.N, (cfg0.win 8).flush t = true ∧ i ∈ ((cfg0.win 8).blk t).view.set := by
  have h0 : (i 0 : Nat) < 32768 := (i 0).isLt
  have h1 : (i 1 : Nat) < 1024 := (i 1).isLt
  obtain ⟨t, ht⟩ : ∃ t : Fin cfg0.N, t.val = (i 0 : Nat) / 1024 :=
    ⟨⟨(i 0 : Nat) / 1024, lt_of_lt_of_eq (by omega : (i 0 : Nat) / 1024 < 32) N_0.symm⟩, rfl⟩
  refine ⟨t, flush0_8 _, ?_⟩
  show i ∈ ((View.whole main_v19_4).slice (win0_8.rect t)).set
  rw [View.set_slice_whole, Rect.mem_set_unit]
  obtain ⟨⟨e0, e1⟩, ⟨x0, x1⟩⟩ := at8 t
  intro a
  match a with
  | ⟨0, _⟩ =>
    show win0_8.index t 0 * win0_8.size 0 ≤ (i 0 : Nat) ∧ (i 0 : Nat) < win0_8.index t 0 * win0_8.size 0 + win0_8.xsize (grid0.coords t) 0
    rw [e0, x0]; omega
  | ⟨1, _⟩ =>
    show win0_8.index t 1 * win0_8.size 1 ≤ (i 1 : Nat) ∧ (i 1 : Nat) < win0_8.index t 1 * win0_8.size 1 + win0_8.xsize (grid0.coords t) 1
    rw [e1, x1]; omega

/-- So the result's array ends at `res8`. -/
theorem final8 (c : Dev nD) : (dats m 0 c).arrAt 8 cfg0.N = res8 m c :=
  (dats m 0 c).arrAt_eq_of_cover 8 (res8 m c) (fun t _ => flushed8 m c t) cover8

/-- Result 5, whole. -/
def res9 (c : Dev nD) : Buf (Elt Ideal) ((c : Thread nD τ).loc main_v19_5) := fun j : S32x8x128.Idx => eStats (tX m c) (tW m c) (j 0) (j 1) (j 2)

/-- What grid point `t` writes back is its block of the result. -/
theorem flushed9 (c : Dev nD) (t : Fin cfg0.N) :
    (dats m 0 c).flushed 9 t = (win0_9.blk t).view.read (Elt Ideal) (res9 m c) := by
  rw [Value.flushed9_A]
  obtain ⟨⟨e0, e1, e2⟩, -⟩ := at9 t
  have ht := t_lt t
  funext (j : S1x8x128.Idx)
  obtain ⟨a, h, rfl⟩ : ∃ (a : Fin 8) (h : Fin 128), j = ix3 0 a h :=
    ⟨j 1, j 2, (eq_ix3 j).trans (congrArg (fun q : Fin 1 => ix3 q (j 1) (j 2)) (Subsingleton.elim _ _))⟩
  have ej : (win0_9.rect t).idx (ix3 0 a h) = (ix3 ⟨t.val, ht⟩ a h) := by
    refine funext fun b => Fin.ext ?_
    match b with
    | ⟨0, _⟩ => show win0_9.index t 0 * win0_9.size 0 + 1 * 0 = _; rw [e0]; rfl
    | ⟨1, _⟩ => show win0_9.index t 1 * win0_9.size 1 + 1 * a.val = _; rw [e1, one_mul, zero_add]; rfl
    | ⟨2, _⟩ => show win0_9.index t 2 * win0_9.size 2 + 1 * h.val = _; rw [e2, one_mul, zero_add]; rfl
  refine (Block.b9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) a h).trans ?_
  show _ = res9 m c ((win0_9.rect t).idx (ix3 0 a h))
  rw [ej]
  show _ = eStats (tX m c) (tW m c) ⟨t.val, ht⟩ a h
  unfold eStats
  rw [heads_eq m c t _ (eQ (tX m c) (tW m c)) (fun r j => by rw [nat_qk m c t r j.val (by omega)]; rfl),
    heads_eq m c t _ (eK (tX m c) (tW m c)) (fun r j => by
      rw [nat_qk m c t r (512 + j.val) (by omega)]; exact congrArg _ (Fin.ext (by dsimp only; omega)))]

/-- Every index of the result lies in some point's block. -/
theorem cover9 (i : S32x8x128.Idx) :
    ∃ t : Fin cfg0.N, (cfg0.win 9).flush t = true ∧ i ∈ ((cfg0.win 9).blk t).view.set := by
  have h0 : (i 0 : Nat) < 32 := (i 0).isLt
  have h1 : (i 1 : Nat) < 8 := (i 1).isLt
  have h2 : (i 2 : Nat) < 128 := (i 2).isLt
  obtain ⟨t, ht⟩ : ∃ t : Fin cfg0.N, t.val = (i 0 : Nat) :=
    ⟨⟨(i 0 : Nat), lt_of_lt_of_eq (by omega : (i 0 : Nat) < 32) N_0.symm⟩, rfl⟩
  refine ⟨t, flush0_9 _, ?_⟩
  show i ∈ ((View.whole main_v19_5).slice (win0_9.rect t)).set
  rw [View.set_slice_whole, Rect.mem_set_unit]
  obtain ⟨⟨e0, e1, e2⟩, ⟨x0, x1, x2⟩⟩ := at9 t
  intro a
  match a with
  | ⟨0, _⟩ =>
    show win0_9.index t 0 * win0_9.size 0 ≤ (i 0 : Nat) ∧ (i 0 : Nat) < win0_9.index t 0 * win0_9.size 0 + win0_9.xsize (grid0.coords t) 0
    rw [e0, x0]; omega
  | ⟨1, _⟩ =>
    show win0_9.index t 1 * win0_9.size 1 ≤ (i 1 : Nat) ∧ (i 1 : Nat) < win0_9.index t 1 * win0_9.size 1 + win0_9.xsize (grid0.coords t) 1
    rw [e1, x1]; omega
  | ⟨2, _⟩ =>
    show win0_9.index t 2 * win0_9.size 2 ≤ (i 2 : Nat) ∧ (i 2 : Nat) < win0_9.index t 2 * win0_9.size 2 + win0_9.xsize (grid0.coords t) 2
    rw [e2, x2]; omega

/-- So the result's array ends at `res9`. -/
theorem final9 (c : Dev nD) : (dats m 0 c).arrAt 9 cfg0.N = res9 m c :=
  (dats m 0 c).arrAt_eq_of_cover 9 (res9 m c) (fun t _ => flushed9 m c t) cover9

/-- Result 6, whole. -/
def res10 (c : Dev nD) : Buf (Elt Ideal) ((c : Thread nD τ).loc main_v19_6) := fun j : S512x32768.Idx => eU (tX m c) (tW m c) (j 0) (j 1)

/-- What grid point `t` writes back is its block of the result. -/
theorem flushed10 (c : Dev nD) (t : Fin cfg0.N) :
    (dats m 0 c).flushed 10 t = (win0_10.blk t).view.read (Elt Ideal) (res10 m c) := by
  rw [Value.flushed10_A]
  obtain ⟨⟨e0, e1⟩, -⟩ := at10 t
  have ht := t_lt t
  funext (j : S512x1024.Idx)
  obtain ⟨k, r, rfl⟩ : ∃ (k : Fin 512) (r : Fin 1024), j = ix2 k r := ⟨j 0, j 1, eq_ix2 j⟩
  have ej : (win0_10.rect t).idx (ix2 k r) = (ix2 k ⟨1024 * t.val + r.val, by omega⟩) := by
    refine funext fun a => Fin.ext ?_
    match a with
    | ⟨0, _⟩ => show win0_10.index t 0 * win0_10.size 0 + 1 * k.val = _; rw [e0, one_mul, zero_add]; rfl
    | ⟨1, _⟩ => show win0_10.index t 1 * win0_10.size 1 + 1 * r.val = _; rw [e1, one_mul]; rfl
  refine (Block.b10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) k r).trans ?_
  show _ = res10 m c ((win0_10.rect t).idx (ix2 k r))
  rw [ej]
  show _ = eU (tX m c) (tW m c) k ⟨1024 * t.val + r.val, by omega⟩
  unfold eU
  rw [trn_u m c t r k.val (by omega)]

/-- Every index of the result lies in some point's block. -/
theorem cover10 (i : S512x32768.Idx) :
    ∃ t : Fin cfg0.N, (cfg0.win 10).flush t = true ∧ i ∈ ((cfg0.win 10).blk t).view.set := by
  have h0 : (i 0 : Nat) < 512 := (i 0).isLt
  have h1 : (i 1 : Nat) < 32768 := (i 1).isLt
  obtain ⟨t, ht⟩ : ∃ t : Fin cfg0.N, t.val = (i 1 : Nat) / 1024 :=
    ⟨⟨(i 1 : Nat) / 1024, lt_of_lt_of_eq (by omega : (i 1 : Nat) / 1024 < 32) N_0.symm⟩, rfl⟩
  refine ⟨t, flush0_10 _, ?_⟩
  show i ∈ ((View.whole main_v19_6).slice (win0_10.rect t)).set
  rw [View.set_slice_whole, Rect.mem_set_unit]
  obtain ⟨⟨e0, e1⟩, ⟨x0, x1⟩⟩ := at10 t
  intro a
  match a with
  | ⟨0, _⟩ =>
    show win0_10.index t 0 * win0_10.size 0 ≤ (i 0 : Nat) ∧ (i 0 : Nat) < win0_10.index t 0 * win0_10.size 0 + win0_10.xsize (grid0.coords t) 0
    rw [e0, x0]; omega
  | ⟨1, _⟩ =>
    show win0_10.index t 1 * win0_10.size 1 ≤ (i 1 : Nat) ∧ (i 1 : Nat) < win0_10.index t 1 * win0_10.size 1 + win0_10.xsize (grid0.coords t) 1
    rw [e1, x1]; omega

/-- So the result's array ends at `res10`. -/
theorem final10 (c : Dev nD) : (dats m 0 c).arrAt 10 cfg0.N = res10 m c :=
  (dats m 0 c).arrAt_eq_of_cover 10 (res10 m c) (fun t _ => flushed10 m c t) cover10

/-- Result 7, whole. -/
def res11 (c : Dev nD) : Buf (Elt Ideal) ((c : Thread nD τ).loc main_v19_7) := fun j : S640x32768.Idx => eV (tX m c) (tW m c) (j 0) (j 1)

/-- What grid point `t` writes back is its block of the result. -/
theorem flushed11 (c : Dev nD) (t : Fin cfg0.N) :
    (dats m 0 c).flushed 11 t = (win0_11.blk t).view.read (Elt Ideal) (res11 m c) := by
  rw [Value.flushed11_A]
  obtain ⟨⟨e0, e1⟩, -⟩ := at11 t
  have ht := t_lt t
  funext (j : S640x1024.Idx)
  obtain ⟨k, r, rfl⟩ : ∃ (k : Fin 640) (r : Fin 1024), j = ix2 k r := ⟨j 0, j 1, eq_ix2 j⟩
  have ej : (win0_11.rect t).idx (ix2 k r) = (ix2 k ⟨1024 * t.val + r.val, by omega⟩) := by
    refine funext fun a => Fin.ext ?_
    match a with
    | ⟨0, _⟩ => show win0_11.index t 0 * win0_11.size 0 + 1 * k.val = _; rw [e0, one_mul, zero_add]; rfl
    | ⟨1, _⟩ => show win0_11.index t 1 * win0_11.size 1 + 1 * r.val = _; rw [e1, one_mul]; rfl
  refine (congrFun (Block.b11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t)) (ix2 k r)).trans ?_
  show _ = res11 m c ((win0_11.rect t).idx (ix2 k r))
  rw [ej]
  show _ = eV (tX m c) (tW m c) k ⟨1024 * t.val + r.val, by omega⟩
  show (if h : k.val % 80 < 64 then Block.trn (iblk m c 0 t) (iblk m c 2 t) (512 + (k.val / 80 * 64 + k.val % 80)) (by omega) r
    else if k.val % 80 = 64 then 1 else 0) = _
  unfold eV
  by_cases h : k.val % 80 < 64
  · rw [dif_pos h, dif_pos h, trn_v m c t r (k.val / 80 * 64 + k.val % 80) (by omega)]
  · rw [dif_neg h, dif_neg h]

/-- Every index of the result lies in some point's block. -/
theorem cover11 (i : S640x32768.Idx) :
    ∃ t : Fin cfg0.N, (cfg0.win 11).flush t = true ∧ i ∈ ((cfg0.win 11).blk t).view.set := by
  have h0 : (i 0 : Nat) < 640 := (i 0).isLt
  have h1 : (i 1 : Nat) < 32768 := (i 1).isLt
  obtain ⟨t, ht⟩ : ∃ t : Fin cfg0.N, t.val = (i 1 : Nat) / 1024 :=
    ⟨⟨(i 1 : Nat) / 1024, lt_of_lt_of_eq (by omega : (i 1 : Nat) / 1024 < 32) N_0.symm⟩, rfl⟩
  refine ⟨t, flush0_11 _, ?_⟩
  show i ∈ ((View.whole main_v19_7).slice (win0_11.rect t)).set
  rw [View.set_slice_whole, Rect.mem_set_unit]
  obtain ⟨⟨e0, e1⟩, ⟨x0, x1⟩⟩ := at11 t
  intro a
  match a with
  | ⟨0, _⟩ =>
    show win0_11.index t 0 * win0_11.size 0 ≤ (i 0 : Nat) ∧ (i 0 : Nat) < win0_11.index t 0 * win0_11.size 0 + win0_11.xsize (grid0.coords t) 0
    rw [e0, x0]; omega
  | ⟨1, _⟩ =>
    show win0_11.index t 1 * win0_11.size 1 ≤ (i 1 : Nat) ∧ (i 1 : Nat) < win0_11.index t 1 * win0_11.size 1 + win0_11.xsize (grid0.coords t) 1
    rw [e1, x1]; omega

/-- So the result's array ends at `res11`. -/
theorem final11 (c : Dev nD) : (dats m 0 c).arrAt 11 cfg0.N = res11 m c :=
  (dats m 0 c).arrAt_eq_of_cover 11 (res11 m c) (fun t _ => flushed11 m c t) cover11

/-- Result 8, whole. -/
def res12 (c : Dev nD) : Buf (Elt Ideal) ((c : Thread nD τ).loc main_v19_8) := fun j : S256x32768.Idx => eQi (tX m c) (tW m c) (j 0) (j 1)

/-- What grid point `t` writes back is its block of the result. -/
theorem flushed12 (c : Dev nD) (t : Fin cfg0.N) :
    (dats m 0 c).flushed 12 t = (win0_12.blk t).view.read (Elt Ideal) (res12 m c) := by
  rw [Value.flushed12_A]
  obtain ⟨⟨e0, e1⟩, -⟩ := at12 t
  have ht := t_lt t
  funext (j : S256x1024.Idx)
  obtain ⟨k, r, rfl⟩ : ∃ (k : Fin 256) (r : Fin 1024), j = ix2 k r := ⟨j 0, j 1, eq_ix2 j⟩
  have ej : (win0_12.rect t).idx (ix2 k r) = (ix2 k ⟨1024 * t.val + r.val, by omega⟩) := by
    refine funext fun a => Fin.ext ?_
    match a with
    | ⟨0, _⟩ => show win0_12.index t 0 * win0_12.size 0 + 1 * k.val = _; rw [e0, one_mul, zero_add]; rfl
    | ⟨1, _⟩ => show win0_12.index t 1 * win0_12.size 1 + 1 * r.val = _; rw [e1, one_mul]; rfl
  refine (Block.b12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) k r).trans ?_
  show _ = res12 m c ((win0_12.rect t).idx (ix2 k r))
  rw [ej]
  show _ = eQi (tX m c) (tW m c) k ⟨1024 * t.val + r.val, by omega⟩
  unfold eQi
  rw [trn_qi m c t r k.val (by omega)]

/-- Every index of the result lies in some point's block. -/
theorem cover12 (i : S256x32768.Idx) :
    ∃ t : Fin cfg0.N, (cfg0.win 12).flush t = true ∧ i ∈ ((cfg0.win 12).blk t).view.set := by
  have h0 : (i 0 : Nat) < 256 := (i 0).isLt
  have h1 : (i 1 : Nat) < 32768 := (i 1).isLt
  obtain ⟨t, ht⟩ : ∃ t : Fin cfg0.N, t.val = (i 1 : Nat) / 1024 :=
    ⟨⟨(i 1 : Nat) / 1024, lt_of_lt_of_eq (by omega : (i 1 : Nat) / 1024 < 32) N_0.symm⟩, rfl⟩
  refine ⟨t, flush0_12 _, ?_⟩
  show i ∈ ((View.whole main_v19_8).slice (win0_12.rect t)).set
  rw [View.set_slice_whole, Rect.mem_set_unit]
  obtain ⟨⟨e0, e1⟩, ⟨x0, x1⟩⟩ := at12 t
  intro a
  match a with
  | ⟨0, _⟩ =>
    show win0_12.index t 0 * win0_12.size 0 ≤ (i 0 : Nat) ∧ (i 0 : Nat) < win0_12.index t 0 * win0_12.size 0 + win0_12.xsize (grid0.coords t) 0
    rw [e0, x0]; omega
  | ⟨1, _⟩ =>
    show win0_12.index t 1 * win0_12.size 1 ≤ (i 1 : Nat) ∧ (i 1 : Nat) < win0_12.index t 1 * win0_12.size 1 + win0_12.xsize (grid0.coords t) 1
    rw [e1, x1]; omega

/-- So the result's array ends at `res12`. -/
theorem final12 (c : Dev nD) : (dats m 0 c).arrAt 12 cfg0.N = res12 m c :=
  (dats m 0 c).arrAt_eq_of_cover 12 (res12 m c) (fun t _ => flushed12 m c t) cover12

/-- Result 9, whole. -/
def res13 (c : Dev nD) : Buf (Elt Ideal) ((c : Thread nD τ).loc main_v19_9) := fun j : S16x32768.Idx => eWi (tX m c) (tW m c) (j 0) (j 1)

/-- What grid point `t` writes back is its block of the result. -/
theorem flushed13 (c : Dev nD) (t : Fin cfg0.N) :
    (dats m 0 c).flushed 13 t = (win0_13.blk t).view.read (Elt Ideal) (res13 m c) := by
  rw [Value.flushed13_A]
  obtain ⟨⟨e0, e1⟩, -⟩ := at13 t
  have ht := t_lt t
  funext (j : S16x1024.Idx)
  obtain ⟨k, r, rfl⟩ : ∃ (k : Fin 16) (r : Fin 1024), j = ix2 k r := ⟨j 0, j 1, eq_ix2 j⟩
  have ej : (win0_13.rect t).idx (ix2 k r) = (ix2 k ⟨1024 * t.val + r.val, by omega⟩) := by
    refine funext fun a => Fin.ext ?_
    match a with
    | ⟨0, _⟩ => show win0_13.index t 0 * win0_13.size 0 + 1 * k.val = _; rw [e0, one_mul, zero_add]; rfl
    | ⟨1, _⟩ => show win0_13.index t 1 * win0_13.size 1 + 1 * r.val = _; rw [e1, one_mul]; rfl
  refine (Block.b13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) k r).trans ?_
  show _ = res13 m c ((win0_13.rect t).idx (ix2 k r))
  rw [ej]
  show _ = eWi (tX m c) (tW m c) k ⟨1024 * t.val + r.val, by omega⟩
  unfold eWi
  rw [trn_w m c t r k.val (by omega)]

/-- Every index of the result lies in some point's block. -/
theorem cover13 (i : S16x32768.Idx) :
    ∃ t : Fin cfg0.N, (cfg0.win 13).flush t = true ∧ i ∈ ((cfg0.win 13).blk t).view.set := by
  have h0 : (i 0 : Nat) < 16 := (i 0).isLt
  have h1 : (i 1 : Nat) < 32768 := (i 1).isLt
  obtain ⟨t, ht⟩ : ∃ t : Fin cfg0.N, t.val = (i 1 : Nat) / 1024 :=
    ⟨⟨(i 1 : Nat) / 1024, lt_of_lt_of_eq (by omega : (i 1 : Nat) / 1024 < 32) N_0.symm⟩, rfl⟩
  refine ⟨t, flush0_13 _, ?_⟩
  show i ∈ ((View.whole main_v19_9).slice (win0_13.rect t)).set
  rw [View.set_slice_whole, Rect.mem_set_unit]
  obtain ⟨⟨e0, e1⟩, ⟨x0, x1⟩⟩ := at13 t
  intro a
  match a with
  | ⟨0, _⟩ =>
    show win0_13.index t 0 * win0_13.size 0 ≤ (i 0 : Nat) ∧ (i 0 : Nat) < win0_13.index t 0 * win0_13.size 0 + win0_13.xsize (grid0.coords t) 0
    rw [e0, x0]; omega
  | ⟨1, _⟩ =>
    show win0_13.index t 1 * win0_13.size 1 ≤ (i 1 : Nat) ∧ (i 1 : Nat) < win0_13.index t 1 * win0_13.size 1 + win0_13.xsize (grid0.coords t) 1
    rw [e1, x1]; omega

/-- So the result's array ends at `res13`. -/
theorem final13 (c : Dev nD) : (dats m 0 c).arrAt 13 cfg0.N = res13 m c :=
  (dats m 0 c).arrAt_eq_of_cover 13 (res13 m c) (fun t _ => flushed13 m c t) cover13

end Cert.ProjIdeal.Final

end

end
-- ==== Proof.ProjRef.lean ====
/-
  What the input projection's reference says of each element of its ten results.
-/
module

public import proofs.«01_k».proof.Proof.Spec
public import proofs.«01_k».proof.Proof.ProjSpec
public import proofs.«01_k».proof.Proof.Gen.ProjRefIdeal.Run
public import proofs.«01_k».proof.Proof.Gen.ProjRefIdeal.Read
public import Idealize.ShloMosaic.Lib.Pointwise

@[expose] public section

set_option maxRecDepth 16384

noncomputable section

namespace Cert.ProjRefIdeal.Elem

open Cert.ProjRefIdeal Cert.ProjRefIdeal.Gen Cert.ProjRefIdeal.Read Idealize.ShloMosaic Cert.ProjSpec

variable (x : FVec Ideal S4x8192x1024 .f32) (w : FVec Ideal S1024x4392 .f32)

/-- Token `n` of the flattened input. -/
def tX (n : Fin 32768) (d : Fin 1024) : EReal := x (ix3 ⟨n.val / 8192, by omega⟩ ⟨n.val % 8192, by omega⟩ d)
/-- The projection's weights. -/
def tW (d : Fin 1024) (j : Fin 4392) : EReal := w (ix2 d j)

/-- The number zero that fills a pad. -/
theorem zero_fill : (FloatOps.sitofp .f32 0#32 : Ideal .f32) = (0 : EReal) := by
  show (((0#32 : BitVec 32).toInt : ℝ) : EReal) = 0
  simp

/-- The whole projection. -/
theorem proj_apply (n : Fin 32768) (j : Fin 4392) : val_main_v1 (F := Ideal) x w (ix2 n j) = dotc (tX x) (tW w) n j := by
  unfold dotc tX tW
  pointwise [val_main_v1, val_main_v0]

/-- The queries. -/
theorem q_apply (n : Fin 32768) (j : Fin 512) : val_main_v32 (F := Ideal) x w (ix2 n j) = eQ (tX x) (tW w) n j := by
  unfold eQ
  rw [← proj_apply]
  pointwise [val_main_v32, val_main_v12, val_main_v11, val_main_cst, val_main_v3]

/-- The keys. -/
theorem k_apply (n : Fin 32768) (j : Fin 512) : val_main_v33 (F := Ideal) x w (ix2 n j) = eK (tX x) (tW w) n j := by
  unfold eK
  rw [← proj_apply]
  pointwise [val_main_v33, val_main_v4]

/-- The indexer's keys. -/
theorem ki_apply (n : Fin 32768) (j : Fin 32) : val_main_v34 (F := Ideal) x w (ix2 n j) = eKi (tX x) (tW w) n j := by
  unfold eKi
  rw [← proj_apply]
  pointwise [val_main_v34, val_main_v7]

/-- The recurrence's gate. -/
theorem gs_apply (n : Fin 32768) (j : Fin 1024) : val_main_v41 (F := Ideal) x w (ix2 n j) = eGs (tX x) (tW w) n j := by
  unfold eGs
  rw [← proj_apply]
  pointwise [val_main_v41, val_main_v40, val_main_v39, val_main_v38, val_main_v37, val_main_v36, val_main_v35, val_main_v9,
    val_main_cst_9, val_main_cst_10]
  rfl

/-- The attention's gate. -/
theorem ga_apply (n : Fin 32768) (j : Fin 1024) : val_main_v48 (F := Ideal) x w (ix2 n j) = eGa (tX x) (tW w) n j := by
  unfold eGa
  rw [← proj_apply]
  pointwise [val_main_v48, val_main_v47, val_main_v46, val_main_v45, val_main_v44, val_main_v43, val_main_v42, val_main_v10,
    val_main_cst_11, val_main_cst_12]
  rfl

/-- The recurrence's inputs. -/
theorem u_apply (j : Fin 512) (n : Fin 32768) : val_main_v49 (F := Ideal) x w (ix2 j n) = eU (tX x) (tW w) j n := by
  unfold eU
  rw [← proj_apply]
  pointwise [val_main_v49, val_main_v2]

/-- The indexer's queries. -/
theorem qi_apply (j : Fin 256) (n : Fin 32768) : val_main_v54 (F := Ideal) x w (ix2 j n) = eQi (tX x) (tW w) j n := by
  unfold eQi
  rw [← proj_apply]
  pointwise [val_main_v54, val_main_v53, val_main_v6]

/-- The values. -/
theorem v_apply (r : Fin 640) (n : Fin 32768) : val_main_v52 (F := Ideal) x w (ix2 r n) = eV (tX x) (tW w) r n := by
  unfold eV
  simp only [← proj_apply]
  pointwise [val_main_v52, val_main_v51, val_main_v50, val_main_v30, val_main_v29, val_main_v28, val_main_v27, val_main_v5,
    val_main_cst_6, val_main_cst_7]
  by_cases h : r.val % 80 < 64
  · rw [dif_pos h, dif_pos h]
  · rw [dif_neg h, dif_neg h]
    by_cases h1 : r.val % 80 = 64
    · rw [dif_pos (by omega), if_pos h1]
    · rw [dif_neg (by omega), if_neg h1]

/-- The indexer's weights. -/
theorem wi_apply (j : Fin 16) (n : Fin 32768) : val_main_v55 (F := Ideal) x w (ix2 j n) = eWi (tX x) (tW w) j n := by
  unfold eWi
  simp only [← proj_apply]
  pointwise [val_main_v55, val_main_v31, val_main_v8]
  by_cases h : j.val < 8
  · rw [dif_pos h, dif_pos h]
  · rw [dif_neg h, dif_neg h]
    exact zero_fill

/-- The queries' largest squared norms. -/
theorem maxq_apply (t : Fin 32) (h : Fin 8) :
    val_main_v16 (F := Ideal) x w (ix2 t h)
      = Finset.univ.fold max (Ideal.ofBits .f32 0xFF800000#32) fun r : Fin 1024 => headSq (eQ (tX x) (tW w) ⟨1024 * t.val + r.val, by omega⟩) h := by
  unfold headSq
  simp only [← q_apply]
  pointwise [val_main_v16, val_main_v15, val_main_v14, val_main_v13, val_main_v32, val_main_cst_0, val_main_cst_1]
  refine Finset.fold_congr fun r _ => Finset.sum_congr rfl fun e _ => ?_
  have en : (⟨t.val * 1024 + r.val, by omega⟩ : Fin 32768) = ⟨1024 * t.val + r.val, by omega⟩ := Fin.ext (by dsimp only; omega)
  rw [en]

/-- The keys' largest squared norms. -/
theorem maxk_apply (t : Fin 32) (h : Fin 8) :
    val_main_v21 (F := Ideal) x w (ix2 t h)
      = Finset.univ.fold max (Ideal.ofBits .f32 0xFF800000#32) fun r : Fin 1024 => headSq (eK (tX x) (tW w) ⟨1024 * t.val + r.val, by omega⟩) h := by
  unfold headSq
  simp only [← k_apply]
  pointwise [val_main_v21, val_main_v20, val_main_v19, val_main_v18, val_main_v33, val_main_cst_2, val_main_cst_3]
  refine Finset.fold_congr fun r _ => Finset.sum_congr rfl fun e _ => ?_
  have en : (⟨t.val * 1024 + r.val, by omega⟩ : Fin 32768) = ⟨1024 * t.val + r.val, by omega⟩ := Fin.ext (by dsimp only; omega)
  rw [en]

/-- The statistics. -/
theorem st_apply (t : Fin 32) (a : Fin 8) (l : Fin 128) :
    val_main_v26 (F := Ideal) x w (ix3 t a l) = eStats (tX x) (tW w) t a l := by
  unfold eStats largest
  simp only [← maxq_apply, ← maxk_apply]
  pointwise [val_main_v26, val_main_v25, val_main_v24, val_main_v23, val_main_v22, val_main_v17, val_main_call0_v0, val_main_c]
  have z0 : (FloatOps.sitofp .f32 0#32 : Ideal .f32) = (0 : EReal) := zero_fill
  have z1 : val_main_call1_v0 (F := Ideal) (Shape.Idx.first h_S_) = (0 : EReal) := zero_fill
  have z2 : val_main_call2_v0 (F := Ideal) (Shape.Idx.first h_S_) = (0 : EReal) := zero_fill
  rw [z0, z1, z2]
  by_cases h0 : a.val = 0
  · rw [dif_pos (by omega), dif_pos (by omega), if_pos h0]
  · rw [if_neg h0]
    by_cases h1 : a.val = 1
    · rw [dif_pos (by omega), dif_neg (by omega), if_pos h1]
    · rw [dif_neg (by omega), if_neg h1]

end Cert.ProjRefIdeal.Elem

end

end
-- ==== Proof.ProjClaims.lean ====
/-
  The five claims of the input projection.
-/
module

public import proofs.«01_k».proof.Defs
public import proofs.«01_k».proof.Proof.Gen.Proj.Frame
public import proofs.«01_k».proof.Proof.Gen.ProjIdeal.Frame
public import proofs.«01_k».proof.Proof.Gen.ProjIdeal.Value
public import proofs.«01_k».proof.Proof.ProjRun
public import proofs.«01_k».proof.Proof.ProjRef

@[expose] public section

set_option maxRecDepth 16384

noncomputable section

namespace Cert.ProjClaims

open Idealize.ShloMosaic Idealize.ShloMosaic.TcCoe Idealize.SL.Sem

/-- The kernel as written runs and leaves its arguments. -/
theorem frame_p : Cert.quiescent_Proj := fun m ρ _ => Cert.Proj.Gen.frame m ρ

/-- The same at the ideal values. -/
theorem frame_pi : Cert.quiescent_ProjIdeal := fun m ρ _ => Cert.ProjIdeal.Gen.frame m ρ

/-- The reference runs, leaves its arguments, and has no semaphore to leave. -/
theorem frame_ri : Cert.quiescent_ProjRefIdeal := fun m ρ _ =>
  (θ_run Cert.ProjRefIdeal.defs _ _).mono
    (fun r h => ⟨fun c => (h c).2.2.2.2.2.2.2.2.2.2, Idealize.ShloMosaic.sem_eq_zero_of_no_sems (by decide) r.2⟩)
    (Cert.ProjRefIdeal.Value.run (F := Ideal) m ρ)

variable (m : (ℓ : Loc Cert.ProjIdeal.nD Cert.ProjIdeal.τ Cert.ProjIdeal.sig) → Buf (Elt Ideal) ℓ) (c : Dev Cert.ProjIdeal.nD)

/-- The kernel's result 0 is the reference's, from equal arguments. -/
theorem value4 : Cert.ProjRefIdeal.Read.val_main_v32 (F := Ideal) (Cert.ProjIdeal.Final.ax m c) (Cert.ProjIdeal.Final.aw m c)
    = Cert.ProjIdeal.Final.res4 m c := by
  funext (i : Cert.ProjRefIdeal.S32768x512.Idx)
  obtain ⟨p, q, rfl⟩ : ∃ (p : Fin 32768) (q : Fin 512), i = ix2 p q := ⟨i 0, i 1, eq_ix2 i⟩
  rw [Cert.ProjRefIdeal.Elem.q_apply]
  rfl

/-- The kernel's result 1 is the reference's, from equal arguments. -/
theorem value5 : Cert.ProjRefIdeal.Read.val_main_v33 (F := Ideal) (Cert.ProjIdeal.Final.ax m c) (Cert.ProjIdeal.Final.aw m c)
    = Cert.ProjIdeal.Final.res5 m c := by
  funext (i : Cert.ProjRefIdeal.S32768x512.Idx)
  obtain ⟨p, q, rfl⟩ : ∃ (p : Fin 32768) (q : Fin 512), i = ix2 p q := ⟨i 0, i 1, eq_ix2 i⟩
  rw [Cert.ProjRefIdeal.Elem.k_apply]
  rfl

/-- The kernel's result 2 is the reference's, from equal arguments. -/
theorem value6 : Cert.ProjRefIdeal.Read.val_main_v34 (F := Ideal) (Cert.ProjIdeal.Final.ax m c) (Cert.ProjIdeal.Final.aw m c)
    = Cert.ProjIdeal.Final.res6 m c := by
  funext (i : Cert.ProjRefIdeal.S32768x32.Idx)
  obtain ⟨p, q, rfl⟩ : ∃ (p : Fin 32768) (q : Fin 32), i = ix2 p q := ⟨i 0, i 1, eq_ix2 i⟩
  rw [Cert.ProjRefIdeal.Elem.ki_apply]
  rfl

/-- The kernel's result 3 is the reference's, from equal arguments. -/
theorem value7 : Cert.ProjRefIdeal.Read.val_main_v41 (F := Ideal) (Cert.ProjIdeal.Final.ax m c) (Cert.ProjIdeal.Final.aw m c)
    = Cert.ProjIdeal.Final.res7 m c := by
  funext (i : Cert.ProjRefIdeal.S32768x1024.Idx)
  obtain ⟨p, q, rfl⟩ : ∃ (p : Fin 32768) (q : Fin 1024), i = ix2 p q := ⟨i 0, i 1, eq_ix2 i⟩
  rw [Cert.ProjRefIdeal.Elem.gs_apply]
  rfl

/-- The kernel's result 4 is the reference's, from equal arguments. -/
theorem value8 : Cert.ProjRefIdeal.Read.val_main_v48 (F := Ideal) (Cert.ProjIdeal.Final.ax m c) (Cert.ProjIdeal.Final.aw m c)
    = Cert.ProjIdeal.Final.res8 m c := by
  funext (i : Cert.ProjRefIdeal.S32768x1024.Idx)
  obtain ⟨p, q, rfl⟩ : ∃ (p : Fin 32768) (q : Fin 1024), i = ix2 p q := ⟨i 0, i 1, eq_ix2 i⟩
  rw [Cert.ProjRefIdeal.Elem.ga_apply]
  rfl

/-- The kernel's result 5 is the reference's, from equal arguments. -/
theorem value9 : Cert.ProjRefIdeal.Read.val_main_v26 (F := Ideal) (Cert.ProjIdeal.Final.ax m c) (Cert.ProjIdeal.Final.aw m c)
    = Cert.ProjIdeal.Final.res9 m c := by
  funext (i : Cert.ProjRefIdeal.S32x8x128.Idx)
  obtain ⟨t, a, l, rfl⟩ : ∃ (t : Fin 32) (a : Fin 8) (l : Fin 128), i = ix3 t a l := ⟨i 0, i 1, i 2, eq_ix3 i⟩
  rw [Cert.ProjRefIdeal.Elem.st_apply]
  rfl

/-- The kernel's result 6 is the reference's, from equal arguments. -/
theorem value10 : Cert.ProjRefIdeal.Read.val_main_v49 (F := Ideal) (Cert.ProjIdeal.Final.ax m c) (Cert.ProjIdeal.Final.aw m c)
    = Cert.ProjIdeal.Final.res10 m c := by
  funext (i : Cert.ProjRefIdeal.S512x32768.Idx)
  obtain ⟨p, q, rfl⟩ : ∃ (p : Fin 512) (q : Fin 32768), i = ix2 p q := ⟨i 0, i 1, eq_ix2 i⟩
  rw [Cert.ProjRefIdeal.Elem.u_apply]
  rfl

/-- The kernel's result 7 is the reference's, from equal arguments. -/
theorem value11 : Cert.ProjRefIdeal.Read.val_main_v52 (F := Ideal) (Cert.ProjIdeal.Final.ax m c) (Cert.ProjIdeal.Final.aw m c)
    = Cert.ProjIdeal.Final.res11 m c := by
  funext (i : Cert.ProjRefIdeal.S640x32768.Idx)
  obtain ⟨p, q, rfl⟩ : ∃ (p : Fin 640) (q : Fin 32768), i = ix2 p q := ⟨i 0, i 1, eq_ix2 i⟩
  rw [Cert.ProjRefIdeal.Elem.v_apply]
  rfl

/-- The kernel's result 8 is the reference's, from equal arguments. -/
theorem value12 : Cert.ProjRefIdeal.Read.val_main_v54 (F := Ideal) (Cert.ProjIdeal.Final.ax m c) (Cert.ProjIdeal.Final.aw m c)
    = Cert.ProjIdeal.Final.res12 m c := by
  funext (i : Cert.ProjRefIdeal.S256x32768.Idx)
  obtain ⟨p, q, rfl⟩ : ∃ (p : Fin 256) (q : Fin 32768), i = ix2 p q := ⟨i 0, i 1, eq_ix2 i⟩
  rw [Cert.ProjRefIdeal.Elem.qi_apply]
  rfl

/-- The kernel's result 9 is the reference's, from equal arguments. -/
theorem value13 : Cert.ProjRefIdeal.Read.val_main_v55 (F := Ideal) (Cert.ProjIdeal.Final.ax m c) (Cert.ProjIdeal.Final.aw m c)
    = Cert.ProjIdeal.Final.res13 m c := by
  funext (i : Cert.ProjRefIdeal.S16x32768.Idx)
  obtain ⟨p, q, rfl⟩ : ∃ (p : Fin 16) (q : Fin 32768), i = ix2 p q := ⟨i 0, i 1, eq_ix2 i⟩
  rw [Cert.ProjRefIdeal.Elem.wi_apply]
  rfl

/-- Kernel and reference end with the same ten arrays. -/
theorem algebraic : Cert.algebraic_ProjIdeal_ProjRefIdeal := by
  intro m ρ m' ρ' _ hagree
  refine ⟨fun c => Cert.ProjIdeal.Final.res4 m c, fun c => Cert.ProjIdeal.Final.res5 m c, fun c => Cert.ProjIdeal.Final.res6 m c, fun c => Cert.ProjIdeal.Final.res7 m c, fun c => Cert.ProjIdeal.Final.res8 m c, fun c => Cert.ProjIdeal.Final.res9 m c, fun c => Cert.ProjIdeal.Final.res10 m c, fun c => Cert.ProjIdeal.Final.res11 m c, fun c => Cert.ProjIdeal.Final.res12 m c, fun c => Cert.ProjIdeal.Final.res13 m c,
    (θ_run Cert.ProjIdeal.defs _ _).mono (fun _ h c => ?_) (Cert.ProjIdeal.Value.run_blocks m ρ),
    (θ_run Cert.ProjRefIdeal.defs _ _).mono (fun _ h c => ?_) (Cert.ProjRefIdeal.Value.run (F := Ideal) m' ρ')⟩
  · obtain ⟨h4, h5, h6, h7, h8, h9, h10, h11, h12, h13, h⟩ := h c
    exact ⟨h4.trans (Cert.ProjIdeal.Final.final4 m c), h5.trans (Cert.ProjIdeal.Final.final5 m c), h6.trans (Cert.ProjIdeal.Final.final6 m c), h7.trans (Cert.ProjIdeal.Final.final7 m c), h8.trans (Cert.ProjIdeal.Final.final8 m c), h9.trans (Cert.ProjIdeal.Final.final9 m c), h10.trans (Cert.ProjIdeal.Final.final10 m c), h11.trans (Cert.ProjIdeal.Final.final11 m c), h12.trans (Cert.ProjIdeal.Final.final12 m c), h13.trans (Cert.ProjIdeal.Final.final13 m c), h⟩
  · obtain ⟨h4, h5, h6, h7, h8, h9, h10, h11, h12, h13, h⟩ := h c
    obtain ⟨e0, e1⟩ := hagree c
    refine ⟨h4.trans ?_, h5.trans ?_, h6.trans ?_, h7.trans ?_, h8.trans ?_, h9.trans ?_, h10.trans ?_, h11.trans ?_, h12.trans ?_, h13.trans ?_, h⟩
    · show _ = Cert.ProjIdeal.Final.res4 m c
      rw [Cert.ProjRefIdeal.Read.val_main_v32_eq, ← value4, e0, e1]
    · show _ = Cert.ProjIdeal.Final.res5 m c
      rw [Cert.ProjRefIdeal.Read.val_main_v33_eq, ← value5, e0, e1]
    · show _ = Cert.ProjIdeal.Final.res6 m c
      rw [Cert.ProjRefIdeal.Read.val_main_v34_eq, ← value6, e0, e1]
    · show _ = Cert.ProjIdeal.Final.res7 m c
      rw [Cert.ProjRefIdeal.Read.val_main_v41_eq, ← value7, e0, e1]
    · show _ = Cert.ProjIdeal.Final.res8 m c
      rw [Cert.ProjRefIdeal.Read.val_main_v48_eq, ← value8, e0, e1]
    · show _ = Cert.ProjIdeal.Final.res9 m c
      rw [Cert.ProjRefIdeal.Read.val_main_v26_eq, ← value9, e0, e1]
    · show _ = Cert.ProjIdeal.Final.res10 m c
      rw [Cert.ProjRefIdeal.Read.val_main_v49_eq, ← value10, e0, e1]
    · show _ = Cert.ProjIdeal.Final.res11 m c
      rw [Cert.ProjRefIdeal.Read.val_main_v52_eq, ← value11, e0, e1]
    · show _ = Cert.ProjIdeal.Final.res12 m c
      rw [Cert.ProjRefIdeal.Read.val_main_v54_eq, ← value12, e0, e1]
    · show _ = Cert.ProjIdeal.Final.res13 m c
      rw [Cert.ProjRefIdeal.Read.val_main_v55_eq, ← value13, e0, e1]

end Cert.ProjClaims

end

end
-- ==== Proof.lean ====
module

public import proofs.«01_k».proof.Defs
public import proofs.«01_k».proof.Proof.SsmClaims
public import proofs.«01_k».proof.Proof.FfnClaims
public import proofs.«01_k».proof.Proof.MergeClaims
public import proofs.«01_k».proof.Proof.ProjClaims

@[expose] public section

noncomputable section

namespace Cert.Proof

/-- Everything the statement claims. -/
theorem claim : Cert.Claim :=
  ⟨Cert.Kernel.Gen.facts, Cert.KernelIdeal.Gen.facts, Cert.ReferenceIdeal.Gen.facts,
    Cert.Ffn.Gen.facts, Cert.FfnIdeal.Gen.facts, Cert.FfnRefIdeal.Gen.facts,
    Cert.Merge.Gen.facts, Cert.MergeIdeal.Gen.facts, Cert.MergeRefIdeal.Gen.facts,
    Cert.Proj.Gen.facts, Cert.ProjIdeal.Gen.facts, Cert.ProjRefIdeal.Gen.facts, Cert.SsmPre.facts,
    Cert.SsmClaims.frame_p, Cert.SsmClaims.frame_pi, Cert.SsmClaims.frame_pi_finite,
    Cert.SsmClaims.frame_ri, Cert.SsmClaims.frame_ri_finite,
    Cert.FfnClaims.frame_p, Cert.FfnClaims.frame_pi, Cert.FfnClaims.frame_ri,
    Cert.MergeClaims.frame_p, Cert.MergeClaims.frame_pi, Cert.MergeClaims.frame_ri,
    Cert.ProjClaims.frame_p, Cert.ProjClaims.frame_pi, Cert.ProjClaims.frame_ri,
    trivial, Cert.SsmClaims.algebraic, trivial, Cert.FfnClaims.algebraic, trivial, Cert.MergeClaims.algebraic,
    trivial, Cert.ProjClaims.algebraic⟩

end Cert.Proof

end
